-- ==== Defs.lean ====
def Pre_KernelZ (m : (ℓ : Loc Cert.KernelZ.nD Cert.KernelZ.τ Cert.KernelZ.sig) → Buf (Elt Bits) ℓ) : Prop :=
  True

def Pre_KernelZIdeal (m : (ℓ : Loc Cert.KernelZIdeal.nD Cert.KernelZIdeal.τ Cert.KernelZIdeal.sig) → Buf (Elt Ideal) ℓ) : Prop :=
  True

def Pre_ReferenceZIdeal (m : (ℓ : Loc Cert.ReferenceZIdeal.nD Cert.ReferenceZIdeal.τ Cert.ReferenceZIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelForget (m : (ℓ : Loc Cert.KernelForget.nD Cert.KernelForget.τ Cert.KernelForget.sig) → Buf (Elt Bits) ℓ) : Prop :=
  True

def Pre_KernelForgetIdeal (m : (ℓ : Loc Cert.KernelForgetIdeal.nD Cert.KernelForgetIdeal.τ Cert.KernelForgetIdeal.sig) → Buf (Elt Ideal) ℓ) : Prop :=
  True

def Pre_ReferenceForgetIdeal (m : (ℓ : Loc Cert.ReferenceForgetIdeal.nD Cert.ReferenceForgetIdeal.τ Cert.ReferenceForgetIdeal.sig) → Buf (Elt Ideal) ℓ) : Prop :=
  True

def Pre_KernelRouter (m : (ℓ : Loc Cert.KernelRouter.nD Cert.KernelRouter.τ Cert.KernelRouter.sig) → Buf (Elt Bits) ℓ) : Prop :=
  True

def Pre_KernelRouterIdeal (m : (ℓ : Loc Cert.KernelRouterIdeal.nD Cert.KernelRouterIdeal.τ Cert.KernelRouterIdeal.sig) → Buf (Elt Ideal) ℓ) : Prop :=
  True

def Pre_KernelRouterIdeal_logits_above_minus_infinity [hPre_logits_above_minus_infinity : Cert.Pre_logits_above_minus_infinity.Facts] (m : (ℓ : Loc Cert.KernelRouterIdeal.nD Cert.KernelRouterIdeal.τ Cert.KernelRouterIdeal.sig) → Buf (Elt Ideal) ℓ) : Prop :=
  ∀ c : Dev Cert.KernelRouterIdeal.nD,
    (Cert.Pre_logits_above_minus_infinity.fn (F := Ideal) (m ((c.tc : Thread Cert.KernelRouterIdeal.nD Cert.KernelRouterIdeal.τ).loc Cert.KernelRouterIdeal.main_arg0)) (m ((c.tc : Thread Cert.KernelRouterIdeal.nD Cert.KernelRouterIdeal.τ).loc Cert.KernelRouterIdeal.main_arg1)) (m ((c.tc : Thread Cert.KernelRouterIdeal.nD Cert.KernelRouterIdeal.τ).loc Cert.KernelRouterIdeal.main_arg2))) = (fun _ => 1#1)

def Pre_ReferenceRouterIdeal (m : (ℓ : Loc Cert.ReferenceRouterIdeal.nD Cert.ReferenceRouterIdeal.τ Cert.ReferenceRouterIdeal.sig) → Buf (Elt Ideal) ℓ) : Prop :=
  True

def Pre_ReferenceRouterIdeal_logits_above_minus_infinity [hPre_logits_above_minus_infinity : Cert.Pre_logits_above_minus_infinity.Facts] (m : (ℓ : Loc Cert.ReferenceRouterIdeal.nD Cert.ReferenceRouterIdeal.τ Cert.ReferenceRouterIdeal.sig) → Buf (Elt Ideal) ℓ) : Prop :=
  ∀ c : Dev Cert.ReferenceRouterIdeal.nD,
    (Cert.Pre_logits_above_minus_infinity.fn (F := Ideal) (m ((c.tc : Thread Cert.ReferenceRouterIdeal.nD Cert.ReferenceRouterIdeal.τ).loc Cert.ReferenceRouterIdeal.main_arg0)) (m ((c.tc : Thread Cert.ReferenceRouterIdeal.nD Cert.ReferenceRouterIdeal.τ).loc Cert.ReferenceRouterIdeal.main_arg1)) (m ((c.tc : Thread Cert.ReferenceRouterIdeal.nD Cert.ReferenceRouterIdeal.τ).loc Cert.ReferenceRouterIdeal.main_arg2))) = (fun _ => 1#1)

def Pre_KernelExperts (m : (ℓ : Loc Cert.KernelExperts.nD Cert.KernelExperts.τ Cert.KernelExperts.sig) → Buf (Elt Bits) ℓ) : Prop :=
  True

def Pre_KernelExpertsIdeal (m : (ℓ : Loc Cert.KernelExpertsIdeal.nD Cert.KernelExpertsIdeal.τ Cert.KernelExpertsIdeal.sig) → Buf (Elt Ideal) ℓ) : Prop :=
  True

def Pre_ReferenceExpertsIdeal (m : (ℓ : Loc Cert.ReferenceExpertsIdeal.nD Cert.ReferenceExpertsIdeal.τ Cert.ReferenceExpertsIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelMixNorm (m : (ℓ : Loc Cert.KernelMixNorm.nD Cert.KernelMixNorm.τ Cert.KernelMixNorm.sig) → Buf (Elt Bits) ℓ) : Prop :=
  True

def Pre_KernelMixNormIdeal (m : (ℓ : Loc Cert.KernelMixNormIdeal.nD Cert.KernelMixNormIdeal.τ Cert.KernelMixNormIdeal.sig) → Buf (Elt Ideal) ℓ) : Prop :=
  True

def Pre_ReferenceMixNormIdeal (m : (ℓ : Loc Cert.ReferenceMixNormIdeal.nD Cert.ReferenceMixNormIdeal.τ Cert.ReferenceMixNormIdeal.sig) → Buf (Elt Ideal) ℓ) : Prop :=
  True

def Pre_KernelPle (m : (ℓ : Loc Cert.KernelPle.nD Cert.KernelPle.τ Cert.KernelPle.sig) → Buf (Elt Bits) ℓ) : Prop :=
  True

def Pre_KernelPleIdeal (m : (ℓ : Loc Cert.KernelPleIdeal.nD Cert.KernelPleIdeal.τ Cert.KernelPleIdeal.sig) → Buf (Elt Ideal) ℓ) : Prop :=
  True

def Pre_ReferencePleIdeal (m : (ℓ : Loc Cert.ReferencePleIdeal.nD Cert.ReferencePleIdeal.τ Cert.ReferencePleIdeal.sig) → Buf (Elt Ideal) ℓ) : Prop :=
  True

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_ReferenceFinalIdeal (m : (ℓ : Loc Cert.ReferenceFinalIdeal.nD Cert.ReferenceFinalIdeal.τ Cert.ReferenceFinalIdeal.sig) → Buf (Elt Ideal) ℓ) : Prop :=
  True

def Pre_KernelForgetPrompt (m : (ℓ : Loc Cert.KernelForgetPrompt.nD Cert.KernelForgetPrompt.τ Cert.KernelForgetPrompt.sig) → Buf (Elt Bits) ℓ) : Prop :=
  True

def Pre_KernelForgetPromptIdeal (m : (ℓ : Loc Cert.KernelForgetPromptIdeal.nD Cert.KernelForgetPromptIdeal.τ Cert.KernelForgetPromptIdeal.sig) → Buf (Elt Ideal) ℓ) : Prop :=
  True

def Pre_ReferenceForgetPromptIdeal (m : (ℓ : Loc Cert.ReferenceForgetPromptIdeal.nD Cert.ReferenceForgetPromptIdeal.τ Cert.ReferenceForgetPromptIdeal.sig) → Buf (Elt Ideal) ℓ) : Prop :=
  True

def Pre_KernelForgetSample (m : (ℓ : Loc Cert.KernelForgetSample.nD Cert.KernelForgetSample.τ Cert.KernelForgetSample.sig) → Buf (Elt Bits) ℓ) : Prop :=
  True

def Pre_KernelForgetSampleIdeal (m : (ℓ : Loc Cert.KernelForgetSampleIdeal.nD Cert.KernelForgetSampleIdeal.τ Cert.KernelForgetSampleIdeal.sig) → Buf (Elt Ideal) ℓ) : Prop :=
  True

def Pre_ReferenceForgetSampleIdeal (m : (ℓ : Loc Cert.ReferenceForgetSampleIdeal.nD Cert.ReferenceForgetSampleIdeal.τ Cert.ReferenceForgetSampleIdeal.sig) → Buf (Elt Ideal) ℓ) : Prop :=
  True

def Pre_KernelHgrnPrompt (m : (ℓ : Loc Cert.KernelHgrnPrompt.nD Cert.KernelHgrnPrompt.τ Cert.KernelHgrnPrompt.sig) → Buf (Elt Bits) ℓ) : Prop :=
  True

def Pre_KernelHgrnPromptIdeal (m : (ℓ : Loc Cert.KernelHgrnPromptIdeal.nD Cert.KernelHgrnPromptIdeal.τ Cert.KernelHgrnPromptIdeal.sig) → Buf (Elt Ideal) ℓ) : Prop :=
  True

def Pre_KernelHgrnPromptIdeal_bound_above_minus_infinity [hPre_bound_above_minus_infinity : Cert.Pre_bound_above_minus_infinity.Facts] (m : (ℓ : Loc Cert.KernelHgrnPromptIdeal.nD Cert.KernelHgrnPromptIdeal.τ Cert.KernelHgrnPromptIdeal.sig) → Buf (Elt Ideal) ℓ) : Prop :=
  ∀ c : Dev Cert.KernelHgrnPromptIdeal.nD,
    (Cert.Pre_bound_above_minus_infinity.fn (F := Ideal) (m ((c.tc : Thread Cert.KernelHgrnPromptIdeal.nD Cert.KernelHgrnPromptIdeal.τ).loc Cert.KernelHgrnPromptIdeal.main_arg0)) (m ((c.tc : Thread Cert.KernelHgrnPromptIdeal.nD Cert.KernelHgrnPromptIdeal.τ).loc Cert.KernelHgrnPromptIdeal.main_arg1)) (m ((c.tc : Thread Cert.KernelHgrnPromptIdeal.nD Cert.KernelHgrnPromptIdeal.τ).loc Cert.KernelHgrnPromptIdeal.main_arg2))) = (fun _ => 1#1)

def Pre_ReferenceHgrnPromptIdeal (m : (ℓ : Loc Cert.ReferenceHgrnPromptIdeal.nD Cert.ReferenceHgrnPromptIdeal.τ Cert.ReferenceHgrnPromptIdeal.sig) → Buf (Elt Ideal) ℓ) : Prop :=
  True

def Pre_ReferenceHgrnPromptIdeal_bound_above_minus_infinity [hPre_bound_above_minus_infinity : Cert.Pre_bound_above_minus_infinity.Facts] (m : (ℓ : Loc Cert.ReferenceHgrnPromptIdeal.nD Cert.ReferenceHgrnPromptIdeal.τ Cert.ReferenceHgrnPromptIdeal.sig) → Buf (Elt Ideal) ℓ) : Prop :=
  ∀ c : Dev Cert.ReferenceHgrnPromptIdeal.nD,
    (Cert.Pre_bound_above_minus_infinity.fn (F := Ideal) (m ((c.tc : Thread Cert.ReferenceHgrnPromptIdeal.nD Cert.ReferenceHgrnPromptIdeal.τ).loc Cert.ReferenceHgrnPromptIdeal.main_arg0)) (m ((c.tc : Thread Cert.ReferenceHgrnPromptIdeal.nD Cert.ReferenceHgrnPromptIdeal.τ).loc Cert.ReferenceHgrnPromptIdeal.main_arg1)) (m ((c.tc : Thread Cert.ReferenceHgrnPromptIdeal.nD Cert.ReferenceHgrnPromptIdeal.τ).loc Cert.ReferenceHgrnPromptIdeal.main_arg2))) = (fun _ => 1#1)

def Pre_KernelHgrnSample (m : (ℓ : Loc Cert.KernelHgrnSample.nD Cert.KernelHgrnSample.τ Cert.KernelHgrnSample.sig) → Buf (Elt Bits) ℓ) : Prop :=
  True

def Pre_KernelHgrnSampleIdeal (m : (ℓ : Loc Cert.KernelHgrnSampleIdeal.nD Cert.KernelHgrnSampleIdeal.τ Cert.KernelHgrnSampleIdeal.sig) → Buf (Elt Ideal) ℓ) : Prop :=
  True

def Pre_ReferenceHgrnSampleIdeal (m : (ℓ : Loc Cert.ReferenceHgrnSampleIdeal.nD Cert.ReferenceHgrnSampleIdeal.τ Cert.ReferenceHgrnSampleIdeal.sig) → Buf (Elt Ideal) ℓ) : Prop :=
  True

def quiescent_KernelZ [hKernelZ : Cert.KernelZ.Facts] : Prop :=
  ∀ (m : (ℓ : Loc Cert.KernelZ.nD Cert.KernelZ.τ Cert.KernelZ.sig) → Buf (Elt Bits) ℓ) (g : Dev Cert.KernelZ.nD → PrngReg), Pre_KernelZ m →
    θ_run (Cert.KernelZ.defs (F := Bits)) (onTc (τ := Cert.KernelZ.τ) (Cert.KernelZ.main (F := Bits))) ⟨m, fun _ => 0, g⟩ (fun r => (∀ c : Dev Cert.KernelZ.nD,
      r.2.mem ((c.tc : Thread Cert.KernelZ.nD Cert.KernelZ.τ).loc Cert.KernelZ.main_arg0) = m ((c.tc : Thread Cert.KernelZ.nD Cert.KernelZ.τ).loc Cert.KernelZ.main_arg0)
      ∧ r.2.mem ((c.tc : Thread Cert.KernelZ.nD Cert.KernelZ.τ).loc Cert.KernelZ.main_arg1) = m ((c.tc : Thread Cert.KernelZ.nD Cert.KernelZ.τ).loc Cert.KernelZ.main_arg1)
      ∧ r.2.mem ((c.tc : Thread Cert.KernelZ.nD Cert.KernelZ.τ).loc Cert.KernelZ.main_arg2) = m ((c.tc : Thread Cert.KernelZ.nD Cert.KernelZ.τ).loc Cert.KernelZ.main_arg2))
      ∧ r.2.sem = fun _ => 0)

def quiescent_KernelZIdeal [hKernelZIdeal : Cert.KernelZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1)
      ∧ r.2.mem ((c.tc : Thread Cert.KernelZIdeal.nD Cert.KernelZIdeal.τ).loc Cert.KernelZIdeal.main_arg2) = m ((c.tc : Thread Cert.KernelZIdeal.nD Cert.KernelZIdeal.τ).loc Cert.KernelZIdeal.main_arg2))
      ∧ r.2.sem = fun _ => 0)

def quiescent_ReferenceZIdeal [hReferenceZIdeal : Cert.ReferenceZIdeal.Facts] : Prop :=
  ∀ (m : (ℓ : Loc Cert.ReferenceZIdeal.nD Cert.ReferenceZIdeal.τ Cert.ReferenceZIdeal.sig) → Buf (Elt Ideal) ℓ) (g : Dev Cert.ReferenceZIdeal.nD → PrngReg), Pre_ReferenceZIdeal m →
    θ_run (Cert.ReferenceZIdeal.defs (F := Ideal)) (onTc (τ := Cert.ReferenceZIdeal.τ) (Cert.ReferenceZIdeal.main (F := Ideal))) ⟨m, fun _ => 0, g⟩ (fun r => (∀ c : Dev Cert.ReferenceZIdeal.nD,
      r.2.mem ((c.tc : Thread Cert.ReferenceZIdeal.nD Cert.ReferenceZIdeal.τ).loc Cert.ReferenceZIdeal.main_arg0) = m ((c.tc : Thread Cert.ReferenceZIdeal.nD Cert.ReferenceZIdeal.τ).loc Cert.ReferenceZIdeal.main_arg0)
      ∧ r.2.mem ((c.tc : Thread Cert.ReferenceZIdeal.nD Cert.ReferenceZIdeal.τ).loc Cert.ReferenceZIdeal.main_arg1) = m ((c.tc : Thread Cert.ReferenceZIdeal.nD Cert.ReferenceZIdeal.τ).loc Cert.ReferenceZIdeal.main_arg1)
      ∧ r.2.mem ((c.tc : Thread Cert.ReferenceZIdeal.nD Cert.ReferenceZIdeal.τ).loc Cert.ReferenceZIdeal.main_arg2) = m ((c.tc : Thread Cert.ReferenceZIdeal.nD Cert.ReferenceZIdeal.τ).loc Cert.ReferenceZIdeal.main_arg2))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1)
      ∧ r.2.mem ((c.tc : Thread Cert.KernelGates.nD Cert.KernelGates.τ).loc Cert.KernelGates.main_arg2) = m ((c.tc : Thread Cert.KernelGates.nD Cert.KernelGates.τ).loc Cert.KernelGates.main_arg2))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
      ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1)
      ∧ r.2.mem ((c.tc : Thread Cert.ReferenceGatesIdeal.nD Cert.ReferenceGatesIdeal.τ).loc Cert.ReferenceGatesIdeal.main_arg2) = m ((c.tc : Thread Cert.ReferenceGatesIdeal.nD Cert.ReferenceGatesIdeal.τ).loc Cert.ReferenceGatesIdeal.main_arg2))
      ∧ r.2.sem = fun _ => 0)

def quiescent_KernelForget [hKernelForget : Cert.KernelForget.Facts] : Prop :=
  ∀ (m : (ℓ : Loc Cert.KernelForget.nD Cert.KernelForget.τ Cert.KernelForget.sig) → Buf (Elt Bits) ℓ) (g : Dev Cert.KernelForget.nD → PrngReg), Pre_KernelForget m →
    θ_run (Cert.KernelForget.defs (F := Bits)) (onTc (τ := Cert.KernelForget.τ) (Cert.KernelForget.main (F := Bits))) ⟨m, fun _ => 0, g⟩ (fun r => (∀ c : Dev Cert.KernelForget.nD,
      r.2.mem ((c.tc : Thread Cert.KernelForget.nD Cert.KernelForget.τ).loc Cert.KernelForget.main_arg0) = m ((c.tc : Thread Cert.KernelForget.nD Cert.KernelForget.τ).loc Cert.KernelForget.main_arg0)
      ∧ r.2.mem ((c.tc : Thread Cert.KernelForget.nD Cert.KernelForget.τ).loc Cert.KernelForget.main_arg1) = m ((c.tc : Thread Cert.KernelForget.nD Cert.KernelForget.τ).loc Cert.KernelForget.main_arg1)
      ∧ r.2.mem ((c.tc : Thread Cert.KernelForget.nD Cert.KernelForget.τ).loc Cert.KernelForget.main_arg2) = m ((c.tc : Thread Cert.KernelForget.nD Cert.KernelForget.τ).loc Cert.KernelForget.main_arg2))
      ∧ r.2.sem = fun _ => 0)

def quiescent_KernelForgetIdeal [hKernelForgetIdeal : Cert.KernelForgetIdeal.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg), Pre_KernelForgetIdeal m →
    θ_run (Cert.KernelForgetIdeal.defs (F := Ideal)) (onTc (τ := Cert.KernelForgetIdeal.τ) (Cert.KernelForgetIdeal.main (F := Ideal))) ⟨m, fun _ => 0, g⟩ (fun r => (∀ c : Dev Cert.KernelForgetIdeal.nD,
      r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
      ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1)
      ∧ r.2.mem ((c.tc : Thread Cert.KernelForgetIdeal.nD Cert.KernelForgetIdeal.τ).loc Cert.KernelForgetIdeal.main_arg2) = m ((c.tc : Thread Cert.KernelForgetIdeal.nD Cert.KernelForgetIdeal.τ).loc Cert.KernelForgetIdeal.main_arg2))
      ∧ r.2.sem = fun _ => 0)

def quiescent_ReferenceForgetIdeal [hReferenceForgetIdeal : Cert.ReferenceForgetIdeal.Facts] : Prop :=
  ∀ (m : (ℓ : Loc Cert.ReferenceForgetIdeal.nD Cert.ReferenceForgetIdeal.τ Cert.ReferenceForgetIdeal.sig) → Buf (Elt Ideal) ℓ) (g : Dev Cert.ReferenceForgetIdeal.nD → PrngReg), Pre_ReferenceForgetIdeal m →
    θ_run (Cert.ReferenceForgetIdeal.defs (F := Ideal)) (onTc (τ := Cert.ReferenceForgetIdeal.τ) (Cert.ReferenceForgetIdeal.main (F := Ideal))) ⟨m, fun _ => 0, g⟩ (fun r => (∀ c : Dev Cert.ReferenceForgetIdeal.nD,
      r.2.mem ((c.tc : Thread Cert.ReferenceForgetIdeal.nD Cert.ReferenceForgetIdeal.τ).loc Cert.ReferenceForgetIdeal.main_arg0) = m ((c.tc : Thread Cert.ReferenceForgetIdeal.nD Cert.ReferenceForgetIdeal.τ).loc Cert.ReferenceForgetIdeal.main_arg0)
      ∧ r.2.mem ((c.tc : Thread Cert.ReferenceForgetIdeal.nD Cert.ReferenceForgetIdeal.τ).loc Cert.ReferenceForgetIdeal.main_arg1) = m ((c.tc : Thread Cert.ReferenceForgetIdeal.nD Cert.ReferenceForgetIdeal.τ).loc Cert.ReferenceForgetIdeal.main_arg1)
      ∧ r.2.mem ((c.tc : Thread Cert.ReferenceForgetIdeal.nD Cert.ReferenceForgetIdeal.τ).loc Cert.ReferenceForgetIdeal.main_arg2) = m ((c.tc : Thread Cert.ReferenceForgetIdeal.nD Cert.ReferenceForgetIdeal.τ).loc Cert.ReferenceForgetIdeal.main_arg2))
      ∧ r.2.sem = fun _ => 0)

def quiescent_KernelRouter [hKernelRouter : Cert.KernelRouter.Facts] : Prop :=
  ∀ (m : (ℓ : Loc Cert.KernelRouter.nD Cert.KernelRouter.τ Cert.KernelRouter.sig) → Buf (Elt Bits) ℓ) (g : Dev Cert.KernelRouter.nD → PrngReg), Pre_KernelRouter m →
    θ_run (Cert.KernelRouter.defs (F := Bits)) (onTc (τ := Cert.KernelRouter.τ) (Cert.KernelRouter.main (F := Bits))) ⟨m, fun _ => 0, g⟩ (fun r => (∀ c : Dev Cert.KernelRouter.nD,
      r.2.mem ((c.tc : Thread Cert.KernelRouter.nD Cert.KernelRouter.τ).loc Cert.KernelRouter.main_arg0) = m ((c.tc : Thread Cert.KernelRouter.nD Cert.KernelRouter.τ).loc Cert.KernelRouter.main_arg0)
      ∧ r.2.mem ((c.tc : Thread Cert.KernelRouter.nD Cert.KernelRouter.τ).loc Cert.KernelRouter.main_arg1) = m ((c.tc : Thread Cert.KernelRouter.nD Cert.KernelRouter.τ).loc Cert.KernelRouter.main_arg1)
      ∧ r.2.mem ((c.tc : Thread Cert.KernelRouter.nD Cert.KernelRouter.τ).loc Cert.KernelRouter.main_arg2) = m ((c.tc : Thread Cert.KernelRouter.nD Cert.KernelRouter.τ).loc Cert.KernelRouter.main_arg2))
      ∧ r.2.sem = fun _ => 0)

def quiescent_KernelRouterIdeal [hKernelRouterIdeal : Cert.KernelRouterIdeal.Facts] : Prop :=
  ∀ (m : (ℓ : Loc Cert.KernelRouterIdeal.nD Cert.KernelRouterIdeal.τ Cert.KernelRouterIdeal.sig) → Buf (Elt Ideal) ℓ) (g : Dev Cert.KernelRouterIdeal.nD → PrngReg), Pre_KernelRouterIdeal m →
    θ_run (Cert.KernelRouterIdeal.defs (F := Ideal)) (onTc (τ := Cert.KernelRouterIdeal.τ) (Cert.KernelRouterIdeal.main (F := Ideal))) ⟨m, fun _ => 0, g⟩ (fun r => (∀ c : Dev Cert.KernelRouterIdeal.nD,
      r.2.mem ((c.tc : Thread Cert.KernelRouterIdeal.nD Cert.KernelRouterIdeal.τ).loc Cert.KernelRouterIdeal.main_arg0) = m ((c.tc : Thread Cert.KernelRouterIdeal.nD Cert.KernelRouterIdeal.τ).loc Cert.KernelRouterIdeal.main_arg0)
      ∧ r.2.mem ((c.tc : Thread Cert.KernelRouterIdeal.nD Cert.KernelRouterIdeal.τ).loc Cert.KernelRouterIdeal.main_arg1) = m ((c.tc : Thread Cert.KernelRouterIdeal.nD Cert.KernelRouterIdeal.τ).loc Cert.KernelRouterIdeal.main_arg1)
      ∧ r.2.mem ((c.tc : Thread Cert.KernelRouterIdeal.nD Cert.KernelRouterIdeal.τ).loc Cert.KernelRouterIdeal.main_arg2) = m ((c.tc : Thread Cert.KernelRouterIdeal.nD Cert.KernelRouterIdeal.τ).loc Cert.KernelRouterIdeal.main_arg2))
      ∧ r.2.sem = fun _ => 0)

def quiescent_KernelRouterIdeal_pre_logits_above_minus_infinity [hKernelRouterIdeal : Cert.KernelRouterIdeal.Facts] [hPre_logits_above_minus_infinity : Cert.Pre_logits_above_minus_infinity.Facts] : Prop :=
  ∀ (m : (ℓ : Loc Cert.KernelRouterIdeal.nD Cert.KernelRouterIdeal.τ Cert.KernelRouterIdeal.sig) → Buf (Elt Ideal) ℓ) (g : Dev Cert.KernelRouterIdeal.nD → PrngReg), Pre_KernelRouterIdeal_logits_above_minus_infinity m →
    θ_run (Cert.KernelRouterIdeal.defs (F := Ideal)) (onTc (τ := Cert.KernelRouterIdeal.τ) (Cert.KernelRouterIdeal.main (F := Ideal))) ⟨m, fun _ => 0, g⟩ (fun r => (∀ c : Dev Cert.KernelRouterIdeal.nD,
      r.2.mem ((c.tc : Thread Cert.KernelRouterIdeal.nD Cert.KernelRouterIdeal.τ).loc Cert.KernelRouterIdeal.main_arg0) = m ((c.tc : Thread Cert.KernelRouterIdeal.nD Cert.KernelRouterIdeal.τ).loc Cert.KernelRouterIdeal.main_arg0)
      ∧ r.2.mem ((c.tc : Thread Cert.KernelRouterIdeal.nD Cert.KernelRouterIdeal.τ).loc Cert.KernelRouterIdeal.main_arg1) = m ((c.tc : Thread Cert.KernelRouterIdeal.nD Cert.KernelRouterIdeal.τ).loc Cert.KernelRouterIdeal.main_arg1)
      ∧ r.2.mem ((c.tc : Thread Cert.KernelRouterIdeal.nD Cert.KernelRouterIdeal.τ).loc Cert.KernelRouterIdeal.main_arg2) = m ((c.tc : Thread Cert.KernelRouterIdeal.nD Cert.KernelRouterIdeal.τ).loc Cert.KernelRouterIdeal.main_arg2))
      ∧ r.2.sem = fun _ => 0)

def quiescent_ReferenceRouterIdeal [hReferenceRouterIdeal : Cert.ReferenceRouterIdeal.Facts] : Prop :=
  ∀ (m : (ℓ : Loc Cert.ReferenceRouterIdeal.nD Cert.ReferenceRouterIdeal.τ Cert.ReferenceRouterIdeal.sig) → Buf (Elt Ideal) ℓ) (g : Dev Cert.ReferenceRouterIdeal.nD → PrngReg), Pre_ReferenceRouterIdeal m →
    θ_run (Cert.ReferenceRouterIdeal.defs (F := Ideal)) (onTc (τ := Cert.ReferenceRouterIdeal.τ) (Cert.ReferenceRouterIdeal.main (F := Ideal))) ⟨m, fun _ => 0, g⟩ (fun r => (∀ c : Dev Cert.ReferenceRouterIdeal.nD,
      r.2.mem ((c.tc : Thread Cert.ReferenceRouterIdeal.nD Cert.ReferenceRouterIdeal.τ).loc Cert.ReferenceRouterIdeal.main_arg0) = m ((c.tc : Thread Cert.ReferenceRouterIdeal.nD Cert.ReferenceRouterIdeal.τ).loc Cert.ReferenceRouterIdeal.main_arg0)
      ∧ r.2.mem ((c.tc : Thread Cert.ReferenceRouterIdeal.nD Cert.ReferenceRouterIdeal.τ).loc Cert.ReferenceRouterIdeal.main_arg1) = m ((c.tc : Thread Cert.ReferenceRouterIdeal.nD Cert.ReferenceRouterIdeal.τ).loc Cert.ReferenceRouterIdeal.main_arg1)
      ∧ r.2.mem ((c.tc : Thread Cert.ReferenceRouterIdeal.nD Cert.ReferenceRouterIdeal.τ).loc Cert.ReferenceRouterIdeal.main_arg2) = m ((c.tc : Thread Cert.ReferenceRouterIdeal.nD Cert.ReferenceRouterIdeal.τ).loc Cert.ReferenceRouterIdeal.main_arg2))
      ∧ r.2.sem = fun _ => 0)

def quiescent_ReferenceRouterIdeal_pre_logits_above_minus_infinity [hReferenceRouterIdeal : Cert.ReferenceRouterIdeal.Facts] [hPre_logits_above_minus_infinity : Cert.Pre_logits_above_minus_infinity.Facts] : Prop :=
  ∀ (m : (ℓ : Loc Cert.ReferenceRouterIdeal.nD Cert.ReferenceRouterIdeal.τ Cert.ReferenceRouterIdeal.sig) → Buf (Elt Ideal) ℓ) (g : Dev Cert.ReferenceRouterIdeal.nD → PrngReg), Pre_ReferenceRouterIdeal_logits_above_minus_infinity m →
    θ_run (Cert.ReferenceRouterIdeal.defs (F := Ideal)) (onTc (τ := Cert.ReferenceRouterIdeal.τ) (Cert.ReferenceRouterIdeal.main (F := Ideal))) ⟨m, fun _ => 0, g⟩ (fun r => (∀ c : Dev Cert.ReferenceRouterIdeal.nD,
      r.2.mem ((c.tc : Thread Cert.ReferenceRouterIdeal.nD Cert.ReferenceRouterIdeal.τ).loc Cert.ReferenceRouterIdeal.main_arg0) = m ((c.tc : Thread Cert.ReferenceRouterIdeal.nD Cert.ReferenceRouterIdeal.τ).loc Cert.ReferenceRouterIdeal.main_arg0)
      ∧ r.2.mem ((c.tc : Thread Cert.ReferenceRouterIdeal.nD Cert.ReferenceRouterIdeal.τ).loc Cert.ReferenceRouterIdeal.main_arg1) = m ((c.tc : Thread Cert.ReferenceRouterIdeal.nD Cert.ReferenceRouterIdeal.τ).loc Cert.ReferenceRouterIdeal.main_arg1)
      ∧ r.2.mem ((c.tc : Thread Cert.ReferenceRouterIdeal.nD Cert.ReferenceRouterIdeal.τ).loc Cert.ReferenceRouterIdeal.main_arg2) = m ((c.tc : Thread Cert.ReferenceRouterIdeal.nD Cert.ReferenceRouterIdeal.τ).loc Cert.ReferenceRouterIdeal.main_arg2))
      ∧ r.2.sem = fun _ => 0)

def quiescent_KernelExperts [hKernelExperts : Cert.KernelExperts.Facts] : Prop :=
  ∀ (m : (ℓ : Loc Cert.KernelExperts.nD Cert.KernelExperts.τ Cert.KernelExperts.sig) → Buf (Elt Bits) ℓ) (g : Dev Cert.KernelExperts.nD → PrngReg), Pre_KernelExperts m →
    θ_run (Cert.KernelExperts.defs (F := Bits)) (onTc (τ := Cert.KernelExperts.τ) (Cert.KernelExperts.main (F := Bits))) ⟨m, fun _ => 0, g⟩ (fun r => (∀ c : Dev Cert.KernelExperts.nD,
      r.2.mem ((c.tc : Thread Cert.KernelExperts.nD Cert.KernelExperts.τ).loc Cert.KernelExperts.main_arg0) = m ((c.tc : Thread Cert.KernelExperts.nD Cert.KernelExperts.τ).loc Cert.KernelExperts.main_arg0)
      ∧ r.2.mem ((c.tc : Thread Cert.KernelExperts.nD Cert.KernelExperts.τ).loc Cert.KernelExperts.main_arg1) = m ((c.tc : Thread Cert.KernelExperts.nD Cert.KernelExperts.τ).loc Cert.KernelExperts.main_arg1)
      ∧ r.2.mem ((c.tc : Thread Cert.KernelExperts.nD Cert.KernelExperts.τ).loc Cert.KernelExperts.main_arg2) = m ((c.tc : Thread Cert.KernelExperts.nD Cert.KernelExperts.τ).loc Cert.KernelExperts.main_arg2)
      ∧ r.2.mem ((c.tc : Thread Cert.KernelExperts.nD Cert.KernelExperts.τ).loc Cert.KernelExperts.main_arg3) = m ((c.tc : Thread Cert.KernelExperts.nD Cert.KernelExperts.τ).loc Cert.KernelExperts.main_arg3)
      ∧ r.2.mem ((c.tc : Thread Cert.KernelExperts.nD Cert.KernelExperts.τ).loc Cert.KernelExperts.main_arg4) = m ((c.tc : Thread Cert.KernelExperts.nD Cert.KernelExperts.τ).loc Cert.KernelExperts.main_arg4))
      ∧ r.2.sem = fun _ => 0)

def quiescent_KernelExpertsIdeal [hKernelExpertsIdeal : Cert.KernelExpertsIdeal.Facts] : Prop :=
  ∀ (m : (ℓ : Loc Cert.KernelExpertsIdeal.nD Cert.KernelExpertsIdeal.τ Cert.KernelExpertsIdeal.sig) → Buf (Elt Ideal) ℓ) (g : Dev Cert.KernelExpertsIdeal.nD → PrngReg), Pre_KernelExpertsIdeal m →
    θ_run (Cert.KernelExpertsIdeal.defs (F := Ideal)) (onTc (τ := Cert.KernelExpertsIdeal.τ) (Cert.KernelExpertsIdeal.main (F := Ideal))) ⟨m, fun _ => 0, g⟩ (fun r => (∀ c : Dev Cert.KernelExpertsIdeal.nD,
      r.2.mem ((c.tc : Thread Cert.KernelExpertsIdeal.nD Cert.KernelExpertsIdeal.τ).loc Cert.KernelExpertsIdeal.main_arg0) = m ((c.tc : Thread Cert.KernelExpertsIdeal.nD Cert.KernelExpertsIdeal.τ).loc Cert.KernelExpertsIdeal.main_arg0)
      ∧ r.2.mem ((c.tc : Thread Cert.KernelExpertsIdeal.nD Cert.KernelExpertsIdeal.τ).loc Cert.KernelExpertsIdeal.main_arg1) = m ((c.tc : Thread Cert.KernelExpertsIdeal.nD Cert.KernelExpertsIdeal.τ).loc Cert.KernelExpertsIdeal.main_arg1)
      ∧ r.2.mem ((c.tc : Thread Cert.KernelExpertsIdeal.nD Cert.KernelExpertsIdeal.τ).loc Cert.KernelExpertsIdeal.main_arg2) = m ((c.tc : Thread Cert.KernelExpertsIdeal.nD Cert.KernelExpertsIdeal.τ).loc Cert.KernelExpertsIdeal.main_arg2)
      ∧ r.2.mem ((c.tc : Thread Cert.KernelExpertsIdeal.nD Cert.KernelExpertsIdeal.τ).loc Cert.KernelExpertsIdeal.main_arg3) = m ((c.tc : Thread Cert.KernelExpertsIdeal.nD Cert.KernelExpertsIdeal.τ).loc Cert.KernelExpertsIdeal.main_arg3)
      ∧ r.2.mem ((c.tc : Thread Cert.KernelExpertsIdeal.nD Cert.KernelExpertsIdeal.τ).loc Cert.KernelExpertsIdeal.main_arg4) = m ((c.tc : Thread Cert.KernelExpertsIdeal.nD Cert.KernelExpertsIdeal.τ).loc Cert.KernelExpertsIdeal.main_arg4))
      ∧ r.2.sem = fun _ => 0)

def quiescent_ReferenceExpertsIdeal [hReferenceExpertsIdeal : Cert.ReferenceExpertsIdeal.Facts] : Prop :=
  ∀ (m : (ℓ : Loc Cert.ReferenceExpertsIdeal.nD Cert.ReferenceExpertsIdeal.τ Cert.ReferenceExpertsIdeal.sig) → Buf (Elt Ideal) ℓ) (g : Dev Cert.ReferenceExpertsIdeal.nD → PrngReg), Pre_ReferenceExpertsIdeal m →
    θ_run (Cert.ReferenceExpertsIdeal.defs (F := Ideal)) (onTc (τ := Cert.ReferenceExpertsIdeal.τ) (Cert.ReferenceExpertsIdeal.main (F := Ideal))) ⟨m, fun _ => 0, g⟩ (fun r => (∀ c : Dev Cert.ReferenceExpertsIdeal.nD,
      r.2.mem ((c.tc : Thread Cert.ReferenceExpertsIdeal.nD Cert.ReferenceExpertsIdeal.τ).loc Cert.ReferenceExpertsIdeal.main_arg0) = m ((c.tc : Thread Cert.ReferenceExpertsIdeal.nD Cert.ReferenceExpertsIdeal.τ).loc Cert.ReferenceExpertsIdeal.main_arg0)
      ∧ r.2.mem ((c.tc : Thread Cert.ReferenceExpertsIdeal.nD Cert.ReferenceExpertsIdeal.τ).loc Cert.ReferenceExpertsIdeal.main_arg1) = m ((c.tc : Thread Cert.ReferenceExpertsIdeal.nD Cert.ReferenceExpertsIdeal.τ).loc Cert.ReferenceExpertsIdeal.main_arg1)
      ∧ r.2.mem ((c.tc : Thread Cert.ReferenceExpertsIdeal.nD Cert.ReferenceExpertsIdeal.τ).loc Cert.ReferenceExpertsIdeal.main_arg2) = m ((c.tc : Thread Cert.ReferenceExpertsIdeal.nD Cert.ReferenceExpertsIdeal.τ).loc Cert.ReferenceExpertsIdeal.main_arg2)
      ∧ r.2.mem ((c.tc : Thread Cert.ReferenceExpertsIdeal.nD Cert.ReferenceExpertsIdeal.τ).loc Cert.ReferenceExpertsIdeal.main_arg3) = m ((c.tc : Thread Cert.ReferenceExpertsIdeal.nD Cert.ReferenceExpertsIdeal.τ).loc Cert.ReferenceExpertsIdeal.main_arg3)
      ∧ r.2.mem ((c.tc : Thread Cert.ReferenceExpertsIdeal.nD Cert.ReferenceExpertsIdeal.τ).loc Cert.ReferenceExpertsIdeal.main_arg4) = m ((c.tc : Thread Cert.ReferenceExpertsIdeal.nD Cert.ReferenceExpertsIdeal.τ).loc Cert.ReferenceExpertsIdeal.main_arg4))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5))
      ∧ r.2.sem = fun _ => 0)

def quiescent_KernelMixNorm [hKernelMixNorm : Cert.KernelMixNorm.Facts] : Prop :=
  ∀ (m : (ℓ : Loc Cert.KernelMixNorm.nD Cert.KernelMixNorm.τ Cert.KernelMixNorm.sig) → Buf (Elt Bits) ℓ) (g : Dev Cert.KernelMixNorm.nD → PrngReg), Pre_KernelMixNorm m →
    θ_run (Cert.KernelMixNorm.defs (F := Bits)) (onTc (τ := Cert.KernelMixNorm.τ) (Cert.KernelMixNorm.main (F := Bits))) ⟨m, fun _ => 0, g⟩ (fun r => (∀ c : Dev Cert.KernelMixNorm.nD,
      r.2.mem ((c.tc : Thread Cert.KernelMixNorm.nD Cert.KernelMixNorm.τ).loc Cert.KernelMixNorm.main_arg0) = m ((c.tc : Thread Cert.KernelMixNorm.nD Cert.KernelMixNorm.τ).loc Cert.KernelMixNorm.main_arg0)
      ∧ r.2.mem ((c.tc : Thread Cert.KernelMixNorm.nD Cert.KernelMixNorm.τ).loc Cert.KernelMixNorm.main_arg1) = m ((c.tc : Thread Cert.KernelMixNorm.nD Cert.KernelMixNorm.τ).loc Cert.KernelMixNorm.main_arg1)
      ∧ r.2.mem ((c.tc : Thread Cert.KernelMixNorm.nD Cert.KernelMixNorm.τ).loc Cert.KernelMixNorm.main_arg2) = m ((c.tc : Thread Cert.KernelMixNorm.nD Cert.KernelMixNorm.τ).loc Cert.KernelMixNorm.main_arg2)
      ∧ r.2.mem ((c.tc : Thread Cert.KernelMixNorm.nD Cert.KernelMixNorm.τ).loc Cert.KernelMixNorm.main_arg3) = m ((c.tc : Thread Cert.KernelMixNorm.nD Cert.KernelMixNorm.τ).loc Cert.KernelMixNorm.main_arg3)
      ∧ r.2.mem ((c.tc : Thread Cert.KernelMixNorm.nD Cert.KernelMixNorm.τ).loc Cert.KernelMixNorm.main_arg4) = m ((c.tc : Thread Cert.KernelMixNorm.nD Cert.KernelMixNorm.τ).loc Cert.KernelMixNorm.main_arg4)
      ∧ r.2.mem ((c.tc : Thread Cert.KernelMixNorm.nD Cert.KernelMixNorm.τ).loc Cert.KernelMixNorm.main_arg5) = m ((c.tc : Thread Cert.KernelMixNorm.nD Cert.KernelMixNorm.τ).loc Cert.KernelMixNorm.main_arg5))
      ∧ r.2.sem = fun _ => 0)

def quiescent_KernelMixNormIdeal [hKernelMixNormIdeal : Cert.KernelMixNormIdeal.Facts] : Prop :=
  ∀ (m : (ℓ : Loc Cert.KernelMixNormIdeal.nD Cert.KernelMixNormIdeal.τ Cert.KernelMixNormIdeal.sig) → Buf (Elt Ideal) ℓ) (g : Dev Cert.KernelMixNormIdeal.nD → PrngReg), Pre_KernelMixNormIdeal m →
    θ_run (Cert.KernelMixNormIdeal.defs (F := Ideal)) (onTc (τ := Cert.KernelMixNormIdeal.τ) (Cert.KernelMixNormIdeal.main (F := Ideal))) ⟨m, fun _ => 0, g⟩ (fun r => (∀ c : Dev Cert.KernelMixNormIdeal.nD,
      r.2.mem ((c.tc : Thread Cert.KernelMixNormIdeal.nD Cert.KernelMixNormIdeal.τ).loc Cert.KernelMixNormIdeal.main_arg0) = m ((c.tc : Thread Cert.KernelMixNormIdeal.nD Cert.KernelMixNormIdeal.τ).loc Cert.KernelMixNormIdeal.main_arg0)
      ∧ r.2.mem ((c.tc : Thread Cert.KernelMixNormIdeal.nD Cert.KernelMixNormIdeal.τ).loc Cert.KernelMixNormIdeal.main_arg1) = m ((c.tc : Thread Cert.KernelMixNormIdeal.nD Cert.KernelMixNormIdeal.τ).loc Cert.KernelMixNormIdeal.main_arg1)
      ∧ r.2.mem ((c.tc : Thread Cert.KernelMixNormIdeal.nD Cert.KernelMixNormIdeal.τ).loc Cert.KernelMixNormIdeal.main_arg2) = m ((c.tc : Thread Cert.KernelMixNormIdeal.nD Cert.KernelMixNormIdeal.τ).loc Cert.KernelMixNormIdeal.main_arg2)
      ∧ r.2.mem ((c.tc : Thread Cert.KernelMixNormIdeal.nD Cert.KernelMixNormIdeal.τ).loc Cert.KernelMixNormIdeal.main_arg3) = m ((c.tc : Thread Cert.KernelMixNormIdeal.nD Cert.KernelMixNormIdeal.τ).loc Cert.KernelMixNormIdeal.main_arg3)
      ∧ r.2.mem ((c.tc : Thread Cert.KernelMixNormIdeal.nD Cert.KernelMixNormIdeal.τ).loc Cert.KernelMixNormIdeal.main_arg4) = m ((c.tc : Thread Cert.KernelMixNormIdeal.nD Cert.KernelMixNormIdeal.τ).loc Cert.KernelMixNormIdeal.main_arg4)
      ∧ r.2.mem ((c.tc : Thread Cert.KernelMixNormIdeal.nD Cert.KernelMixNormIdeal.τ).loc Cert.KernelMixNormIdeal.main_arg5) = m ((c.tc : Thread Cert.KernelMixNormIdeal.nD Cert.KernelMixNormIdeal.τ).loc Cert.KernelMixNormIdeal.main_arg5))
      ∧ r.2.sem = fun _ => 0)

def quiescent_ReferenceMixNormIdeal [hReferenceMixNormIdeal : Cert.ReferenceMixNormIdeal.Facts] : Prop :=
  ∀ (m : (ℓ : Loc Cert.ReferenceMixNormIdeal.nD Cert.ReferenceMixNormIdeal.τ Cert.ReferenceMixNormIdeal.sig) → Buf (Elt Ideal) ℓ) (g : Dev Cert.ReferenceMixNormIdeal.nD → PrngReg), Pre_ReferenceMixNormIdeal m →
    θ_run (Cert.ReferenceMixNormIdeal.defs (F := Ideal)) (onTc (τ := Cert.ReferenceMixNormIdeal.τ) (Cert.ReferenceMixNormIdeal.main (F := Ideal))) ⟨m, fun _ => 0, g⟩ (fun r => (∀ c : Dev Cert.ReferenceMixNormIdeal.nD,
      r.2.mem ((c.tc : Thread Cert.ReferenceMixNormIdeal.nD Cert.ReferenceMixNormIdeal.τ).loc Cert.ReferenceMixNormIdeal.main_arg0) = m ((c.tc : Thread Cert.ReferenceMixNormIdeal.nD Cert.ReferenceMixNormIdeal.τ).loc Cert.ReferenceMixNormIdeal.main_arg0)
      ∧ r.2.mem ((c.tc : Thread Cert.ReferenceMixNormIdeal.nD Cert.ReferenceMixNormIdeal.τ).loc Cert.ReferenceMixNormIdeal.main_arg1) = m ((c.tc : Thread Cert.ReferenceMixNormIdeal.nD Cert.ReferenceMixNormIdeal.τ).loc Cert.ReferenceMixNormIdeal.main_arg1)
      ∧ r.2.mem ((c.tc : Thread Cert.ReferenceMixNormIdeal.nD Cert.ReferenceMixNormIdeal.τ).loc Cert.ReferenceMixNormIdeal.main_arg2) = m ((c.tc : Thread Cert.ReferenceMixNormIdeal.nD Cert.ReferenceMixNormIdeal.τ).loc Cert.ReferenceMixNormIdeal.main_arg2)
      ∧ r.2.mem ((c.tc : Thread Cert.ReferenceMixNormIdeal.nD Cert.ReferenceMixNormIdeal.τ).loc Cert.ReferenceMixNormIdeal.main_arg3) = m ((c.tc : Thread Cert.ReferenceMixNormIdeal.nD Cert.ReferenceMixNormIdeal.τ).loc Cert.ReferenceMixNormIdeal.main_arg3)
      ∧ r.2.mem ((c.tc : Thread Cert.ReferenceMixNormIdeal.nD Cert.ReferenceMixNormIdeal.τ).loc Cert.ReferenceMixNormIdeal.main_arg4) = m ((c.tc : Thread Cert.ReferenceMixNormIdeal.nD Cert.ReferenceMixNormIdeal.τ).loc Cert.ReferenceMixNormIdeal.main_arg4)
      ∧ r.2.mem ((c.tc : Thread Cert.ReferenceMixNormIdeal.nD Cert.ReferenceMixNormIdeal.τ).loc Cert.ReferenceMixNormIdeal.main_arg5) = m ((c.tc : Thread Cert.ReferenceMixNormIdeal.nD Cert.ReferenceMixNormIdeal.τ).loc Cert.ReferenceMixNormIdeal.main_arg5))
      ∧ r.2.sem = fun _ => 0)

def quiescent_KernelPle [hKernelPle : Cert.KernelPle.Facts] : Prop :=
  ∀ (m : (ℓ : Loc Cert.KernelPle.nD Cert.KernelPle.τ Cert.KernelPle.sig) → Buf (Elt Bits) ℓ) (g : Dev Cert.KernelPle.nD → PrngReg), Pre_KernelPle m →
    θ_run (Cert.KernelPle.defs (F := Bits)) (onTc (τ := Cert.KernelPle.τ) (Cert.KernelPle.main (F := Bits))) ⟨m, fun _ => 0, g⟩ (fun r => (∀ c : Dev Cert.KernelPle.nD,
      r.2.mem ((c.tc : Thread Cert.KernelPle.nD Cert.KernelPle.τ).loc Cert.KernelPle.main_arg0) = m ((c.tc : Thread Cert.KernelPle.nD Cert.KernelPle.τ).loc Cert.KernelPle.main_arg0)
      ∧ r.2.mem ((c.tc : Thread Cert.KernelPle.nD Cert.KernelPle.τ).loc Cert.KernelPle.main_arg1) = m ((c.tc : Thread Cert.KernelPle.nD Cert.KernelPle.τ).loc Cert.KernelPle.main_arg1)
      ∧ r.2.mem ((c.tc : Thread Cert.KernelPle.nD Cert.KernelPle.τ).loc Cert.KernelPle.main_arg2) = m ((c.tc : Thread Cert.KernelPle.nD Cert.KernelPle.τ).loc Cert.KernelPle.main_arg2)
      ∧ r.2.mem ((c.tc : Thread Cert.KernelPle.nD Cert.KernelPle.τ).loc Cert.KernelPle.main_arg3) = m ((c.tc : Thread Cert.KernelPle.nD Cert.KernelPle.τ).loc Cert.KernelPle.main_arg3)
      ∧ r.2.mem ((c.tc : Thread Cert.KernelPle.nD Cert.KernelPle.τ).loc Cert.KernelPle.main_arg4) = m ((c.tc : Thread Cert.KernelPle.nD Cert.KernelPle.τ).loc Cert.KernelPle.main_arg4))
      ∧ r.2.sem = fun _ => 0)

def quiescent_KernelPleIdeal [hKernelPleIdeal : Cert.KernelPleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg), Pre_KernelPleIdeal m →
    θ_run (Cert.KernelPleIdeal.defs (F := Ideal)) (onTc (τ := Cert.KernelPleIdeal.τ) (Cert.KernelPleIdeal.main (F := Ideal))) ⟨m, fun _ => 0, g⟩ (fun r => (∀ c : Dev Cert.KernelPleIdeal.nD,
      r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
      ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
      ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
      ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
      ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ r.2.sem = fun _ => 0)

def quiescent_ReferencePleIdeal [hReferencePleIdeal : Cert.ReferencePleIdeal.Facts] : Prop :=
  ∀ (m : (ℓ : Loc Cert.ReferencePleIdeal.nD Cert.ReferencePleIdeal.τ Cert.ReferencePleIdeal.sig) → Buf (Elt Ideal) ℓ) (g : Dev Cert.ReferencePleIdeal.nD → PrngReg), Pre_ReferencePleIdeal m →
    θ_run (Cert.ReferencePleIdeal.defs (F := Ideal)) (onTc (τ := Cert.ReferencePleIdeal.τ) (Cert.ReferencePleIdeal.main (F := Ideal))) ⟨m, fun _ => 0, g⟩ (fun r => (∀ c : Dev Cert.ReferencePleIdeal.nD,
      r.2.mem ((c.tc : Thread Cert.ReferencePleIdeal.nD Cert.ReferencePleIdeal.τ).loc Cert.ReferencePleIdeal.main_arg0) = m ((c.tc : Thread Cert.ReferencePleIdeal.nD Cert.ReferencePleIdeal.τ).loc Cert.ReferencePleIdeal.main_arg0)
      ∧ r.2.mem ((c.tc : Thread Cert.ReferencePleIdeal.nD Cert.ReferencePleIdeal.τ).loc Cert.ReferencePleIdeal.main_arg1) = m ((c.tc : Thread Cert.ReferencePleIdeal.nD Cert.ReferencePleIdeal.τ).loc Cert.ReferencePleIdeal.main_arg1)
      ∧ r.2.mem ((c.tc : Thread Cert.ReferencePleIdeal.nD Cert.ReferencePleIdeal.τ).loc Cert.ReferencePleIdeal.main_arg2) = m ((c.tc : Thread Cert.ReferencePleIdeal.nD Cert.ReferencePleIdeal.τ).loc Cert.ReferencePleIdeal.main_arg2)
      ∧ r.2.mem ((c.tc : Thread Cert.ReferencePleIdeal.nD Cert.ReferencePleIdeal.τ).loc Cert.ReferencePleIdeal.main_arg3) = m ((c.tc : Thread Cert.ReferencePleIdeal.nD Cert.ReferencePleIdeal.τ).loc Cert.ReferencePleIdeal.main_arg3)
      ∧ r.2.mem ((c.tc : Thread Cert.ReferencePleIdeal.nD Cert.ReferencePleIdeal.τ).loc Cert.ReferencePleIdeal.main_arg4) = m ((c.tc : Thread Cert.ReferencePleIdeal.nD Cert.ReferencePleIdeal.τ).loc Cert.ReferencePleIdeal.main_arg4))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1)
      ∧ r.2.mem ((c.tc : Thread Cert.KernelFinal.nD Cert.KernelFinal.τ).loc Cert.KernelFinal.main_arg2) = m ((c.tc : Thread Cert.KernelFinal.nD Cert.KernelFinal.τ).loc Cert.KernelFinal.main_arg2)
      ∧ r.2.mem ((c.tc : Thread Cert.KernelFinal.nD Cert.KernelFinal.τ).loc Cert.KernelFinal.main_arg3) = m ((c.tc : Thread Cert.KernelFinal.nD Cert.KernelFinal.τ).loc Cert.KernelFinal.main_arg3)
      ∧ r.2.mem ((c.tc : Thread Cert.KernelFinal.nD Cert.KernelFinal.τ).loc Cert.KernelFinal.main_arg4) = m ((c.tc : Thread Cert.KernelFinal.nD Cert.KernelFinal.τ).loc Cert.KernelFinal.main_arg4)
      ∧ r.2.mem ((c.tc : Thread Cert.KernelFinal.nD Cert.KernelFinal.τ).loc Cert.KernelFinal.main_arg5) = m ((c.tc : Thread Cert.KernelFinal.nD Cert.KernelFinal.τ).loc Cert.KernelFinal.main_arg5)
      ∧ r.2.mem ((c.tc : Thread Cert.KernelFinal.nD Cert.KernelFinal.τ).loc Cert.KernelFinal.main_arg6) = m ((c.tc : Thread Cert.KernelFinal.nD Cert.KernelFinal.τ).loc Cert.KernelFinal.main_arg6)
      ∧ r.2.mem ((c.tc : Thread Cert.KernelFinal.nD Cert.KernelFinal.τ).loc Cert.KernelFinal.main_arg7) = m ((c.tc : Thread Cert.KernelFinal.nD Cert.KernelFinal.τ).loc Cert.KernelFinal.main_arg7)
      ∧ r.2.mem ((c.tc : Thread Cert.KernelFinal.nD Cert.KernelFinal.τ).loc Cert.KernelFinal.main_arg8) = m ((c.tc : Thread Cert.KernelFinal.nD Cert.KernelFinal.τ).loc Cert.KernelFinal.main_arg8))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
      ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
      ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
      ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4)
      ∧ r.2.mem ((c.tc : Thread Cert.KernelFinalIdeal.nD Cert.KernelFinalIdeal.τ).loc Cert.KernelFinalIdeal.main_arg5) = m ((c.tc : Thread Cert.KernelFinalIdeal.nD Cert.KernelFinalIdeal.τ).loc Cert.KernelFinalIdeal.main_arg5)
      ∧ r.2.mem ((c.tc : Thread Cert.KernelFinalIdeal.nD Cert.KernelFinalIdeal.τ).loc Cert.KernelFinalIdeal.main_arg6) = m ((c.tc : Thread Cert.KernelFinalIdeal.nD Cert.KernelFinalIdeal.τ).loc Cert.KernelFinalIdeal.main_arg6)
      ∧ r.2.mem ((c.tc : Thread Cert.KernelFinalIdeal.nD Cert.KernelFinalIdeal.τ).loc Cert.KernelFinalIdeal.main_arg7) = m ((c.tc : Thread Cert.KernelFinalIdeal.nD Cert.KernelFinalIdeal.τ).loc Cert.KernelFinalIdeal.main_arg7)
      ∧ r.2.mem ((c.tc : Thread Cert.KernelFinalIdeal.nD Cert.KernelFinalIdeal.τ).loc Cert.KernelFinalIdeal.main_arg8) = m ((c.tc : Thread Cert.KernelFinalIdeal.nD Cert.KernelFinalIdeal.τ).loc Cert.KernelFinalIdeal.main_arg8))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2)
      ∧ r.2.mem ((c.tc : Thread Cert.ReferenceFinalIdeal.nD Cert.ReferenceFinalIdeal.τ).loc Cert.ReferenceFinalIdeal.main_arg3) = m ((c.tc : Thread Cert.ReferenceFinalIdeal.nD Cert.ReferenceFinalIdeal.τ).loc Cert.ReferenceFinalIdeal.main_arg3)
      ∧ r.2.mem ((c.tc : Thread Cert.ReferenceFinalIdeal.nD Cert.ReferenceFinalIdeal.τ).loc Cert.ReferenceFinalIdeal.main_arg4) = m ((c.tc : Thread Cert.ReferenceFinalIdeal.nD Cert.ReferenceFinalIdeal.τ).loc Cert.ReferenceFinalIdeal.main_arg4)
      ∧ r.2.mem ((c.tc : Thread Cert.ReferenceFinalIdeal.nD Cert.ReferenceFinalIdeal.τ).loc Cert.ReferenceFinalIdeal.main_arg5) = m ((c.tc : Thread Cert.ReferenceFinalIdeal.nD Cert.ReferenceFinalIdeal.τ).loc Cert.ReferenceFinalIdeal.main_arg5)
      ∧ r.2.mem ((c.tc : Thread Cert.ReferenceFinalIdeal.nD Cert.ReferenceFinalIdeal.τ).loc Cert.ReferenceFinalIdeal.main_arg6) = m ((c.tc : Thread Cert.ReferenceFinalIdeal.nD Cert.ReferenceFinalIdeal.τ).loc Cert.ReferenceFinalIdeal.main_arg6)
      ∧ r.2.mem ((c.tc : Thread Cert.ReferenceFinalIdeal.nD Cert.ReferenceFinalIdeal.τ).loc Cert.ReferenceFinalIdeal.main_arg7) = m ((c.tc : Thread Cert.ReferenceFinalIdeal.nD Cert.ReferenceFinalIdeal.τ).loc Cert.ReferenceFinalIdeal.main_arg7)
      ∧ r.2.mem ((c.tc : Thread Cert.ReferenceFinalIdeal.nD Cert.ReferenceFinalIdeal.τ).loc Cert.ReferenceFinalIdeal.main_arg8) = m ((c.tc : Thread Cert.ReferenceFinalIdeal.nD Cert.ReferenceFinalIdeal.τ).loc Cert.ReferenceFinalIdeal.main_arg8))
      ∧ r.2.sem = fun _ => 0)

def quiescent_KernelForgetPrompt [hKernelForgetPrompt : Cert.KernelForgetPrompt.Facts] : Prop :=
  ∀ (m : (ℓ : Loc Cert.KernelForgetPrompt.nD Cert.KernelForgetPrompt.τ Cert.KernelForgetPrompt.sig) → Buf (Elt Bits) ℓ) (g : Dev Cert.KernelForgetPrompt.nD → PrngReg), Pre_KernelForgetPrompt m →
    θ_run (Cert.KernelForgetPrompt.defs (F := Bits)) (onTc (τ := Cert.KernelForgetPrompt.τ) (Cert.KernelForgetPrompt.main (F := Bits))) ⟨m, fun _ => 0, g⟩ (fun r => (∀ c : Dev Cert.KernelForgetPrompt.nD,
      r.2.mem ((c.tc : Thread Cert.KernelForgetPrompt.nD Cert.KernelForgetPrompt.τ).loc Cert.KernelForgetPrompt.main_arg0) = m ((c.tc : Thread Cert.KernelForgetPrompt.nD Cert.KernelForgetPrompt.τ).loc Cert.KernelForgetPrompt.main_arg0)
      ∧ r.2.mem ((c.tc : Thread Cert.KernelForgetPrompt.nD Cert.KernelForgetPrompt.τ).loc Cert.KernelForgetPrompt.main_arg1) = m ((c.tc : Thread Cert.KernelForgetPrompt.nD Cert.KernelForgetPrompt.τ).loc Cert.KernelForgetPrompt.main_arg1))
      ∧ r.2.sem = fun _ => 0)

def quiescent_KernelForgetPromptIdeal [hKernelForgetPromptIdeal : Cert.KernelForgetPromptIdeal.Facts] : Prop :=
  ∀ (m : (ℓ : Loc Cert.KernelForgetPromptIdeal.nD Cert.KernelForgetPromptIdeal.τ Cert.KernelForgetPromptIdeal.sig) → Buf (Elt Ideal) ℓ) (g : Dev Cert.KernelForgetPromptIdeal.nD → PrngReg), Pre_KernelForgetPromptIdeal m →
    θ_run (Cert.KernelForgetPromptIdeal.defs (F := Ideal)) (onTc (τ := Cert.KernelForgetPromptIdeal.τ) (Cert.KernelForgetPromptIdeal.main (F := Ideal))) ⟨m, fun _ => 0, g⟩ (fun r => (∀ c : Dev Cert.KernelForgetPromptIdeal.nD,
      r.2.mem ((c.tc : Thread Cert.KernelForgetPromptIdeal.nD Cert.KernelForgetPromptIdeal.τ).loc Cert.KernelForgetPromptIdeal.main_arg0) = m ((c.tc : Thread Cert.KernelForgetPromptIdeal.nD Cert.KernelForgetPromptIdeal.τ).loc Cert.KernelForgetPromptIdeal.main_arg0)
      ∧ r.2.mem ((c.tc : Thread Cert.KernelForgetPromptIdeal.nD Cert.KernelForgetPromptIdeal.τ).loc Cert.KernelForgetPromptIdeal.main_arg1) = m ((c.tc : Thread Cert.KernelForgetPromptIdeal.nD Cert.KernelForgetPromptIdeal.τ).loc Cert.KernelForgetPromptIdeal.main_arg1))
      ∧ r.2.sem = fun _ => 0)

def quiescent_ReferenceForgetPromptIdeal [hReferenceForgetPromptIdeal : Cert.ReferenceForgetPromptIdeal.Facts] : Prop :=
  ∀ (m : (ℓ : Loc Cert.ReferenceForgetPromptIdeal.nD Cert.ReferenceForgetPromptIdeal.τ Cert.ReferenceForgetPromptIdeal.sig) → Buf (Elt Ideal) ℓ) (g : Dev Cert.ReferenceForgetPromptIdeal.nD → PrngReg), Pre_ReferenceForgetPromptIdeal m →
    θ_run (Cert.ReferenceForgetPromptIdeal.defs (F := Ideal)) (onTc (τ := Cert.ReferenceForgetPromptIdeal.τ) (Cert.ReferenceForgetPromptIdeal.main (F := Ideal))) ⟨m, fun _ => 0, g⟩ (fun r => (∀ c : Dev Cert.ReferenceForgetPromptIdeal.nD,
      r.2.mem ((c.tc : Thread Cert.ReferenceForgetPromptIdeal.nD Cert.ReferenceForgetPromptIdeal.τ).loc Cert.ReferenceForgetPromptIdeal.main_arg0) = m ((c.tc : Thread Cert.ReferenceForgetPromptIdeal.nD Cert.ReferenceForgetPromptIdeal.τ).loc Cert.ReferenceForgetPromptIdeal.main_arg0)
      ∧ r.2.mem ((c.tc : Thread Cert.ReferenceForgetPromptIdeal.nD Cert.ReferenceForgetPromptIdeal.τ).loc Cert.ReferenceForgetPromptIdeal.main_arg1) = m ((c.tc : Thread Cert.ReferenceForgetPromptIdeal.nD Cert.ReferenceForgetPromptIdeal.τ).loc Cert.ReferenceForgetPromptIdeal.main_arg1))
      ∧ r.2.sem = fun _ => 0)

def quiescent_KernelForgetSample [hKernelForgetSample : Cert.KernelForgetSample.Facts] : Prop :=
  ∀ (m : (ℓ : Loc Cert.KernelForgetSample.nD Cert.KernelForgetSample.τ Cert.KernelForgetSample.sig) → Buf (Elt Bits) ℓ) (g : Dev Cert.KernelForgetSample.nD → PrngReg), Pre_KernelForgetSample m →
    θ_run (Cert.KernelForgetSample.defs (F := Bits)) (onTc (τ := Cert.KernelForgetSample.τ) (Cert.KernelForgetSample.main (F := Bits))) ⟨m, fun _ => 0, g⟩ (fun r => (∀ c : Dev Cert.KernelForgetSample.nD,
      r.2.mem ((c.tc : Thread Cert.KernelForgetSample.nD Cert.KernelForgetSample.τ).loc Cert.KernelForgetSample.main_arg0) = m ((c.tc : Thread Cert.KernelForgetSample.nD Cert.KernelForgetSample.τ).loc Cert.KernelForgetSample.main_arg0)
      ∧ r.2.mem ((c.tc : Thread Cert.KernelForgetSample.nD Cert.KernelForgetSample.τ).loc Cert.KernelForgetSample.main_arg1) = m ((c.tc : Thread Cert.KernelForgetSample.nD Cert.KernelForgetSample.τ).loc Cert.KernelForgetSample.main_arg1))
      ∧ r.2.sem = fun _ => 0)

def quiescent_KernelForgetSampleIdeal [hKernelForgetSampleIdeal : Cert.KernelForgetSampleIdeal.Facts] : Prop :=
  ∀ (m : (ℓ : Loc Cert.KernelForgetSampleIdeal.nD Cert.KernelForgetSampleIdeal.τ Cert.KernelForgetSampleIdeal.sig) → Buf (Elt Ideal) ℓ) (g : Dev Cert.KernelForgetSampleIdeal.nD → PrngReg), Pre_KernelForgetSampleIdeal m →
    θ_run (Cert.KernelForgetSampleIdeal.defs (F := Ideal)) (onTc (τ := Cert.KernelForgetSampleIdeal.τ) (Cert.KernelForgetSampleIdeal.main (F := Ideal))) ⟨m, fun _ => 0, g⟩ (fun r => (∀ c : Dev Cert.KernelForgetSampleIdeal.nD,
      r.2.mem ((c.tc : Thread Cert.KernelForgetSampleIdeal.nD Cert.KernelForgetSampleIdeal.τ).loc Cert.KernelForgetSampleIdeal.main_arg0) = m ((c.tc : Thread Cert.KernelForgetSampleIdeal.nD Cert.KernelForgetSampleIdeal.τ).loc Cert.KernelForgetSampleIdeal.main_arg0)
      ∧ r.2.mem ((c.tc : Thread Cert.KernelForgetSampleIdeal.nD Cert.KernelForgetSampleIdeal.τ).loc Cert.KernelForgetSampleIdeal.main_arg1) = m ((c.tc : Thread Cert.KernelForgetSampleIdeal.nD Cert.KernelForgetSampleIdeal.τ).loc Cert.KernelForgetSampleIdeal.main_arg1))
      ∧ r.2.sem = fun _ => 0)

def quiescent_ReferenceForgetSampleIdeal [hReferenceForgetSampleIdeal : Cert.ReferenceForgetSampleIdeal.Facts] : Prop :=
  ∀ (m : (ℓ : Loc Cert.ReferenceForgetSampleIdeal.nD Cert.ReferenceForgetSampleIdeal.τ Cert.ReferenceForgetSampleIdeal.sig) → Buf (Elt Ideal) ℓ) (g : Dev Cert.ReferenceForgetSampleIdeal.nD → PrngReg), Pre_ReferenceForgetSampleIdeal m →
    θ_run (Cert.ReferenceForgetSampleIdeal.defs (F := Ideal)) (onTc (τ := Cert.ReferenceForgetSampleIdeal.τ) (Cert.ReferenceForgetSampleIdeal.main (F := Ideal))) ⟨m, fun _ => 0, g⟩ (fun r => (∀ c : Dev Cert.ReferenceForgetSampleIdeal.nD,
      r.2.mem ((c.tc : Thread Cert.ReferenceForgetSampleIdeal.nD Cert.ReferenceForgetSampleIdeal.τ).loc Cert.ReferenceForgetSampleIdeal.main_arg0) = m ((c.tc : Thread Cert.ReferenceForgetSampleIdeal.nD Cert.ReferenceForgetSampleIdeal.τ).loc Cert.ReferenceForgetSampleIdeal.main_arg0)
      ∧ r.2.mem ((c.tc : Thread Cert.ReferenceForgetSampleIdeal.nD Cert.ReferenceForgetSampleIdeal.τ).loc Cert.ReferenceForgetSampleIdeal.main_arg1) = m ((c.tc : Thread Cert.ReferenceForgetSampleIdeal.nD Cert.ReferenceForgetSampleIdeal.τ).loc Cert.ReferenceForgetSampleIdeal.main_arg1))
      ∧ r.2.sem = fun _ => 0)

def quiescent_KernelHgrnPrompt [hKernelHgrnPrompt : Cert.KernelHgrnPrompt.Facts] : Prop :=
  ∀ (m : (ℓ : Loc Cert.KernelHgrnPrompt.nD Cert.KernelHgrnPrompt.τ Cert.KernelHgrnPrompt.sig) → Buf (Elt Bits) ℓ) (g : Dev Cert.KernelHgrnPrompt.nD → PrngReg), Pre_KernelHgrnPrompt m →
    θ_run (Cert.KernelHgrnPrompt.defs (F := Bits)) (onTc (τ := Cert.KernelHgrnPrompt.τ) (Cert.KernelHgrnPrompt.main (F := Bits))) ⟨m, fun _ => 0, g⟩ (fun r => (∀ c : Dev Cert.KernelHgrnPrompt.nD,
      r.2.mem ((c.tc : Thread Cert.KernelHgrnPrompt.nD Cert.KernelHgrnPrompt.τ).loc Cert.KernelHgrnPrompt.main_arg0) = m ((c.tc : Thread Cert.KernelHgrnPrompt.nD Cert.KernelHgrnPrompt.τ).loc Cert.KernelHgrnPrompt.main_arg0)
      ∧ r.2.mem ((c.tc : Thread Cert.KernelHgrnPrompt.nD Cert.KernelHgrnPrompt.τ).loc Cert.KernelHgrnPrompt.main_arg1) = m ((c.tc : Thread Cert.KernelHgrnPrompt.nD Cert.KernelHgrnPrompt.τ).loc Cert.KernelHgrnPrompt.main_arg1)
      ∧ r.2.mem ((c.tc : Thread Cert.KernelHgrnPrompt.nD Cert.KernelHgrnPrompt.τ).loc Cert.KernelHgrnPrompt.main_arg2) = m ((c.tc : Thread Cert.KernelHgrnPrompt.nD Cert.KernelHgrnPrompt.τ).loc Cert.KernelHgrnPrompt.main_arg2))
      ∧ r.2.sem = fun _ => 0)

def quiescent_KernelHgrnPromptIdeal [hKernelHgrnPromptIdeal : Cert.KernelHgrnPromptIdeal.Facts] : Prop :=
  ∀ (m : (ℓ : Loc Cert.KernelHgrnPromptIdeal.nD Cert.KernelHgrnPromptIdeal.τ Cert.KernelHgrnPromptIdeal.sig) → Buf (Elt Ideal) ℓ) (g : Dev Cert.KernelHgrnPromptIdeal.nD → PrngReg), Pre_KernelHgrnPromptIdeal m →
    θ_run (Cert.KernelHgrnPromptIdeal.defs (F := Ideal)) (onTc (τ := Cert.KernelHgrnPromptIdeal.τ) (Cert.KernelHgrnPromptIdeal.main (F := Ideal))) ⟨m, fun _ => 0, g⟩ (fun r => (∀ c : Dev Cert.KernelHgrnPromptIdeal.nD,
      r.2.mem ((c.tc : Thread Cert.KernelHgrnPromptIdeal.nD Cert.KernelHgrnPromptIdeal.τ).loc Cert.KernelHgrnPromptIdeal.main_arg0) = m ((c.tc : Thread Cert.KernelHgrnPromptIdeal.nD Cert.KernelHgrnPromptIdeal.τ).loc Cert.KernelHgrnPromptIdeal.main_arg0)
      ∧ r.2.mem ((c.tc : Thread Cert.KernelHgrnPromptIdeal.nD Cert.KernelHgrnPromptIdeal.τ).loc Cert.KernelHgrnPromptIdeal.main_arg1) = m ((c.tc : Thread Cert.KernelHgrnPromptIdeal.nD Cert.KernelHgrnPromptIdeal.τ).loc Cert.KernelHgrnPromptIdeal.main_arg1)
      ∧ r.2.mem ((c.tc : Thread Cert.KernelHgrnPromptIdeal.nD Cert.KernelHgrnPromptIdeal.τ).loc Cert.KernelHgrnPromptIdeal.main_arg2) = m ((c.tc : Thread Cert.KernelHgrnPromptIdeal.nD Cert.KernelHgrnPromptIdeal.τ).loc Cert.KernelHgrnPromptIdeal.main_arg2))
      ∧ r.2.sem = fun _ => 0)

def quiescent_KernelHgrnPromptIdeal_pre_bound_above_minus_infinity [hKernelHgrnPromptIdeal : Cert.KernelHgrnPromptIdeal.Facts] [hPre_bound_above_minus_infinity : Cert.Pre_bound_above_minus_infinity.Facts] : Prop :=
  ∀ (m : (ℓ : Loc Cert.KernelHgrnPromptIdeal.nD Cert.KernelHgrnPromptIdeal.τ Cert.KernelHgrnPromptIdeal.sig) → Buf (Elt Ideal) ℓ) (g : Dev Cert.KernelHgrnPromptIdeal.nD → PrngReg), Pre_KernelHgrnPromptIdeal_bound_above_minus_infinity m →
    θ_run (Cert.KernelHgrnPromptIdeal.defs (F := Ideal)) (onTc (τ := Cert.KernelHgrnPromptIdeal.τ) (Cert.KernelHgrnPromptIdeal.main (F := Ideal))) ⟨m, fun _ => 0, g⟩ (fun r => (∀ c : Dev Cert.KernelHgrnPromptIdeal.nD,
      r.2.mem ((c.tc : Thread Cert.KernelHgrnPromptIdeal.nD Cert.KernelHgrnPromptIdeal.τ).loc Cert.KernelHgrnPromptIdeal.main_arg0) = m ((c.tc : Thread Cert.KernelHgrnPromptIdeal.nD Cert.KernelHgrnPromptIdeal.τ).loc Cert.KernelHgrnPromptIdeal.main_arg0)
      ∧ r.2.mem ((c.tc : Thread Cert.KernelHgrnPromptIdeal.nD Cert.KernelHgrnPromptIdeal.τ).loc Cert.KernelHgrnPromptIdeal.main_arg1) = m ((c.tc : Thread Cert.KernelHgrnPromptIdeal.nD Cert.KernelHgrnPromptIdeal.τ).loc Cert.KernelHgrnPromptIdeal.main_arg1)
      ∧ r.2.mem ((c.tc : Thread Cert.KernelHgrnPromptIdeal.nD Cert.KernelHgrnPromptIdeal.τ).loc Cert.KernelHgrnPromptIdeal.main_arg2) = m ((c.tc : Thread Cert.KernelHgrnPromptIdeal.nD Cert.KernelHgrnPromptIdeal.τ).loc Cert.KernelHgrnPromptIdeal.main_arg2))
      ∧ r.2.sem = fun _ => 0)

def quiescent_ReferenceHgrnPromptIdeal [hReferenceHgrnPromptIdeal : Cert.ReferenceHgrnPromptIdeal.Facts] : Prop :=
  ∀ (m : (ℓ : Loc Cert.ReferenceHgrnPromptIdeal.nD Cert.ReferenceHgrnPromptIdeal.τ Cert.ReferenceHgrnPromptIdeal.sig) → Buf (Elt Ideal) ℓ) (g : Dev Cert.ReferenceHgrnPromptIdeal.nD → PrngReg), Pre_ReferenceHgrnPromptIdeal m →
    θ_run (Cert.ReferenceHgrnPromptIdeal.defs (F := Ideal)) (onTc (τ := Cert.ReferenceHgrnPromptIdeal.τ) (Cert.ReferenceHgrnPromptIdeal.main (F := Ideal))) ⟨m, fun _ => 0, g⟩ (fun r => (∀ c : Dev Cert.ReferenceHgrnPromptIdeal.nD,
      r.2.mem ((c.tc : Thread Cert.ReferenceHgrnPromptIdeal.nD Cert.ReferenceHgrnPromptIdeal.τ).loc Cert.ReferenceHgrnPromptIdeal.main_arg0) = m ((c.tc : Thread Cert.ReferenceHgrnPromptIdeal.nD Cert.ReferenceHgrnPromptIdeal.τ).loc Cert.ReferenceHgrnPromptIdeal.main_arg0)
      ∧ r.2.mem ((c.tc : Thread Cert.ReferenceHgrnPromptIdeal.nD Cert.ReferenceHgrnPromptIdeal.τ).loc Cert.ReferenceHgrnPromptIdeal.main_arg1) = m ((c.tc : Thread Cert.ReferenceHgrnPromptIdeal.nD Cert.ReferenceHgrnPromptIdeal.τ).loc Cert.ReferenceHgrnPromptIdeal.main_arg1)
      ∧ r.2.mem ((c.tc : Thread Cert.ReferenceHgrnPromptIdeal.nD Cert.ReferenceHgrnPromptIdeal.τ).loc Cert.ReferenceHgrnPromptIdeal.main_arg2) = m ((c.tc : Thread Cert.ReferenceHgrnPromptIdeal.nD Cert.ReferenceHgrnPromptIdeal.τ).loc Cert.ReferenceHgrnPromptIdeal.main_arg2))
      ∧ r.2.sem = fun _ => 0)

def quiescent_ReferenceHgrnPromptIdeal_pre_bound_above_minus_infinity [hReferenceHgrnPromptIdeal : Cert.ReferenceHgrnPromptIdeal.Facts] [hPre_bound_above_minus_infinity : Cert.Pre_bound_above_minus_infinity.Facts] : Prop :=
  ∀ (m : (ℓ : Loc Cert.ReferenceHgrnPromptIdeal.nD Cert.ReferenceHgrnPromptIdeal.τ Cert.ReferenceHgrnPromptIdeal.sig) → Buf (Elt Ideal) ℓ) (g : Dev Cert.ReferenceHgrnPromptIdeal.nD → PrngReg), Pre_ReferenceHgrnPromptIdeal_bound_above_minus_infinity m →
    θ_run (Cert.ReferenceHgrnPromptIdeal.defs (F := Ideal)) (onTc (τ := Cert.ReferenceHgrnPromptIdeal.τ) (Cert.ReferenceHgrnPromptIdeal.main (F := Ideal))) ⟨m, fun _ => 0, g⟩ (fun r => (∀ c : Dev Cert.ReferenceHgrnPromptIdeal.nD,
      r.2.mem ((c.tc : Thread Cert.ReferenceHgrnPromptIdeal.nD Cert.ReferenceHgrnPromptIdeal.τ).loc Cert.ReferenceHgrnPromptIdeal.main_arg0) = m ((c.tc : Thread Cert.ReferenceHgrnPromptIdeal.nD Cert.ReferenceHgrnPromptIdeal.τ).loc Cert.ReferenceHgrnPromptIdeal.main_arg0)
      ∧ r.2.mem ((c.tc : Thread Cert.ReferenceHgrnPromptIdeal.nD Cert.ReferenceHgrnPromptIdeal.τ).loc Cert.ReferenceHgrnPromptIdeal.main_arg1) = m ((c.tc : Thread Cert.ReferenceHgrnPromptIdeal.nD Cert.ReferenceHgrnPromptIdeal.τ).loc Cert.ReferenceHgrnPromptIdeal.main_arg1)
      ∧ r.2.mem ((c.tc : Thread Cert.ReferenceHgrnPromptIdeal.nD Cert.ReferenceHgrnPromptIdeal.τ).loc Cert.ReferenceHgrnPromptIdeal.main_arg2) = m ((c.tc : Thread Cert.ReferenceHgrnPromptIdeal.nD Cert.ReferenceHgrnPromptIdeal.τ).loc Cert.ReferenceHgrnPromptIdeal.main_arg2))
      ∧ r.2.sem = fun _ => 0)

def quiescent_KernelHgrnSample [hKernelHgrnSample : Cert.KernelHgrnSample.Facts] : Prop :=
  ∀ (m : (ℓ : Loc Cert.KernelHgrnSample.nD Cert.KernelHgrnSample.τ Cert.KernelHgrnSample.sig) → Buf (Elt Bits) ℓ) (g : Dev Cert.KernelHgrnSample.nD → PrngReg), Pre_KernelHgrnSample m →
    θ_run (Cert.KernelHgrnSample.defs (F := Bits)) (onTc (τ := Cert.KernelHgrnSample.τ) (Cert.KernelHgrnSample.main (F := Bits))) ⟨m, fun _ => 0, g⟩ (fun r => (∀ c : Dev Cert.KernelHgrnSample.nD,
      r.2.mem ((c.tc : Thread Cert.KernelHgrnSample.nD Cert.KernelHgrnSample.τ).loc Cert.KernelHgrnSample.main_arg0) = m ((c.tc : Thread Cert.KernelHgrnSample.nD Cert.KernelHgrnSample.τ).loc Cert.KernelHgrnSample.main_arg0)
      ∧ r.2.mem ((c.tc : Thread Cert.KernelHgrnSample.nD Cert.KernelHgrnSample.τ).loc Cert.KernelHgrnSample.main_arg1) = m ((c.tc : Thread Cert.KernelHgrnSample.nD Cert.KernelHgrnSample.τ).loc Cert.KernelHgrnSample.main_arg1)
      ∧ r.2.mem ((c.tc : Thread Cert.KernelHgrnSample.nD Cert.KernelHgrnSample.τ).loc Cert.KernelHgrnSample.main_arg2) = m ((c.tc : Thread Cert.KernelHgrnSample.nD Cert.KernelHgrnSample.τ).loc Cert.KernelHgrnSample.main_arg2)
      ∧ r.2.mem ((c.tc : Thread Cert.KernelHgrnSample.nD Cert.KernelHgrnSample.τ).loc Cert.KernelHgrnSample.main_arg3) = m ((c.tc : Thread Cert.KernelHgrnSample.nD Cert.KernelHgrnSample.τ).loc Cert.KernelHgrnSample.main_arg3))
      ∧ r.2.sem = fun _ => 0)

def quiescent_KernelHgrnSampleIdeal [hKernelHgrnSampleIdeal : Cert.KernelHgrnSampleIdeal.Facts] : Prop :=
  ∀ (m : (ℓ : Loc Cert.KernelHgrnSampleIdeal.nD Cert.KernelHgrnSampleIdeal.τ Cert.KernelHgrnSampleIdeal.sig) → Buf (Elt Ideal) ℓ) (g : Dev Cert.KernelHgrnSampleIdeal.nD → PrngReg), Pre_KernelHgrnSampleIdeal m →
    θ_run (Cert.KernelHgrnSampleIdeal.defs (F := Ideal)) (onTc (τ := Cert.KernelHgrnSampleIdeal.τ) (Cert.KernelHgrnSampleIdeal.main (F := Ideal))) ⟨m, fun _ => 0, g⟩ (fun r => (∀ c : Dev Cert.KernelHgrnSampleIdeal.nD,
      r.2.mem ((c.tc : Thread Cert.KernelHgrnSampleIdeal.nD Cert.KernelHgrnSampleIdeal.τ).loc Cert.KernelHgrnSampleIdeal.main_arg0) = m ((c.tc : Thread Cert.KernelHgrnSampleIdeal.nD Cert.KernelHgrnSampleIdeal.τ).loc Cert.KernelHgrnSampleIdeal.main_arg0)
      ∧ r.2.mem ((c.tc : Thread Cert.KernelHgrnSampleIdeal.nD Cert.KernelHgrnSampleIdeal.τ).loc Cert.KernelHgrnSampleIdeal.main_arg1) = m ((c.tc : Thread Cert.KernelHgrnSampleIdeal.nD Cert.KernelHgrnSampleIdeal.τ).loc Cert.KernelHgrnSampleIdeal.main_arg1)
      ∧ r.2.mem ((c.tc : Thread Cert.KernelHgrnSampleIdeal.nD Cert.KernelHgrnSampleIdeal.τ).loc Cert.KernelHgrnSampleIdeal.main_arg2) = m ((c.tc : Thread Cert.KernelHgrnSampleIdeal.nD Cert.KernelHgrnSampleIdeal.τ).loc Cert.KernelHgrnSampleIdeal.main_arg2)
      ∧ r.2.mem ((c.tc : Thread Cert.KernelHgrnSampleIdeal.nD Cert.KernelHgrnSampleIdeal.τ).loc Cert.KernelHgrnSampleIdeal.main_arg3) = m ((c.tc : Thread Cert.KernelHgrnSampleIdeal.nD Cert.KernelHgrnSampleIdeal.τ).loc Cert.KernelHgrnSampleIdeal.main_arg3))
      ∧ r.2.sem = fun _ => 0)

def quiescent_ReferenceHgrnSampleIdeal [hReferenceHgrnSampleIdeal : Cert.ReferenceHgrnSampleIdeal.Facts] : Prop :=
  ∀ (m : (ℓ : Loc Cert.ReferenceHgrnSampleIdeal.nD Cert.ReferenceHgrnSampleIdeal.τ Cert.ReferenceHgrnSampleIdeal.sig) → Buf (Elt Ideal) ℓ) (g : Dev Cert.ReferenceHgrnSampleIdeal.nD → PrngReg), Pre_ReferenceHgrnSampleIdeal m →
    θ_run (Cert.ReferenceHgrnSampleIdeal.defs (F := Ideal)) (onTc (τ := Cert.ReferenceHgrnSampleIdeal.τ) (Cert.ReferenceHgrnSampleIdeal.main (F := Ideal))) ⟨m, fun _ => 0, g⟩ (fun r => (∀ c : Dev Cert.ReferenceHgrnSampleIdeal.nD,
      r.2.mem ((c.tc : Thread Cert.ReferenceHgrnSampleIdeal.nD Cert.ReferenceHgrnSampleIdeal.τ).loc Cert.ReferenceHgrnSampleIdeal.main_arg0) = m ((c.tc : Thread Cert.ReferenceHgrnSampleIdeal.nD Cert.ReferenceHgrnSampleIdeal.τ).loc Cert.ReferenceHgrnSampleIdeal.main_arg0)
      ∧ r.2.mem ((c.tc : Thread Cert.ReferenceHgrnSampleIdeal.nD Cert.ReferenceHgrnSampleIdeal.τ).loc Cert.ReferenceHgrnSampleIdeal.main_arg1) = m ((c.tc : Thread Cert.ReferenceHgrnSampleIdeal.nD Cert.ReferenceHgrnSampleIdeal.τ).loc Cert.ReferenceHgrnSampleIdeal.main_arg1)
      ∧ r.2.mem ((c.tc : Thread Cert.ReferenceHgrnSampleIdeal.nD Cert.ReferenceHgrnSampleIdeal.τ).loc Cert.ReferenceHgrnSampleIdeal.main_arg2) = m ((c.tc : Thread Cert.ReferenceHgrnSampleIdeal.nD Cert.ReferenceHgrnSampleIdeal.τ).loc Cert.ReferenceHgrnSampleIdeal.main_arg2)
      ∧ r.2.mem ((c.tc : Thread Cert.ReferenceHgrnSampleIdeal.nD Cert.ReferenceHgrnSampleIdeal.τ).loc Cert.ReferenceHgrnSampleIdeal.main_arg3) = m ((c.tc : Thread Cert.ReferenceHgrnSampleIdeal.nD Cert.ReferenceHgrnSampleIdeal.τ).loc Cert.ReferenceHgrnSampleIdeal.main_arg3))
      ∧ r.2.sem = fun _ => 0)

def preserves_KernelZ_KernelZIdeal : Prop :=
  True

def algebraic_KernelZIdeal_ReferenceZIdeal [hKernelZIdeal : Cert.KernelZIdeal.Facts] [hReferenceZIdeal : Cert.ReferenceZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg)
    (m' : (ℓ : Loc Cert.ReferenceZIdeal.nD Cert.ReferenceZIdeal.τ Cert.ReferenceZIdeal.sig) → Buf (Elt Ideal) ℓ) (g' : Dev Cert.ReferenceZIdeal.nD → PrngReg), Pre_KernelZIdeal m →
    (∀ c : Dev Cert.KernelZIdeal.nD,
      m' ((c.tc : Thread Cert.ReferenceZIdeal.nD Cert.ReferenceZIdeal.τ).loc Cert.ReferenceZIdeal.main_arg0) = m ((c.tc : Thread Cert.KernelZIdeal.nD Cert.KernelZIdeal.τ).loc Cert.KernelZIdeal.main_arg0)
      ∧ m' ((c.tc : Thread Cert.ReferenceZIdeal.nD Cert.ReferenceZIdeal.τ).loc Cert.ReferenceZIdeal.main_arg1) = m ((c.tc : Thread Cert.KernelZIdeal.nD Cert.KernelZIdeal.τ).loc Cert.KernelZIdeal.main_arg1)
      ∧ m' ((c.tc : Thread Cert.ReferenceZIdeal.nD Cert.ReferenceZIdeal.τ).loc Cert.ReferenceZIdeal.main_arg2) = m ((c.tc : Thread Cert.KernelZIdeal.nD Cert.KernelZIdeal.τ).loc Cert.KernelZIdeal.main_arg2)) →
    ∃ (v0 : (c : Dev Cert.KernelZIdeal.nD) → Buf (Elt Ideal) ((c.tc : Thread Cert.KernelZIdeal.nD Cert.KernelZIdeal.τ).loc Cert.KernelZIdeal.main_v4)),
      θ_run (Cert.KernelZIdeal.defs (F := Ideal)) (onTc (τ := Cert.KernelZIdeal.τ) (Cert.KernelZIdeal.main (F := Ideal))) ⟨m, fun _ => 0, g⟩ (fun r => ∀ c : Dev Cert.KernelZIdeal.nD,
          r.2.mem ((c.tc : Thread Cert.KernelZIdeal.nD Cert.KernelZIdeal.τ).loc Cert.KernelZIdeal.main_v4) = v0 c
          ∧ r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
          ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1)
          ∧ r.2.mem ((c.tc : Thread Cert.KernelZIdeal.nD Cert.KernelZIdeal.τ).loc Cert.KernelZIdeal.main_arg2) = m ((c.tc : Thread Cert.KernelZIdeal.nD Cert.KernelZIdeal.τ).loc Cert.KernelZIdeal.main_arg2))
      ∧ θ_run (Cert.ReferenceZIdeal.defs (F := Ideal)) (onTc (τ := Cert.ReferenceZIdeal.τ) (Cert.ReferenceZIdeal.main (F := Ideal))) ⟨m', fun _ => 0, g'⟩ (fun r => ∀ c : Dev Cert.ReferenceZIdeal.nD,
          r.2.mem ((c.tc : Thread Cert.ReferenceZIdeal.nD Cert.ReferenceZIdeal.τ).loc Cert.ReferenceZIdeal.main_v7) = v0 c
          ∧ r.2.mem ((c.tc : Thread Cert.ReferenceZIdeal.nD Cert.ReferenceZIdeal.τ).loc Cert.ReferenceZIdeal.main_arg0) = m' ((c.tc : Thread Cert.ReferenceZIdeal.nD Cert.ReferenceZIdeal.τ).loc Cert.ReferenceZIdeal.main_arg0)
          ∧ r.2.mem ((c.tc : Thread Cert.ReferenceZIdeal.nD Cert.ReferenceZIdeal.τ).loc Cert.ReferenceZIdeal.main_arg1) = m' ((c.tc : Thread Cert.ReferenceZIdeal.nD Cert.ReferenceZIdeal.τ).loc Cert.ReferenceZIdeal.main_arg1)
          ∧ r.2.mem ((c.tc : Thread Cert.ReferenceZIdeal.nD Cert.ReferenceZIdeal.τ).loc Cert.ReferenceZIdeal.main_arg2) = m' ((c.tc : Thread Cert.ReferenceZIdeal.nD Cert.ReferenceZIdeal.τ).loc Cert.ReferenceZIdeal.main_arg2))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)
      ∧ m' ((c.tc : Thread Cert.ReferenceGatesIdeal.nD Cert.ReferenceGatesIdeal.τ).loc Cert.ReferenceGatesIdeal.main_arg2) = m ((c.tc : Thread Cert.KernelGatesIdeal.nD Cert.KernelGatesIdeal.τ).loc Cert.KernelGatesIdeal.main_arg2)) →
    ∃ (v0 : (c : Dev Cert.KernelGatesIdeal.nD) → Buf (Elt Ideal) ((c.tc : Thread Cert.KernelGatesIdeal.nD Cert.KernelGatesIdeal.τ).loc Cert.KernelGatesIdeal.main_v4)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v4) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1)
          ∧ r.2.mem ((c.tc : Thread Cert.KernelGatesIdeal.nD Cert.KernelGatesIdeal.τ).loc Cert.KernelGatesIdeal.main_arg2) = m ((c.tc : Thread Cert.KernelGatesIdeal.nD Cert.KernelGatesIdeal.τ).loc Cert.KernelGatesIdeal.main_arg2))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v7) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1)
          ∧ r.2.mem ((c.tc : Thread Cert.ReferenceGatesIdeal.nD Cert.ReferenceGatesIdeal.τ).loc Cert.ReferenceGatesIdeal.main_arg2) = m' ((c.tc : Thread Cert.ReferenceGatesIdeal.nD Cert.ReferenceGatesIdeal.τ).loc Cert.ReferenceGatesIdeal.main_arg2))

def preserves_KernelForget_KernelForgetIdeal : Prop :=
  True

def algebraic_KernelForgetIdeal_ReferenceForgetIdeal [hKernelForgetIdeal : Cert.KernelForgetIdeal.Facts] [hReferenceForgetIdeal : Cert.ReferenceForgetIdeal.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg)
    (m' : (ℓ : Loc Cert.ReferenceForgetIdeal.nD Cert.ReferenceForgetIdeal.τ Cert.ReferenceForgetIdeal.sig) → Buf (Elt Ideal) ℓ) (g' : Dev Cert.ReferenceForgetIdeal.nD → PrngReg), Pre_KernelForgetIdeal m →
    (∀ c : Dev Cert.KernelForgetIdeal.nD,
      m' ((c.tc : Thread Cert.ReferenceForgetIdeal.nD Cert.ReferenceForgetIdeal.τ).loc Cert.ReferenceForgetIdeal.main_arg0) = m ((c.tc : Thread Cert.KernelForgetIdeal.nD Cert.KernelForgetIdeal.τ).loc Cert.KernelForgetIdeal.main_arg0)
      ∧ m' ((c.tc : Thread Cert.ReferenceForgetIdeal.nD Cert.ReferenceForgetIdeal.τ).loc Cert.ReferenceForgetIdeal.main_arg1) = m ((c.tc : Thread Cert.KernelForgetIdeal.nD Cert.KernelForgetIdeal.τ).loc Cert.KernelForgetIdeal.main_arg1)
      ∧ m' ((c.tc : Thread Cert.ReferenceForgetIdeal.nD Cert.ReferenceForgetIdeal.τ).loc Cert.ReferenceForgetIdeal.main_arg2) = m ((c.tc : Thread Cert.KernelForgetIdeal.nD Cert.KernelForgetIdeal.τ).loc Cert.KernelForgetIdeal.main_arg2)) →
    ∃ (v0 : (c : Dev Cert.KernelForgetIdeal.nD) → Buf (Elt Ideal) ((c.tc : Thread Cert.KernelForgetIdeal.nD Cert.KernelForgetIdeal.τ).loc Cert.KernelForgetIdeal.main_v6)),
      θ_run (Cert.KernelForgetIdeal.defs (F := Ideal)) (onTc (τ := Cert.KernelForgetIdeal.τ) (Cert.KernelForgetIdeal.main (F := Ideal))) ⟨m, fun _ => 0, g⟩ (fun r => ∀ c : Dev Cert.KernelForgetIdeal.nD,
          r.2.mem ((c.tc : Thread Cert.KernelForgetIdeal.nD Cert.KernelForgetIdeal.τ).loc Cert.KernelForgetIdeal.main_v6) = v0 c
          ∧ r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
          ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1)
          ∧ r.2.mem ((c.tc : Thread Cert.KernelForgetIdeal.nD Cert.KernelForgetIdeal.τ).loc Cert.KernelForgetIdeal.main_arg2) = m ((c.tc : Thread Cert.KernelForgetIdeal.nD Cert.KernelForgetIdeal.τ).loc Cert.KernelForgetIdeal.main_arg2))
      ∧ θ_run (Cert.ReferenceForgetIdeal.defs (F := Ideal)) (onTc (τ := Cert.ReferenceForgetIdeal.τ) (Cert.ReferenceForgetIdeal.main (F := Ideal))) ⟨m', fun _ => 0, g'⟩ (fun r => ∀ c : Dev Cert.ReferenceForgetIdeal.nD,
          r.2.mem ((c.tc : Thread Cert.ReferenceForgetIdeal.nD Cert.ReferenceForgetIdeal.τ).loc Cert.ReferenceForgetIdeal.main_v8) = v0 c
          ∧ r.2.mem ((c.tc : Thread Cert.ReferenceForgetIdeal.nD Cert.ReferenceForgetIdeal.τ).loc Cert.ReferenceForgetIdeal.main_arg0) = m' ((c.tc : Thread Cert.ReferenceForgetIdeal.nD Cert.ReferenceForgetIdeal.τ).loc Cert.ReferenceForgetIdeal.main_arg0)
          ∧ r.2.mem ((c.tc : Thread Cert.ReferenceForgetIdeal.nD Cert.ReferenceForgetIdeal.τ).loc Cert.ReferenceForgetIdeal.main_arg1) = m' ((c.tc : Thread Cert.ReferenceForgetIdeal.nD Cert.ReferenceForgetIdeal.τ).loc Cert.ReferenceForgetIdeal.main_arg1)
          ∧ r.2.mem ((c.tc : Thread Cert.ReferenceForgetIdeal.nD Cert.ReferenceForgetIdeal.τ).loc Cert.ReferenceForgetIdeal.main_arg2) = m' ((c.tc : Thread Cert.ReferenceForgetIdeal.nD Cert.ReferenceForgetIdeal.τ).loc Cert.ReferenceForgetIdeal.main_arg2))

def preserves_KernelRouter_KernelRouterIdeal : Prop :=
  True

def algebraic_KernelRouterIdeal_ReferenceRouterIdeal_pre_logits_above_minus_infinity [hKernelRouterIdeal : Cert.KernelRouterIdeal.Facts] [hReferenceRouterIdeal : Cert.ReferenceRouterIdeal.Facts] [hPre_logits_above_minus_infinity : Cert.Pre_logits_above_minus_infinity.Facts] : Prop :=
  ∀ (m : (ℓ : Loc Cert.KernelRouterIdeal.nD Cert.KernelRouterIdeal.τ Cert.KernelRouterIdeal.sig) → Buf (Elt Ideal) ℓ) (g : Dev Cert.KernelRouterIdeal.nD → PrngReg)
    (m' : (ℓ : Loc Cert.ReferenceRouterIdeal.nD Cert.ReferenceRouterIdeal.τ Cert.ReferenceRouterIdeal.sig) → Buf (Elt Ideal) ℓ) (g' : Dev Cert.ReferenceRouterIdeal.nD → PrngReg), Pre_KernelRouterIdeal_logits_above_minus_infinity m →
    (∀ c : Dev Cert.KernelRouterIdeal.nD,
      m' ((c.tc : Thread Cert.ReferenceRouterIdeal.nD Cert.ReferenceRouterIdeal.τ).loc Cert.ReferenceRouterIdeal.main_arg0) = m ((c.tc : Thread Cert.KernelRouterIdeal.nD Cert.KernelRouterIdeal.τ).loc Cert.KernelRouterIdeal.main_arg0)
      ∧ m' ((c.tc : Thread Cert.ReferenceRouterIdeal.nD Cert.ReferenceRouterIdeal.τ).loc Cert.ReferenceRouterIdeal.main_arg1) = m ((c.tc : Thread Cert.KernelRouterIdeal.nD Cert.KernelRouterIdeal.τ).loc Cert.KernelRouterIdeal.main_arg1)
      ∧ m' ((c.tc : Thread Cert.ReferenceRouterIdeal.nD Cert.ReferenceRouterIdeal.τ).loc Cert.ReferenceRouterIdeal.main_arg2) = m ((c.tc : Thread Cert.KernelRouterIdeal.nD Cert.KernelRouterIdeal.τ).loc Cert.KernelRouterIdeal.main_arg2)) →
    ∃ (v0 : (c : Dev Cert.KernelRouterIdeal.nD) → Buf (Elt Ideal) ((c.tc : Thread Cert.KernelRouterIdeal.nD Cert.KernelRouterIdeal.τ).loc Cert.KernelRouterIdeal.main_v4)),
      θ_run (Cert.KernelRouterIdeal.defs (F := Ideal)) (onTc (τ := Cert.KernelRouterIdeal.τ) (Cert.KernelRouterIdeal.main (F := Ideal))) ⟨m, fun _ => 0, g⟩ (fun r => ∀ c : Dev Cert.KernelRouterIdeal.nD,
          r.2.mem ((c.tc : Thread Cert.KernelRouterIdeal.nD Cert.KernelRouterIdeal.τ).loc Cert.KernelRouterIdeal.main_v4) = v0 c
          ∧ r.2.mem ((c.tc : Thread Cert.KernelRouterIdeal.nD Cert.KernelRouterIdeal.τ).loc Cert.KernelRouterIdeal.main_arg0) = m ((c.tc : Thread Cert.KernelRouterIdeal.nD Cert.KernelRouterIdeal.τ).loc Cert.KernelRouterIdeal.main_arg0)
          ∧ r.2.mem ((c.tc : Thread Cert.KernelRouterIdeal.nD Cert.KernelRouterIdeal.τ).loc Cert.KernelRouterIdeal.main_arg1) = m ((c.tc : Thread Cert.KernelRouterIdeal.nD Cert.KernelRouterIdeal.τ).loc Cert.KernelRouterIdeal.main_arg1)
          ∧ r.2.mem ((c.tc : Thread Cert.KernelRouterIdeal.nD Cert.KernelRouterIdeal.τ).loc Cert.KernelRouterIdeal.main_arg2) = m ((c.tc : Thread Cert.KernelRouterIdeal.nD Cert.KernelRouterIdeal.τ).loc Cert.KernelRouterIdeal.main_arg2))
      ∧ θ_run (Cert.ReferenceRouterIdeal.defs (F := Ideal)) (onTc (τ := Cert.ReferenceRouterIdeal.τ) (Cert.ReferenceRouterIdeal.main (F := Ideal))) ⟨m', fun _ => 0, g'⟩ (fun r => ∀ c : Dev Cert.ReferenceRouterIdeal.nD,
          r.2.mem ((c.tc : Thread Cert.ReferenceRouterIdeal.nD Cert.ReferenceRouterIdeal.τ).loc Cert.ReferenceRouterIdeal.main_v33) = v0 c
          ∧ r.2.mem ((c.tc : Thread Cert.ReferenceRouterIdeal.nD Cert.ReferenceRouterIdeal.τ).loc Cert.ReferenceRouterIdeal.main_arg0) = m' ((c.tc : Thread Cert.ReferenceRouterIdeal.nD Cert.ReferenceRouterIdeal.τ).loc Cert.ReferenceRouterIdeal.main_arg0)
          ∧ r.2.mem ((c.tc : Thread Cert.ReferenceRouterIdeal.nD Cert.ReferenceRouterIdeal.τ).loc Cert.ReferenceRouterIdeal.main_arg1) = m' ((c.tc : Thread Cert.ReferenceRouterIdeal.nD Cert.ReferenceRouterIdeal.τ).loc Cert.ReferenceRouterIdeal.main_arg1)
          ∧ r.2.mem ((c.tc : Thread Cert.ReferenceRouterIdeal.nD Cert.ReferenceRouterIdeal.τ).loc Cert.ReferenceRouterIdeal.main_arg2) = m' ((c.tc : Thread Cert.ReferenceRouterIdeal.nD Cert.ReferenceRouterIdeal.τ).loc Cert.ReferenceRouterIdeal.main_arg2))

def preserves_KernelExperts_KernelExpertsIdeal : Prop :=
  True

def algebraic_KernelExpertsIdeal_ReferenceExpertsIdeal [hKernelExpertsIdeal : Cert.KernelExpertsIdeal.Facts] [hReferenceExpertsIdeal : Cert.ReferenceExpertsIdeal.Facts] : Prop :=
  ∀ (m : (ℓ : Loc Cert.KernelExpertsIdeal.nD Cert.KernelExpertsIdeal.τ Cert.KernelExpertsIdeal.sig) → Buf (Elt Ideal) ℓ) (g : Dev Cert.KernelExpertsIdeal.nD → PrngReg)
    (m' : (ℓ : Loc Cert.ReferenceExpertsIdeal.nD Cert.ReferenceExpertsIdeal.τ Cert.ReferenceExpertsIdeal.sig) → Buf (Elt Ideal) ℓ) (g' : Dev Cert.ReferenceExpertsIdeal.nD → PrngReg), Pre_KernelExpertsIdeal m →
    (∀ c : Dev Cert.KernelExpertsIdeal.nD,
      m' ((c.tc : Thread Cert.ReferenceExpertsIdeal.nD Cert.ReferenceExpertsIdeal.τ).loc Cert.ReferenceExpertsIdeal.main_arg0) = m ((c.tc : Thread Cert.KernelExpertsIdeal.nD Cert.KernelExpertsIdeal.τ).loc Cert.KernelExpertsIdeal.main_arg0)
      ∧ m' ((c.tc : Thread Cert.ReferenceExpertsIdeal.nD Cert.ReferenceExpertsIdeal.τ).loc Cert.ReferenceExpertsIdeal.main_arg1) = m ((c.tc : Thread Cert.KernelExpertsIdeal.nD Cert.KernelExpertsIdeal.τ).loc Cert.KernelExpertsIdeal.main_arg1)
      ∧ m' ((c.tc : Thread Cert.ReferenceExpertsIdeal.nD Cert.ReferenceExpertsIdeal.τ).loc Cert.ReferenceExpertsIdeal.main_arg2) = m ((c.tc : Thread Cert.KernelExpertsIdeal.nD Cert.KernelExpertsIdeal.τ).loc Cert.KernelExpertsIdeal.main_arg2)
      ∧ m' ((c.tc : Thread Cert.ReferenceExpertsIdeal.nD Cert.ReferenceExpertsIdeal.τ).loc Cert.ReferenceExpertsIdeal.main_arg3) = m ((c.tc : Thread Cert.KernelExpertsIdeal.nD Cert.KernelExpertsIdeal.τ).loc Cert.KernelExpertsIdeal.main_arg3)
      ∧ m' ((c.tc : Thread Cert.ReferenceExpertsIdeal.nD Cert.ReferenceExpertsIdeal.τ).loc Cert.ReferenceExpertsIdeal.main_arg4) = m ((c.tc : Thread Cert.KernelExpertsIdeal.nD Cert.KernelExpertsIdeal.τ).loc Cert.KernelExpertsIdeal.main_arg4)) →
    ∃ (v0 : (c : Dev Cert.KernelExpertsIdeal.nD) → Buf (Elt Ideal) ((c.tc : Thread Cert.KernelExpertsIdeal.nD Cert.KernelExpertsIdeal.τ).loc Cert.KernelExpertsIdeal.main_v3)),
      θ_run (Cert.KernelExpertsIdeal.defs (F := Ideal)) (onTc (τ := Cert.KernelExpertsIdeal.τ) (Cert.KernelExpertsIdeal.main (F := Ideal))) ⟨m, fun _ => 0, g⟩ (fun r => ∀ c : Dev Cert.KernelExpertsIdeal.nD,
          r.2.mem ((c.tc : Thread Cert.KernelExpertsIdeal.nD Cert.KernelExpertsIdeal.τ).loc Cert.KernelExpertsIdeal.main_v3) = v0 c
          ∧ r.2.mem ((c.tc : Thread Cert.KernelExpertsIdeal.nD Cert.KernelExpertsIdeal.τ).loc Cert.KernelExpertsIdeal.main_arg0) = m ((c.tc : Thread Cert.KernelExpertsIdeal.nD Cert.KernelExpertsIdeal.τ).loc Cert.KernelExpertsIdeal.main_arg0)
          ∧ r.2.mem ((c.tc : Thread Cert.KernelExpertsIdeal.nD Cert.KernelExpertsIdeal.τ).loc Cert.KernelExpertsIdeal.main_arg1) = m ((c.tc : Thread Cert.KernelExpertsIdeal.nD Cert.KernelExpertsIdeal.τ).loc Cert.KernelExpertsIdeal.main_arg1)
          ∧ r.2.mem ((c.tc : Thread Cert.KernelExpertsIdeal.nD Cert.KernelExpertsIdeal.τ).loc Cert.KernelExpertsIdeal.main_arg2) = m ((c.tc : Thread Cert.KernelExpertsIdeal.nD Cert.KernelExpertsIdeal.τ).loc Cert.KernelExpertsIdeal.main_arg2)
          ∧ r.2.mem ((c.tc : Thread Cert.KernelExpertsIdeal.nD Cert.KernelExpertsIdeal.τ).loc Cert.KernelExpertsIdeal.main_arg3) = m ((c.tc : Thread Cert.KernelExpertsIdeal.nD Cert.KernelExpertsIdeal.τ).loc Cert.KernelExpertsIdeal.main_arg3)
          ∧ r.2.mem ((c.tc : Thread Cert.KernelExpertsIdeal.nD Cert.KernelExpertsIdeal.τ).loc Cert.KernelExpertsIdeal.main_arg4) = m ((c.tc : Thread Cert.KernelExpertsIdeal.nD Cert.KernelExpertsIdeal.τ).loc Cert.KernelExpertsIdeal.main_arg4))
      ∧ θ_run (Cert.ReferenceExpertsIdeal.defs (F := Ideal)) (onTc (τ := Cert.ReferenceExpertsIdeal.τ) (Cert.ReferenceExpertsIdeal.main (F := Ideal))) ⟨m', fun _ => 0, g'⟩ (fun r => ∀ c : Dev Cert.ReferenceExpertsIdeal.nD,
          r.2.mem ((c.tc : Thread Cert.ReferenceExpertsIdeal.nD Cert.ReferenceExpertsIdeal.τ).loc Cert.ReferenceExpertsIdeal.main_v12) = v0 c
          ∧ r.2.mem ((c.tc : Thread Cert.ReferenceExpertsIdeal.nD Cert.ReferenceExpertsIdeal.τ).loc Cert.ReferenceExpertsIdeal.main_arg0) = m' ((c.tc : Thread Cert.ReferenceExpertsIdeal.nD Cert.ReferenceExpertsIdeal.τ).loc Cert.ReferenceExpertsIdeal.main_arg0)
          ∧ r.2.mem ((c.tc : Thread Cert.ReferenceExpertsIdeal.nD Cert.ReferenceExpertsIdeal.τ).loc Cert.ReferenceExpertsIdeal.main_arg1) = m' ((c.tc : Thread Cert.ReferenceExpertsIdeal.nD Cert.ReferenceExpertsIdeal.τ).loc Cert.ReferenceExpertsIdeal.main_arg1)
          ∧ r.2.mem ((c.tc : Thread Cert.ReferenceExpertsIdeal.nD Cert.ReferenceExpertsIdeal.τ).loc Cert.ReferenceExpertsIdeal.main_arg2) = m' ((c.tc : Thread Cert.ReferenceExpertsIdeal.nD Cert.ReferenceExpertsIdeal.τ).loc Cert.ReferenceExpertsIdeal.main_arg2)
          ∧ r.2.mem ((c.tc : Thread Cert.ReferenceExpertsIdeal.nD Cert.ReferenceExpertsIdeal.τ).loc Cert.ReferenceExpertsIdeal.main_arg3) = m' ((c.tc : Thread Cert.ReferenceExpertsIdeal.nD Cert.ReferenceExpertsIdeal.τ).loc Cert.ReferenceExpertsIdeal.main_arg3)
          ∧ r.2.mem ((c.tc : Thread Cert.ReferenceExpertsIdeal.nD Cert.ReferenceExpertsIdeal.τ).loc Cert.ReferenceExpertsIdeal.main_arg4) = m' ((c.tc : Thread Cert.ReferenceExpertsIdeal.nD Cert.ReferenceExpertsIdeal.τ).loc Cert.ReferenceExpertsIdeal.main_arg4))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)) →
    ∃ (v0 : (c : Dev Cert.KernelMergeIdeal.nD) → Buf (Elt Ideal) ((c.tc : Thread Cert.KernelMergeIdeal.nD Cert.KernelMergeIdeal.τ).loc Cert.KernelMergeIdeal.main_v5)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v5) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v33) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5))

def preserves_KernelMixNorm_KernelMixNormIdeal : Prop :=
  True

def algebraic_KernelMixNormIdeal_ReferenceMixNormIdeal [hKernelMixNormIdeal : Cert.KernelMixNormIdeal.Facts] [hReferenceMixNormIdeal : Cert.ReferenceMixNormIdeal.Facts] : Prop :=
  ∀ (m : (ℓ : Loc Cert.KernelMixNormIdeal.nD Cert.KernelMixNormIdeal.τ Cert.KernelMixNormIdeal.sig) → Buf (Elt Ideal) ℓ) (g : Dev Cert.KernelMixNormIdeal.nD → PrngReg)
    (m' : (ℓ : Loc Cert.ReferenceMixNormIdeal.nD Cert.ReferenceMixNormIdeal.τ Cert.ReferenceMixNormIdeal.sig) → Buf (Elt Ideal) ℓ) (g' : Dev Cert.ReferenceMixNormIdeal.nD → PrngReg), Pre_KernelMixNormIdeal m →
    (∀ c : Dev Cert.KernelMixNormIdeal.nD,
      m' ((c.tc : Thread Cert.ReferenceMixNormIdeal.nD Cert.ReferenceMixNormIdeal.τ).loc Cert.ReferenceMixNormIdeal.main_arg0) = m ((c.tc : Thread Cert.KernelMixNormIdeal.nD Cert.KernelMixNormIdeal.τ).loc Cert.KernelMixNormIdeal.main_arg0)
      ∧ m' ((c.tc : Thread Cert.ReferenceMixNormIdeal.nD Cert.ReferenceMixNormIdeal.τ).loc Cert.ReferenceMixNormIdeal.main_arg1) = m ((c.tc : Thread Cert.KernelMixNormIdeal.nD Cert.KernelMixNormIdeal.τ).loc Cert.KernelMixNormIdeal.main_arg1)
      ∧ m' ((c.tc : Thread Cert.ReferenceMixNormIdeal.nD Cert.ReferenceMixNormIdeal.τ).loc Cert.ReferenceMixNormIdeal.main_arg2) = m ((c.tc : Thread Cert.KernelMixNormIdeal.nD Cert.KernelMixNormIdeal.τ).loc Cert.KernelMixNormIdeal.main_arg2)
      ∧ m' ((c.tc : Thread Cert.ReferenceMixNormIdeal.nD Cert.ReferenceMixNormIdeal.τ).loc Cert.ReferenceMixNormIdeal.main_arg3) = m ((c.tc : Thread Cert.KernelMixNormIdeal.nD Cert.KernelMixNormIdeal.τ).loc Cert.KernelMixNormIdeal.main_arg3)
      ∧ m' ((c.tc : Thread Cert.ReferenceMixNormIdeal.nD Cert.ReferenceMixNormIdeal.τ).loc Cert.ReferenceMixNormIdeal.main_arg4) = m ((c.tc : Thread Cert.KernelMixNormIdeal.nD Cert.KernelMixNormIdeal.τ).loc Cert.KernelMixNormIdeal.main_arg4)
      ∧ m' ((c.tc : Thread Cert.ReferenceMixNormIdeal.nD Cert.ReferenceMixNormIdeal.τ).loc Cert.ReferenceMixNormIdeal.main_arg5) = m ((c.tc : Thread Cert.KernelMixNormIdeal.nD Cert.KernelMixNormIdeal.τ).loc Cert.KernelMixNormIdeal.main_arg5)) →
    ∃ (v0 : (c : Dev Cert.KernelMixNormIdeal.nD) → Buf (Elt Ideal) ((c.tc : Thread Cert.KernelMixNormIdeal.nD Cert.KernelMixNormIdeal.τ).loc Cert.KernelMixNormIdeal.main_v9_0)) (v1 : (c : Dev Cert.KernelMixNormIdeal.nD) → Buf (Elt Ideal) ((c.tc : Thread Cert.KernelMixNormIdeal.nD Cert.KernelMixNormIdeal.τ).loc Cert.KernelMixNormIdeal.main_v9_1)),
      θ_run (Cert.KernelMixNormIdeal.defs (F := Ideal)) (onTc (τ := Cert.KernelMixNormIdeal.τ) (Cert.KernelMixNormIdeal.main (F := Ideal))) ⟨m, fun _ => 0, g⟩ (fun r => ∀ c : Dev Cert.KernelMixNormIdeal.nD,
          r.2.mem ((c.tc : Thread Cert.KernelMixNormIdeal.nD Cert.KernelMixNormIdeal.τ).loc Cert.KernelMixNormIdeal.main_v9_0) = v0 c
          ∧ r.2.mem ((c.tc : Thread Cert.KernelMixNormIdeal.nD Cert.KernelMixNormIdeal.τ).loc Cert.KernelMixNormIdeal.main_v9_1) = v1 c
          ∧ r.2.mem ((c.tc : Thread Cert.KernelMixNormIdeal.nD Cert.KernelMixNormIdeal.τ).loc Cert.KernelMixNormIdeal.main_arg0) = m ((c.tc : Thread Cert.KernelMixNormIdeal.nD Cert.KernelMixNormIdeal.τ).loc Cert.KernelMixNormIdeal.main_arg0)
          ∧ r.2.mem ((c.tc : Thread Cert.KernelMixNormIdeal.nD Cert.KernelMixNormIdeal.τ).loc Cert.KernelMixNormIdeal.main_arg1) = m ((c.tc : Thread Cert.KernelMixNormIdeal.nD Cert.KernelMixNormIdeal.τ).loc Cert.KernelMixNormIdeal.main_arg1)
          ∧ r.2.mem ((c.tc : Thread Cert.KernelMixNormIdeal.nD Cert.KernelMixNormIdeal.τ).loc Cert.KernelMixNormIdeal.main_arg2) = m ((c.tc : Thread Cert.KernelMixNormIdeal.nD Cert.KernelMixNormIdeal.τ).loc Cert.KernelMixNormIdeal.main_arg2)
          ∧ r.2.mem ((c.tc : Thread Cert.KernelMixNormIdeal.nD Cert.KernelMixNormIdeal.τ).loc Cert.KernelMixNormIdeal.main_arg3) = m ((c.tc : Thread Cert.KernelMixNormIdeal.nD Cert.KernelMixNormIdeal.τ).loc Cert.KernelMixNormIdeal.main_arg3)
          ∧ r.2.mem ((c.tc : Thread Cert.KernelMixNormIdeal.nD Cert.KernelMixNormIdeal.τ).loc Cert.KernelMixNormIdeal.main_arg4) = m ((c.tc : Thread Cert.KernelMixNormIdeal.nD Cert.KernelMixNormIdeal.τ).loc Cert.KernelMixNormIdeal.main_arg4)
          ∧ r.2.mem ((c.tc : Thread Cert.KernelMixNormIdeal.nD Cert.KernelMixNormIdeal.τ).loc Cert.KernelMixNormIdeal.main_arg5) = m ((c.tc : Thread Cert.KernelMixNormIdeal.nD Cert.KernelMixNormIdeal.τ).loc Cert.KernelMixNormIdeal.main_arg5))
      ∧ θ_run (Cert.ReferenceMixNormIdeal.defs (F := Ideal)) (onTc (τ := Cert.ReferenceMixNormIdeal.τ) (Cert.ReferenceMixNormIdeal.main (F := Ideal))) ⟨m', fun _ => 0, g'⟩ (fun r => ∀ c : Dev Cert.ReferenceMixNormIdeal.nD,
          r.2.mem ((c.tc : Thread Cert.ReferenceMixNormIdeal.nD Cert.ReferenceMixNormIdeal.τ).loc Cert.ReferenceMixNormIdeal.main_v34) = v0 c
          ∧ r.2.mem ((c.tc : Thread Cert.ReferenceMixNormIdeal.nD Cert.ReferenceMixNormIdeal.τ).loc Cert.ReferenceMixNormIdeal.main_v35) = v1 c
          ∧ r.2.mem ((c.tc : Thread Cert.ReferenceMixNormIdeal.nD Cert.ReferenceMixNormIdeal.τ).loc Cert.ReferenceMixNormIdeal.main_arg0) = m' ((c.tc : Thread Cert.ReferenceMixNormIdeal.nD Cert.ReferenceMixNormIdeal.τ).loc Cert.ReferenceMixNormIdeal.main_arg0)
          ∧ r.2.mem ((c.tc : Thread Cert.ReferenceMixNormIdeal.nD Cert.ReferenceMixNormIdeal.τ).loc Cert.ReferenceMixNormIdeal.main_arg1) = m' ((c.tc : Thread Cert.ReferenceMixNormIdeal.nD Cert.ReferenceMixNormIdeal.τ).loc Cert.ReferenceMixNormIdeal.main_arg1)
          ∧ r.2.mem ((c.tc : Thread Cert.ReferenceMixNormIdeal.nD Cert.ReferenceMixNormIdeal.τ).loc Cert.ReferenceMixNormIdeal.main_arg2) = m' ((c.tc : Thread Cert.ReferenceMixNormIdeal.nD Cert.ReferenceMixNormIdeal.τ).loc Cert.ReferenceMixNormIdeal.main_arg2)
          ∧ r.2.mem ((c.tc : Thread Cert.ReferenceMixNormIdeal.nD Cert.ReferenceMixNormIdeal.τ).loc Cert.ReferenceMixNormIdeal.main_arg3) = m' ((c.tc : Thread Cert.ReferenceMixNormIdeal.nD Cert.ReferenceMixNormIdeal.τ).loc Cert.ReferenceMixNormIdeal.main_arg3)
          ∧ r.2.mem ((c.tc : Thread Cert.ReferenceMixNormIdeal.nD Cert.ReferenceMixNormIdeal.τ).loc Cert.ReferenceMixNormIdeal.main_arg4) = m' ((c.tc : Thread Cert.ReferenceMixNormIdeal.nD Cert.ReferenceMixNormIdeal.τ).loc Cert.ReferenceMixNormIdeal.main_arg4)
          ∧ r.2.mem ((c.tc : Thread Cert.ReferenceMixNormIdeal.nD Cert.ReferenceMixNormIdeal.τ).loc Cert.ReferenceMixNormIdeal.main_arg5) = m' ((c.tc : Thread Cert.ReferenceMixNormIdeal.nD Cert.ReferenceMixNormIdeal.τ).loc Cert.ReferenceMixNormIdeal.main_arg5))

def preserves_KernelPle_KernelPleIdeal : Prop :=
  True

def algebraic_KernelPleIdeal_ReferencePleIdeal [hKernelPleIdeal : Cert.KernelPleIdeal.Facts] [hReferencePleIdeal : Cert.ReferencePleIdeal.Facts] : Prop :=
  ∀ (m : (ℓ : Loc Cert.KernelPleIdeal.nD Cert.KernelPleIdeal.τ Cert.KernelPleIdeal.sig) → Buf (Elt Ideal) ℓ) (g : Dev Cert.KernelPleIdeal.nD → PrngReg)
    (m' : (ℓ : Loc Cert.ReferencePleIdeal.nD Cert.ReferencePleIdeal.τ Cert.ReferencePleIdeal.sig) → Buf (Elt Ideal) ℓ) (g' : Dev Cert.ReferencePleIdeal.nD → PrngReg), Pre_KernelPleIdeal m →
    (∀ c : Dev Cert.KernelPleIdeal.nD,
      m' ((c.tc : Thread Cert.ReferencePleIdeal.nD Cert.ReferencePleIdeal.τ).loc Cert.ReferencePleIdeal.main_arg0) = m ((c.tc : Thread Cert.KernelPleIdeal.nD Cert.KernelPleIdeal.τ).loc Cert.KernelPleIdeal.main_arg0)
      ∧ m' ((c.tc : Thread Cert.ReferencePleIdeal.nD Cert.ReferencePleIdeal.τ).loc Cert.ReferencePleIdeal.main_arg1) = m ((c.tc : Thread Cert.KernelPleIdeal.nD Cert.KernelPleIdeal.τ).loc Cert.KernelPleIdeal.main_arg1)
      ∧ m' ((c.tc : Thread Cert.ReferencePleIdeal.nD Cert.ReferencePleIdeal.τ).loc Cert.ReferencePleIdeal.main_arg2) = m ((c.tc : Thread Cert.KernelPleIdeal.nD Cert.KernelPleIdeal.τ).loc Cert.KernelPleIdeal.main_arg2)
      ∧ m' ((c.tc : Thread Cert.ReferencePleIdeal.nD Cert.ReferencePleIdeal.τ).loc Cert.ReferencePleIdeal.main_arg3) = m ((c.tc : Thread Cert.KernelPleIdeal.nD Cert.KernelPleIdeal.τ).loc Cert.KernelPleIdeal.main_arg3)
      ∧ m' ((c.tc : Thread Cert.ReferencePleIdeal.nD Cert.ReferencePleIdeal.τ).loc Cert.ReferencePleIdeal.main_arg4) = m ((c.tc : Thread Cert.KernelPleIdeal.nD Cert.KernelPleIdeal.τ).loc Cert.KernelPleIdeal.main_arg4)) →
    ∃ (v0 : (c : Dev Cert.KernelPleIdeal.nD) → Buf (Elt Ideal) ((c.tc : Thread Cert.KernelPleIdeal.nD Cert.KernelPleIdeal.τ).loc Cert.KernelPleIdeal.main_v10)),
      θ_run (Cert.KernelPleIdeal.defs (F := Ideal)) (onTc (τ := Cert.KernelPleIdeal.τ) (Cert.KernelPleIdeal.main (F := Ideal))) ⟨m, fun _ => 0, g⟩ (fun r => ∀ c : Dev Cert.KernelPleIdeal.nD,
          r.2.mem ((c.tc : Thread Cert.KernelPleIdeal.nD Cert.KernelPleIdeal.τ).loc Cert.KernelPleIdeal.main_v10) = v0 c
          ∧ r.2.mem ((c.tc : Thread Cert.KernelPleIdeal.nD Cert.KernelPleIdeal.τ).loc Cert.KernelPleIdeal.main_arg0) = m ((c.tc : Thread Cert.KernelPleIdeal.nD Cert.KernelPleIdeal.τ).loc Cert.KernelPleIdeal.main_arg0)
          ∧ r.2.mem ((c.tc : Thread Cert.KernelPleIdeal.nD Cert.KernelPleIdeal.τ).loc Cert.KernelPleIdeal.main_arg1) = m ((c.tc : Thread Cert.KernelPleIdeal.nD Cert.KernelPleIdeal.τ).loc Cert.KernelPleIdeal.main_arg1)
          ∧ r.2.mem ((c.tc : Thread Cert.KernelPleIdeal.nD Cert.KernelPleIdeal.τ).loc Cert.KernelPleIdeal.main_arg2) = m ((c.tc : Thread Cert.KernelPleIdeal.nD Cert.KernelPleIdeal.τ).loc Cert.KernelPleIdeal.main_arg2)
          ∧ r.2.mem ((c.tc : Thread Cert.KernelPleIdeal.nD Cert.KernelPleIdeal.τ).loc Cert.KernelPleIdeal.main_arg3) = m ((c.tc : Thread Cert.KernelPleIdeal.nD Cert.KernelPleIdeal.τ).loc Cert.KernelPleIdeal.main_arg3)
          ∧ r.2.mem ((c.tc : Thread Cert.KernelPleIdeal.nD Cert.KernelPleIdeal.τ).loc Cert.KernelPleIdeal.main_arg4) = m ((c.tc : Thread Cert.KernelPleIdeal.nD Cert.KernelPleIdeal.τ).loc Cert.KernelPleIdeal.main_arg4))
      ∧ θ_run (Cert.ReferencePleIdeal.defs (F := Ideal)) (onTc (τ := Cert.ReferencePleIdeal.τ) (Cert.ReferencePleIdeal.main (F := Ideal))) ⟨m', fun _ => 0, g'⟩ (fun r => ∀ c : Dev Cert.ReferencePleIdeal.nD,
          r.2.mem ((c.tc : Thread Cert.ReferencePleIdeal.nD Cert.ReferencePleIdeal.τ).loc Cert.ReferencePleIdeal.main_v15) = v0 c
          ∧ r.2.mem ((c.tc : Thread Cert.ReferencePleIdeal.nD Cert.ReferencePleIdeal.τ).loc Cert.ReferencePleIdeal.main_arg0) = m' ((c.tc : Thread Cert.ReferencePleIdeal.nD Cert.ReferencePleIdeal.τ).loc Cert.ReferencePleIdeal.main_arg0)
          ∧ r.2.mem ((c.tc : Thread Cert.ReferencePleIdeal.nD Cert.ReferencePleIdeal.τ).loc Cert.ReferencePleIdeal.main_arg1) = m' ((c.tc : Thread Cert.ReferencePleIdeal.nD Cert.ReferencePleIdeal.τ).loc Cert.ReferencePleIdeal.main_arg1)
          ∧ r.2.mem ((c.tc : Thread Cert.ReferencePleIdeal.nD Cert.ReferencePleIdeal.τ).loc Cert.ReferencePleIdeal.main_arg2) = m' ((c.tc : Thread Cert.ReferencePleIdeal.nD Cert.ReferencePleIdeal.τ).loc Cert.ReferencePleIdeal.main_arg2)
          ∧ r.2.mem ((c.tc : Thread Cert.ReferencePleIdeal.nD Cert.ReferencePleIdeal.τ).loc Cert.ReferencePleIdeal.main_arg3) = m' ((c.tc : Thread Cert.ReferencePleIdeal.nD Cert.ReferencePleIdeal.τ).loc Cert.ReferencePleIdeal.main_arg3)
          ∧ r.2.mem ((c.tc : Thread Cert.ReferencePleIdeal.nD Cert.ReferencePleIdeal.τ).loc Cert.ReferencePleIdeal.main_arg4) = m' ((c.tc : Thread Cert.ReferencePleIdeal.nD Cert.ReferencePleIdeal.τ).loc Cert.ReferencePleIdeal.main_arg4))

def preserves_KernelFinal_KernelFinalIdeal : Prop :=
  True

def algebraic_KernelFinalIdeal_ReferenceFinalIdeal [hKernelFinalIdeal : Cert.KernelFinalIdeal.Facts] [hReferenceFinalIdeal : Cert.ReferenceFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)
      ∧ m' ((c.tc : Thread Cert.ReferenceFinalIdeal.nD Cert.ReferenceFinalIdeal.τ).loc Cert.ReferenceFinalIdeal.main_arg2) = m ((c.tc : Thread Cert.KernelFinalIdeal.nD Cert.KernelFinalIdeal.τ).loc Cert.KernelFinalIdeal.main_arg2)
      ∧ m' ((c.tc : Thread Cert.ReferenceFinalIdeal.nD Cert.ReferenceFinalIdeal.τ).loc Cert.ReferenceFinalIdeal.main_arg3) = m ((c.tc : Thread Cert.KernelFinalIdeal.nD Cert.KernelFinalIdeal.τ).loc Cert.KernelFinalIdeal.main_arg3)
      ∧ m' ((c.tc : Thread Cert.ReferenceFinalIdeal.nD Cert.ReferenceFinalIdeal.τ).loc Cert.ReferenceFinalIdeal.main_arg4) = m ((c.tc : Thread Cert.KernelFinalIdeal.nD Cert.KernelFinalIdeal.τ).loc Cert.KernelFinalIdeal.main_arg4)
      ∧ m' ((c.tc : Thread Cert.ReferenceFinalIdeal.nD Cert.ReferenceFinalIdeal.τ).loc Cert.ReferenceFinalIdeal.main_arg5) = m ((c.tc : Thread Cert.KernelFinalIdeal.nD Cert.KernelFinalIdeal.τ).loc Cert.KernelFinalIdeal.main_arg5)
      ∧ m' ((c.tc : Thread Cert.ReferenceFinalIdeal.nD Cert.ReferenceFinalIdeal.τ).loc Cert.ReferenceFinalIdeal.main_arg6) = m ((c.tc : Thread Cert.KernelFinalIdeal.nD Cert.KernelFinalIdeal.τ).loc Cert.KernelFinalIdeal.main_arg6)
      ∧ m' ((c.tc : Thread Cert.ReferenceFinalIdeal.nD Cert.ReferenceFinalIdeal.τ).loc Cert.ReferenceFinalIdeal.main_arg7) = m ((c.tc : Thread Cert.KernelFinalIdeal.nD Cert.KernelFinalIdeal.τ).loc Cert.KernelFinalIdeal.main_arg7)
      ∧ m' ((c.tc : Thread Cert.ReferenceFinalIdeal.nD Cert.ReferenceFinalIdeal.τ).loc Cert.ReferenceFinalIdeal.main_arg8) = m ((c.tc : Thread Cert.KernelFinalIdeal.nD Cert.KernelFinalIdeal.τ).loc Cert.KernelFinalIdeal.main_arg8)) →
    ∃ (v0 : (c : Dev Cert.KernelFinalIdeal.nD) → Buf (Elt Ideal) ((c.tc : Thread Cert.KernelFinalIdeal.nD Cert.KernelFinalIdeal.τ).loc Cert.KernelFinalIdeal.main_v10)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v10) = v0 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
          ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2)
          ∧ r.2.mem ((c.tc : Thread Cert.KernelFinalIdeal.nD Cert.KernelFinalIdeal.τ).loc Cert.KernelFinalIdeal.main_arg3) = m ((c.tc : Thread Cert.KernelFinalIdeal.nD Cert.KernelFinalIdeal.τ).loc Cert.KernelFinalIdeal.main_arg3)
          ∧ r.2.mem ((c.tc : Thread Cert.KernelFinalIdeal.nD Cert.KernelFinalIdeal.τ).loc Cert.KernelFinalIdeal.main_arg4) = m ((c.tc : Thread Cert.KernelFinalIdeal.nD Cert.KernelFinalIdeal.τ).loc Cert.KernelFinalIdeal.main_arg4)
          ∧ r.2.mem ((c.tc : Thread Cert.KernelFinalIdeal.nD Cert.KernelFinalIdeal.τ).loc Cert.KernelFinalIdeal.main_arg5) = m ((c.tc : Thread Cert.KernelFinalIdeal.nD Cert.KernelFinalIdeal.τ).loc Cert.KernelFinalIdeal.main_arg5)
          ∧ r.2.mem ((c.tc : Thread Cert.KernelFinalIdeal.nD Cert.KernelFinalIdeal.τ).loc Cert.KernelFinalIdeal.main_arg6) = m ((c.tc : Thread Cert.KernelFinalIdeal.nD Cert.KernelFinalIdeal.τ).loc Cert.KernelFinalIdeal.main_arg6)
          ∧ r.2.mem ((c.tc : Thread Cert.KernelFinalIdeal.nD Cert.KernelFinalIdeal.τ).loc Cert.KernelFinalIdeal.main_arg7) = m ((c.tc : Thread Cert.KernelFinalIdeal.nD Cert.KernelFinalIdeal.τ).loc Cert.KernelFinalIdeal.main_arg7)
          ∧ r.2.mem ((c.tc : Thread Cert.KernelFinalIdeal.nD Cert.KernelFinalIdeal.τ).loc Cert.KernelFinalIdeal.main_arg8) = m ((c.tc : Thread Cert.KernelFinalIdeal.nD Cert.KernelFinalIdeal.τ).loc Cert.KernelFinalIdeal.main_arg8))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v40) = v0 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1)
          ∧ r.2.mem ((c.tc : Thread Cert.ReferenceFinalIdeal.nD Cert.ReferenceFinalIdeal.τ).loc Cert.ReferenceFinalIdeal.main_arg2) = m' ((c.tc : Thread Cert.ReferenceFinalIdeal.nD Cert.ReferenceFinalIdeal.τ).loc Cert.ReferenceFinalIdeal.main_arg2)
          ∧ r.2.mem ((c.tc : Thread Cert.ReferenceFinalIdeal.nD Cert.ReferenceFinalIdeal.τ).loc Cert.ReferenceFinalIdeal.main_arg3) = m' ((c.tc : Thread Cert.ReferenceFinalIdeal.nD Cert.ReferenceFinalIdeal.τ).loc Cert.ReferenceFinalIdeal.main_arg3)
          ∧ r.2.mem ((c.tc : Thread Cert.ReferenceFinalIdeal.nD Cert.ReferenceFinalIdeal.τ).loc Cert.ReferenceFinalIdeal.main_arg4) = m' ((c.tc : Thread Cert.ReferenceFinalIdeal.nD Cert.ReferenceFinalIdeal.τ).loc Cert.ReferenceFinalIdeal.main_arg4)
          ∧ r.2.mem ((c.tc : Thread Cert.ReferenceFinalIdeal.nD Cert.ReferenceFinalIdeal.τ).loc Cert.ReferenceFinalIdeal.main_arg5) = m' ((c.tc : Thread Cert.ReferenceFinalIdeal.nD Cert.ReferenceFinalIdeal.τ).loc Cert.ReferenceFinalIdeal.main_arg5)
          ∧ r.2.mem ((c.tc : Thread Cert.ReferenceFinalIdeal.nD Cert.ReferenceFinalIdeal.τ).loc Cert.ReferenceFinalIdeal.main_arg6) = m' ((c.tc : Thread Cert.ReferenceFinalIdeal.nD Cert.ReferenceFinalIdeal.τ).loc Cert.ReferenceFinalIdeal.main_arg6)
          ∧ r.2.mem ((c.tc : Thread Cert.ReferenceFinalIdeal.nD Cert.ReferenceFinalIdeal.τ).loc Cert.ReferenceFinalIdeal.main_arg7) = m' ((c.tc : Thread Cert.ReferenceFinalIdeal.nD Cert.ReferenceFinalIdeal.τ).loc Cert.ReferenceFinalIdeal.main_arg7)
          ∧ r.2.mem ((c.tc : Thread Cert.ReferenceFinalIdeal.nD Cert.ReferenceFinalIdeal.τ).loc Cert.ReferenceFinalIdeal.main_arg8) = m' ((c.tc : Thread Cert.ReferenceFinalIdeal.nD Cert.ReferenceFinalIdeal.τ).loc Cert.ReferenceFinalIdeal.main_arg8))

def preserves_KernelForgetPrompt_KernelForgetPromptIdeal : Prop :=
  True

def algebraic_KernelForgetPromptIdeal_ReferenceForgetPromptIdeal [hKernelForgetPromptIdeal : Cert.KernelForgetPromptIdeal.Facts] [hReferenceForgetPromptIdeal : Cert.ReferenceForgetPromptIdeal.Facts] : Prop :=
  ∀ (m : (ℓ : Loc Cert.KernelForgetPromptIdeal.nD Cert.KernelForgetPromptIdeal.τ Cert.KernelForgetPromptIdeal.sig) → Buf (Elt Ideal) ℓ) (g : Dev Cert.KernelForgetPromptIdeal.nD → PrngReg)
    (m' : (ℓ : Loc Cert.ReferenceForgetPromptIdeal.nD Cert.ReferenceForgetPromptIdeal.τ Cert.ReferenceForgetPromptIdeal.sig) → Buf (Elt Ideal) ℓ) (g' : Dev Cert.ReferenceForgetPromptIdeal.nD → PrngReg), Pre_KernelForgetPromptIdeal m →
    (∀ c : Dev Cert.KernelForgetPromptIdeal.nD,
      m' ((c.tc : Thread Cert.ReferenceForgetPromptIdeal.nD Cert.ReferenceForgetPromptIdeal.τ).loc Cert.ReferenceForgetPromptIdeal.main_arg0) = m ((c.tc : Thread Cert.KernelForgetPromptIdeal.nD Cert.KernelForgetPromptIdeal.τ).loc Cert.KernelForgetPromptIdeal.main_arg0)
      ∧ m' ((c.tc : Thread Cert.ReferenceForgetPromptIdeal.nD Cert.ReferenceForgetPromptIdeal.τ).loc Cert.ReferenceForgetPromptIdeal.main_arg1) = m ((c.tc : Thread Cert.KernelForgetPromptIdeal.nD Cert.KernelForgetPromptIdeal.τ).loc Cert.KernelForgetPromptIdeal.main_arg1)) →
    ∃ (v0 : (c : Dev Cert.KernelForgetPromptIdeal.nD) → Buf (Elt Ideal) ((c.tc : Thread Cert.KernelForgetPromptIdeal.nD Cert.KernelForgetPromptIdeal.τ).loc Cert.KernelForgetPromptIdeal.main_v3_0)) (v1 : (c : Dev Cert.KernelForgetPromptIdeal.nD) → Buf (Elt Ideal) ((c.tc : Thread Cert.KernelForgetPromptIdeal.nD Cert.KernelForgetPromptIdeal.τ).loc Cert.KernelForgetPromptIdeal.main_v3_1)),
      θ_run (Cert.KernelForgetPromptIdeal.defs (F := Ideal)) (onTc (τ := Cert.KernelForgetPromptIdeal.τ) (Cert.KernelForgetPromptIdeal.main (F := Ideal))) ⟨m, fun _ => 0, g⟩ (fun r => ∀ c : Dev Cert.KernelForgetPromptIdeal.nD,
          r.2.mem ((c.tc : Thread Cert.KernelForgetPromptIdeal.nD Cert.KernelForgetPromptIdeal.τ).loc Cert.KernelForgetPromptIdeal.main_v3_0) = v0 c
          ∧ r.2.mem ((c.tc : Thread Cert.KernelForgetPromptIdeal.nD Cert.KernelForgetPromptIdeal.τ).loc Cert.KernelForgetPromptIdeal.main_v3_1) = v1 c
          ∧ r.2.mem ((c.tc : Thread Cert.KernelForgetPromptIdeal.nD Cert.KernelForgetPromptIdeal.τ).loc Cert.KernelForgetPromptIdeal.main_arg0) = m ((c.tc : Thread Cert.KernelForgetPromptIdeal.nD Cert.KernelForgetPromptIdeal.τ).loc Cert.KernelForgetPromptIdeal.main_arg0)
          ∧ r.2.mem ((c.tc : Thread Cert.KernelForgetPromptIdeal.nD Cert.KernelForgetPromptIdeal.τ).loc Cert.KernelForgetPromptIdeal.main_arg1) = m ((c.tc : Thread Cert.KernelForgetPromptIdeal.nD Cert.KernelForgetPromptIdeal.τ).loc Cert.KernelForgetPromptIdeal.main_arg1))
      ∧ θ_run (Cert.ReferenceForgetPromptIdeal.defs (F := Ideal)) (onTc (τ := Cert.ReferenceForgetPromptIdeal.τ) (Cert.ReferenceForgetPromptIdeal.main (F := Ideal))) ⟨m', fun _ => 0, g'⟩ (fun r => ∀ c : Dev Cert.ReferenceForgetPromptIdeal.nD,
          r.2.mem ((c.tc : Thread Cert.ReferenceForgetPromptIdeal.nD Cert.ReferenceForgetPromptIdeal.τ).loc Cert.ReferenceForgetPromptIdeal.main_v6) = v0 c
          ∧ r.2.mem ((c.tc : Thread Cert.ReferenceForgetPromptIdeal.nD Cert.ReferenceForgetPromptIdeal.τ).loc Cert.ReferenceForgetPromptIdeal.main_v7) = v1 c
          ∧ r.2.mem ((c.tc : Thread Cert.ReferenceForgetPromptIdeal.nD Cert.ReferenceForgetPromptIdeal.τ).loc Cert.ReferenceForgetPromptIdeal.main_arg0) = m' ((c.tc : Thread Cert.ReferenceForgetPromptIdeal.nD Cert.ReferenceForgetPromptIdeal.τ).loc Cert.ReferenceForgetPromptIdeal.main_arg0)
          ∧ r.2.mem ((c.tc : Thread Cert.ReferenceForgetPromptIdeal.nD Cert.ReferenceForgetPromptIdeal.τ).loc Cert.ReferenceForgetPromptIdeal.main_arg1) = m' ((c.tc : Thread Cert.ReferenceForgetPromptIdeal.nD Cert.ReferenceForgetPromptIdeal.τ).loc Cert.ReferenceForgetPromptIdeal.main_arg1))

def preserves_KernelForgetSample_KernelForgetSampleIdeal : Prop :=
  True

def algebraic_KernelForgetSampleIdeal_ReferenceForgetSampleIdeal [hKernelForgetSampleIdeal : Cert.KernelForgetSampleIdeal.Facts] [hReferenceForgetSampleIdeal : Cert.ReferenceForgetSampleIdeal.Facts] : Prop :=
  ∀ (m : (ℓ : Loc Cert.KernelForgetSampleIdeal.nD Cert.KernelForgetSampleIdeal.τ Cert.KernelForgetSampleIdeal.sig) → Buf (Elt Ideal) ℓ) (g : Dev Cert.KernelForgetSampleIdeal.nD → PrngReg)
    (m' : (ℓ : Loc Cert.ReferenceForgetSampleIdeal.nD Cert.ReferenceForgetSampleIdeal.τ Cert.ReferenceForgetSampleIdeal.sig) → Buf (Elt Ideal) ℓ) (g' : Dev Cert.ReferenceForgetSampleIdeal.nD → PrngReg), Pre_KernelForgetSampleIdeal m →
    (∀ c : Dev Cert.KernelForgetSampleIdeal.nD,
      m' ((c.tc : Thread Cert.ReferenceForgetSampleIdeal.nD Cert.ReferenceForgetSampleIdeal.τ).loc Cert.ReferenceForgetSampleIdeal.main_arg0) = m ((c.tc : Thread Cert.KernelForgetSampleIdeal.nD Cert.KernelForgetSampleIdeal.τ).loc Cert.KernelForgetSampleIdeal.main_arg0)
      ∧ m' ((c.tc : Thread Cert.ReferenceForgetSampleIdeal.nD Cert.ReferenceForgetSampleIdeal.τ).loc Cert.ReferenceForgetSampleIdeal.main_arg1) = m ((c.tc : Thread Cert.KernelForgetSampleIdeal.nD Cert.KernelForgetSampleIdeal.τ).loc Cert.KernelForgetSampleIdeal.main_arg1)) →
    ∃ (v0 : (c : Dev Cert.KernelForgetSampleIdeal.nD) → Buf (Elt Ideal) ((c.tc : Thread Cert.KernelForgetSampleIdeal.nD Cert.KernelForgetSampleIdeal.τ).loc Cert.KernelForgetSampleIdeal.main_v4_0)) (v1 : (c : Dev Cert.KernelForgetSampleIdeal.nD) → Buf (Elt Ideal) ((c.tc : Thread Cert.KernelForgetSampleIdeal.nD Cert.KernelForgetSampleIdeal.τ).loc Cert.KernelForgetSampleIdeal.main_v4_1)),
      θ_run (Cert.KernelForgetSampleIdeal.defs (F := Ideal)) (onTc (τ := Cert.KernelForgetSampleIdeal.τ) (Cert.KernelForgetSampleIdeal.main (F := Ideal))) ⟨m, fun _ => 0, g⟩ (fun r => ∀ c : Dev Cert.KernelForgetSampleIdeal.nD,
          r.2.mem ((c.tc : Thread Cert.KernelForgetSampleIdeal.nD Cert.KernelForgetSampleIdeal.τ).loc Cert.KernelForgetSampleIdeal.main_v4_0) = v0 c
          ∧ r.2.mem ((c.tc : Thread Cert.KernelForgetSampleIdeal.nD Cert.KernelForgetSampleIdeal.τ).loc Cert.KernelForgetSampleIdeal.main_v4_1) = v1 c
          ∧ r.2.mem ((c.tc : Thread Cert.KernelForgetSampleIdeal.nD Cert.KernelForgetSampleIdeal.τ).loc Cert.KernelForgetSampleIdeal.main_arg0) = m ((c.tc : Thread Cert.KernelForgetSampleIdeal.nD Cert.KernelForgetSampleIdeal.τ).loc Cert.KernelForgetSampleIdeal.main_arg0)
          ∧ r.2.mem ((c.tc : Thread Cert.KernelForgetSampleIdeal.nD Cert.KernelForgetSampleIdeal.τ).loc Cert.KernelForgetSampleIdeal.main_arg1) = m ((c.tc : Thread Cert.KernelForgetSampleIdeal.nD Cert.KernelForgetSampleIdeal.τ).loc Cert.KernelForgetSampleIdeal.main_arg1))
      ∧ θ_run (Cert.ReferenceForgetSampleIdeal.defs (F := Ideal)) (onTc (τ := Cert.ReferenceForgetSampleIdeal.τ) (Cert.ReferenceForgetSampleIdeal.main (F := Ideal))) ⟨m', fun _ => 0, g'⟩ (fun r => ∀ c : Dev Cert.ReferenceForgetSampleIdeal.nD,
          r.2.mem ((c.tc : Thread Cert.ReferenceForgetSampleIdeal.nD Cert.ReferenceForgetSampleIdeal.τ).loc Cert.ReferenceForgetSampleIdeal.main_v6) = v0 c
          ∧ r.2.mem ((c.tc : Thread Cert.ReferenceForgetSampleIdeal.nD Cert.ReferenceForgetSampleIdeal.τ).loc Cert.ReferenceForgetSampleIdeal.main_v9) = v1 c
          ∧ r.2.mem ((c.tc : Thread Cert.ReferenceForgetSampleIdeal.nD Cert.ReferenceForgetSampleIdeal.τ).loc Cert.ReferenceForgetSampleIdeal.main_arg0) = m' ((c.tc : Thread Cert.ReferenceForgetSampleIdeal.nD Cert.ReferenceForgetSampleIdeal.τ).loc Cert.ReferenceForgetSampleIdeal.main_arg0)
          ∧ r.2.mem ((c.tc : Thread Cert.ReferenceForgetSampleIdeal.nD Cert.ReferenceForgetSampleIdeal.τ).loc Cert.ReferenceForgetSampleIdeal.main_arg1) = m' ((c.tc : Thread Cert.ReferenceForgetSampleIdeal.nD Cert.ReferenceForgetSampleIdeal.τ).loc Cert.ReferenceForgetSampleIdeal.main_arg1))

def preserves_KernelHgrnPrompt_KernelHgrnPromptIdeal : Prop :=
  True

def algebraic_KernelHgrnPromptIdeal_ReferenceHgrnPromptIdeal_pre_bound_above_minus_infinity [hKernelHgrnPromptIdeal : Cert.KernelHgrnPromptIdeal.Facts] [hReferenceHgrnPromptIdeal : Cert.ReferenceHgrnPromptIdeal.Facts] [hPre_bound_above_minus_infinity : Cert.Pre_bound_above_minus_infinity.Facts] : Prop :=
  ∀ (m : (ℓ : Loc Cert.KernelHgrnPromptIdeal.nD Cert.KernelHgrnPromptIdeal.τ Cert.KernelHgrnPromptIdeal.sig) → Buf (Elt Ideal) ℓ) (g : Dev Cert.KernelHgrnPromptIdeal.nD → PrngReg)
    (m' : (ℓ : Loc Cert.ReferenceHgrnPromptIdeal.nD Cert.ReferenceHgrnPromptIdeal.τ Cert.ReferenceHgrnPromptIdeal.sig) → Buf (Elt Ideal) ℓ) (g' : Dev Cert.ReferenceHgrnPromptIdeal.nD → PrngReg), Pre_KernelHgrnPromptIdeal_bound_above_minus_infinity m →
    (∀ c : Dev Cert.KernelHgrnPromptIdeal.nD,
      m' ((c.tc : Thread Cert.ReferenceHgrnPromptIdeal.nD Cert.ReferenceHgrnPromptIdeal.τ).loc Cert.ReferenceHgrnPromptIdeal.main_arg0) = m ((c.tc : Thread Cert.KernelHgrnPromptIdeal.nD Cert.KernelHgrnPromptIdeal.τ).loc Cert.KernelHgrnPromptIdeal.main_arg0)
      ∧ m' ((c.tc : Thread Cert.ReferenceHgrnPromptIdeal.nD Cert.ReferenceHgrnPromptIdeal.τ).loc Cert.ReferenceHgrnPromptIdeal.main_arg1) = m ((c.tc : Thread Cert.KernelHgrnPromptIdeal.nD Cert.KernelHgrnPromptIdeal.τ).loc Cert.KernelHgrnPromptIdeal.main_arg1)
      ∧ m' ((c.tc : Thread Cert.ReferenceHgrnPromptIdeal.nD Cert.ReferenceHgrnPromptIdeal.τ).loc Cert.ReferenceHgrnPromptIdeal.main_arg2) = m ((c.tc : Thread Cert.KernelHgrnPromptIdeal.nD Cert.KernelHgrnPromptIdeal.τ).loc Cert.KernelHgrnPromptIdeal.main_arg2)) →
    ∃ (v0 : (c : Dev Cert.KernelHgrnPromptIdeal.nD) → Buf (Elt Ideal) ((c.tc : Thread Cert.KernelHgrnPromptIdeal.nD Cert.KernelHgrnPromptIdeal.τ).loc Cert.KernelHgrnPromptIdeal.main_v2_1)),
      θ_run (Cert.KernelHgrnPromptIdeal.defs (F := Ideal)) (onTc (τ := Cert.KernelHgrnPromptIdeal.τ) (Cert.KernelHgrnPromptIdeal.main (F := Ideal))) ⟨m, fun _ => 0, g⟩ (fun r => ∀ c : Dev Cert.KernelHgrnPromptIdeal.nD,
          r.2.mem ((c.tc : Thread Cert.KernelHgrnPromptIdeal.nD Cert.KernelHgrnPromptIdeal.τ).loc Cert.KernelHgrnPromptIdeal.main_v2_1) = v0 c
          ∧ r.2.mem ((c.tc : Thread Cert.KernelHgrnPromptIdeal.nD Cert.KernelHgrnPromptIdeal.τ).loc Cert.KernelHgrnPromptIdeal.main_arg0) = m ((c.tc : Thread Cert.KernelHgrnPromptIdeal.nD Cert.KernelHgrnPromptIdeal.τ).loc Cert.KernelHgrnPromptIdeal.main_arg0)
          ∧ r.2.mem ((c.tc : Thread Cert.KernelHgrnPromptIdeal.nD Cert.KernelHgrnPromptIdeal.τ).loc Cert.KernelHgrnPromptIdeal.main_arg1) = m ((c.tc : Thread Cert.KernelHgrnPromptIdeal.nD Cert.KernelHgrnPromptIdeal.τ).loc Cert.KernelHgrnPromptIdeal.main_arg1)
          ∧ r.2.mem ((c.tc : Thread Cert.KernelHgrnPromptIdeal.nD Cert.KernelHgrnPromptIdeal.τ).loc Cert.KernelHgrnPromptIdeal.main_arg2) = m ((c.tc : Thread Cert.KernelHgrnPromptIdeal.nD Cert.KernelHgrnPromptIdeal.τ).loc Cert.KernelHgrnPromptIdeal.main_arg2))
      ∧ θ_run (Cert.ReferenceHgrnPromptIdeal.defs (F := Ideal)) (onTc (τ := Cert.ReferenceHgrnPromptIdeal.τ) (Cert.ReferenceHgrnPromptIdeal.main (F := Ideal))) ⟨m', fun _ => 0, g'⟩ (fun r => ∀ c : Dev Cert.ReferenceHgrnPromptIdeal.nD,
          r.2.mem ((c.tc : Thread Cert.ReferenceHgrnPromptIdeal.nD Cert.ReferenceHgrnPromptIdeal.τ).loc Cert.ReferenceHgrnPromptIdeal.main_v52) = v0 c
          ∧ r.2.mem ((c.tc : Thread Cert.ReferenceHgrnPromptIdeal.nD Cert.ReferenceHgrnPromptIdeal.τ).loc Cert.ReferenceHgrnPromptIdeal.main_arg0) = m' ((c.tc : Thread Cert.ReferenceHgrnPromptIdeal.nD Cert.ReferenceHgrnPromptIdeal.τ).loc Cert.ReferenceHgrnPromptIdeal.main_arg0)
          ∧ r.2.mem ((c.tc : Thread Cert.ReferenceHgrnPromptIdeal.nD Cert.ReferenceHgrnPromptIdeal.τ).loc Cert.ReferenceHgrnPromptIdeal.main_arg1) = m' ((c.tc : Thread Cert.ReferenceHgrnPromptIdeal.nD Cert.ReferenceHgrnPromptIdeal.τ).loc Cert.ReferenceHgrnPromptIdeal.main_arg1)
          ∧ r.2.mem ((c.tc : Thread Cert.ReferenceHgrnPromptIdeal.nD Cert.ReferenceHgrnPromptIdeal.τ).loc Cert.ReferenceHgrnPromptIdeal.main_arg2) = m' ((c.tc : Thread Cert.ReferenceHgrnPromptIdeal.nD Cert.ReferenceHgrnPromptIdeal.τ).loc Cert.ReferenceHgrnPromptIdeal.main_arg2))

def preserves_KernelHgrnSample_KernelHgrnSampleIdeal : Prop :=
  True

def algebraic_KernelHgrnSampleIdeal_ReferenceHgrnSampleIdeal [hKernelHgrnSampleIdeal : Cert.KernelHgrnSampleIdeal.Facts] [hReferenceHgrnSampleIdeal : Cert.ReferenceHgrnSampleIdeal.Facts] : Prop :=
  ∀ (m : (ℓ : Loc Cert.KernelHgrnSampleIdeal.nD Cert.KernelHgrnSampleIdeal.τ Cert.KernelHgrnSampleIdeal.sig) → Buf (Elt Ideal) ℓ) (g : Dev Cert.KernelHgrnSampleIdeal.nD → PrngReg)
    (m' : (ℓ : Loc Cert.ReferenceHgrnSampleIdeal.nD Cert.ReferenceHgrnSampleIdeal.τ Cert.ReferenceHgrnSampleIdeal.sig) → Buf (Elt Ideal) ℓ) (g' : Dev Cert.ReferenceHgrnSampleIdeal.nD → PrngReg), Pre_KernelHgrnSampleIdeal m →
    (∀ c : Dev Cert.KernelHgrnSampleIdeal.nD,
      m' ((c.tc : Thread Cert.ReferenceHgrnSampleIdeal.nD Cert.ReferenceHgrnSampleIdeal.τ).loc Cert.ReferenceHgrnSampleIdeal.main_arg0) = m ((c.tc : Thread Cert.KernelHgrnSampleIdeal.nD Cert.KernelHgrnSampleIdeal.τ).loc Cert.KernelHgrnSampleIdeal.main_arg0)
      ∧ m' ((c.tc : Thread Cert.ReferenceHgrnSampleIdeal.nD Cert.ReferenceHgrnSampleIdeal.τ).loc Cert.ReferenceHgrnSampleIdeal.main_arg1) = m ((c.tc : Thread Cert.KernelHgrnSampleIdeal.nD Cert.KernelHgrnSampleIdeal.τ).loc Cert.KernelHgrnSampleIdeal.main_arg1)
      ∧ m' ((c.tc : Thread Cert.ReferenceHgrnSampleIdeal.nD Cert.ReferenceHgrnSampleIdeal.τ).loc Cert.ReferenceHgrnSampleIdeal.main_arg2) = m ((c.tc : Thread Cert.KernelHgrnSampleIdeal.nD Cert.KernelHgrnSampleIdeal.τ).loc Cert.KernelHgrnSampleIdeal.main_arg2)
      ∧ m' ((c.tc : Thread Cert.ReferenceHgrnSampleIdeal.nD Cert.ReferenceHgrnSampleIdeal.τ).loc Cert.ReferenceHgrnSampleIdeal.main_arg3) = m ((c.tc : Thread Cert.KernelHgrnSampleIdeal.nD Cert.KernelHgrnSampleIdeal.τ).loc Cert.KernelHgrnSampleIdeal.main_arg3)) →
    ∃ (v0 : (c : Dev Cert.KernelHgrnSampleIdeal.nD) → Buf (Elt Ideal) ((c.tc : Thread Cert.KernelHgrnSampleIdeal.nD Cert.KernelHgrnSampleIdeal.τ).loc Cert.KernelHgrnSampleIdeal.main_v7_1)),
      θ_run (Cert.KernelHgrnSampleIdeal.defs (F := Ideal)) (onTc (τ := Cert.KernelHgrnSampleIdeal.τ) (Cert.KernelHgrnSampleIdeal.main (F := Ideal))) ⟨m, fun _ => 0, g⟩ (fun r => ∀ c : Dev Cert.KernelHgrnSampleIdeal.nD,
          r.2.mem ((c.tc : Thread Cert.KernelHgrnSampleIdeal.nD Cert.KernelHgrnSampleIdeal.τ).loc Cert.KernelHgrnSampleIdeal.main_v7_1) = v0 c
          ∧ r.2.mem ((c.tc : Thread Cert.KernelHgrnSampleIdeal.nD Cert.KernelHgrnSampleIdeal.τ).loc Cert.KernelHgrnSampleIdeal.main_arg0) = m ((c.tc : Thread Cert.KernelHgrnSampleIdeal.nD Cert.KernelHgrnSampleIdeal.τ).loc Cert.KernelHgrnSampleIdeal.main_arg0)
          ∧ r.2.mem ((c.tc : Thread Cert.KernelHgrnSampleIdeal.nD Cert.KernelHgrnSampleIdeal.τ).loc Cert.KernelHgrnSampleIdeal.main_arg1) = m ((c.tc : Thread Cert.KernelHgrnSampleIdeal.nD Cert.KernelHgrnSampleIdeal.τ).loc Cert.KernelHgrnSampleIdeal.main_arg1)
          ∧ r.2.mem ((c.tc : Thread Cert.KernelHgrnSampleIdeal.nD Cert.KernelHgrnSampleIdeal.τ).loc Cert.KernelHgrnSampleIdeal.main_arg2) = m ((c.tc : Thread Cert.KernelHgrnSampleIdeal.nD Cert.KernelHgrnSampleIdeal.τ).loc Cert.KernelHgrnSampleIdeal.main_arg2)
          ∧ r.2.mem ((c.tc : Thread Cert.KernelHgrnSampleIdeal.nD Cert.KernelHgrnSampleIdeal.τ).loc Cert.KernelHgrnSampleIdeal.main_arg3) = m ((c.tc : Thread Cert.KernelHgrnSampleIdeal.nD Cert.KernelHgrnSampleIdeal.τ).loc Cert.KernelHgrnSampleIdeal.main_arg3))
      ∧ θ_run (Cert.ReferenceHgrnSampleIdeal.defs (F := Ideal)) (onTc (τ := Cert.ReferenceHgrnSampleIdeal.τ) (Cert.ReferenceHgrnSampleIdeal.main (F := Ideal))) ⟨m', fun _ => 0, g'⟩ (fun r => ∀ c : Dev Cert.ReferenceHgrnSampleIdeal.nD,
          r.2.mem ((c.tc : Thread Cert.ReferenceHgrnSampleIdeal.nD Cert.ReferenceHgrnSampleIdeal.τ).loc Cert.ReferenceHgrnSampleIdeal.main_v59) = v0 c
          ∧ r.2.mem ((c.tc : Thread Cert.ReferenceHgrnSampleIdeal.nD Cert.ReferenceHgrnSampleIdeal.τ).loc Cert.ReferenceHgrnSampleIdeal.main_arg0) = m' ((c.tc : Thread Cert.ReferenceHgrnSampleIdeal.nD Cert.ReferenceHgrnSampleIdeal.τ).loc Cert.ReferenceHgrnSampleIdeal.main_arg0)
          ∧ r.2.mem ((c.tc : Thread Cert.ReferenceHgrnSampleIdeal.nD Cert.ReferenceHgrnSampleIdeal.τ).loc Cert.ReferenceHgrnSampleIdeal.main_arg1) = m' ((c.tc : Thread Cert.ReferenceHgrnSampleIdeal.nD Cert.ReferenceHgrnSampleIdeal.τ).loc Cert.ReferenceHgrnSampleIdeal.main_arg1)
          ∧ r.2.mem ((c.tc : Thread Cert.ReferenceHgrnSampleIdeal.nD Cert.ReferenceHgrnSampleIdeal.τ).loc Cert.ReferenceHgrnSampleIdeal.main_arg2) = m' ((c.tc : Thread Cert.ReferenceHgrnSampleIdeal.nD Cert.ReferenceHgrnSampleIdeal.τ).loc Cert.ReferenceHgrnSampleIdeal.main_arg2)
          ∧ r.2.mem ((c.tc : Thread Cert.ReferenceHgrnSampleIdeal.nD Cert.ReferenceHgrnSampleIdeal.τ).loc Cert.ReferenceHgrnSampleIdeal.main_arg3) = m' ((c.tc : Thread Cert.ReferenceHgrnSampleIdeal.nD Cert.ReferenceHgrnSampleIdeal.τ).loc Cert.ReferenceHgrnSampleIdeal.main_arg3))

def Claim : Prop :=
  ∃ (hKernelZ : Cert.KernelZ.Facts) (hKernelZIdeal : Cert.KernelZIdeal.Facts) (hReferenceZIdeal : Cert.ReferenceZIdeal.Facts) (hKernelGates : Cert.KernelGates.Facts) (hKernelGatesIdeal : Cert.KernelGatesIdeal.Facts) (hReferenceGatesIdeal : Cert.ReferenceGatesIdeal.Facts) (hKernelForget : Cert.KernelForget.Facts) (hKernelForgetIdeal : Cert.KernelForgetIdeal.Facts) (hReferenceForgetIdeal : Cert.ReferenceForgetIdeal.Facts) (hKernelRouter : Cert.KernelRouter.Facts) (hKernelRouterIdeal : Cert.KernelRouterIdeal.Facts) (hReferenceRouterIdeal : Cert.ReferenceRouterIdeal.Facts) (hKernelExperts : Cert.KernelExperts.Facts) (hKernelExpertsIdeal : Cert.KernelExpertsIdeal.Facts) (hReferenceExpertsIdeal : Cert.ReferenceExpertsIdeal.Facts) (hKernelMerge : Cert.KernelMerge.Facts) (hKernelMergeIdeal : Cert.KernelMergeIdeal.Facts) (hReferenceMergeIdeal : Cert.ReferenceMergeIdeal.Facts) (hKernelMixNorm : Cert.KernelMixNorm.Facts) (hKernelMixNormIdeal : Cert.KernelMixNormIdeal.Facts) (hReferenceMixNormIdeal : Cert.ReferenceMixNormIdeal.Facts) (hKernelPle : Cert.KernelPle.Facts) (hKernelPleIdeal : Cert.KernelPleIdeal.Facts) (hReferencePleIdeal : Cert.ReferencePleIdeal.Facts) (hKernelFinal : Cert.KernelFinal.Facts) (hKernelFinalIdeal : Cert.KernelFinalIdeal.Facts) (hReferenceFinalIdeal : Cert.ReferenceFinalIdeal.Facts) (hKernelForgetPrompt : Cert.KernelForgetPrompt.Facts) (hKernelForgetPromptIdeal : Cert.KernelForgetPromptIdeal.Facts) (hReferenceForgetPromptIdeal : Cert.ReferenceForgetPromptIdeal.Facts) (hKernelForgetSample : Cert.KernelForgetSample.Facts) (hKernelForgetSampleIdeal : Cert.KernelForgetSampleIdeal.Facts) (hReferenceForgetSampleIdeal : Cert.ReferenceForgetSampleIdeal.Facts) (hKernelHgrnPrompt : Cert.KernelHgrnPrompt.Facts) (hKernelHgrnPromptIdeal : Cert.KernelHgrnPromptIdeal.Facts) (hReferenceHgrnPromptIdeal : Cert.ReferenceHgrnPromptIdeal.Facts) (hKernelHgrnSample : Cert.KernelHgrnSample.Facts) (hKernelHgrnSampleIdeal : Cert.KernelHgrnSampleIdeal.Facts) (hReferenceHgrnSampleIdeal : Cert.ReferenceHgrnSampleIdeal.Facts) (hPre_logits_above_minus_infinity : Cert.Pre_logits_above_minus_infinity.Facts) (hPre_bound_above_minus_infinity : Cert.Pre_bound_above_minus_infinity.Facts),
    quiescent_KernelZ (hKernelZ := hKernelZ)
    ∧ quiescent_KernelZIdeal (hKernelZIdeal := hKernelZIdeal)
    ∧ quiescent_ReferenceZIdeal (hReferenceZIdeal := hReferenceZIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelForget (hKernelForget := hKernelForget)
    ∧ quiescent_KernelForgetIdeal (hKernelForgetIdeal := hKernelForgetIdeal)
    ∧ quiescent_ReferenceForgetIdeal (hReferenceForgetIdeal := hReferenceForgetIdeal)
    ∧ quiescent_KernelRouter (hKernelRouter := hKernelRouter)
    ∧ quiescent_KernelRouterIdeal (hKernelRouterIdeal := hKernelRouterIdeal)
    ∧ quiescent_KernelRouterIdeal_pre_logits_above_minus_infinity (hKernelRouterIdeal := hKernelRouterIdeal) (hPre_logits_above_minus_infinity := hPre_logits_above_minus_infinity)
    ∧ quiescent_ReferenceRouterIdeal (hReferenceRouterIdeal := hReferenceRouterIdeal)
    ∧ quiescent_ReferenceRouterIdeal_pre_logits_above_minus_infinity (hReferenceRouterIdeal := hReferenceRouterIdeal) (hPre_logits_above_minus_infinity := hPre_logits_above_minus_infinity)
    ∧ quiescent_KernelExperts (hKernelExperts := hKernelExperts)
    ∧ quiescent_KernelExpertsIdeal (hKernelExpertsIdeal := hKernelExpertsIdeal)
    ∧ quiescent_ReferenceExpertsIdeal (hReferenceExpertsIdeal := hReferenceExpertsIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelMixNorm (hKernelMixNorm := hKernelMixNorm)
    ∧ quiescent_KernelMixNormIdeal (hKernelMixNormIdeal := hKernelMixNormIdeal)
    ∧ quiescent_ReferenceMixNormIdeal (hReferenceMixNormIdeal := hReferenceMixNormIdeal)
    ∧ quiescent_KernelPle (hKernelPle := hKernelPle)
    ∧ quiescent_KernelPleIdeal (hKernelPleIdeal := hKernelPleIdeal)
    ∧ quiescent_ReferencePleIdeal (hReferencePleIdeal := hReferencePleIdeal)
    ∧ quiescent_KernelFinal (hKernelFinal := hKernelFinal)
    ∧ quiescent_KernelFinalIdeal (hKernelFinalIdeal := hKernelFinalIdeal)
    ∧ quiescent_ReferenceFinalIdeal (hReferenceFinalIdeal := hReferenceFinalIdeal)
    ∧ quiescent_KernelForgetPrompt (hKernelForgetPrompt := hKernelForgetPrompt)
    ∧ quiescent_KernelForgetPromptIdeal (hKernelForgetPromptIdeal := hKernelForgetPromptIdeal)
    ∧ quiescent_ReferenceForgetPromptIdeal (hReferenceForgetPromptIdeal := hReferenceForgetPromptIdeal)
    ∧ quiescent_KernelForgetSample (hKernelForgetSample := hKernelForgetSample)
    ∧ quiescent_KernelForgetSampleIdeal (hKernelForgetSampleIdeal := hKernelForgetSampleIdeal)
    ∧ quiescent_ReferenceForgetSampleIdeal (hReferenceForgetSampleIdeal := hReferenceForgetSampleIdeal)
    ∧ quiescent_KernelHgrnPrompt (hKernelHgrnPrompt := hKernelHgrnPrompt)
    ∧ quiescent_KernelHgrnPromptIdeal (hKernelHgrnPromptIdeal := hKernelHgrnPromptIdeal)
    ∧ quiescent_KernelHgrnPromptIdeal_pre_bound_above_minus_infinity (hKernelHgrnPromptIdeal := hKernelHgrnPromptIdeal) (hPre_bound_above_minus_infinity := hPre_bound_above_minus_infinity)
    ∧ quiescent_ReferenceHgrnPromptIdeal (hReferenceHgrnPromptIdeal := hReferenceHgrnPromptIdeal)
    ∧ quiescent_ReferenceHgrnPromptIdeal_pre_bound_above_minus_infinity (hReferenceHgrnPromptIdeal := hReferenceHgrnPromptIdeal) (hPre_bound_above_minus_infinity := hPre_bound_above_minus_infinity)
    ∧ quiescent_KernelHgrnSample (hKernelHgrnSample := hKernelHgrnSample)
    ∧ quiescent_KernelHgrnSampleIdeal (hKernelHgrnSampleIdeal := hKernelHgrnSampleIdeal)
    ∧ quiescent_ReferenceHgrnSampleIdeal (hReferenceHgrnSampleIdeal := hReferenceHgrnSampleIdeal)
    ∧ preserves_KernelZ_KernelZIdeal
    ∧ algebraic_KernelZIdeal_ReferenceZIdeal (hKernelZIdeal := hKernelZIdeal) (hReferenceZIdeal := hReferenceZIdeal)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelForget_KernelForgetIdeal
    ∧ algebraic_KernelForgetIdeal_ReferenceForgetIdeal (hKernelForgetIdeal := hKernelForgetIdeal) (hReferenceForgetIdeal := hReferenceForgetIdeal)
    ∧ preserves_KernelRouter_KernelRouterIdeal
    ∧ algebraic_KernelRouterIdeal_ReferenceRouterIdeal_pre_logits_above_minus_infinity (hKernelRouterIdeal := hKernelRouterIdeal) (hReferenceRouterIdeal := hReferenceRouterIdeal) (hPre_logits_above_minus_infinity := hPre_logits_above_minus_infinity)
    ∧ preserves_KernelExperts_KernelExpertsIdeal
    ∧ algebraic_KernelExpertsIdeal_ReferenceExpertsIdeal (hKernelExpertsIdeal := hKernelExpertsIdeal) (hReferenceExpertsIdeal := hReferenceExpertsIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelMixNorm_KernelMixNormIdeal
    ∧ algebraic_KernelMixNormIdeal_ReferenceMixNormIdeal (hKernelMixNormIdeal := hKernelMixNormIdeal) (hReferenceMixNormIdeal := hReferenceMixNormIdeal)
    ∧ preserves_KernelPle_KernelPleIdeal
    ∧ algebraic_KernelPleIdeal_ReferencePleIdeal (hKernelPleIdeal := hKernelPleIdeal) (hReferencePleIdeal := hReferencePleIdeal)
    ∧ preserves_KernelFinal_KernelFinalIdeal
    ∧ algebraic_KernelFinalIdeal_ReferenceFinalIdeal (hKernelFinalIdeal := hKernelFinalIdeal) (hReferenceFinalIdeal := hReferenceFinalIdeal)
    ∧ preserves_KernelForgetPrompt_KernelForgetPromptIdeal
    ∧ algebraic_KernelForgetPromptIdeal_ReferenceForgetPromptIdeal (hKernelForgetPromptIdeal := hKernelForgetPromptIdeal) (hReferenceForgetPromptIdeal := hReferenceForgetPromptIdeal)
    ∧ preserves_KernelForgetSample_KernelForgetSampleIdeal
    ∧ algebraic_KernelForgetSampleIdeal_ReferenceForgetSampleIdeal (hKernelForgetSampleIdeal := hKernelForgetSampleIdeal) (hReferenceForgetSampleIdeal := hReferenceForgetSampleIdeal)
    ∧ preserves_KernelHgrnPrompt_KernelHgrnPromptIdeal
    ∧ algebraic_KernelHgrnPromptIdeal_ReferenceHgrnPromptIdeal_pre_bound_above_minus_infinity (hKernelHgrnPromptIdeal := hKernelHgrnPromptIdeal) (hReferenceHgrnPromptIdeal := hReferenceHgrnPromptIdeal) (hPre_bound_above_minus_infinity := hPre_bound_above_minus_infinity)
    ∧ preserves_KernelHgrnSample_KernelHgrnSampleIdeal
    ∧ algebraic_KernelHgrnSampleIdeal_ReferenceHgrnSampleIdeal (hKernelHgrnSampleIdeal := hKernelHgrnSampleIdeal) (hReferenceHgrnSampleIdeal := hReferenceHgrnSampleIdeal)
-- ==== Pre_bound_above_minus_infinity.lean ====
abbrev S8320x14336 : Shape := ⟨2, ![8320, 14336]⟩
abbrev S2x2048 : Shape := ⟨2, ![2, 2048]⟩
abbrev S1x2048 : Shape := ⟨2, ![1, 2048]⟩
abbrev S_ : Shape := ⟨0, ![]⟩

class Facts : Prop where
  slices_S2x2048_S1x2048_0_0 : S2x2048.Slices ![0, 0] S1x2048
  bcast_S_S1x2048 : S_.BroadcastsInDim S1x2048 (![] : Fin 0 → Fin S1x2048.rank)

variable [Facts]

def fn {F : FTy → Type} [FloatOps F] (main_arg0 : FVec F S8320x14336 .f32) (main_arg1 : FVec F S2x2048 .f32) (main_arg2 : FVec F S1x2048 .f32) : IVec S1x2048 1 :=
  let main_v0 : FVec F S1x2048 .f32 := (extractStridedSlice S1x2048 ![0, 0] · slices_S2x2048_S1x2048_0_0) main_arg1
  let main_cst : FVec F S_ .f32 := constant S_ .f32 0xFF800000#32
  let main_v1 : FVec F S1x2048 .f32 := broadcastInDim S1x2048 ![] bcast_S_S1x2048 main_cst
  let main_v2 : IVec S1x2048 1 := cmpf .ogt main_v0 main_v1
  main_v2
-- ==== Pre_logits_above_minus_infinity.lean ====
abbrev S8320x2048 : Shape := ⟨2, ![8320, 2048]⟩
abbrev S1x2048x64 : Shape := ⟨3, ![1, 2048, 64]⟩
abbrev S1x64 : Shape := ⟨2, ![1, 64]⟩
abbrev S2048x64 : Shape := ⟨2, ![2048, 64]⟩
abbrev S8320x64 : Shape := ⟨2, ![8320, 64]⟩
abbrev S_ : Shape := ⟨0, ![]⟩

class Facts : Prop where
  shapeCasts_S1x2048x64_S2048x64 : S1x2048x64.ShapeCasts S2048x64
  bcast_S_S8320x64 : S_.BroadcastsInDim S8320x64 (![] : Fin 0 → Fin S8320x64.rank)
  dot_S8320x2048_S2048x64_S8320x64_1_0_0_1_n_n_wf : DotDims.WF S8320x2048 S2048x64 S8320x64 [1] [0] [0] [1] [] []

variable [Facts]

def dot_S8320x2048_S2048x64_S8320x64_1_0_0_1_n_n : DotDims S8320x2048 S2048x64 S8320x64 where
  lhsContracting := [1]
  rhsContracting := [0]
  lhsNonContracting := [0]
  rhsNonContracting := [1]
  lhsBatch := []
  rhsBatch := []
  wf := dot_S8320x2048_S2048x64_S8320x64_1_0_0_1_n_n_wf
def fn {F : FTy → Type} [FloatOps F] (main_arg0 : FVec F S8320x2048 .f32) (main_arg1 : FVec F S1x2048x64 .f32) (main_arg2 : FVec F S1x64 .f32) : IVec S8320x64 1 :=
  let main_v0 : FVec F S2048x64 .f32 := shapeCast S2048x64 main_arg1 shapeCasts_S1x2048x64_S2048x64
  let main_v1 : FVec F S8320x64 .f32 := (fun l r => Host.dotGeneral dot_S8320x2048_S2048x64_S8320x64_1_0_0_1_n_n none l r) main_arg0 main_v0
  let main_cst : FVec F S_ .f32 := constant S_ .f32 0xFF800000#32
  let main_v2 : FVec F S8320x64 .f32 := broadcastInDim S8320x64 ![] bcast_S_S8320x64 main_cst
  let main_v3 : IVec S8320x64 1 := cmpf .ogt main_v1 main_v2
  main_v3
-- ==== KernelZ.lean ====
abbrev S1x8192x2048 : Shape := ⟨3, ![1, 8192, 2048]⟩
abbrev S32x4x2048 : Shape := ⟨3, ![32, 4, 2048]⟩
abbrev S1x2048x18448 : Shape := ⟨3, ![1, 2048, 18448]⟩
abbrev S1x18448x2048 : Shape := ⟨3, ![1, 18448, 2048]⟩
abbrev S8192x2048 : Shape := ⟨2, ![8192, 2048]⟩
abbrev S128x2048 : Shape := ⟨2, ![128, 2048]⟩
abbrev S8320x2048 : Shape := ⟨2, ![8320, 2048]⟩
abbrev S8320x14336 : Shape := ⟨2, ![8320, 14336]⟩
abbrev S832x2048 : Shape := ⟨2, ![832, 2048]⟩
abbrev S1x1024x2048 : Shape := ⟨3, ![1, 1024, 2048]⟩
abbrev S832x1024 : Shape := ⟨2, ![832, 1024]⟩
abbrev S1024x2048 : Shape := ⟨2, ![1024, 2048]⟩

abbrev nBuf : Space → Nat
  | .hbm => 8
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S32x4x2048, .f32⟩
  | .hbm, ⟨2, _⟩ => ⟨S1x2048x18448, .f32⟩
  | .hbm, ⟨3, _⟩ => ⟨S1x18448x2048, .f32⟩
  | .hbm, ⟨4, _⟩ => ⟨S8192x2048, .f32⟩
  | .hbm, ⟨5, _⟩ => ⟨S128x2048, .f32⟩
  | .hbm, ⟨6, _⟩ => ⟨S8320x2048, .f32⟩
  | .hbm, ⟨7, _⟩ => ⟨S8320x14336, .f32⟩
  | .local _ .vmem, ⟨0, _⟩ => ⟨S832x2048, .f32⟩
  | .local _ .vmem, ⟨1, _⟩ => ⟨S832x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S832x1024, .f32⟩
  | .local _ .vmem, ⟨5, _⟩ => ⟨S832x1024, .f32⟩
  | .local _ .vmem, ⟨6, _⟩ => ⟨S1024x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![14, 10], ![false, false]⟩

def k0_mult1 (i : grid0.Coords) : BitVec 32 :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S832x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceZIdeal.lean ====
abbrev S1x8192x2048 : Shape := ⟨3, ![1, 8192, 2048]⟩
abbrev S32x4x2048 : Shape := ⟨3, ![32, 4, 2048]⟩
abbrev S1x2048x18448 : Shape := ⟨3, ![1, 2048, 18448]⟩
abbrev S2048x18448 : Shape := ⟨2, ![2048, 18448]⟩
abbrev S1x8192x18448 : Shape := ⟨3, ![1, 8192, 18448]⟩
abbrev S32x4x18448 : Shape := ⟨3, ![32, 4, 18448]⟩
abbrev S8192x18448 : Shape := ⟨2, ![8192, 18448]⟩
abbrev S128x18448 : Shape := ⟨2, ![128, 18448]⟩
abbrev S8320x18448 : Shape := ⟨2, ![8320, 18448]⟩
abbrev S8320x14336 : Shape := ⟨2, ![8320, 14336]⟩

abbrev nBuf : Space → Nat
  | .hbm => 11
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S32x4x2048, .f32⟩
  | .hbm, ⟨2, _⟩ => ⟨S1x2048x18448, .f32⟩
  | .hbm, ⟨3, _⟩ => ⟨S2048x18448, .f32⟩
  | .hbm, ⟨4, _⟩ => ⟨S1x8192x18448, .f32⟩
  | .hbm, ⟨5, _⟩ => ⟨S2048x18448, .f32⟩
  | .hbm, ⟨6, _⟩ => ⟨S32x4x18448, .f32⟩
  | .hbm, ⟨7, _⟩ => ⟨S8192x18448, .f32⟩
  | .hbm, ⟨8, _⟩ => ⟨S128x18448, .f32⟩
  | .hbm, ⟨9, _⟩ => ⟨S8320x18448, .f32⟩
  | .hbm, ⟨10, _⟩ => ⟨S8320x14336, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelGates.lean ====
abbrev S1x8192x2048 : Shape := ⟨3, ![1, 8192, 2048]⟩
abbrev S32x4x2048 : Shape := ⟨3, ![32, 4, 2048]⟩
abbrev S1x2048x18448 : Shape := ⟨3, ![1, 2048, 18448]⟩
abbrev S1x18448x2048 : Shape := ⟨3, ![1, 18448, 2048]⟩
abbrev S8192x2048 : Shape := ⟨2, ![8192, 2048]⟩
abbrev S128x2048 : Shape := ⟨2, ![128, 2048]⟩
abbrev S8320x2048 : Shape := ⟨2, ![8320, 2048]⟩
abbrev S8320x4096 : Shape := ⟨2, ![8320, 4096]⟩
abbrev S832x2048 : Shape := ⟨2, ![832, 2048]⟩
abbrev S1x1024x2048 : Shape := ⟨3, ![1, 1024, 2048]⟩
abbrev S832x1024 : Shape := ⟨2, ![832, 1024]⟩
abbrev S1024x2048 : Shape := ⟨2, ![1024, 2048]⟩

abbrev nBuf : Space → Nat
  | .hbm => 8
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S32x4x2048, .f32⟩
  | .hbm, ⟨2, _⟩ => ⟨S1x2048x18448, .f32⟩
  | .hbm, ⟨3, _⟩ => ⟨S1x18448x2048, .f32⟩
  | .hbm, ⟨4, _⟩ => ⟨S8192x2048, .f32⟩
  | .hbm, ⟨5, _⟩ => ⟨S128x2048, .f32⟩
  | .hbm, ⟨6, _⟩ => ⟨S8320x2048, .f32⟩
  | .hbm, ⟨7, _⟩ => ⟨S8320x4096, .f32⟩
  | .local _ .vmem, ⟨0, _⟩ => ⟨S832x2048, .f32⟩
  | .local _ .vmem, ⟨1, _⟩ => ⟨S832x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S832x1024, .f32⟩
  | .local _ .vmem, ⟨5, _⟩ => ⟨S832x1024, .f32⟩
  | .local _ .vmem, ⟨6, _⟩ => ⟨S1024x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 10], ![false, false]⟩

def k0_mult1 (i : grid0.Coords) : BitVec 32 :=
  let c14352_i32 : BitVec 32 := 14352#32
  let arg0 : BitVec 32 := BitVec.ofNat 32 (i 0).val
  let c1024_i32 : BitVec 32 := 1024#32
  let v0 : BitVec 32 := Scalar.muli arg0 c1024_i32
  let v1 : BitVec 32 := Scalar.addi c14352_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c14352_i32 : BitVec 32 := 14352#32
  let v1 : BitVec 32 := Scalar.addi c14352_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S832x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGatesIdeal.lean ====
abbrev S1x8192x2048 : Shape := ⟨3, ![1, 8192, 2048]⟩
abbrev S32x4x2048 : Shape := ⟨3, ![32, 4, 2048]⟩
abbrev S1x2048x18448 : Shape := ⟨3, ![1, 2048, 18448]⟩
abbrev S2048x18448 : Shape := ⟨2, ![2048, 18448]⟩
abbrev S1x8192x18448 : Shape := ⟨3, ![1, 8192, 18448]⟩
abbrev S32x4x18448 : Shape := ⟨3, ![32, 4, 18448]⟩
abbrev S8192x18448 : Shape := ⟨2, ![8192, 18448]⟩
abbrev S128x18448 : Shape := ⟨2, ![128, 18448]⟩
abbrev S8320x18448 : Shape := ⟨2, ![8320, 18448]⟩
abbrev S8320x4096 : Shape := ⟨2, ![8320, 4096]⟩

abbrev nBuf : Space → Nat
  | .hbm => 11
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S32x4x2048, .f32⟩
  | .hbm, ⟨2, _⟩ => ⟨S1x2048x18448, .f32⟩
  | .hbm, ⟨3, _⟩ => ⟨S2048x18448, .f32⟩
  | .hbm, ⟨4, _⟩ => ⟨S1x8192x18448, .f32⟩
  | .hbm, ⟨5, _⟩ => ⟨S2048x18448, .f32⟩
  | .hbm, ⟨6, _⟩ => ⟨S32x4x18448, .f32⟩
  | .hbm, ⟨7, _⟩ => ⟨S8192x18448, .f32⟩
  | .hbm, ⟨8, _⟩ => ⟨S128x18448, .f32⟩
  | .hbm, ⟨9, _⟩ => ⟨S8320x18448, .f32⟩
  | .hbm, ⟨10, _⟩ => ⟨S8320x4096, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelForget.lean ====
abbrev S1x8192x2048 : Shape := ⟨3, ![1, 8192, 2048]⟩
abbrev S32x4x2048 : Shape := ⟨3, ![32, 4, 2048]⟩
abbrev S1x2048x18448 : Shape := ⟨3, ![1, 2048, 18448]⟩
abbrev S1x18448x2048 : Shape := ⟨3, ![1, 18448, 2048]⟩
abbrev S1x16x2048 : Shape := ⟨3, ![1, 16, 2048]⟩
abbrev S_ : Shape := ⟨0, ![]⟩
abbrev S1x128x2048 : Shape := ⟨3, ![1, 128, 2048]⟩
abbrev S8192x2048 : Shape := ⟨2, ![8192, 2048]⟩
abbrev S128x2048 : Shape := ⟨2, ![128, 2048]⟩
abbrev S8320x2048 : Shape := ⟨2, ![8320, 2048]⟩
abbrev S8320x128 : Shape := ⟨2, ![8320, 128]⟩
abbrev S832x2048 : Shape := ⟨2, ![832, 2048]⟩
abbrev S832x128 : Shape := ⟨2, ![832, 128]⟩

abbrev nBuf : Space → Nat
  | .hbm => 12
  | .vmem => 6
  | .smem => 0
  | _ => 0

abbrev bufTy : (tb : Table) → Fin (tcTables nBuf tb) → BufTy
  | .hbm, ⟨0, _⟩ => ⟨S1x8192x2048, .f32⟩
  | .hbm, ⟨1, _⟩ => ⟨S32x4x2048, .f32⟩
  | .hbm, ⟨2, _⟩ => ⟨S1x2048x18448, .f32⟩
  | .hbm, ⟨3, _⟩ => ⟨S1x18448x2048, .f32⟩
  | .hbm, ⟨4, _⟩ => ⟨S1x16x2048, .f32⟩
  | .hbm, ⟨5, _⟩ => ⟨S_, .i32⟩
  | .hbm, ⟨6, _⟩ => ⟨S_, .f32⟩
  | .hbm, ⟨7, _⟩ => ⟨S1x128x2048, .f32⟩
  | .hbm, ⟨8, _⟩ => ⟨S8192x2048, .f32⟩
  | .hbm, ⟨9, _⟩ => ⟨S128x2048, .f32⟩
  | .hbm, ⟨10, _⟩ => ⟨S8320x2048, .f32⟩
  | .hbm, ⟨11, _⟩ => ⟨S8320x128, .f32⟩
  | .local _ .vmem, ⟨0, _⟩ => ⟨S832x2048, .f32⟩
  | .local _ .vmem, ⟨1, _⟩ => ⟨S832x2048, .f32⟩
  | .local _ .vmem, ⟨2, _⟩ => ⟨S1x128x2048, .f32⟩
  | .local _ .vmem, ⟨3, _⟩ => ⟨S832x128, .f32⟩
  | .local _ .vmem, ⟨4, _⟩ => ⟨S832x128, .f32⟩
  | .local _ .vmem, ⟨5, _⟩ => ⟨S128x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 10], ![false, false]⟩

def k0_mult1 (i : grid0.Coords) : BitVec 32 :=
  let c0_i32 : BitVec 32 := 0#32
  let arg0 : BitVec 32 := BitVec.ofNat 32 (i 0).val
  let c128_i32 : BitVec 32 := 128#32
  let v0 : BitVec 32 := Scalar.muli arg0 c128_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S832x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S832x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceForgetIdeal.lean ====
abbrev S1x8192x2048 : Shape := ⟨3, ![1, 8192, 2048]⟩
abbrev S32x4x2048 : Shape := ⟨3, ![32, 4, 2048]⟩
abbrev S1x2048x18448 : Shape := ⟨3, ![1, 2048, 18448]⟩
abbrev S2048x18448 : Shape := ⟨2, ![2048, 18448]⟩
abbrev S1x8192x18448 : Shape := ⟨3, ![1, 8192, 18448]⟩
abbrev S32x4x18448 : Shape := ⟨3, ![32, 4, 18448]⟩
abbrev S8192x18448 : Shape := ⟨2, ![8192, 18448]⟩
abbrev S128x18448 : Shape := ⟨2, ![128, 18448]⟩
abbrev S8320x18448 : Shape := ⟨2, ![8320, 18448]⟩
abbrev S8320x16 : Shape := ⟨2, ![8320, 16]⟩
abbrev S_ : Shape := ⟨0, ![]⟩
abbrev S8320x128 : Shape := ⟨2, ![8320, 128]⟩

abbrev nBuf : Space → Nat
  | .hbm => 14
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S32x4x2048, .f32⟩
  | .hbm, ⟨2, _⟩ => ⟨S1x2048x18448, .f32⟩
  | .hbm, ⟨3, _⟩ => ⟨S2048x18448, .f32⟩
  | .hbm, ⟨4, _⟩ => ⟨S1x8192x18448, .f32⟩
  | .hbm, ⟨5, _⟩ => ⟨S2048x18448, .f32⟩
  | .hbm, ⟨6, _⟩ => ⟨S32x4x18448, .f32⟩
  | .hbm, ⟨7, _⟩ => ⟨S8192x18448, .f32⟩
  | .hbm, ⟨8, _⟩ => ⟨S128x18448, .f32⟩
  | .hbm, ⟨9, _⟩ => ⟨S8320x18448, .f32⟩
  | .hbm, ⟨10, _⟩ => ⟨S8320x16, .f32⟩
  | .hbm, ⟨11, _⟩ => ⟨S_, .i32⟩
  | .hbm, ⟨12, _⟩ => ⟨S_, .f32⟩
  | .hbm, ⟨13, _⟩ => ⟨S8320x128, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== KernelRouter.lean ====
abbrev S8320x2048 : Shape := ⟨2, ![8320, 2048]⟩
abbrev S1x2048x64 : Shape := ⟨3, ![1, 2048, 64]⟩
abbrev S1x64 : Shape := ⟨2, ![1, 64]⟩
abbrev S2048x64 : Shape := ⟨2, ![2048, 64]⟩
abbrev S64x2048 : Shape := ⟨2, ![64, 2048]⟩
abbrev S64 : Shape := ⟨1, ![64]⟩
abbrev S64x1 : Shape := ⟨2, ![64, 1]⟩
abbrev S8320x128 : Shape := ⟨2, ![8320, 128]⟩
abbrev S640x2048 : Shape := ⟨2, ![640, 2048]⟩
abbrev S640x128 : Shape := ⟨2, ![640, 128]⟩
abbrev S64x640 : Shape := ⟨2, ![64, 640]⟩
abbrev S8x640 : Shape := ⟨2, ![8, 640]⟩
abbrev S640 : Shape := ⟨1, ![640]⟩
abbrev S1x640 : Shape := ⟨2, ![1, 640]⟩
abbrev S128x640 : Shape := ⟨2, ![128, 640]⟩

abbrev nBuf : Space → Nat
  | .hbm => 8
  | .vmem => 7
  | .smem => 0
  | _ => 0

abbrev bufTy : (tb : Table) → Fin (tcTables nBuf tb) → BufTy
  | .hbm, ⟨0, _⟩ => ⟨S8320x2048, .f32⟩
  | .hbm, ⟨1, _⟩ => ⟨S1x2048x64, .f32⟩
  | .hbm, ⟨2, _⟩ => ⟨S1x64, .f32⟩
  | .hbm, ⟨3, _⟩ => ⟨S2048x64, .f32⟩
  | .hbm, ⟨4, _⟩ => ⟨S64x2048, .f32⟩
  | .hbm, ⟨5, _⟩ => ⟨S64, .f32⟩
  | .hbm, ⟨6, _⟩ => ⟨S64x1, .f32⟩
  | .hbm, ⟨7, _⟩ => ⟨S8320x128, .f32⟩
  | .local _ .vmem, ⟨0, _⟩ => ⟨S640x2048, .f32⟩
  | .local _ .vmem, ⟨1, _⟩ => ⟨S640x2048, .f32⟩
  | .local _ .vmem, ⟨2, _⟩ => ⟨S64x2048, .f32⟩
  | .local _ .vmem, ⟨3, _⟩ => ⟨S64x1, .f32⟩
  | .local _ .vmem, ⟨4, _⟩ => ⟨S640x128, .f32⟩
  | .local _ .vmem, ⟨5, _⟩ => ⟨S640x128, .f32⟩
  | .local _ .vmem, ⟨6, _⟩ => ⟨S64x640, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![13], ![false]⟩

@[reducible] def k0_t1_loop : Scf.Loop 32 :=
  let c0_i32_116 : BitVec 32 := 0#32
  let c64_i32 : BitVec 32 := 64#32
  let v360 : BitVec 32 := Scalar.addi c0_i32_116 c64_i32
  let c1_i32_117 : BitVec 32 := 1#32
  ⟨c0_i32_116, v360, c1_i32_117⟩
def k0_off1 (k0_t1 : Fin k0_t1_loop.trips) : Fin 2 → Nat :=
  let c0_i32_116 : BitVec 32 := 0#32
  let c1_i32_117 : BitVec 32 := 1#32
  let arg6 : BitVec 32 := Scf.iv c0_i32_116 c1_i32_117 k0_t1
  let v376 : Index := Scalar.indexCast arg6
  let c0_126 : Index := 0#32
  ![v376.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceRouterIdeal.lean ====
abbrev S8320x2048 : Shape := ⟨2, ![8320, 2048]⟩
abbrev S1x2048x64 : Shape := ⟨3, ![1, 2048, 64]⟩
abbrev S1x64 : Shape := ⟨2, ![1, 64]⟩
abbrev S2048x64 : Shape := ⟨2, ![2048, 64]⟩
abbrev S8320x64 : Shape := ⟨2, ![8320, 64]⟩
abbrev S_ : Shape := ⟨0, ![]⟩
abbrev S64 : Shape := ⟨1, ![64]⟩
abbrev S8320x8x8 : Shape := ⟨3, ![8320, 8, 8]⟩
abbrev S8320x8x2 : Shape := ⟨3, ![8320, 8, 2]⟩
abbrev S8320x8 : Shape := ⟨2, ![8320, 8]⟩
abbrev S8320x4 : Shape := ⟨2, ![8320, 4]⟩
abbrev S8320x4x1 : Shape := ⟨3, ![8320, 4, 1]⟩
abbrev S1x1x8 : Shape := ⟨3, ![1, 1, 8]⟩
abbrev S8320x4x8 : Shape := ⟨3, ![8320, 4, 8]⟩
abbrev S8320x8x1 : Shape := ⟨3, ![8320, 8, 1]⟩
abbrev S1 : Shape := ⟨1, ![1]⟩
abbrev S1x1x1 : Shape := ⟨3, ![1, 1, 1]⟩
abbrev S8320 : Shape := ⟨1, ![8320]⟩
abbrev S8320x1 : Shape := ⟨2, ![8320, 1]⟩
abbrev S1x1x64 : Shape := ⟨3, ![1, 1, 64]⟩
abbrev S8320x8x64 : Shape := ⟨3, ![8320, 8, 64]⟩
abbrev S8320x128 : Shape := ⟨2, ![8320, 128]⟩

abbrev nBuf : Space → Nat
  | .hbm => 87
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S1x2048x64, .f32⟩
  | .hbm, ⟨2, _⟩ => ⟨S1x64, .f32⟩
  | .hbm, ⟨3, _⟩ => ⟨S2048x64, .f32⟩
  | .hbm, ⟨4, _⟩ => ⟨S8320x64, .f32⟩
  | .hbm, ⟨5, _⟩ => ⟨S8320x64, .f32⟩
  | .hbm, ⟨6, _⟩ => ⟨S8320x64, .f32⟩
  | .hbm, ⟨7, _⟩ => ⟨S_, .f32⟩
  | .hbm, ⟨8, _⟩ => ⟨S8320x64, .f32⟩
  | .hbm, ⟨9, _⟩ => ⟨S8320x64, .f32⟩
  | .hbm, ⟨10, _⟩ => ⟨S_, .f32⟩
  | .hbm, ⟨11, _⟩ => ⟨S8320x64, .f32⟩
  | .hbm, ⟨12, _⟩ => ⟨S8320x64, .f32⟩
  | .hbm, ⟨13, _⟩ => ⟨S64, .f32⟩
  | .hbm, ⟨14, _⟩ => ⟨S1x64, .f32⟩
  | .hbm, ⟨15, _⟩ => ⟨S8320x64, .f32⟩
  | .hbm, ⟨16, _⟩ => ⟨S8320x64, .f32⟩
  | .hbm, ⟨17, _⟩ => ⟨S8320x8x8, .f32⟩
  | .hbm, ⟨18, _⟩ => ⟨S8320x8x2, .f32⟩
  | .hbm, ⟨19, _⟩ => ⟨S8320x8x2, .i32⟩
  | .hbm, ⟨20, _⟩ => ⟨S_, .f32⟩
  | .hbm, ⟨21, _⟩ => ⟨S8320x8, .f32⟩
  | .hbm, ⟨22, _⟩ => ⟨S8320x4, .f32⟩
  | .hbm, ⟨23, _⟩ => ⟨S8320x4, .i32⟩
  | .hbm, ⟨24, _⟩ => ⟨S8320x4x1, .i32⟩
  | .hbm, ⟨25, _⟩ => ⟨S1x1x8, .i32⟩
  | .hbm, ⟨26, _⟩ => ⟨S8320x4x8, .i32⟩
  | .hbm, ⟨27, _⟩ => ⟨S8320x4x8, .i32⟩
  | .hbm, ⟨28, _⟩ => ⟨S8320x4x8, .i1⟩
  | .hbm, ⟨29, _⟩ => ⟨S8320x4x8, .f32⟩
  | .hbm, ⟨30, _⟩ => ⟨S_, .f32⟩
  | .hbm, ⟨31, _⟩ => ⟨S8320x8, .f32⟩
  | .hbm, ⟨32, _⟩ => ⟨S_, .f32⟩
  | .hbm, ⟨33, _⟩ => ⟨S8320x8, .f32⟩
  | .hbm, ⟨34, _⟩ => ⟨S8320x8, .i1⟩
  | .hbm, ⟨35, _⟩ => ⟨S8320x8x8, .i1⟩
  | .hbm, ⟨36, _⟩ => ⟨S8320x64, .i1⟩
  | .hbm, ⟨37, _⟩ => ⟨S_, .f32⟩
  | .hbm, ⟨38, _⟩ => ⟨S_, .f32⟩
  | .hbm, ⟨39, _⟩ => ⟨S8320x64, .f32⟩
  | .hbm, ⟨40, _⟩ => ⟨S8320x64, .f32⟩
  | .hbm, ⟨41, _⟩ => ⟨S8320x8, .f32⟩
  | .hbm, ⟨42, _⟩ => ⟨S8320x8, .i32⟩
  | .hbm, ⟨43, _⟩ => ⟨S_, .i32⟩
  | .hbm, ⟨44, _⟩ => ⟨S8320x8, .i32⟩
  | .hbm, ⟨45, _⟩ => ⟨S8320x8, .i1⟩
  | .hbm, ⟨46, _⟩ => ⟨S_, .i32⟩
  | .hbm, ⟨47, _⟩ => ⟨S8320x8, .i32⟩
  | .hbm, ⟨48, _⟩ => ⟨S8320x8, .i32⟩
  | .hbm, ⟨49, _⟩ => ⟨S8320x8, .i32⟩
  | .hbm, ⟨50, _⟩ => ⟨S8320x8x1, .i32⟩
  | .hbm, ⟨51, _⟩ => ⟨S1, .i32⟩
  | .hbm, ⟨52, _⟩ => ⟨S_, .i32⟩
  | .hbm, ⟨53, _⟩ => ⟨S8320x8x1, .i32⟩
  | .hbm, ⟨54, _⟩ => ⟨S8320x8x1, .i1⟩
  | .hbm, ⟨55, _⟩ => ⟨S1x1x1, .i32⟩
  | .hbm, ⟨56, _⟩ => ⟨S8320x8x1, .i32⟩
  | .hbm, ⟨57, _⟩ => ⟨S8320x8x1, .i1⟩
  | .hbm, ⟨58, _⟩ => ⟨S8320x8x1, .i1⟩
  | .hbm, ⟨59, _⟩ => ⟨S_, .i1⟩
  | .hbm, ⟨60, _⟩ => ⟨S8320x8, .i1⟩
  | .hbm, ⟨61, _⟩ => ⟨S8320x8, .f32⟩
  | .hbm, ⟨62, _⟩ => ⟨S_, .f32⟩
  | .hbm, ⟨63, _⟩ => ⟨S8320x8, .f32⟩
  | .hbm, ⟨64, _⟩ => ⟨S8320x8, .f32⟩
  | .hbm, ⟨65, _⟩ => ⟨S_, .f32⟩
  | .hbm, ⟨66, _⟩ => ⟨S8320, .f32⟩
  | .hbm, ⟨67, _⟩ => ⟨S8320x1, .f32⟩
  | .hbm, ⟨68, _⟩ => ⟨S8320x8, .f32⟩
  | .hbm, ⟨69, _⟩ => ⟨S8320x8, .f32⟩
  | .hbm, ⟨70, _⟩ => ⟨S_, .f32⟩
  | .hbm, ⟨71, _⟩ => ⟨S8320x8, .f32⟩
  | .hbm, ⟨72, _⟩ => ⟨S8320x8, .f32⟩
  | .hbm, ⟨73, _⟩ => ⟨S8320x8x1, .i32⟩
  | .hbm, ⟨74, _⟩ => ⟨S1x1x64, .i32⟩
  | .hbm, ⟨75, _⟩ => ⟨S8320x8x64, .i32⟩
  | .hbm, ⟨76, _⟩ => ⟨S8320x8x64, .i32⟩
  | .hbm, ⟨77, _⟩ => ⟨S8320x8x64, .i1⟩
  | .hbm, ⟨78, _⟩ => ⟨S8320x8x64, .f32⟩
  | .hbm, ⟨79, _⟩ => ⟨S8320x8x1, .f32⟩
  | .hbm, ⟨80, _⟩ => ⟨S8320x8x64, .f32⟩
  | .hbm, ⟨81, _⟩ => ⟨S8320x8x64, .f32⟩
  | .hbm, ⟨82, _⟩ => ⟨S_, .f32⟩
  | .hbm, ⟨83, _⟩ => ⟨S8320x64, .f32⟩
  | .hbm, ⟨84, _⟩ => ⟨S_, .i32⟩
  | .hbm, ⟨85, _⟩ => ⟨S_, .f32⟩
  | .hbm, ⟨86, _⟩ => ⟨S8320x128, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_cst_1 : Ref sig .tc := ⟨.hbm, 20, rfl⟩
abbrev main_v13 : Ref sig .tc := ⟨.hbm, 21, rfl⟩
abbrev main_values_2 : Ref sig .tc := ⟨.hbm, 22, rfl⟩
abbrev main_indices_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v20 : Ref sig .tc := ⟨.hbm, 40, rfl⟩
abbrev main_values_7 : Ref sig .tc := ⟨.hbm, 41, rfl⟩
abbrev main_indices_8 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_cst : Ref sig .tc := ⟨.hbm, 62, rfl⟩
abbrev main_call2_v14 : Ref sig .tc := ⟨.hbm, 63, rfl⟩
abbrev main_v21 : Ref sig .tc := ⟨.hbm, 64, rfl⟩
abbrev main_cst_9 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_10 : Ref sig .tc := ⟨.hbm, 70, rfl⟩
abbrev main_v26 : Ref sig .tc := ⟨.hbm, 71, rfl⟩
abbrev main_v27 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_cst_11 : Ref sig .tc := ⟨.hbm, 82, rfl⟩
abbrev main_v32 : Ref sig .tc := ⟨.hbm, 83, rfl⟩
abbrev main_c : Ref sig .tc := ⟨.hbm, 84, rfl⟩
abbrev main_call4_v0 : Ref sig .tc := ⟨.hbm, 85, rfl⟩
abbrev main_v33 : Ref sig .tc := ⟨.hbm, 86, rfl⟩

abbrev nD : Nat := 1
abbrev τ : Topo := Topo.v7x

variable {F : FTy → Type} [FloatOps F]
-- ==== KernelExperts.lean ====
abbrev S8320x2048 : Shape := ⟨2, ![8320, 2048]⟩
abbrev S8320x128 : Shape := ⟨2, ![8320, 128]⟩
abbrev S1x64x2048x256 : Shape := ⟨4, ![1, 64, 2048, 256]⟩
abbrev S1x64x256x2048 : Shape := ⟨4, ![1, 64, 256, 2048]⟩
abbrev S64x2048x256 : Shape := ⟨3, ![64, 2048, 256]⟩
abbrev S64x256x2048 : Shape := ⟨3, ![64, 256, 2048]⟩
abbrev S832x2048 : Shape := ⟨2, ![832, 2048]⟩
abbrev S832x128 : Shape := ⟨2, ![832, 128]⟩
abbrev S1x2048x256 : Shape := ⟨3, ![1, 2048, 256]⟩
abbrev S1x256x2048 : Shape := ⟨3, ![1, 256, 2048]⟩
abbrev S2048x256 : Shape := ⟨2, ![2048, 256]⟩
abbrev S832x256 : Shape := ⟨2, ![832, 256]⟩
abbrev S832 : Shape := ⟨1, ![832]⟩
abbrev S832x1 : Shape := ⟨2, ![832, 1]⟩
abbrev S256x2048 : Shape := ⟨2, ![256, 2048]⟩

abbrev nBuf : Space → Nat
  | .hbm => 9
  | .vmem => 12
  | .smem => 0
  | _ => 0

abbrev bufTy : (tb : Table) → Fin (tcTables nBuf tb) → BufTy
  | .hbm, ⟨0, _⟩ => ⟨S8320x2048, .bf16⟩
  | .hbm, ⟨1, _⟩ => ⟨S8320x128, .f32⟩
  | .hbm, ⟨2, _⟩ => ⟨S1x64x2048x256, .f32⟩
  | .hbm, ⟨3, _⟩ => ⟨S1x64x2048x256, .f32⟩
  | .hbm, ⟨4, _⟩ => ⟨S1x64x256x2048, .f32⟩
  | .hbm, ⟨5, _⟩ => ⟨S64x2048x256, .f32⟩
  | .hbm, ⟨6, _⟩ => ⟨S64x2048x256, .f32⟩
  | .hbm, ⟨7, _⟩ => ⟨S64x256x2048, .f32⟩
  | .hbm, ⟨8, _⟩ => ⟨S8320x2048, .f32⟩
  | .local _ .vmem, ⟨0, _⟩ => ⟨S832x2048, .bf16⟩
  | .local _ .vmem, ⟨1, _⟩ => ⟨S832x2048, .bf16⟩
  | .local _ .vmem, ⟨2, _⟩ => ⟨S832x128, .f32⟩
  | .local _ .vmem, ⟨3, _⟩ => ⟨S832x128, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x256x2048, .f32⟩
  | .local _ .vmem, ⟨9, _⟩ => ⟨S1x256x2048, .f32⟩
  | .local _ .vmem, ⟨10, _⟩ => ⟨S832x2048, .f32⟩
  | .local _ .vmem, ⟨11, _⟩ => ⟨S832x2048, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![10, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S832x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S832x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S832x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceExpertsIdeal.lean ====
abbrev S8320x2048 : Shape := ⟨2, ![8320, 2048]⟩
abbrev S8320x128 : Shape := ⟨2, ![8320, 128]⟩
abbrev S1x64x2048x256 : Shape := ⟨4, ![1, 64, 2048, 256]⟩
abbrev S1x64x256x2048 : Shape := ⟨4, ![1, 64, 256, 2048]⟩
abbrev S8320x64 : Shape := ⟨2, ![8320, 64]⟩
abbrev S64x2048x256 : Shape := ⟨3, ![64, 2048, 256]⟩
abbrev S8320x64x256 : Shape := ⟨3, ![8320, 64, 256]⟩
abbrev S_ : Shape := ⟨0, ![]⟩
abbrev S8320x64x1 : Shape := ⟨3, ![8320, 64, 1]⟩
abbrev S64x256x2048 : Shape := ⟨3, ![64, 256, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x128, .f32⟩
  | .hbm, ⟨2, _⟩ => ⟨S1x64x2048x256, .f32⟩
  | .hbm, ⟨3, _⟩ => ⟨S1x64x2048x256, .f32⟩
  | .hbm, ⟨4, _⟩ => ⟨S1x64x256x2048, .f32⟩
  | .hbm, ⟨5, _⟩ => ⟨S8320x2048, .f32⟩
  | .hbm, ⟨6, _⟩ => ⟨S8320x64, .f32⟩
  | .hbm, ⟨7, _⟩ => ⟨S64x2048x256, .f32⟩
  | .hbm, ⟨8, _⟩ => ⟨S8320x64x256, .f32⟩
  | .hbm, ⟨9, _⟩ => ⟨S64x2048x256, .f32⟩
  | .hbm, ⟨10, _⟩ => ⟨S8320x64x256, .f32⟩
  | .hbm, ⟨11, _⟩ => ⟨S8320x64x256, .f32⟩
  | .hbm, ⟨12, _⟩ => ⟨S8320x64x256, .f32⟩
  | .hbm, ⟨13, _⟩ => ⟨S_, .f32⟩
  | .hbm, ⟨14, _⟩ => ⟨S8320x64x256, .f32⟩
  | .hbm, ⟨15, _⟩ => ⟨S8320x64x256, .f32⟩
  | .hbm, ⟨16, _⟩ => ⟨S_, .f32⟩
  | .hbm, ⟨17, _⟩ => ⟨S8320x64x256, .f32⟩
  | .hbm, ⟨18, _⟩ => ⟨S8320x64x256, .f32⟩
  | .hbm, ⟨19, _⟩ => ⟨S8320x64x256, .f32⟩
  | .hbm, ⟨20, _⟩ => ⟨S8320x64x256, .f32⟩
  | .hbm, ⟨21, _⟩ => ⟨S8320x64x1, .f32⟩
  | .hbm, ⟨22, _⟩ => ⟨S8320x64x256, .f32⟩
  | .hbm, ⟨23, _⟩ => ⟨S8320x64x256, .f32⟩
  | .hbm, ⟨24, _⟩ => ⟨S64x256x2048, .f32⟩
  | .hbm, ⟨25, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]
-- ==== KernelMerge.lean ====
abbrev S8320x2048 : Shape := ⟨2, ![8320, 2048]⟩
abbrev S1x2048x2048 : Shape := ⟨3, ![1, 2048, 2048]⟩
abbrev S8320x4096 : Shape := ⟨2, ![8320, 4096]⟩
abbrev S1x2x2048 : Shape := ⟨3, ![1, 2, 2048]⟩
abbrev S2048x2048 : Shape := ⟨2, ![2048, 2048]⟩
abbrev S2x2048 : Shape := ⟨2, ![2, 2048]⟩
abbrev S832x2048 : Shape := ⟨2, ![832, 2048]⟩
abbrev S2048x512 : Shape := ⟨2, ![2048, 512]⟩
abbrev S832x512 : Shape := ⟨2, ![832, 512]⟩
abbrev S2x512 : Shape := ⟨2, ![2, 512]⟩
abbrev S1x512 : Shape := ⟨2, ![1, 512]⟩

abbrev nBuf : Space → Nat
  | .hbm => 12
  | .vmem => 16
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S1x2048x2048, .f32⟩
  | .hbm, ⟨3, _⟩ => ⟨S1x2048x2048, .f32⟩
  | .hbm, ⟨4, _⟩ => ⟨S8320x4096, .f32⟩
  | .hbm, ⟨5, _⟩ => ⟨S1x2x2048, .f32⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x2048, .bf16⟩
  | .hbm, ⟨10, _⟩ => ⟨S2x2048, .f32⟩
  | .hbm, ⟨11, _⟩ => ⟨S8320x2048, .bf16⟩
  | .local _ .vmem, ⟨0, _⟩ => ⟨S832x2048, .bf16⟩
  | .local _ .vmem, ⟨1, _⟩ => ⟨S832x2048, .bf16⟩
  | .local _ .vmem, ⟨2, _⟩ => ⟨S832x2048, .bf16⟩
  | .local _ .vmem, ⟨3, _⟩ => ⟨S832x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S832x512, .f32⟩
  | .local _ .vmem, ⟨9, _⟩ => ⟨S832x512, .f32⟩
  | .local _ .vmem, ⟨10, _⟩ => ⟨S832x512, .f32⟩
  | .local _ .vmem, ⟨11, _⟩ => ⟨S832x512, .f32⟩
  | .local _ .vmem, ⟨12, _⟩ => ⟨S2x512, .f32⟩
  | .local _ .vmem, ⟨13, _⟩ => ⟨S2x512, .f32⟩
  | .local _ .vmem, ⟨14, _⟩ => ⟨S832x512, .bf16⟩
  | .local _ .vmem, ⟨15, _⟩ => ⟨S832x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![10, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S832x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S832x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S832x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S832x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S832x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceMergeIdeal.lean ====
abbrev S8320x2048 : Shape := ⟨2, ![8320, 2048]⟩
abbrev S1x2048x2048 : Shape := ⟨3, ![1, 2048, 2048]⟩
abbrev S8320x4096 : Shape := ⟨2, ![8320, 4096]⟩
abbrev S1x2x2048 : Shape := ⟨3, ![1, 2, 2048]⟩
abbrev S1x1x2048 : Shape := ⟨3, ![1, 1, 2048]⟩
abbrev S2048 : Shape := ⟨1, ![2048]⟩
abbrev S1x2048 : Shape := ⟨2, ![1, 2048]⟩
abbrev S_ : Shape := ⟨0, ![]⟩
abbrev S2048x2048 : Shape := ⟨2, ![2048, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S1x2048x2048, .f32⟩
  | .hbm, ⟨3, _⟩ => ⟨S1x2048x2048, .f32⟩
  | .hbm, ⟨4, _⟩ => ⟨S8320x4096, .f32⟩
  | .hbm, ⟨5, _⟩ => ⟨S1x2x2048, .f32⟩
  | .hbm, ⟨6, _⟩ => ⟨S8320x2048, .f32⟩
  | .hbm, ⟨7, _⟩ => ⟨S8320x2048, .f32⟩
  | .hbm, ⟨8, _⟩ => ⟨S8320x2048, .f32⟩
  | .hbm, ⟨9, _⟩ => ⟨S8320x2048, .f32⟩
  | .hbm, ⟨10, _⟩ => ⟨S1x1x2048, .f32⟩
  | .hbm, ⟨11, _⟩ => ⟨S2048, .f32⟩
  | .hbm, ⟨12, _⟩ => ⟨S1x2048, .f32⟩
  | .hbm, ⟨13, _⟩ => ⟨S8320x2048, .f32⟩
  | .hbm, ⟨14, _⟩ => ⟨S8320x2048, .f32⟩
  | .hbm, ⟨15, _⟩ => ⟨S8320x2048, .f32⟩
  | .hbm, ⟨16, _⟩ => ⟨S8320x2048, .f32⟩
  | .hbm, ⟨17, _⟩ => ⟨S_, .f32⟩
  | .hbm, ⟨18, _⟩ => ⟨S8320x2048, .f32⟩
  | .hbm, ⟨19, _⟩ => ⟨S8320x2048, .f32⟩
  | .hbm, ⟨20, _⟩ => ⟨S_, .f32⟩
  | .hbm, ⟨21, _⟩ => ⟨S8320x2048, .f32⟩
  | .hbm, ⟨22, _⟩ => ⟨S8320x2048, .f32⟩
  | .hbm, ⟨23, _⟩ => ⟨S2048x2048, .f32⟩
  | .hbm, ⟨24, _⟩ => ⟨S8320x2048, .f32⟩
  | .hbm, ⟨25, _⟩ => ⟨S8320x2048, .f32⟩
  | .hbm, ⟨26, _⟩ => ⟨S1x1x2048, .f32⟩
  | .hbm, ⟨27, _⟩ => ⟨S2048, .f32⟩
  | .hbm, ⟨28, _⟩ => ⟨S1x2048, .f32⟩
  | .hbm, ⟨29, _⟩ => ⟨S8320x2048, .f32⟩
  | .hbm, ⟨30, _⟩ => ⟨S8320x2048, .f32⟩
  | .hbm, ⟨31, _⟩ => ⟨S8320x2048, .f32⟩
  | .hbm, ⟨32, _⟩ => ⟨S8320x2048, .f32⟩
  | .hbm, ⟨33, _⟩ => ⟨S_, .f32⟩
  | .hbm, ⟨34, _⟩ => ⟨S8320x2048, .f32⟩
  | .hbm, ⟨35, _⟩ => ⟨S8320x2048, .f32⟩
  | .hbm, ⟨36, _⟩ => ⟨S_, .f32⟩
  | .hbm, ⟨37, _⟩ => ⟨S8320x2048, .f32⟩
  | .hbm, ⟨38, _⟩ => ⟨S8320x2048, .f32⟩
  | .hbm, ⟨39, _⟩ => ⟨S2048x2048, .f32⟩
  | .hbm, ⟨40, _⟩ => ⟨S8320x2048, .f32⟩
  | .hbm, ⟨41, _⟩ => ⟨S8320x2048, .f32⟩
  | .hbm, ⟨42, _⟩ => ⟨S8320x2048, .f32⟩
  | .hbm, ⟨43, _⟩ => ⟨S8320x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== KernelMixNorm.lean ====
abbrev S8320x2048 : Shape := ⟨2, ![8320, 2048]⟩
abbrev S1x2048x2048 : Shape := ⟨3, ![1, 2048, 2048]⟩
abbrev S1x8192x2048 : Shape := ⟨3, ![1, 8192, 2048]⟩
abbrev S32x4x2048 : Shape := ⟨3, ![32, 4, 2048]⟩
abbrev S1x2048 : Shape := ⟨2, ![1, 2048]⟩
abbrev S2048x2048 : Shape := ⟨2, ![2048, 2048]⟩
abbrev S8192x2048 : Shape := ⟨2, ![8192, 2048]⟩
abbrev S128x2048 : Shape := ⟨2, ![128, 2048]⟩
abbrev S2048 : Shape := ⟨1, ![2048]⟩
abbrev S416x2048 : Shape := ⟨2, ![416, 2048]⟩
abbrev S416 : Shape := ⟨1, ![416]⟩
abbrev S416x1 : Shape := ⟨2, ![416, 1]⟩

abbrev nBuf : Space → Nat
  | .hbm => 17
  | .vmem => 11
  | .smem => 0
  | _ => 0

abbrev bufTy : (tb : Table) → Fin (tcTables nBuf tb) → BufTy
  | .hbm, ⟨0, _⟩ => ⟨S8320x2048, .bf16⟩
  | .hbm, ⟨1, _⟩ => ⟨S1x2048x2048, .f32⟩
  | .hbm, ⟨2, _⟩ => ⟨S1x8192x2048, .f32⟩
  | .hbm, ⟨3, _⟩ => ⟨S32x4x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S8192x2048, .f32⟩
  | .hbm, ⟨9, _⟩ => ⟨S128x2048, .f32⟩
  | .hbm, ⟨10, _⟩ => ⟨S8320x2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S8320x2048, .f32⟩
  | .hbm, ⟨16, _⟩ => ⟨S8320x2048, .bf16⟩
  | .local _ .vmem, ⟨0, _⟩ => ⟨S416x2048, .bf16⟩
  | .local _ .vmem, ⟨1, _⟩ => ⟨S416x2048, .bf16⟩
  | .local _ .vmem, ⟨2, _⟩ => ⟨S2048x2048, .bf16⟩
  | .local _ .vmem, ⟨3, _⟩ => ⟨S416x2048, .f32⟩
  | .local _ .vmem, ⟨4, _⟩ => ⟨S416x2048, .f32⟩
  | .local _ .vmem, ⟨5, _⟩ => ⟨S1x2048, .f32⟩
  | .local _ .vmem, ⟨6, _⟩ => ⟨S1x2048, .f32⟩
  | .local _ .vmem, ⟨7, _⟩ => ⟨S416x2048, .f32⟩
  | .local _ .vmem, ⟨8, _⟩ => ⟨S416x2048, .f32⟩
  | .local _ .vmem, ⟨9, _⟩ => ⟨S416x2048, .bf16⟩
  | .local _ .vmem, ⟨10, _⟩ => ⟨S416x2048, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S416x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S416x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceMixNormIdeal.lean ====
abbrev S8320x2048 : Shape := ⟨2, ![8320, 2048]⟩
abbrev S1x2048x2048 : Shape := ⟨3, ![1, 2048, 2048]⟩
abbrev S1x8192x2048 : Shape := ⟨3, ![1, 8192, 2048]⟩
abbrev S32x4x2048 : Shape := ⟨3, ![32, 4, 2048]⟩
abbrev S1x2048 : Shape := ⟨2, ![1, 2048]⟩
abbrev S8192x2048 : Shape := ⟨2, ![8192, 2048]⟩
abbrev S128x2048 : Shape := ⟨2, ![128, 2048]⟩
abbrev S_ : Shape := ⟨0, ![]⟩
abbrev S2048x2048 : Shape := ⟨2, ![2048, 2048]⟩
abbrev S2048 : Shape := ⟨1, ![2048]⟩
abbrev S8320 : Shape := ⟨1, ![8320]⟩
abbrev S8320x1 : Shape := ⟨2, ![8320, 1]⟩

abbrev nBuf : Space → Nat
  | .hbm => 48
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1x2048x2048, .f32⟩
  | .hbm, ⟨2, _⟩ => ⟨S1x8192x2048, .f32⟩
  | .hbm, ⟨3, _⟩ => ⟨S32x4x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S128x2048, .f32⟩
  | .hbm, ⟨8, _⟩ => ⟨S8320x2048, .f32⟩
  | .hbm, ⟨9, _⟩ => ⟨S_, .f32⟩
  | .hbm, ⟨10, _⟩ => ⟨S8320x2048, .f32⟩
  | .hbm, ⟨11, _⟩ => ⟨S8320x2048, .f32⟩
  | .hbm, ⟨12, _⟩ => ⟨S8320x2048, .f32⟩
  | .hbm, ⟨13, _⟩ => ⟨S2048x2048, .f32⟩
  | .hbm, ⟨14, _⟩ => ⟨S8320x2048, .f32⟩
  | .hbm, ⟨15, _⟩ => ⟨S8320x2048, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S8320, .f32⟩
  | .hbm, ⟨20, _⟩ => ⟨S8320x1, .f32⟩
  | .hbm, ⟨21, _⟩ => ⟨S_, .f32⟩
  | .hbm, ⟨22, _⟩ => ⟨S8320x1, .f32⟩
  | .hbm, ⟨23, _⟩ => ⟨S8320x1, .f32⟩
  | .hbm, ⟨24, _⟩ => ⟨S8320x2048, .f32⟩
  | .hbm, ⟨25, _⟩ => ⟨S8320x2048, .f32⟩
  | .hbm, ⟨26, _⟩ => ⟨S8320x2048, .f32⟩
  | .hbm, ⟨27, _⟩ => ⟨S_, .f32⟩
  | .hbm, ⟨28, _⟩ => ⟨S8320, .f32⟩
  | .hbm, ⟨29, _⟩ => ⟨S8320x1, .f32⟩
  | .hbm, ⟨30, _⟩ => ⟨S_, .f32⟩
  | .hbm, ⟨31, _⟩ => ⟨S8320x1, .f32⟩
  | .hbm, ⟨32, _⟩ => ⟨S8320x1, .f32⟩
  | .hbm, ⟨33, _⟩ => ⟨S8320x2048, .f32⟩
  | .hbm, ⟨34, _⟩ => ⟨S8320x2048, .f32⟩
  | .hbm, ⟨35, _⟩ => ⟨S_, .f32⟩
  | .hbm, ⟨36, _⟩ => ⟨S8320x1, .f32⟩
  | .hbm, ⟨37, _⟩ => ⟨S8320x1, .f32⟩
  | .hbm, ⟨38, _⟩ => ⟨S8320x1, .f32⟩
  | .hbm, ⟨39, _⟩ => ⟨S8320x2048, .f32⟩
  | .hbm, ⟨40, _⟩ => ⟨S8320x2048, .f32⟩
  | .hbm, ⟨41, _⟩ => ⟨S1x2048, .f32⟩
  | .hbm, ⟨42, _⟩ => ⟨S8320x2048, .f32⟩
  | .hbm, ⟨43, _⟩ => ⟨S8320x2048, .f32⟩
  | .hbm, ⟨44, _⟩ => ⟨S1x2048, .f32⟩
  | .hbm, ⟨45, _⟩ => ⟨S8320x2048, .f32⟩
  | .hbm, ⟨46, _⟩ => ⟨S8320x2048, .f32⟩
  | .hbm, ⟨47, _⟩ => ⟨S8320x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== KernelPle.lean ====
abbrev S8320x2048 : Shape := ⟨2, ![8320, 2048]⟩
abbrev S1x2048x2048 : Shape := ⟨3, ![1, 2048, 2048]⟩
abbrev S1x1x8192x256 : Shape := ⟨4, ![1, 1, 8192, 256]⟩
abbrev S1x32x4x256 : Shape := ⟨4, ![1, 32, 4, 256]⟩
abbrev S1x256x2048 : Shape := ⟨3, ![1, 256, 2048]⟩
abbrev S1x8192x256 : Shape := ⟨3, ![1, 8192, 256]⟩
abbrev S32x4x256 : Shape := ⟨3, ![32, 4, 256]⟩
abbrev S8192x256 : Shape := ⟨2, ![8192, 256]⟩
abbrev S128x256 : Shape := ⟨2, ![128, 256]⟩
abbrev S8320x256 : Shape := ⟨2, ![8320, 256]⟩
abbrev S2048x2048 : Shape := ⟨2, ![2048, 2048]⟩
abbrev S256x2048 : Shape := ⟨2, ![256, 2048]⟩
abbrev S832x2048 : Shape := ⟨2, ![832, 2048]⟩
abbrev S2048x1024 : Shape := ⟨2, ![2048, 1024]⟩
abbrev S832x256 : Shape := ⟨2, ![832, 256]⟩
abbrev S256x1024 : Shape := ⟨2, ![256, 1024]⟩
abbrev S832x1024 : Shape := ⟨2, ![832, 1024]⟩

abbrev nBuf : Space → Nat
  | .hbm => 16
  | .vmem => 10
  | .smem => 0
  | _ => 0

abbrev bufTy : (tb : Table) → Fin (tcTables nBuf tb) → BufTy
  | .hbm, ⟨0, _⟩ => ⟨S8320x2048, .bf16⟩
  | .hbm, ⟨1, _⟩ => ⟨S1x2048x2048, .f32⟩
  | .hbm, ⟨2, _⟩ => ⟨S1x1x8192x256, .f32⟩
  | .hbm, ⟨3, _⟩ => ⟨S1x32x4x256, .f32⟩
  | .hbm, ⟨4, _⟩ => ⟨S1x256x2048, .f32⟩
  | .hbm, ⟨5, _⟩ => ⟨S1x8192x256, .f32⟩
  | .hbm, ⟨6, _⟩ => ⟨S32x4x256, .f32⟩
  | .hbm, ⟨7, _⟩ => ⟨S8192x256, .f32⟩
  | .hbm, ⟨8, _⟩ => ⟨S128x256, .f32⟩
  | .hbm, ⟨9, _⟩ => ⟨S8320x256, .f32⟩
  | .hbm, ⟨10, _⟩ => ⟨S8320x256, .bf16⟩
  | .hbm, ⟨11, _⟩ => ⟨S2048x2048, .f32⟩
  | .hbm, ⟨12, _⟩ => ⟨S2048x2048, .bf16⟩
  | .hbm, ⟨13, _⟩ => ⟨S256x2048, .f32⟩
  | .hbm, ⟨14, _⟩ => ⟨S256x2048, .bf16⟩
  | .hbm, ⟨15, _⟩ => ⟨S8320x2048, .bf16⟩
  | .local _ .vmem, ⟨0, _⟩ => ⟨S832x2048, .bf16⟩
  | .local _ .vmem, ⟨1, _⟩ => ⟨S832x2048, .bf16⟩
  | .local _ .vmem, ⟨2, _⟩ => ⟨S2048x1024, .bf16⟩
  | .local _ .vmem, ⟨3, _⟩ => ⟨S2048x1024, .bf16⟩
  | .local _ .vmem, ⟨4, _⟩ => ⟨S832x256, .bf16⟩
  | .local _ .vmem, ⟨5, _⟩ => ⟨S832x256, .bf16⟩
  | .local _ .vmem, ⟨6, _⟩ => ⟨S256x1024, .bf16⟩
  | .local _ .vmem, ⟨7, _⟩ => ⟨S256x1024, .bf16⟩
  | .local _ .vmem, ⟨8, _⟩ => ⟨S832x1024, .bf16⟩
  | .local _ .vmem, ⟨9, _⟩ => ⟨S832x1024, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![10, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S832x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S832x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S832x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferencePleIdeal.lean ====
abbrev S8320x2048 : Shape := ⟨2, ![8320, 2048]⟩
abbrev S1x2048x2048 : Shape := ⟨3, ![1, 2048, 2048]⟩
abbrev S1x1x8192x256 : Shape := ⟨4, ![1, 1, 8192, 256]⟩
abbrev S1x32x4x256 : Shape := ⟨4, ![1, 32, 4, 256]⟩
abbrev S1x256x2048 : Shape := ⟨3, ![1, 256, 2048]⟩
abbrev S8192x256 : Shape := ⟨2, ![8192, 256]⟩
abbrev S128x256 : Shape := ⟨2, ![128, 256]⟩
abbrev S8320x256 : Shape := ⟨2, ![8320, 256]⟩
abbrev S2048x2048 : Shape := ⟨2, ![2048, 2048]⟩
abbrev S_ : Shape := ⟨0, ![]⟩
abbrev S256x2048 : Shape := ⟨2, ![256, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1x2048x2048, .f32⟩
  | .hbm, ⟨2, _⟩ => ⟨S1x1x8192x256, .f32⟩
  | .hbm, ⟨3, _⟩ => ⟨S1x32x4x256, .f32⟩
  | .hbm, ⟨4, _⟩ => ⟨S1x256x2048, .f32⟩
  | .hbm, ⟨5, _⟩ => ⟨S8320x2048, .f32⟩
  | .hbm, ⟨6, _⟩ => ⟨S8192x256, .f32⟩
  | .hbm, ⟨7, _⟩ => ⟨S128x256, .f32⟩
  | .hbm, ⟨8, _⟩ => ⟨S8320x256, .f32⟩
  | .hbm, ⟨9, _⟩ => ⟨S2048x2048, .f32⟩
  | .hbm, ⟨10, _⟩ => ⟨S8320x2048, .f32⟩
  | .hbm, ⟨11, _⟩ => ⟨S8320x2048, .f32⟩
  | .hbm, ⟨12, _⟩ => ⟨S8320x2048, .f32⟩
  | .hbm, ⟨13, _⟩ => ⟨S_, .f32⟩
  | .hbm, ⟨14, _⟩ => ⟨S8320x2048, .f32⟩
  | .hbm, ⟨15, _⟩ => ⟨S8320x2048, .f32⟩
  | .hbm, ⟨16, _⟩ => ⟨S_, .f32⟩
  | .hbm, ⟨17, _⟩ => ⟨S8320x2048, .f32⟩
  | .hbm, ⟨18, _⟩ => ⟨S8320x2048, .f32⟩
  | .hbm, ⟨19, _⟩ => ⟨S256x2048, .f32⟩
  | .hbm, ⟨20, _⟩ => ⟨S8320x2048, .f32⟩
  | .hbm, ⟨21, _⟩ => ⟨S8320x2048, .f32⟩
  | .hbm, ⟨22, _⟩ => ⟨S8320x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelFinal.lean ====
abbrev S8320x2048 : Shape := ⟨2, ![8320, 2048]⟩
abbrev S1x2048x256 : Shape := ⟨3, ![1, 2048, 256]⟩
abbrev S1x256x2048 : Shape := ⟨3, ![1, 256, 2048]⟩
abbrev S1x2048 : Shape := ⟨2, ![1, 2048]⟩
abbrev S2048x256 : Shape := ⟨2, ![2048, 256]⟩
abbrev S256x2048 : Shape := ⟨2, ![256, 2048]⟩
abbrev S2048 : Shape := ⟨1, ![2048]⟩
abbrev S416x2048 : Shape := ⟨2, ![416, 2048]⟩
abbrev S416x256 : Shape := ⟨2, ![416, 256]⟩
abbrev S416 : Shape := ⟨1, ![416]⟩
abbrev S416x1 : Shape := ⟨2, ![416, 1]⟩

abbrev nBuf : Space → Nat
  | .hbm => 20
  | .vmem => 15
  | .smem => 0
  | _ => 0

abbrev bufTy : (tb : Table) → Fin (tcTables nBuf tb) → BufTy
  | .hbm, ⟨0, _⟩ => ⟨S8320x2048, .f32⟩
  | .hbm, ⟨1, _⟩ => ⟨S8320x2048, .bf16⟩
  | .hbm, ⟨2, _⟩ => ⟨S8320x2048, .f32⟩
  | .hbm, ⟨3, _⟩ => ⟨S8320x2048, .bf16⟩
  | .hbm, ⟨4, _⟩ => ⟨S1x2048x256, .f32⟩
  | .hbm, ⟨5, _⟩ => ⟨S1x2048x256, .f32⟩
  | .hbm, ⟨6, _⟩ => ⟨S1x256x2048, .f32⟩
  | .hbm, ⟨7, _⟩ => ⟨S1x2048, .f32⟩
  | .hbm, ⟨8, _⟩ => ⟨S1x2048, .f32⟩
  | .hbm, ⟨9, _⟩ => ⟨S2048x256, .f32⟩
  | .hbm, ⟨10, _⟩ => ⟨S2048x256, .bf16⟩
  | .hbm, ⟨11, _⟩ => ⟨S2048x256, .f32⟩
  | .hbm, ⟨12, _⟩ => ⟨S2048x256, .bf16⟩
  | .hbm, ⟨13, _⟩ => ⟨S256x2048, .f32⟩
  | .hbm, ⟨14, _⟩ => ⟨S256x2048, .bf16⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S8320x2048, .f32⟩
  | .local _ .vmem, ⟨0, _⟩ => ⟨S416x2048, .f32⟩
  | .local _ .vmem, ⟨1, _⟩ => ⟨S416x2048, .f32⟩
  | .local _ .vmem, ⟨2, _⟩ => ⟨S416x2048, .bf16⟩
  | .local _ .vmem, ⟨3, _⟩ => ⟨S416x2048, .bf16⟩
  | .local _ .vmem, ⟨4, _⟩ => ⟨S416x2048, .f32⟩
  | .local _ .vmem, ⟨5, _⟩ => ⟨S416x2048, .f32⟩
  | .local _ .vmem, ⟨6, _⟩ => ⟨S416x2048, .bf16⟩
  | .local _ .vmem, ⟨7, _⟩ => ⟨S416x2048, .bf16⟩
  | .local _ .vmem, ⟨8, _⟩ => ⟨S2048x256, .bf16⟩
  | .local _ .vmem, ⟨9, _⟩ => ⟨S2048x256, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | .local _ .vmem, ⟨13, _⟩ => ⟨S416x2048, .f32⟩
  | .local _ .vmem, ⟨14, _⟩ => ⟨S416x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S416x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFinalIdeal.lean ====
abbrev S8320x2048 : Shape := ⟨2, ![8320, 2048]⟩
abbrev S1x2048x256 : Shape := ⟨3, ![1, 2048, 256]⟩
abbrev S1x256x2048 : Shape := ⟨3, ![1, 256, 2048]⟩
abbrev S1x2048 : Shape := ⟨2, ![1, 2048]⟩
abbrev S2048x256 : Shape := ⟨2, ![2048, 256]⟩
abbrev S8320x256 : Shape := ⟨2, ![8320, 256]⟩
abbrev S_ : Shape := ⟨0, ![]⟩
abbrev S256x2048 : Shape := ⟨2, ![256, 2048]⟩
abbrev S2048 : Shape := ⟨1, ![2048]⟩
abbrev S8320 : Shape := ⟨1, ![8320]⟩
abbrev S8320x1 : Shape := ⟨2, ![8320, 1]⟩

abbrev nBuf : Space → Nat
  | .hbm => 64
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x2048, .bf16⟩
  | .hbm, ⟨2, _⟩ => ⟨S8320x2048, .f32⟩
  | .hbm, ⟨3, _⟩ => ⟨S8320x2048, .bf16⟩
  | .hbm, ⟨4, _⟩ => ⟨S1x2048x256, .f32⟩
  | .hbm, ⟨5, _⟩ => ⟨S1x2048x256, .f32⟩
  | .hbm, ⟨6, _⟩ => ⟨S1x256x2048, .f32⟩
  | .hbm, ⟨7, _⟩ => ⟨S1x2048, .f32⟩
  | .hbm, ⟨8, _⟩ => ⟨S1x2048, .f32⟩
  | .hbm, ⟨9, _⟩ => ⟨S8320x2048, .f32⟩
  | .hbm, ⟨10, _⟩ => ⟨S2048x256, .f32⟩
  | .hbm, ⟨11, _⟩ => ⟨S8320x256, .f32⟩
  | .hbm, ⟨12, _⟩ => ⟨S8320x256, .f32⟩
  | .hbm, ⟨13, _⟩ => ⟨S8320x256, .f32⟩
  | .hbm, ⟨14, _⟩ => ⟨S_, .f32⟩
  | .hbm, ⟨15, _⟩ => ⟨S8320x256, .f32⟩
  | .hbm, ⟨16, _⟩ => ⟨S8320x256, .f32⟩
  | .hbm, ⟨17, _⟩ => ⟨S_, .f32⟩
  | .hbm, ⟨18, _⟩ => ⟨S8320x256, .f32⟩
  | .hbm, ⟨19, _⟩ => ⟨S8320x256, .f32⟩
  | .hbm, ⟨20, _⟩ => ⟨S8320x256, .f32⟩
  | .hbm, ⟨21, _⟩ => ⟨S2048x256, .f32⟩
  | .hbm, ⟨22, _⟩ => ⟨S8320x256, .f32⟩
  | .hbm, ⟨23, _⟩ => ⟨S8320x256, .f32⟩
  | .hbm, ⟨24, _⟩ => ⟨S256x2048, .f32⟩
  | .hbm, ⟨25, _⟩ => ⟨S8320x2048, .f32⟩
  | .hbm, ⟨26, _⟩ => ⟨S_, .f32⟩
  | .hbm, ⟨27, _⟩ => ⟨S8320x2048, .f32⟩
  | .hbm, ⟨28, _⟩ => ⟨S8320x2048, .f32⟩
  | .hbm, ⟨29, _⟩ => ⟨S8320x2048, .f32⟩
  | .hbm, ⟨30, _⟩ => ⟨S8320x2048, .f32⟩
  | .hbm, ⟨31, _⟩ => ⟨S8320x2048, .f32⟩
  | .hbm, ⟨32, _⟩ => ⟨S8320x2048, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S8320, .f32⟩
  | .hbm, ⟨37, _⟩ => ⟨S8320x1, .f32⟩
  | .hbm, ⟨38, _⟩ => ⟨S_, .f32⟩
  | .hbm, ⟨39, _⟩ => ⟨S8320x1, .f32⟩
  | .hbm, ⟨40, _⟩ => ⟨S8320x1, .f32⟩
  | .hbm, ⟨41, _⟩ => ⟨S8320x2048, .f32⟩
  | .hbm, ⟨42, _⟩ => ⟨S8320x2048, .f32⟩
  | .hbm, ⟨43, _⟩ => ⟨S8320x2048, .f32⟩
  | .hbm, ⟨44, _⟩ => ⟨S_, .f32⟩
  | .hbm, ⟨45, _⟩ => ⟨S8320, .f32⟩
  | .hbm, ⟨46, _⟩ => ⟨S8320x1, .f32⟩
  | .hbm, ⟨47, _⟩ => ⟨S_, .f32⟩
  | .hbm, ⟨48, _⟩ => ⟨S8320x1, .f32⟩
  | .hbm, ⟨49, _⟩ => ⟨S8320x1, .f32⟩
  | .hbm, ⟨50, _⟩ => ⟨S8320x2048, .f32⟩
  | .hbm, ⟨51, _⟩ => ⟨S8320x2048, .f32⟩
  | .hbm, ⟨52, _⟩ => ⟨S_, .f32⟩
  | .hbm, ⟨53, _⟩ => ⟨S8320x1, .f32⟩
  | .hbm, ⟨54, _⟩ => ⟨S8320x1, .f32⟩
  | .hbm, ⟨55, _⟩ => ⟨S8320x1, .f32⟩
  | .hbm, ⟨56, _⟩ => ⟨S8320x2048, .f32⟩
  | .hbm, ⟨57, _⟩ => ⟨S8320x2048, .f32⟩
  | .hbm, ⟨58, _⟩ => ⟨S1x2048, .f32⟩
  | .hbm, ⟨59, _⟩ => ⟨S8320x2048, .f32⟩
  | .hbm, ⟨60, _⟩ => ⟨S8320x2048, .f32⟩
  | .hbm, ⟨61, _⟩ => ⟨S1x2048, .f32⟩
  | .hbm, ⟨62, _⟩ => ⟨S8320x2048, .f32⟩
  | .hbm, ⟨63, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== KernelForgetPrompt.lean ====
abbrev S8320x128 : Shape := ⟨2, ![8320, 128]⟩
abbrev S1x16 : Shape := ⟨2, ![1, 16]⟩
abbrev S16 : Shape := ⟨1, ![16]⟩
abbrev S_ : Shape := ⟨0, ![]⟩
abbrev S128 : Shape := ⟨1, ![128]⟩
abbrev S1x128 : Shape := ⟨2, ![1, 128]⟩
abbrev S8192x128 : Shape := ⟨2, ![8192, 128]⟩
abbrev S256x128 : Shape := ⟨2, ![256, 128]⟩
abbrev S256x256 : Shape := ⟨2, ![256, 256]⟩

abbrev nBuf : Space → Nat
  | .hbm => 9
  | .vmem => 8
  | .smem => 0
  | _ => 0

abbrev bufTy : (tb : Table) → Fin (tcTables nBuf tb) → BufTy
  | .hbm, ⟨0, _⟩ => ⟨S8320x128, .f32⟩
  | .hbm, ⟨1, _⟩ => ⟨S1x16, .f32⟩
  | .hbm, ⟨2, _⟩ => ⟨S16, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S8192x128, .f32⟩
  | .hbm, ⟨8, _⟩ => ⟨S8192x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S1x128, .f32⟩
  | _, _ => ⟨S8320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceForgetPromptIdeal.lean ====
abbrev S8320x128 : Shape := ⟨2, ![8320, 128]⟩
abbrev S1x16 : Shape := ⟨2, ![1, 16]⟩
abbrev S8192x128 : Shape := ⟨2, ![8192, 128]⟩
abbrev S16 : Shape := ⟨1, ![16]⟩
abbrev S_ : Shape := ⟨0, ![]⟩
abbrev S128 : Shape := ⟨1, ![128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S8320x128, .f32⟩
  | .hbm, ⟨1, _⟩ => ⟨S1x16, .f32⟩
  | .hbm, ⟨2, _⟩ => ⟨S8192x128, .f32⟩
  | .hbm, ⟨3, _⟩ => ⟨S16, .f32⟩
  | .hbm, ⟨4, _⟩ => ⟨S_, .i32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .i1⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S_, .f32⟩
  | .hbm, ⟨27, _⟩ => ⟨S_, .f32⟩
  | .hbm, ⟨28, _⟩ => ⟨S8192x128, .f32⟩
  | _, _ => ⟨S8320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call1_v0 : Ref sig .tc := ⟨.hbm, 10, rfl⟩
abbrev main_call1_call0_cst : Ref sig .tc := ⟨.hbm, 11, rfl⟩
abbrev main_call1_call0_v0 : Ref sig .tc := ⟨.hbm, 12, rfl⟩
abbrev main_call1_call0_v1 : Ref sig .tc := ⟨.hbm, 13, rfl⟩
abbrev main_call1_call0_v2 : Ref sig .tc := ⟨.hbm, 14, rfl⟩
abbrev main_call1_call0_v3 : Ref sig .tc := ⟨.hbm, 15, rfl⟩
abbrev main_call1_call0_v4 : Ref sig .tc := ⟨.hbm, 16, rfl⟩
abbrev main_call1_call0_v5 : Ref sig .tc := ⟨.hbm, 17, rfl⟩
abbrev main_call1_call0_v6 : Ref sig .tc := ⟨.hbm, 18, rfl⟩
abbrev main_call1_call0_v7 : Ref sig .tc := ⟨.hbm, 19, rfl⟩
abbrev main_call1_call0_v8 : Ref sig .tc := ⟨.hbm, 20, rfl⟩
abbrev main_call1_call0_v9 : Ref sig .tc := ⟨.hbm, 21, rfl⟩
abbrev main_call1_call0_v10 : Ref sig .tc := ⟨.hbm, 22, rfl⟩
abbrev main_call1_call0_v11 : Ref sig .tc := ⟨.hbm, 23, rfl⟩
abbrev main_call1_v1 : Ref sig .tc := ⟨.hbm, 24, rfl⟩
abbrev main_v6 : Ref sig .tc := ⟨.hbm, 25, rfl⟩
abbrev main_call2_call0_cst : Ref sig .tc := ⟨.hbm, 26, rfl⟩
abbrev main_call2_call0_v0 : Ref sig .tc := ⟨.hbm, 27, rfl⟩
abbrev main_v7 : Ref sig .tc := ⟨.hbm, 28, rfl⟩

abbrev nD : Nat := 1
abbrev τ : Topo := Topo.v7x

variable {F : FTy → Type} [FloatOps F]
-- ==== KernelForgetSample.lean ====
abbrev S8320x128 : Shape := ⟨2, ![8320, 128]⟩
abbrev S1x16 : Shape := ⟨2, ![1, 16]⟩
abbrev S16 : Shape := ⟨1, ![16]⟩
abbrev S_ : Shape := ⟨0, ![]⟩
abbrev S128 : Shape := ⟨1, ![128]⟩
abbrev S1x128 : Shape := ⟨2, ![1, 128]⟩
abbrev S128x128 : Shape := ⟨2, ![128, 128]⟩

abbrev nBuf : Space → Nat
  | .hbm => 10
  | .vmem => 4
  | .smem => 0
  | _ => 0

abbrev bufTy : (tb : Table) → Fin (tcTables nBuf tb) → BufTy
  | .hbm, ⟨0, _⟩ => ⟨S8320x128, .f32⟩
  | .hbm, ⟨1, _⟩ => ⟨S1x16, .f32⟩
  | .hbm, ⟨2, _⟩ => ⟨S16, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S128x128, .f32⟩
  | .hbm, ⟨8, _⟩ => ⟨S128x128, .f32⟩
  | .hbm, ⟨9, _⟩ => ⟨S128x128, .f32⟩
  | .local _ .vmem, ⟨0, _⟩ => ⟨S128x128, .f32⟩
  | .local _ .vmem, ⟨1, _⟩ => ⟨S1x128, .f32⟩
  | .local _ .vmem, ⟨2, _⟩ => ⟨S128x128, .f32⟩
  | .local _ .vmem, ⟨3, _⟩ => ⟨S128x128, .f32⟩
  | _, _ => ⟨S8320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceForgetSampleIdeal.lean ====
abbrev S8320x128 : Shape := ⟨2, ![8320, 128]⟩
abbrev S1x16 : Shape := ⟨2, ![1, 16]⟩
abbrev S128x128 : Shape := ⟨2, ![128, 128]⟩
abbrev S16 : Shape := ⟨1, ![16]⟩
abbrev S_ : Shape := ⟨0, ![]⟩
abbrev S128 : Shape := ⟨1, ![128]⟩
abbrev S1x128 : Shape := ⟨2, ![1, 128]⟩
abbrev S32x4x128 : Shape := ⟨3, ![32, 4, 128]⟩

abbrev nBuf : Space → Nat
  | .hbm => 31
  | .vmem => 0
  | .smem => 0
  | _ => 0

abbrev bufTy : (tb : Table) → Fin (tcTables nBuf tb) → BufTy
  | .hbm, ⟨0, _⟩ => ⟨S8320x128, .f32⟩
  | .hbm, ⟨1, _⟩ => ⟨S1x16, .f32⟩
  | .hbm, ⟨2, _⟩ => ⟨S128x128, .f32⟩
  | .hbm, ⟨3, _⟩ => ⟨S16, .f32⟩
  | .hbm, ⟨4, _⟩ => ⟨S_, .i32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S_, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S128x128, .i1⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S32x4x128, .f32⟩
  | .hbm, ⟨27, _⟩ => ⟨S_, .f32⟩
  | .hbm, ⟨28, _⟩ => ⟨S_, .f32⟩
  | .hbm, ⟨29, _⟩ => ⟨S32x4x128, .f32⟩
  | .hbm, ⟨30, _⟩ => ⟨S128x128, .f32⟩
  | _, _ => ⟨S8320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call1_v0 : Ref sig .tc := ⟨.hbm, 10, rfl⟩
abbrev main_call1_call0_cst : Ref sig .tc := ⟨.hbm, 11, rfl⟩
abbrev main_call1_call0_v0 : Ref sig .tc := ⟨.hbm, 12, rfl⟩
abbrev main_call1_call0_v1 : Ref sig .tc := ⟨.hbm, 13, rfl⟩
abbrev main_call1_call0_v2 : Ref sig .tc := ⟨.hbm, 14, rfl⟩
abbrev main_call1_call0_v3 : Ref sig .tc := ⟨.hbm, 15, rfl⟩
abbrev main_call1_call0_v4 : Ref sig .tc := ⟨.hbm, 16, rfl⟩
abbrev main_call1_call0_v5 : Ref sig .tc := ⟨.hbm, 17, rfl⟩
abbrev main_call1_call0_v6 : Ref sig .tc := ⟨.hbm, 18, rfl⟩
abbrev main_call1_call0_v7 : Ref sig .tc := ⟨.hbm, 19, rfl⟩
abbrev main_call1_call0_v8 : Ref sig .tc := ⟨.hbm, 20, rfl⟩
abbrev main_call1_call0_v9 : Ref sig .tc := ⟨.hbm, 21, rfl⟩
abbrev main_call1_call0_v10 : Ref sig .tc := ⟨.hbm, 22, rfl⟩
abbrev main_call1_call0_v11 : Ref sig .tc := ⟨.hbm, 23, rfl⟩
abbrev main_call1_v1 : Ref sig .tc := ⟨.hbm, 24, rfl⟩
abbrev main_v6 : Ref sig .tc := ⟨.hbm, 25, rfl⟩
abbrev main_v7 : Ref sig .tc := ⟨.hbm, 26, rfl⟩
abbrev main_call2_call0_cst : Ref sig .tc := ⟨.hbm, 27, rfl⟩
abbrev main_call2_call0_v0 : Ref sig .tc := ⟨.hbm, 28, rfl⟩
abbrev main_v8 : Ref sig .tc := ⟨.hbm, 29, rfl⟩
abbrev main_v9 : Ref sig .tc := ⟨.hbm, 30, rfl⟩

abbrev nD : Nat := 1
abbrev τ : Topo := Topo.v7x

variable {F : FTy → Type} [FloatOps F]
-- ==== KernelHgrnPrompt.lean ====
abbrev S8320x14336 : Shape := ⟨2, ![8320, 14336]⟩
abbrev S2x2048 : Shape := ⟨2, ![2, 2048]⟩
abbrev S1x2048 : Shape := ⟨2, ![1, 2048]⟩
abbrev S2048 : Shape := ⟨1, ![2048]⟩
abbrev S8192x2048 : Shape := ⟨2, ![8192, 2048]⟩
abbrev S16x128x128 : Shape := ⟨3, ![16, 128, 128]⟩
abbrev S128x2048 : Shape := ⟨2, ![128, 2048]⟩
abbrev S128x128 : Shape := ⟨2, ![128, 128]⟩
abbrev S256x128 : Shape := ⟨2, ![256, 128]⟩
abbrev S2x128 : Shape := ⟨2, ![2, 128]⟩
abbrev S128 : Shape := ⟨1, ![128]⟩
abbrev S1x128 : Shape := ⟨2, ![1, 128]⟩
abbrev S1x128x128 : Shape := ⟨3, ![1, 128, 128]⟩
abbrev S16x1 : Shape := ⟨2, ![16, 1]⟩
abbrev S16x128 : Shape := ⟨2, ![16, 128]⟩
abbrev S16 : Shape := ⟨1, ![16]⟩
abbrev S128x1 : Shape := ⟨2, ![128, 1]⟩

abbrev nBuf : Space → Nat
  | .hbm => 7
  | .vmem => 14
  | .smem => 0
  | _ => 0

abbrev bufTy : (tb : Table) → Fin (tcTables nBuf tb) → BufTy
  | .hbm, ⟨0, _⟩ => ⟨S8320x14336, .f32⟩
  | .hbm, ⟨1, _⟩ => ⟨S2x2048, .f32⟩
  | .hbm, ⟨2, _⟩ => ⟨S1x2048, .f32⟩
  | .hbm, ⟨3, _⟩ => ⟨S2048, .f32⟩
  | .hbm, ⟨4, _⟩ => ⟨S1x2048, .f32⟩
  | .hbm, ⟨5, _⟩ => ⟨S8192x2048, .bf16⟩
  | .hbm, ⟨6, _⟩ => ⟨S16x128x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S2x2048, .f32⟩
  | .local _ .vmem, ⟨9, _⟩ => ⟨S1x2048, .f32⟩
  | .local _ .vmem, ⟨10, _⟩ => ⟨S128x2048, .bf16⟩
  | .local _ .vmem, ⟨11, _⟩ => ⟨S128x2048, .bf16⟩
  | .local _ .vmem, ⟨12, _⟩ => ⟨S16x128x128, .f32⟩
  | .local _ .vmem, ⟨13, _⟩ => ⟨S16x128x128, .f32⟩
  | _, _ => ⟨S8320x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_16 : BitVec 32 := 0#32
  let c4_i32 : BitVec 32 := 4#32
  let v63 : BitVec 32 := Scalar.addi c0_i32_16 c4_i32
  let c1_i32_17 : BitVec 32 := 1#32
  ⟨c0_i32_16, v63, c1_i32_17⟩
def k0_mult1 (k0_t1 : Fin k0_t1_loop.trips) : BitVec 32 :=
  let c0_i32_16 : BitVec 32 := 0#32
  let c1_i32_17 : BitVec 32 := 1#32
  let arg10 : BitVec 32 := Scf.iv c0_i32_16 c1_i32_17 k0_t1
  let c4_i32_20 : BitVec 32 := 4#32
  let v67 : BitVec 32 := Scalar.muli arg10 c4_i32_20
  let c0_i32_21 : BitVec 32 := 0#32
  let v68 : BitVec 32 := Scalar.addi v67 c0_i32_21
  let c128_i32 : BitVec 32 := 128#32
  let v75 : BitVec 32 := Scalar.muli v68 c128_i32
  v75
def k0_mult2 (k0_t1 : Fin k0_t1_loop.trips) : BitVec 32 :=
  let c0_i32_16 : BitVec 32 := 0#32
  let c1_i32_17 : BitVec 32 := 1#32
  let arg10 : BitVec 32 := Scf.iv c0_i32_16 c1_i32_17 k0_t1
  let c4_i32_22 : BitVec 32 := 4#32
  let v69 : BitVec 32 := Scalar.muli arg10 c4_i32_22
  let c1_i32_23 : BitVec 32 := 1#32
  let v70 : BitVec 32 := Scalar.addi v69 c1_i32_23
  let c128_i32_26 : BitVec 32 := 128#32
  let v77 : BitVec 32 := Scalar.muli v70 c128_i32_26
  v77
def k0_mult3 (k0_t1 : Fin k0_t1_loop.trips) : BitVec 32 :=
  let c0_i32_16 : BitVec 32 := 0#32
  let c1_i32_17 : BitVec 32 := 1#32
  let arg10 : BitVec 32 := Scf.iv c0_i32_16 c1_i32_17 k0_t1
  let c4_i32_24 : BitVec 32 := 4#32
  let v71 : BitVec 32 := Scalar.muli arg10 c4_i32_24
  let c2_i32 : BitVec 32 := 2#32
  let v72 : BitVec 32 := Scalar.addi v71 c2_i32
  let c128_i32_27 : BitVec 32 := 128#32
  let v79 : BitVec 32 := Scalar.muli v72 c128_i32_27
  v79
def k0_mult4 (k0_t1 : Fin k0_t1_loop.trips) : BitVec 32 :=
  let c0_i32_16 : BitVec 32 := 0#32
  let c1_i32_17 : BitVec 32 := 1#32
  let arg10 : BitVec 32 := Scf.iv c0_i32_16 c1_i32_17 k0_t1
  let c4_i32_25 : BitVec 32 := 4#32
  let v73 : BitVec 32 := Scalar.muli arg10 c4_i32_25
  let c3_i32 : BitVec 32 := 3#32
  let v74 : BitVec 32 := Scalar.addi v73 c3_i32
  let c128_i32_28 : BitVec 32 := 128#32
  let v81 : BitVec 32 := Scalar.muli v74 c128_i32_28
  v81
def k0_off1 (k0_t1 : Fin k0_t1_loop.trips) (c0_i32_21 : BitVec 32) : Fin 2 → Nat :=
  let c0 : Index := 0#32
  let c0_i32_16 : BitVec 32 := 0#32
  let c1_i32_17 : BitVec 32 := 1#32
  let arg10 : BitVec 32 := Scf.iv c0_i32_16 c1_i32_17 k0_t1
  let c4_i32_20 : BitVec 32 := 4#32
  let v67 : BitVec 32 := Scalar.muli arg10 c4_i32_20
  let v68 : BitVec 32 := Scalar.addi v67 c0_i32_21
  let c128_i32 : BitVec 32 := 128#32
  let v75 : BitVec 32 := Scalar.muli v68 c128_i32
  let v76 : BitVec 32 := v75
  let v83 : Index := Scalar.indexCast v76
  ![0, v83.toNat]
def k0_off2 (k0_t1 : Fin k0_t1_loop.trips) (c0_i32_21 : BitVec 32) : Fin 2 → Nat :=
  let c0_32 : Index := 0#32
  let c0_i32_16 : BitVec 32 := 0#32
  let c1_i32_17 : BitVec 32 := 1#32
  let arg10 : BitVec 32 := Scf.iv c0_i32_16 c1_i32_17 k0_t1
  let c4_i32_20 : BitVec 32 := 4#32
  let v67 : BitVec 32 := Scalar.muli arg10 c4_i32_20
  let v68 : BitVec 32 := Scalar.addi v67 c0_i32_21
  let c128_i32 : BitVec 32 := 128#32
  let v75 : BitVec 32 := Scalar.muli v68 c128_i32
  let v76 : BitVec 32 := v75
  let v91 : Index := Scalar.indexCast v76
  ![0, v91.toNat]
def k0_off3 (k0_t1 : Fin k0_t1_loop.trips) (c0_i32_21 : BitVec 32) : Fin 2 → Nat :=
  let c0_35 : Index := 0#32
  let c0_i32_16 : BitVec 32 := 0#32
  let c1_i32_17 : BitVec 32 := 1#32
  let arg10 : BitVec 32 := Scf.iv c0_i32_16 c1_i32_17 k0_t1
  let c4_i32_20 : BitVec 32 := 4#32
  let v67 : BitVec 32 := Scalar.muli arg10 c4_i32_20
  let v68 : BitVec 32 := Scalar.addi v67 c0_i32_21
  let c128_i32 : BitVec 32 := 128#32
  let v75 : BitVec 32 := Scalar.muli v68 c128_i32
  let v76 : BitVec 32 := v75
  let v102 : Index := Scalar.indexCast v76
  ![0, v102.toNat]
def k0_off4 (k0_t1 : Fin k0_t1_loop.trips) (c0_i32_21 : BitVec 32) : Fin 3 → Nat :=
  let c0_i32_16 : BitVec 32 := 0#32
  let c1_i32_17 : BitVec 32 := 1#32
  let arg10 : BitVec 32 := Scf.iv c0_i32_16 c1_i32_17 k0_t1
  let c4_i32_20 : BitVec 32 := 4#32
  let v67 : BitVec 32 := Scalar.muli arg10 c4_i32_20
  let v68 : BitVec 32 := Scalar.addi v67 c0_i32_21
  let v105 : Index := Scalar.indexCast v68
  let c0_36 : Index := 0#32
  let c0_37 : Index := 0#32
  ![v105.toNat, 0, 0]
def k0_cond2 (i : grid0.Coords) : BitVec 1 :=
  let arg0 : BitVec 32 := BitVec.ofNat 32 (i 0).val
  let c63_i32 : BitVec 32 := 63#32
  let v64 : BitVec 1 := Scalar.cmpi .eq arg0 c63_i32
  let v65 : BitVec 32 := Scalar.extui v64
  let c0_i32_19 : BitVec 32 := 0#32
  let v66 : BitVec 1 := Scalar.cmpi .ne v65 c0_i32_19
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceHgrnPromptIdeal.lean ====
abbrev S8320x14336 : Shape := ⟨2, ![8320, 14336]⟩
abbrev S2x2048 : Shape := ⟨2, ![2, 2048]⟩
abbrev S1x2048 : Shape := ⟨2, ![1, 2048]⟩
abbrev S8192x2048 : Shape := ⟨2, ![8192, 2048]⟩
abbrev S8192x16x128 : Shape := ⟨3, ![8192, 16, 128]⟩
abbrev S_ : Shape := ⟨0, ![]⟩
abbrev S2048 : Shape := ⟨1, ![2048]⟩
abbrev S16x128 : Shape := ⟨2, ![16, 128]⟩
abbrev S1x16x128 : Shape := ⟨3, ![1, 16, 128]⟩
abbrev S16x128x128 : Shape := ⟨3, ![16, 128, 128]⟩

abbrev nBuf : Space → Nat
  | .hbm => 69
  | .vmem => 0
  | .smem => 0
  | _ => 0

abbrev bufTy : (tb : Table) → Fin (tcTables nBuf tb) → BufTy
  | .hbm, ⟨0, _⟩ => ⟨S8320x14336, .f32⟩
  | .hbm, ⟨1, _⟩ => ⟨S2x2048, .f32⟩
  | .hbm, ⟨2, _⟩ => ⟨S1x2048, .f32⟩
  | .hbm, ⟨3, _⟩ => ⟨S8192x2048, .f32⟩
  | .hbm, ⟨4, _⟩ => ⟨S8192x16x128, .f32⟩
  | .hbm, ⟨5, _⟩ => ⟨S8192x2048, .f32⟩
  | .hbm, ⟨6, _⟩ => ⟨S8192x16x128, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S1x2048, .f32⟩
  | .hbm, ⟨13, _⟩ => ⟨S2x2048, .f32⟩
  | .hbm, ⟨14, _⟩ => ⟨S2x2048, .f32⟩
  | .hbm, ⟨15, _⟩ => ⟨S2x2048, .f32⟩
  | .hbm, ⟨16, _⟩ => ⟨S_, .f32⟩
  | .hbm, ⟨17, _⟩ => ⟨S2048, .f32⟩
  | .hbm, ⟨18, _⟩ => ⟨S1x2048, .f32⟩
  | .hbm, ⟨19, _⟩ => ⟨S2x2048, .f32⟩
  | .hbm, ⟨20, _⟩ => ⟨S2x2048, .f32⟩
  | .hbm, ⟨21, _⟩ => ⟨S_, .f32⟩
  | .hbm, ⟨22, _⟩ => ⟨S_, .f32⟩
  | .hbm, ⟨23, _⟩ => ⟨S2x2048, .f32⟩
  | .hbm, ⟨24, _⟩ => ⟨S1x2048, .f32⟩
  | .hbm, ⟨25, _⟩ => ⟨S2048, .f32⟩
  | .hbm, ⟨26, _⟩ => ⟨S16x128, .f32⟩
  | .hbm, ⟨27, _⟩ => ⟨S_, .f32⟩
  | .hbm, ⟨28, _⟩ => ⟨S16x128, .f32⟩
  | .hbm, ⟨29, _⟩ => ⟨S16x128, .f32⟩
  | .hbm, ⟨30, _⟩ => ⟨S8192x16x128, .f32⟩
  | .hbm, ⟨31, _⟩ => ⟨S8192x16x128, .f32⟩
  | .hbm, ⟨32, _⟩ => ⟨S_, .f32⟩
  | .hbm, ⟨33, _⟩ => ⟨S8192x16x128, .f32⟩
  | .hbm, ⟨34, _⟩ => ⟨S8192x16x128, .f32⟩
  | .hbm, ⟨35, _⟩ => ⟨S_, .f32⟩
  | .hbm, ⟨36, _⟩ => ⟨S8192x16x128, .f32⟩
  | .hbm, ⟨37, _⟩ => ⟨S8192x16x128, .f32⟩
  | .hbm, ⟨38, _⟩ => ⟨S1x16x128, .f32⟩
  | .hbm, ⟨39, _⟩ => ⟨S8192x16x128, .f32⟩
  | .hbm, ⟨40, _⟩ => ⟨S8192x16x128, .f32⟩
  | .hbm, ⟨41, _⟩ => ⟨S1x16x128, .f32⟩
  | .hbm, ⟨42, _⟩ => ⟨S8192x16x128, .f32⟩
  | .hbm, ⟨43, _⟩ => ⟨S8192x16x128, .f32⟩
  | .hbm, ⟨44, _⟩ => ⟨S8192x16x128, .f32⟩
  | .hbm, ⟨45, _⟩ => ⟨S_, .f32⟩
  | .hbm, ⟨46, _⟩ => ⟨S16x128, .f32⟩
  | .hbm, ⟨47, _⟩ => ⟨S16x128, .f32⟩
  | .hbm, ⟨48, _⟩ => ⟨S8192x16x128, .f32⟩
  | .hbm, ⟨49, _⟩ => ⟨S8192x16x128, .f32⟩
  | .hbm, ⟨50, _⟩ => ⟨S8192x16x128, .f32⟩
  | .hbm, ⟨51, _⟩ => ⟨S_, .f32⟩
  | .hbm, ⟨52, _⟩ => ⟨S8192x16x128, .f32⟩
  | .hbm, ⟨53, _⟩ => ⟨S8192x16x128, .f32⟩
  | .hbm, ⟨54, _⟩ => ⟨S_, .f32⟩
  | .hbm, ⟨55, _⟩ => ⟨S8192x16x128, .f32⟩
  | .hbm, ⟨56, _⟩ => ⟨S8192x16x128, .f32⟩
  | .hbm, ⟨57, _⟩ => ⟨S1x16x128, .f32⟩
  | .hbm, ⟨58, _⟩ => ⟨S8192x16x128, .f32⟩
  | .hbm, ⟨59, _⟩ => ⟨S8192x16x128, .f32⟩
  | .hbm, ⟨60, _⟩ => ⟨S_, .f32⟩
  | .hbm, ⟨61, _⟩ => ⟨S_, .f32⟩
  | .hbm, ⟨62, _⟩ => ⟨S8192x16x128, .f32⟩
  | .hbm, ⟨63, _⟩ => ⟨S1x16x128, .f32⟩
  | .hbm, ⟨64, _⟩ => ⟨S8192x16x128, .f32⟩
  | .hbm, ⟨65, _⟩ => ⟨S8192x16x128, .f32⟩
  | .hbm, ⟨66, _⟩ => ⟨S8192x16x128, .f32⟩
  | .hbm, ⟨67, _⟩ => ⟨S8192x16x128, .f32⟩
  | .hbm, ⟨68, _⟩ => ⟨S16x128x128, .f32⟩
  | _, _ => ⟨S8320x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_call0_cst : Ref sig .tc := ⟨.hbm, 21, rfl⟩
abbrev main_call0_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call1_call0_cst : Ref sig .tc := ⟨.hbm, 60, rfl⟩
abbrev main_call1_call0_v0 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== KernelHgrnSample.lean ====
abbrev S8320x14336 : Shape := ⟨2, ![8320, 14336]⟩
abbrev S2x2048 : Shape := ⟨2, ![2, 2048]⟩
abbrev S1x2048 : Shape := ⟨2, ![1, 2048]⟩
abbrev S1x32x16x128x128 : Shape := ⟨5, ![1, 32, 16, 128, 128]⟩
abbrev S128x8192 : Shape := ⟨2, ![128, 8192]⟩
abbrev S32x4x8192 : Shape := ⟨3, ![32, 4, 8192]⟩
abbrev S_ : Shape := ⟨0, ![]⟩
abbrev S32x16x8192 : Shape := ⟨3, ![32, 16, 8192]⟩
abbrev S512x8192 : Shape := ⟨2, ![512, 8192]⟩
abbrev S2048 : Shape := ⟨1, ![2048]⟩
abbrev S32x16x128x128 : Shape := ⟨4, ![32, 16, 128, 128]⟩
abbrev S512x2048 : Shape := ⟨2, ![512, 2048]⟩
abbrev S16x2048 : Shape := ⟨2, ![16, 2048]⟩
abbrev S1x16x128x128 : Shape := ⟨4, ![1, 16, 128, 128]⟩
abbrev S16x16 : Shape := ⟨2, ![16, 16]⟩
abbrev S32x16 : Shape := ⟨2, ![32, 16]⟩
abbrev S16x128 : Shape := ⟨2, ![16, 128]⟩
abbrev S2x128 : Shape := ⟨2, ![2, 128]⟩
abbrev S128 : Shape := ⟨1, ![128]⟩
abbrev S1x128 : Shape := ⟨2, ![1, 128]⟩
abbrev S1x1x128x128 : Shape := ⟨4, ![1, 1, 128, 128]⟩
abbrev S128x128 : Shape := ⟨2, ![128, 128]⟩
abbrev S16x1 : Shape := ⟨2, ![16, 1]⟩
abbrev S32x128 : Shape := ⟨2, ![32, 128]⟩
abbrev S16 : Shape := ⟨1, ![16]⟩

abbrev nBuf : Space → Nat
  | .hbm => 15
  | .vmem => 16
  | .smem => 0
  | _ => 0

abbrev bufTy : (tb : Table) → Fin (tcTables nBuf tb) → BufTy
  | .hbm, ⟨0, _⟩ => ⟨S8320x14336, .f32⟩
  | .hbm, ⟨1, _⟩ => ⟨S2x2048, .f32⟩
  | .hbm, ⟨2, _⟩ => ⟨S1x2048, .f32⟩
  | .hbm, ⟨3, _⟩ => ⟨S1x32x16x128x128, .f32⟩
  | .hbm, ⟨4, _⟩ => ⟨S128x8192, .f32⟩
  | .hbm, ⟨5, _⟩ => ⟨S32x4x8192, .f32⟩
  | .hbm, ⟨6, _⟩ => ⟨S_, .i32⟩
  | .hbm, ⟨7, _⟩ => ⟨S_, .f32⟩
  | .hbm, ⟨8, _⟩ => ⟨S32x16x8192, .f32⟩
  | .hbm, ⟨9, _⟩ => ⟨S512x8192, .f32⟩
  | .hbm, ⟨10, _⟩ => ⟨S2048, .f32⟩
  | .hbm, ⟨11, _⟩ => ⟨S1x2048, .f32⟩
  | .hbm, ⟨12, _⟩ => ⟨S32x16x128x128, .f32⟩
  | .hbm, ⟨13, _⟩ => ⟨S512x2048, .bf16⟩
  | .hbm, ⟨14, _⟩ => ⟨S32x16x128x128, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | .local _ .vmem, ⟨8, _⟩ => ⟨S2x2048, .f32⟩
  | .local _ .vmem, ⟨9, _⟩ => ⟨S1x2048, .f32⟩
  | .local _ .vmem, ⟨10, _⟩ => ⟨S1x16x128x128, .f32⟩
  | .local _ .vmem, ⟨11, _⟩ => ⟨S1x16x128x128, .f32⟩
  | .local _ .vmem, ⟨12, _⟩ => ⟨S16x2048, .bf16⟩
  | .local _ .vmem, ⟨13, _⟩ => ⟨S16x2048, .bf16⟩
  | .local _ .vmem, ⟨14, _⟩ => ⟨S1x16x128x128, .f32⟩
  | .local _ .vmem, ⟨15, _⟩ => ⟨S1x16x128x128, .f32⟩
  | _, _ => ⟨S8320x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_14 : BitVec 32 := 0#32
  let c4_i32 : BitVec 32 := 4#32
  let v60 : BitVec 32 := Scalar.addi c0_i32_14 c4_i32
  let c1_i32_15 : BitVec 32 := 1#32
  ⟨c0_i32_14, v60, c1_i32_15⟩
def k0_mult1 (k0_t1 : Fin k0_t1_loop.trips) : BitVec 32 :=
  let c0_i32_14 : BitVec 32 := 0#32
  let c1_i32_15 : BitVec 32 := 1#32
  let arg10 : BitVec 32 := Scf.iv c0_i32_14 c1_i32_15 k0_t1
  let c4_i32_17 : BitVec 32 := 4#32
  let v61 : BitVec 32 := Scalar.muli arg10 c4_i32_17
  let c0_i32_18 : BitVec 32 := 0#32
  let v62 : BitVec 32 := Scalar.addi v61 c0_i32_18
  let c128_i32 : BitVec 32 := 128#32
  let v69 : BitVec 32 := Scalar.muli v62 c128_i32
  v69
def k0_mult2 (k0_t1 : Fin k0_t1_loop.trips) : BitVec 32 :=
  let c0_i32_14 : BitVec 32 := 0#32
  let c1_i32_15 : BitVec 32 := 1#32
  let arg10 : BitVec 32 := Scf.iv c0_i32_14 c1_i32_15 k0_t1
  let c4_i32_19 : BitVec 32 := 4#32
  let v63 : BitVec 32 := Scalar.muli arg10 c4_i32_19
  let c1_i32_20 : BitVec 32 := 1#32
  let v64 : BitVec 32 := Scalar.addi v63 c1_i32_20
  let c128_i32_23 : BitVec 32 := 128#32
  let v71 : BitVec 32 := Scalar.muli v64 c128_i32_23
  v71
def k0_mult3 (k0_t1 : Fin k0_t1_loop.trips) : BitVec 32 :=
  let c0_i32_14 : BitVec 32 := 0#32
  let c1_i32_15 : BitVec 32 := 1#32
  let arg10 : BitVec 32 := Scf.iv c0_i32_14 c1_i32_15 k0_t1
  let c4_i32_21 : BitVec 32 := 4#32
  let v65 : BitVec 32 := Scalar.muli arg10 c4_i32_21
  let c2_i32 : BitVec 32 := 2#32
  let v66 : BitVec 32 := Scalar.addi v65 c2_i32
  let c128_i32_24 : BitVec 32 := 128#32
  let v73 : BitVec 32 := Scalar.muli v66 c128_i32_24
  v73
def k0_mult4 (k0_t1 : Fin k0_t1_loop.trips) : BitVec 32 :=
  let c0_i32_14 : BitVec 32 := 0#32
  let c1_i32_15 : BitVec 32 := 1#32
  let arg10 : BitVec 32 := Scf.iv c0_i32_14 c1_i32_15 k0_t1
  let c4_i32_22 : BitVec 32 := 4#32
  let v67 : BitVec 32 := Scalar.muli arg10 c4_i32_22
  let c3_i32 : BitVec 32 := 3#32
  let v68 : BitVec 32 := Scalar.addi v67 c3_i32
  let c128_i32_25 : BitVec 32 := 128#32
  let v75 : BitVec 32 := Scalar.muli v68 c128_i32_25
  v75
def k0_off1 (k0_t1 : Fin k0_t1_loop.trips) (c0_i32_18 : BitVec 32) : Fin 2 → Nat :=
  let c0 : Index := 0#32
  let c0_i32_14 : BitVec 32 := 0#32
  let c1_i32_15 : BitVec 32 := 1#32
  let arg10 : BitVec 32 := Scf.iv c0_i32_14 c1_i32_15 k0_t1
  let c4_i32_17 : BitVec 32 := 4#32
  let v61 : BitVec 32 := Scalar.muli arg10 c4_i32_17
  let v62 : BitVec 32 := Scalar.addi v61 c0_i32_18
  let c128_i32 : BitVec 32 := 128#32
  let v69 : BitVec 32 := Scalar.muli v62 c128_i32
  let v70 : BitVec 32 := v69
  let v77 : Index := Scalar.indexCast v70
  ![0, v77.toNat]
def k0_off2 (k0_t1 : Fin k0_t1_loop.trips) (c0_i32_18 : BitVec 32) : Fin 2 → Nat :=
  let c0_29 : Index := 0#32
  let c0_i32_14 : BitVec 32 := 0#32
  let c1_i32_15 : BitVec 32 := 1#32
  let arg10 : BitVec 32 := Scf.iv c0_i32_14 c1_i32_15 k0_t1
  let c4_i32_17 : BitVec 32 := 4#32
  let v61 : BitVec 32 := Scalar.muli arg10 c4_i32_17
  let v62 : BitVec 32 := Scalar.addi v61 c0_i32_18
  let c128_i32 : BitVec 32 := 128#32
  let v69 : BitVec 32 := Scalar.muli v62 c128_i32
  let v70 : BitVec 32 := v69
  let v89 : Index := Scalar.indexCast v70
  ![0, v89.toNat]
def k0_off3 (k0_t1 : Fin k0_t1_loop.trips) (c0_i32_18 : BitVec 32) : Fin 2 → Nat :=
  let c0_32 : Index := 0#32
  let c0_i32_14 : BitVec 32 := 0#32
  let c1_i32_15 : BitVec 32 := 1#32
  let arg10 : BitVec 32 := Scf.iv c0_i32_14 c1_i32_15 k0_t1
  let c4_i32_17 : BitVec 32 := 4#32
  let v61 : BitVec 32 := Scalar.muli arg10 c4_i32_17
  let v62 : BitVec 32 := Scalar.addi v61 c0_i32_18
  let c128_i32 : BitVec 32 := 128#32
  let v69 : BitVec 32 := Scalar.muli v62 c128_i32
  let v70 : BitVec 32 := v69
  let v100 : Index := Scalar.indexCast v70
  ![0, v100.toNat]
def k0_off4 (k0_t1 : Fin k0_t1_loop.trips) (c0_i32_18 : BitVec 32) : Fin 4 → Nat :=
  let c0_33 : Index := 0#32
  let c0_i32_14 : BitVec 32 := 0#32
  let c1_i32_15 : BitVec 32 := 1#32
  let arg10 : BitVec 32 := Scf.iv c0_i32_14 c1_i32_15 k0_t1
  let c4_i32_17 : BitVec 32 := 4#32
  let v61 : BitVec 32 := Scalar.muli arg10 c4_i32_17
  let v62 : BitVec 32 := Scalar.addi v61 c0_i32_18
  let v103 : Index := Scalar.indexCast v62
  let c0_34 : Index := 0#32
  let c0_35 : Index := 0#32
  ![0, v103.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceHgrnSampleIdeal.lean ====
abbrev S8320x14336 : Shape := ⟨2, ![8320, 14336]⟩
abbrev S2x2048 : Shape := ⟨2, ![2, 2048]⟩
abbrev S1x2048 : Shape := ⟨2, ![1, 2048]⟩
abbrev S1x32x16x128x128 : Shape := ⟨5, ![1, 32, 16, 128, 128]⟩
abbrev S128x2048 : Shape := ⟨2, ![128, 2048]⟩
abbrev S32x4x16x128 : Shape := ⟨4, ![32, 4, 16, 128]⟩
abbrev S_ : Shape := ⟨0, ![]⟩
abbrev S2048 : Shape := ⟨1, ![2048]⟩
abbrev S16x128 : Shape := ⟨2, ![16, 128]⟩
abbrev S1x1x16x128 : Shape := ⟨4, ![1, 1, 16, 128]⟩
abbrev S32x1x16x128 : Shape := ⟨4, ![32, 1, 16, 128]⟩
abbrev S32x16x128 : Shape := ⟨3, ![32, 16, 128]⟩
abbrev S32x16x128x1 : Shape := ⟨4, ![32, 16, 128, 1]⟩
abbrev S32x16x128x128 : Shape := ⟨4, ![32, 16, 128, 128]⟩

abbrev nBuf : Space → Nat
  | .hbm => 77
  | .vmem => 0
  | .smem => 0
  | _ => 0

abbrev bufTy : (tb : Table) → Fin (tcTables nBuf tb) → BufTy
  | .hbm, ⟨0, _⟩ => ⟨S8320x14336, .f32⟩
  | .hbm, ⟨1, _⟩ => ⟨S2x2048, .f32⟩
  | .hbm, ⟨2, _⟩ => ⟨S1x2048, .f32⟩
  | .hbm, ⟨3, _⟩ => ⟨S1x32x16x128x128, .f32⟩
  | .hbm, ⟨4, _⟩ => ⟨S128x2048, .f32⟩
  | .hbm, ⟨5, _⟩ => ⟨S32x4x16x128, .f32⟩
  | .hbm, ⟨6, _⟩ => ⟨S128x2048, .f32⟩
  | .hbm, ⟨7, _⟩ => ⟨S32x4x16x128, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S1x2048, .f32⟩
  | .hbm, ⟨14, _⟩ => ⟨S2x2048, .f32⟩
  | .hbm, ⟨15, _⟩ => ⟨S2x2048, .f32⟩
  | .hbm, ⟨16, _⟩ => ⟨S2x2048, .f32⟩
  | .hbm, ⟨17, _⟩ => ⟨S_, .f32⟩
  | .hbm, ⟨18, _⟩ => ⟨S2048, .f32⟩
  | .hbm, ⟨19, _⟩ => ⟨S1x2048, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S_, .f32⟩
  | .hbm, ⟨24, _⟩ => ⟨S2x2048, .f32⟩
  | .hbm, ⟨25, _⟩ => ⟨S1x2048, .f32⟩
  | .hbm, ⟨26, _⟩ => ⟨S2048, .f32⟩
  | .hbm, ⟨27, _⟩ => ⟨S16x128, .f32⟩
  | .hbm, ⟨28, _⟩ => ⟨S_, .f32⟩
  | .hbm, ⟨29, _⟩ => ⟨S16x128, .f32⟩
  | .hbm, ⟨30, _⟩ => ⟨S16x128, .f32⟩
  | .hbm, ⟨31, _⟩ => ⟨S32x4x16x128, .f32⟩
  | .hbm, ⟨32, _⟩ => ⟨S32x4x16x128, .f32⟩
  | .hbm, ⟨33, _⟩ => ⟨S_, .f32⟩
  | .hbm, ⟨34, _⟩ => ⟨S32x4x16x128, .f32⟩
  | .hbm, ⟨35, _⟩ => ⟨S32x4x16x128, .f32⟩
  | .hbm, ⟨36, _⟩ => ⟨S_, .f32⟩
  | .hbm, ⟨37, _⟩ => ⟨S32x4x16x128, .f32⟩
  | .hbm, ⟨38, _⟩ => ⟨S32x4x16x128, .f32⟩
  | .hbm, ⟨39, _⟩ => ⟨S1x1x16x128, .f32⟩
  | .hbm, ⟨40, _⟩ => ⟨S32x4x16x128, .f32⟩
  | .hbm, ⟨41, _⟩ => ⟨S32x4x16x128, .f32⟩
  | .hbm, ⟨42, _⟩ => ⟨S1x1x16x128, .f32⟩
  | .hbm, ⟨43, _⟩ => ⟨S32x4x16x128, .f32⟩
  | .hbm, ⟨44, _⟩ => ⟨S32x4x16x128, .f32⟩
  | .hbm, ⟨45, _⟩ => ⟨S32x4x16x128, .f32⟩
  | .hbm, ⟨46, _⟩ => ⟨S_, .f32⟩
  | .hbm, ⟨47, _⟩ => ⟨S16x128, .f32⟩
  | .hbm, ⟨48, _⟩ => ⟨S16x128, .f32⟩
  | .hbm, ⟨49, _⟩ => ⟨S32x4x16x128, .f32⟩
  | .hbm, ⟨50, _⟩ => ⟨S32x4x16x128, .f32⟩
  | .hbm, ⟨51, _⟩ => ⟨S32x4x16x128, .f32⟩
  | .hbm, ⟨52, _⟩ => ⟨S_, .f32⟩
  | .hbm, ⟨53, _⟩ => ⟨S32x4x16x128, .f32⟩
  | .hbm, ⟨54, _⟩ => ⟨S32x4x16x128, .f32⟩
  | .hbm, ⟨55, _⟩ => ⟨S_, .f32⟩
  | .hbm, ⟨56, _⟩ => ⟨S32x4x16x128, .f32⟩
  | .hbm, ⟨57, _⟩ => ⟨S32x4x16x128, .f32⟩
  | .hbm, ⟨58, _⟩ => ⟨S1x1x16x128, .f32⟩
  | .hbm, ⟨59, _⟩ => ⟨S32x4x16x128, .f32⟩
  | .hbm, ⟨60, _⟩ => ⟨S32x4x16x128, .f32⟩
  | .hbm, ⟨61, _⟩ => ⟨S_, .f32⟩
  | .hbm, ⟨62, _⟩ => ⟨S_, .f32⟩
  | .hbm, ⟨63, _⟩ => ⟨S32x4x16x128, .f32⟩
  | .hbm, ⟨64, _⟩ => ⟨S32x1x16x128, .f32⟩
  | .hbm, ⟨65, _⟩ => ⟨S32x16x128, .f32⟩
  | .hbm, ⟨66, _⟩ => ⟨S32x16x128, .f32⟩
  | .hbm, ⟨67, _⟩ => ⟨S32x16x128x1, .f32⟩
  | .hbm, ⟨68, _⟩ => ⟨S32x16x128x128, .f32⟩
  | .hbm, ⟨69, _⟩ => ⟨S32x16x128x128, .f32⟩
  | .hbm, ⟨70, _⟩ => ⟨S32x16x128x128, .f32⟩
  | .hbm, ⟨71, _⟩ => ⟨S32x4x16x128, .f32⟩
  | .hbm, ⟨72, _⟩ => ⟨S32x4x16x128, .f32⟩
  | .hbm, ⟨73, _⟩ => ⟨S32x4x16x128, .f32⟩
  | .hbm, ⟨74, _⟩ => ⟨S32x4x16x128, .f32⟩
  | .hbm, ⟨75, _⟩ => ⟨S32x16x128x128, .f32⟩
  | .hbm, ⟨76, _⟩ => ⟨S32x16x128x128, .f32⟩
  | _, _ => ⟨S8320x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_call0_cst : Ref sig .tc := ⟨.hbm, 22, rfl⟩
abbrev main_call0_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call1_call0_cst : Ref sig .tc := ⟨.hbm, 61, rfl⟩
abbrev main_call1_call0_v0 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== Proof.InProjZ.lean ====
module

public import proofs.«01_k».proof.Proof.Gen.KernelZIdeal.Value
public import proofs.«01_k».proof.Proof.Gen.ReferenceZIdeal.Run
public import Idealize.ShloMosaic.Lib.Pipeline.ValueKit

/-!
The first input projection: 14336 columns of `rows · w_in`, the weight read row by row from the transposed matrix
through a window indexed by elements.  The scratch holds the weight block of the current column tile from the first row
tile on; every row tile then contracts its rows with it.  The result is the reference's slice of the whole projection.
-/

@[expose] public section

set_option maxRecDepth 16384

noncomputable section

namespace Cert.KernelZIdeal.InProj

open Idealize.ShloMosaic Idealize.ShloMosaic.TcCoe Idealize.SL.Sem
open Idealize.ShloMosaic.Pipeline (Dat)
open Cert.KernelZIdeal Cert.KernelZIdeal.Gen

variable (m : (ℓ : Loc nD τ sig) → Buf (Elt Ideal) ℓ)

/-- The reference's result over the prompt's rows, the samples' rows and the weight. -/
def REF (xp : FVec Ideal S1x8192x2048 .f32) (xs : FVec Ideal S32x4x2048 .f32) (w : FVec Ideal S1x2048x18448 .f32) :
    FVec Ideal S8320x14336 .f32 :=
  extractStridedSlice Cert.ReferenceZIdeal.S8320x14336 ![0, 0] (concatenate Cert.ReferenceZIdeal.S8320x18448 0 [⟨Cert.ReferenceZIdeal.S8192x18448, (shapeCast _ (Host.dotGeneral Cert.ReferenceZIdeal.dot_S1x8192x2048_S2048x18448_S1x8192x18448_2_0_01_1_n_n none xp (shapeCast _ w Cert.ReferenceZIdeal.Gen.shapeCasts_S1x2048x18448_S2048x18448)) Cert.ReferenceZIdeal.Gen.shapeCasts_S1x8192x18448_S8192x18448)⟩, ⟨Cert.ReferenceZIdeal.S128x18448, (shapeCast _ (Host.dotGeneral Cert.ReferenceZIdeal.dot_S32x4x2048_S2048x18448_S32x4x18448_2_0_01_1_n_n none xs (shapeCast _ w Cert.ReferenceZIdeal.Gen.shapeCasts_S1x2048x18448_S2048x18448)) Cert.ReferenceZIdeal.Gen.shapeCasts_S32x4x18448_S128x18448)⟩] Cert.ReferenceZIdeal.Gen.concatenates_S8192x18448_S128x18448_S8320x18448_d0) Cert.ReferenceZIdeal.Gen.slices_S8320x18448_S8320x14336_0_0

/-- The windows' index maps: rows by blocks, the weight by the element its block starts at, the result by blocks. -/
theorem idx : ∀ t : Fin cfg0.N, win0_0.index t = ![t.val % 10, 0] ∧ win0_1.index t = ![0, t.val / 10 * 1024, 0]
    ∧ win0_2.index t = ![t.val % 10, t.val / 10] :=
  (by decide +kernel : ∀ t : Fin grid0.N, _)

/-- The rows the kernel reads: the prompt's, then the samples'. -/
theorem rows_eq (c : Dev nD) : (V m c main_v3 : FVec Ideal S8320x2048 .f32)
    = concatenate S8320x2048 0 [⟨S8192x2048, shapeCast S8192x2048 (m ((c : Thread nD τ).loc main_arg0)) shapeCasts_S1x8192x2048_S8192x2048⟩,
        ⟨S128x2048, shapeCast S128x2048 (m ((c : Thread nD τ).loc main_arg1)) shapeCasts_S32x4x2048_S128x2048⟩]
        concatenates_S8192x2048_S128x2048_S8320x2048_d0 := by
  unfold V; after_results; try rfl

/-- The weight the kernel reads is the argument with its two axes swapped. -/
theorem weight_at (c : Dev nD) (n : Fin 18448) (k : Fin 2048) :
    V m c main_v0 (ix3 0 n k) = (m ((c : Thread nD τ).loc main_arg2)) (ix3 0 k n) := by
  entry_read
  pointwise

/-- The weight window's block starts at the element its index map names. -/
theorem weight_block (c : Dev nD) (t : Fin cfg0.N) (r : Fin 1024) (k : Fin 2048) (h : t.val / 10 * 1024 + r.val < 18448) :
    iblk m c 1 t (ix3 0 r k) = V m c main_v0 (ix3 0 ⟨t.val / 10 * 1024 + r.val, h⟩ k) := by
  blk_simp [iblk]
  refine congrArg (V m c main_v0) (funext fun a => Fin.ext ?_)
  have e := (idx t).2.1
  match a with
  | ⟨0, _⟩ => show win0_1.index t 0 + 1 * 0 = 0; rw [e]; rfl
  | ⟨1, _⟩ => show win0_1.index t 1 + 1 * r.val = t.val / 10 * 1024 + r.val; rw [e, one_mul]; rfl
  | ⟨2, _⟩ => show win0_1.index t 2 + 1 * k.val = k.val; rw [e, one_mul]; exact Nat.zero_add _

/-- At the first row tile of a column tile the scratch is filled with the weight block. -/
theorem scratch_fill (c : Dev nD) (t : Fin cfg0.N) (h0 : t.val % 10 = 0) :
    (outsAt0 m c t.val t.isLt).2 = k0_pay1 (F := Ideal) (iblk m c 1 t) := by
  rw [outsAt0_A m c t h0]; frame_out

/-- At any other row tile it is left as it was. -/
theorem scratch_keep (c : Dev nD) (t : Fin cfg0.N) (h0 : ¬t.val % 10 = 0) :
    (outsAt0 m c t.val t.isLt).2 = (outsAt0 m c (t.val - 1) (Nat.lt_of_le_of_lt (Nat.sub_le _ _) t.isLt)).2 := by
  rw [outsAt0_B m c t h0]; rfl

/-- What the scratch holds after point `n`: the weight rows of its column tile. -/
theorem scratch_at (c : Dev nD) (n : ℕ) (hn : n < cfg0.N) (r : Fin 1024) (k : Fin 2048) (h : n / 10 * 1024 + r.val < 18448) :
    (outsAt0 m c n hn).2 (ix2 r k) = V m c main_v0 (ix3 0 ⟨n / 10 * 1024 + r.val, h⟩ k) := by
  have fill : ∀ (n : ℕ) (hn : n < cfg0.N) (h : n / 10 * 1024 + r.val < 18448), n % 10 = 0 →
      (outsAt0 m c n hn).2 (ix2 r k) = V m c main_v0 (ix3 0 ⟨n / 10 * 1024 + r.val, h⟩ k) := fun n hn h h0 => by
    refine (congrFun (scratch_fill m c ⟨n, hn⟩ h0) _).trans (Eq.trans ?_ (weight_block m c ⟨n, hn⟩ r k h))
    pointwise [k0_pay1]
  induction n with
  | zero => exact fill 0 hn h (Nat.zero_mod _)
  | succ n ih =>
    by_cases h0 : (n + 1) % 10 = 0
    · exact fill (n + 1) hn h h0
    · have e : (n + 1) / 10 = n / 10 := by omega
      refine (congrFun (scratch_keep m c ⟨n + 1, hn⟩ h0) _).trans ?_
      exact (ih (Nat.lt_of_succ_lt hn) (e ▸ h)).trans
        (congrArg (fun i : Fin 18448 => V m c main_v0 (ix3 0 i k)) (Fin.ext (congrArg (fun j => j * 1024 + r.val) e.symm)))

/-- What a point stores is its rows times the scratch it ends with. -/
theorem out_eq (c : Dev nD) (t : Fin cfg0.N) :
    (outsAt0 m c t.val t.isLt).1 = k0_pay2 (F := Ideal) (iblk m c 0 t) (outsAt0 m c t.val t.isLt).2 := by
  by_cases h0 : t.val % 10 = 0
  · rw [scratch_fill m c t h0, outsAt0_A m c t h0]; frame_out
  · rw [scratch_keep m c t h0, outsAt0_B m c t h0]; frame_out
    exact congrArg (k0_pay2 (F := Ideal) (iblk m c 0 t)) (Memref.IsWhole.read_unread _ _)

/-- One entry of rows times transposed weight. -/
def product (x : FVec Ideal S8320x2048 .f32) (wt : FVec Ideal S1x18448x2048 .f32) (r : Fin 8320) (n : Fin 18448) : EReal :=
  ∑ k : Fin 2048, x (ix2 r k) * wt (ix3 0 n k)

/-- The reference's entry is that product of the rows and of any array holding the weight transposed. -/
theorem REF_at (xp : FVec Ideal S1x8192x2048 .f32) (xs : FVec Ideal S32x4x2048 .f32) (w : FVec Ideal S1x2048x18448 .f32)
    (wt : FVec Ideal S1x18448x2048 .f32) (hw : ∀ (n : Fin 18448) (k : Fin 2048), wt (ix3 0 n k) = w (ix3 0 k n))
    (i : S8320x14336.Idx) (r n : ℕ) (hr : r < 8320) (hn : n < 18448) (e0 : (i 0 : ℕ) = r) (e1 : (i 1 : ℕ) = n) :
    REF xp xs w i = product (concatenate S8320x2048 0 [⟨S8192x2048, shapeCast S8192x2048 xp shapeCasts_S1x8192x2048_S8192x2048⟩,
        ⟨S128x2048, shapeCast S128x2048 xs shapeCasts_S32x4x2048_S128x2048⟩]
        concatenates_S8192x2048_S128x2048_S8320x2048_d0) wt ⟨r, hr⟩ ⟨n, hn⟩ := by
  idx_vars i
  subst e0 e1
  unfold product
  simp only [hw]
  by_cases h : i0.val < 8192
  · pointwise [REF, h]
  · pointwise [REF, h]

/-- What point `t` stores at block index `y` is the reference's entry where `y` lands. -/
theorem point (c : Dev nD) (t : Fin cfg0.N) (y) : (outsAt0 m c t.val t.isLt).1 y
    = REF (m ((c : Thread nD τ).loc main_arg0)) (m ((c : Thread nD τ).loc main_arg1)) (m ((c : Thread nD τ).loc main_arg2))
        (((cfg0.win 2).blk t).view.emb y) := by
  have ht : t.val < 140 := lt_of_lt_of_eq t.isLt N_0
  rw [out_eq]
  idx_vars y
  have h0 : (t.val % 10) * 832 + y0.val < 8320 := by omega
  have h1 : t.val / 10 * 1024 + y1.val < 18448 := by omega
  have hx : ∀ k : Fin 2048, iblk m c 0 t (ix2 y0 k) = V m c main_v3 (ix2 ⟨(t.val % 10) * 832 + y0.val, h0⟩ k) := fun k => by
    blk_ext [iblk, idx t]
  have hw := fun k => scratch_at m c t.val t.isLt y1 k h1
  have e0 : ((((cfg0.win 2).blk t).view.emb (ix2 y0 y1) 0 : Fin _) : ℕ) = (t.val % 10) * 832 + y0.val := by blk_simp [idx t]
  have e1 : ((((cfg0.win 2).blk t).view.emb (ix2 y0 y1) 1 : Fin _) : ℕ) = t.val / 10 * 1024 + y1.val := by blk_simp [idx t]
  refine Eq.trans (b := product (V m c main_v3) (V m c main_v0) ⟨(t.val % 10) * 832 + y0.val, h0⟩ ⟨t.val / 10 * 1024 + y1.val, h1⟩) ?_ ?_
  · pointwise [k0_pay2, product]
    refine Fin.sum_fin_congr fun k => ?_
    rw [hx, hw]
  · rw [rows_eq]
    exact (REF_at _ _ _ _ (fun n k => weight_at m c n k) _ _ _ h0 h1 e0 e1).symm

/-- After the run the result array is the reference's result. -/
theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  exact point m c t y

end Cert.KernelZIdeal.InProj

end
-- ==== Proof.InProjGates.lean ====
module

public import proofs.«01_k».proof.Proof.Gen.KernelGatesIdeal.Value
public import proofs.«01_k».proof.Proof.Gen.ReferenceGatesIdeal.Run
public import proofs.«01_k».proof.Proof.InProjZ
public import Idealize.ShloMosaic.Lib.Pipeline.ValueKit

/-!
The second input projection: the 4096 columns from 14352 on, the merge gates.  The weight window starts at element
14352 of the transposed weight; everything else is as for the first 14336 columns.
-/

@[expose] public section

set_option maxRecDepth 16384

noncomputable section

namespace Cert.KernelGatesIdeal.InProj

open Idealize.ShloMosaic Idealize.ShloMosaic.TcCoe Idealize.SL.Sem
open Idealize.ShloMosaic.Pipeline (Dat)
open Cert.KernelGatesIdeal Cert.KernelGatesIdeal.Gen
open Cert.KernelZIdeal.InProj (product)

variable (m : (ℓ : Loc nD τ sig) → Buf (Elt Ideal) ℓ)

/-- The reference's result over the prompt's rows, the samples' rows and the weight. -/
def REF (xp : FVec Ideal S1x8192x2048 .f32) (xs : FVec Ideal S32x4x2048 .f32) (w : FVec Ideal S1x2048x18448 .f32) :
    FVec Ideal S8320x4096 .f32 :=
  extractStridedSlice Cert.ReferenceGatesIdeal.S8320x4096 ![0, 14352] (concatenate Cert.ReferenceGatesIdeal.S8320x18448 0 [⟨Cert.ReferenceGatesIdeal.S8192x18448, (shapeCast _ (Host.dotGeneral Cert.ReferenceGatesIdeal.dot_S1x8192x2048_S2048x18448_S1x8192x18448_2_0_01_1_n_n none xp (shapeCast _ w Cert.ReferenceGatesIdeal.Gen.shapeCasts_S1x2048x18448_S2048x18448)) Cert.ReferenceGatesIdeal.Gen.shapeCasts_S1x8192x18448_S8192x18448)⟩, ⟨Cert.ReferenceGatesIdeal.S128x18448, (shapeCast _ (Host.dotGeneral Cert.ReferenceGatesIdeal.dot_S32x4x2048_S2048x18448_S32x4x18448_2_0_01_1_n_n none xs (shapeCast _ w Cert.ReferenceGatesIdeal.Gen.shapeCasts_S1x2048x18448_S2048x18448)) Cert.ReferenceGatesIdeal.Gen.shapeCasts_S32x4x18448_S128x18448)⟩] Cert.ReferenceGatesIdeal.Gen.concatenates_S8192x18448_S128x18448_S8320x18448_d0) Cert.ReferenceGatesIdeal.Gen.slices_S8320x18448_S8320x4096_0_14352

/-- The windows' index maps: rows by blocks, the weight by the element its block starts at, the result by blocks. -/
theorem idx : ∀ t : Fin cfg0.N, win0_0.index t = ![t.val % 10, 0] ∧ win0_1.index t = ![0, 14352 + t.val / 10 * 1024, 0]
    ∧ win0_2.index t = ![t.val % 10, t.val / 10] :=
  (by decide +kernel : ∀ t : Fin grid0.N, _)

/-- The rows the kernel reads: the prompt's, then the samples'. -/
theorem rows_eq (c : Dev nD) : (V m c main_v3 : FVec Ideal S8320x2048 .f32)
    = concatenate S8320x2048 0 [⟨S8192x2048, shapeCast S8192x2048 (m ((c : Thread nD τ).loc main_arg0)) shapeCasts_S1x8192x2048_S8192x2048⟩,
        ⟨S128x2048, shapeCast S128x2048 (m ((c : Thread nD τ).loc main_arg1)) shapeCasts_S32x4x2048_S128x2048⟩]
        concatenates_S8192x2048_S128x2048_S8320x2048_d0 := by
  unfold V; after_results; try rfl

/-- The weight the kernel reads is the argument with its two axes swapped. -/
theorem weight_at (c : Dev nD) (n : Fin 18448) (k : Fin 2048) :
    V m c main_v0 (ix3 0 n k) = (m ((c : Thread nD τ).loc main_arg2)) (ix3 0 k n) := by
  entry_read
  pointwise

/-- The weight window's block starts at the element its index map names. -/
theorem weight_block (c : Dev nD) (t : Fin cfg0.N) (r : Fin 1024) (k : Fin 2048) (h : 14352 + t.val / 10 * 1024 + r.val < 18448) :
    iblk m c 1 t (ix3 0 r k) = V m c main_v0 (ix3 0 ⟨14352 + t.val / 10 * 1024 + r.val, h⟩ k) := by
  blk_simp [iblk]
  refine congrArg (V m c main_v0) (funext fun a => Fin.ext ?_)
  have e := (idx t).2.1
  match a with
  | ⟨0, _⟩ => show win0_1.index t 0 + 1 * 0 = 0; rw [e]; rfl
  | ⟨1, _⟩ => show win0_1.index t 1 + 1 * r.val = 14352 + t.val / 10 * 1024 + r.val; rw [e, one_mul]; rfl
  | ⟨2, _⟩ => show win0_1.index t 2 + 1 * k.val = k.val; rw [e, one_mul]; exact Nat.zero_add _

/-- At the first row tile of a column tile the scratch is filled with the weight block. -/
theorem scratch_fill (c : Dev nD) (t : Fin cfg0.N) (h0 : t.val % 10 = 0) :
    (outsAt0 m c t.val t.isLt).2 = k0_pay1 (F := Ideal) (iblk m c 1 t) := by
  rw [outsAt0_A m c t h0]; frame_out

/-- At any other row tile it is left as it was. -/
theorem scratch_keep (c : Dev nD) (t : Fin cfg0.N) (h0 : ¬t.val % 10 = 0) :
    (outsAt0 m c t.val t.isLt).2 = (outsAt0 m c (t.val - 1) (Nat.lt_of_le_of_lt (Nat.sub_le _ _) t.isLt)).2 := by
  rw [outsAt0_B m c t h0]; rfl

/-- What the scratch holds after point `n`: the weight rows of its column tile. -/
theorem scratch_at (c : Dev nD) (n : ℕ) (hn : n < cfg0.N) (r : Fin 1024) (k : Fin 2048) (h : 14352 + n / 10 * 1024 + r.val < 18448) :
    (outsAt0 m c n hn).2 (ix2 r k) = V m c main_v0 (ix3 0 ⟨14352 + n / 10 * 1024 + r.val, h⟩ k) := by
  have fill : ∀ (n : ℕ) (hn : n < cfg0.N) (h : 14352 + n / 10 * 1024 + r.val < 18448), n % 10 = 0 →
      (outsAt0 m c n hn).2 (ix2 r k) = V m c main_v0 (ix3 0 ⟨14352 + n / 10 * 1024 + r.val, h⟩ k) := fun n hn h h0 => by
    refine (congrFun (scratch_fill m c ⟨n, hn⟩ h0) _).trans (Eq.trans ?_ (weight_block m c ⟨n, hn⟩ r k h))
    pointwise [k0_pay1]
  induction n with
  | zero => exact fill 0 hn h (Nat.zero_mod _)
  | succ n ih =>
    by_cases h0 : (n + 1) % 10 = 0
    · exact fill (n + 1) hn h h0
    · have e : (n + 1) / 10 = n / 10 := by omega
      refine (congrFun (scratch_keep m c ⟨n + 1, hn⟩ h0) _).trans ?_
      exact (ih (Nat.lt_of_succ_lt hn) (e ▸ h)).trans
        (congrArg (fun i : Fin 18448 => V m c main_v0 (ix3 0 i k)) (Fin.ext (congrArg (fun j => 14352 + j * 1024 + r.val) e.symm)))

/-- What a point stores is its rows times the scratch it ends with. -/
theorem out_eq (c : Dev nD) (t : Fin cfg0.N) :
    (outsAt0 m c t.val t.isLt).1 = k0_pay2 (F := Ideal) (iblk m c 0 t) (outsAt0 m c t.val t.isLt).2 := by
  by_cases h0 : t.val % 10 = 0
  · rw [scratch_fill m c t h0, outsAt0_A m c t h0]; frame_out
  · rw [scratch_keep m c t h0, outsAt0_B m c t h0]; frame_out
    exact congrArg (k0_pay2 (F := Ideal) (iblk m c 0 t)) (Memref.IsWhole.read_unread _ _)

/-- The reference's entry is that product of the rows and of any array holding the weight transposed. -/
theorem REF_at (xp : FVec Ideal S1x8192x2048 .f32) (xs : FVec Ideal S32x4x2048 .f32) (w : FVec Ideal S1x2048x18448 .f32)
    (wt : FVec Ideal S1x18448x2048 .f32) (hw : ∀ (n : Fin 18448) (k : Fin 2048), wt (ix3 0 n k) = w (ix3 0 k n))
    (i : S8320x4096.Idx) (r n : ℕ) (hr : r < 8320) (hn : n < 18448) (e0 : (i 0 : ℕ) = r) (e1 : 14352 + (i 1 : ℕ) = n) :
    REF xp xs w i = product (concatenate S8320x2048 0 [⟨S8192x2048, shapeCast S8192x2048 xp shapeCasts_S1x8192x2048_S8192x2048⟩,
        ⟨S128x2048, shapeCast S128x2048 xs shapeCasts_S32x4x2048_S128x2048⟩]
        concatenates_S8192x2048_S128x2048_S8320x2048_d0) wt ⟨r, hr⟩ ⟨n, hn⟩ := by
  idx_vars i
  subst e0 e1
  unfold product
  simp only [hw]
  by_cases h : i0.val < 8192
  · pointwise [REF, h]
  · pointwise [REF, h]

/-- What point `t` stores at block index `y` is the reference's entry where `y` lands. -/
theorem point (c : Dev nD) (t : Fin cfg0.N) (y) : (outsAt0 m c t.val t.isLt).1 y
    = REF (m ((c : Thread nD τ).loc main_arg0)) (m ((c : Thread nD τ).loc main_arg1)) (m ((c : Thread nD τ).loc main_arg2))
        (((cfg0.win 2).blk t).view.emb y) := by
  have ht : t.val < 40 := lt_of_lt_of_eq t.isLt N_0
  rw [out_eq]
  idx_vars y
  have h0 : (t.val % 10) * 832 + y0.val < 8320 := by omega
  have h1 : 14352 + t.val / 10 * 1024 + y1.val < 18448 := by omega
  have hx : ∀ k : Fin 2048, iblk m c 0 t (ix2 y0 k) = V m c main_v3 (ix2 ⟨(t.val % 10) * 832 + y0.val, h0⟩ k) := fun k => by
    blk_ext [iblk, idx t]
  have hw := fun k => scratch_at m c t.val t.isLt y1 k h1
  have e0 : ((((cfg0.win 2).blk t).view.emb (ix2 y0 y1) 0 : Fin _) : ℕ) = (t.val % 10) * 832 + y0.val := by blk_simp [idx t]
  have e1 : 14352 + ((((cfg0.win 2).blk t).view.emb (ix2 y0 y1) 1 : Fin _) : ℕ) = 14352 + t.val / 10 * 1024 + y1.val := by
    blk_simp [idx t]; omega
  refine Eq.trans (b := product (V m c main_v3) (V m c main_v0) ⟨(t.val % 10) * 832 + y0.val, h0⟩ ⟨14352 + t.val / 10 * 1024 + y1.val, h1⟩) ?_ ?_
  · pointwise [k0_pay2, product]
    refine Fin.sum_fin_congr fun k => ?_
    rw [hx, hw]
  · rw [rows_eq]
    exact (REF_at _ _ _ _ (fun n k => weight_at m c n k) _ _ _ h0 h1 e0 e1).symm

/-- After the run the result array is the reference's result. -/
theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  exact point m c t y

end Cert.KernelGatesIdeal.InProj

end
-- ==== Proof.InProjForget.lean ====
module

public import proofs.«01_k».proof.Proof.Gen.KernelForgetIdeal.Value
public import proofs.«01_k».proof.Proof.Gen.ReferenceForgetIdeal.Run
public import Idealize.ShloMosaic.Lib.Pipeline.ValueKit

/-!
The third input projection: the forget logits.  The kernel reads a weight of its own, the 16 rows of the forget logits
padded with zero rows to 128, through the same element-indexed window; the reference pads the 16 columns of its product.
-/

@[expose] public section

set_option maxRecDepth 16384

noncomputable section

namespace Cert.KernelForgetIdeal.InProj

open Idealize.ShloMosaic Idealize.ShloMosaic.TcCoe Idealize.SL.Sem
open Idealize.ShloMosaic.Pipeline (Dat)
open Cert.KernelForgetIdeal Cert.KernelForgetIdeal.Gen

variable (m : (ℓ : Loc nD τ sig) → Buf (Elt Ideal) ℓ)

/-- The reference's result over the prompt's rows, the samples' rows and the weight. -/
def REF (xp : FVec Ideal S1x8192x2048 .f32) (xs : FVec Ideal S32x4x2048 .f32) (w : FVec Ideal S1x2048x18448 .f32) :
    FVec Ideal S8320x128 .f32 :=
  pad Cert.ReferenceForgetIdeal.S8320x128 ![0, 0] ![0, 112] ![0, 0] (extractStridedSlice Cert.ReferenceForgetIdeal.S8320x16 ![0, 14336] (concatenate Cert.ReferenceForgetIdeal.S8320x18448 0 [⟨Cert.ReferenceForgetIdeal.S8192x18448, (shapeCast _ (Host.dotGeneral Cert.ReferenceForgetIdeal.dot_S1x8192x2048_S2048x18448_S1x8192x18448_2_0_01_1_n_n none xp (shapeCast _ w Cert.ReferenceForgetIdeal.Gen.shapeCasts_S1x2048x18448_S2048x18448)) Cert.ReferenceForgetIdeal.Gen.shapeCasts_S1x8192x18448_S8192x18448)⟩, ⟨Cert.ReferenceForgetIdeal.S128x18448, (shapeCast _ (Host.dotGeneral Cert.ReferenceForgetIdeal.dot_S32x4x2048_S2048x18448_S32x4x18448_2_0_01_1_n_n none xs (shapeCast _ w Cert.ReferenceForgetIdeal.Gen.shapeCasts_S1x2048x18448_S2048x18448)) Cert.ReferenceForgetIdeal.Gen.shapeCasts_S32x4x18448_S128x18448)⟩] Cert.ReferenceForgetIdeal.Gen.concatenates_S8192x18448_S128x18448_S8320x18448_d0) Cert.ReferenceForgetIdeal.Gen.slices_S8320x18448_S8320x16_0_14336) (sitofp .f32 (constantI Cert.ReferenceForgetIdeal.S_ 32 0#32)) Cert.ReferenceForgetIdeal.Gen.pads_S8320x16_S8320x128_000_01120 Cert.ReferenceForgetIdeal.Gen.h_S_

/-- The windows' index maps: rows by blocks, the weight by the element its block starts at, the result by blocks. -/
theorem idx : ∀ t : Fin cfg0.N, win0_0.index t = ![t.val % 10, 0] ∧ win0_1.index t = ![0, 0, 0]
    ∧ win0_2.index t = ![t.val % 10, 0] :=
  (by decide +kernel : ∀ t : Fin grid0.N, _)

/-- The rows the kernel reads: the prompt's, then the samples'. -/
theorem rows_eq (c : Dev nD) : (V m c main_v5 : FVec Ideal S8320x2048 .f32)
    = concatenate S8320x2048 0 [⟨S8192x2048, shapeCast S8192x2048 (m ((c : Thread nD τ).loc main_arg0)) shapeCasts_S1x8192x2048_S8192x2048⟩,
        ⟨S128x2048, shapeCast S128x2048 (m ((c : Thread nD τ).loc main_arg1)) shapeCasts_S32x4x2048_S128x2048⟩]
        concatenates_S8192x2048_S128x2048_S8320x2048_d0 := by
  unfold V
  simp only [hostOps0, hostOps0_1, hostOps0_2, List.flatten_cons, List.flatten_nil, List.cons_append, List.nil_append, List.append_nil]
  after_results; try rfl

/-- Sixteen columns of the weight, transposed and padded with zeros to 128 rows. -/
def padded (w : FVec Ideal S1x2048x18448 .f32) : FVec Ideal S1x128x2048 .f32 :=
  pad S1x128x2048 ![0, 0, 0] ![0, 112, 0] ![0, 0, 0] (extractStridedSlice S1x16x2048 ![0, 14336, 0]
    (transpose S1x18448x2048 [0, 2, 1] w transposes_S1x2048x18448_S1x18448x2048_0_2_1)
    slices_S1x18448x2048_S1x16x2048_0_14336_0) (sitofp .f32 (constantI S_ 32 0#32)) pads_S1x16x2048_S1x128x2048_000_01120_000 h_S_

/-- The weight the kernel reads: sixteen columns of the argument, transposed and padded with zeros to 128 rows. -/
theorem weight_eq (c : Dev nD) : (V m c main_v2 : FVec Ideal S1x128x2048 .f32)
    = padded (m ((c : Thread nD τ).loc main_arg2)) := by
  unfold V
  simp only [hostOps0, hostOps0_1, hostOps0_2, List.flatten_cons, List.flatten_nil, List.cons_append, List.nil_append, List.append_nil]
  after_results; try rfl

/-- The integer zero read as a real is zero. -/
theorem zero_fill : (FloatOps.sitofp FTy.f32 0#32 : Ideal .f32) = (0 : EReal) := by
  show (((0#32 : BitVec 32).toInt : ℝ) : EReal) = 0
  simp

/-- The padded weight, entry by entry. -/
theorem padded_at (w : FVec Ideal S1x2048x18448 .f32) (n : Fin 128) (k : Fin 2048) :
    padded w (ix3 0 n k)
      = if h : n.val < 16 then w (ix3 0 k ⟨14336 + n.val, by omega⟩) else (0 : EReal) := by
  pointwise [padded]
  simp only [zero_fill]

/-- The weight window's block starts at the element its index map names. -/
theorem weight_block (c : Dev nD) (t : Fin cfg0.N) (r : Fin 128) (k : Fin 2048) (h : r.val < 128) :
    iblk m c 1 t (ix3 0 r k) = V m c main_v2 (ix3 0 ⟨r.val, h⟩ k) := by
  blk_simp [iblk]
  refine congrArg (V m c main_v2) (funext fun a => Fin.ext ?_)
  have e := (idx t).2.1
  match a with
  | ⟨0, _⟩ => show win0_1.index t 0 + 1 * 0 = 0; rw [e]; rfl
  | ⟨1, _⟩ => show win0_1.index t 1 + 1 * r.val = r.val; rw [e, one_mul]; exact Nat.zero_add _
  | ⟨2, _⟩ => show win0_1.index t 2 + 1 * k.val = k.val; rw [e, one_mul]; exact Nat.zero_add _

/-- At the first row tile of a column tile the scratch is filled with the weight block. -/
theorem scratch_fill (c : Dev nD) (t : Fin cfg0.N) (h0 : t.val % 10 = 0) :
    (outsAt0 m c t.val t.isLt).2 = k0_pay1 (F := Ideal) (iblk m c 1 t) := by
  rw [outsAt0_A m c t h0]; frame_out

/-- At any other row tile it is left as it was. -/
theorem scratch_keep (c : Dev nD) (t : Fin cfg0.N) (h0 : ¬t.val % 10 = 0) :
    (outsAt0 m c t.val t.isLt).2 = (outsAt0 m c (t.val - 1) (Nat.lt_of_le_of_lt (Nat.sub_le _ _) t.isLt)).2 := by
  rw [outsAt0_B m c t h0]; rfl

/-- What the scratch holds after point `n`: the weight rows of its column tile. -/
theorem scratch_at (c : Dev nD) (n : ℕ) (hn : n < cfg0.N) (r : Fin 128) (k : Fin 2048) (h : r.val < 128) :
    (outsAt0 m c n hn).2 (ix2 r k) = V m c main_v2 (ix3 0 ⟨r.val, h⟩ k) := by
  have fill : ∀ (n : ℕ) (hn : n < cfg0.N) (h : r.val < 128), n % 10 = 0 →
      (outsAt0 m c n hn).2 (ix2 r k) = V m c main_v2 (ix3 0 ⟨r.val, h⟩ k) := fun n hn h h0 => by
    refine (congrFun (scratch_fill m c ⟨n, hn⟩ h0) _).trans (Eq.trans ?_ (weight_block m c ⟨n, hn⟩ r k h))
    pointwise [k0_pay1]
  induction n with
  | zero => exact fill 0 hn h (Nat.zero_mod _)
  | succ n ih =>
    by_cases h0 : (n + 1) % 10 = 0
    · exact fill (n + 1) hn h h0
    · exact (congrFun (scratch_keep m c ⟨n + 1, hn⟩ h0) _).trans (ih (Nat.lt_of_succ_lt hn))

/-- What a point stores is its rows times the scratch it ends with. -/
theorem out_eq (c : Dev nD) (t : Fin cfg0.N) :
    (outsAt0 m c t.val t.isLt).1 = k0_pay2 (F := Ideal) (iblk m c 0 t) (outsAt0 m c t.val t.isLt).2 := by
  by_cases h0 : t.val % 10 = 0
  · rw [scratch_fill m c t h0, outsAt0_A m c t h0]; frame_out
  · rw [scratch_keep m c t h0, outsAt0_B m c t h0]; frame_out
    exact congrArg (k0_pay2 (F := Ideal) (iblk m c 0 t)) (Memref.IsWhole.read_unread _ _)

/-- One entry of rows times transposed weight. -/
def product (x : FVec Ideal S8320x2048 .f32) (wt : FVec Ideal S1x128x2048 .f32) (r : Fin 8320) (n : Fin 128) : EReal :=
  ∑ k : Fin 2048, x (ix2 r k) * wt (ix3 0 n k)

/-- The reference's entry is that product of the rows and of any array holding the weight transposed. -/
theorem REF_at (xp : FVec Ideal S1x8192x2048 .f32) (xs : FVec Ideal S32x4x2048 .f32) (w : FVec Ideal S1x2048x18448 .f32)
    (wt : FVec Ideal S1x128x2048 .f32)
    (hw : ∀ (n : Fin 128) (k : Fin 2048), wt (ix3 0 n k) = if h : n.val < 16 then w (ix3 0 k ⟨14336 + n.val, by omega⟩) else (0 : EReal))
    (i : S8320x128.Idx) (r n : ℕ) (hr : r < 8320) (hn : n < 128) (e0 : (i 0 : ℕ) = r) (e1 : (i 1 : ℕ) = n) :
    REF xp xs w i = product (concatenate S8320x2048 0 [⟨S8192x2048, shapeCast S8192x2048 xp shapeCasts_S1x8192x2048_S8192x2048⟩,
        ⟨S128x2048, shapeCast S128x2048 xs shapeCasts_S32x4x2048_S128x2048⟩]
        concatenates_S8192x2048_S128x2048_S8320x2048_d0) wt ⟨r, hr⟩ ⟨n, hn⟩ := by
  idx_vars i
  subst e0 e1
  unfold product
  simp only [hw]
  by_cases h' : i1.val < 16 <;> by_cases h : i0.val < 8192
  · pointwise [REF, h, h']
  · pointwise [REF, h, h']
  all_goals
    pointwise [REF, h, h', zero_fill]
    exact (Finset.sum_eq_zero fun _ _ => mul_zero _).symm

/-- What point `t` stores at block index `y` is the reference's entry where `y` lands. -/
theorem point (c : Dev nD) (t : Fin cfg0.N) (y) : (outsAt0 m c t.val t.isLt).1 y
    = REF (m ((c : Thread nD τ).loc main_arg0)) (m ((c : Thread nD τ).loc main_arg1)) (m ((c : Thread nD τ).loc main_arg2))
        (((cfg0.win 2).blk t).view.emb y) := by
  have ht : t.val < 10 := lt_of_lt_of_eq t.isLt N_0
  rw [out_eq]
  idx_vars y
  have h0 : (t.val % 10) * 832 + y0.val < 8320 := by omega
  have h1 : y1.val < 128 := by omega
  have hx : ∀ k : Fin 2048, iblk m c 0 t (ix2 y0 k) = V m c main_v5 (ix2 ⟨(t.val % 10) * 832 + y0.val, h0⟩ k) := fun k => by
    blk_ext [iblk, idx t]
  have hw := fun k => scratch_at m c t.val t.isLt y1 k h1
  have e0 : ((((cfg0.win 2).blk t).view.emb (ix2 y0 y1) 0 : Fin _) : ℕ) = (t.val % 10) * 832 + y0.val := by blk_simp [idx t]
  have e1 : ((((cfg0.win 2).blk t).view.emb (ix2 y0 y1) 1 : Fin _) : ℕ) = y1.val := by blk_simp [idx t]
  refine Eq.trans (b := product (V m c main_v5) (V m c main_v2) ⟨(t.val % 10) * 832 + y0.val, h0⟩ ⟨y1.val, h1⟩) ?_ ?_
  · pointwise [k0_pay2, product]
    refine Fin.sum_fin_congr fun k => ?_
    rw [hx, hw]
  · rw [rows_eq, weight_eq]
    exact (REF_at _ _ (m ((c : Thread nD τ).loc main_arg2)) _ (fun n k => padded_at _ n k) _ _ _ h0 h1 e0 e1).symm

/-- After the run the result array is the reference's result. -/
theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  exact point m c t y

end Cert.KernelForgetIdeal.InProj

end
-- ==== Proof.Experts.lean ====
module

public import proofs.«01_k».proof.Proof.Gen.KernelExpertsIdeal.Value
public import proofs.«01_k».proof.Proof.Gen.ReferenceExpertsIdeal.Run
public import Idealize.ShloMosaic.Lib.Pipeline.ValueKit

/-!
The routed experts.  For each tile of 832 rows the grid runs over the 64 experts; the tile's block of the result is set to
zero at the first expert and every expert adds its part: the rows' hidden layer, gated and weighted by the row's
combination weight of the expert, times the expert's output matrix.  The reference contracts over experts and hidden
units at once.
-/

@[expose] public section

set_option maxRecDepth 16384

noncomputable section

namespace Cert.KernelExpertsIdeal.Body

open Idealize.ShloMosaic Idealize.ShloMosaic.TcCoe Idealize.SL.Sem
open Idealize.ShloMosaic.Pipeline (Dat)
open Cert.KernelExpertsIdeal Cert.KernelExpertsIdeal.Gen

variable (m : (ℓ : Loc nD τ sig) → Buf (Elt Ideal) ℓ)

/-- The reference's result over rows, combination weights and the experts' three matrices. -/
def REF (a0 : FVec Ideal S8320x2048 .bf16) (a1 : FVec Ideal S8320x128 .f32) (a2 : FVec Ideal S1x64x2048x256 .f32)
    (a3 : FVec Ideal S1x64x2048x256 .f32) (a4 : FVec Ideal S1x64x256x2048 .f32) : FVec Ideal S8320x2048 .f32 :=
  Host.dotGeneral Cert.ReferenceExpertsIdeal.dot_S8320x64x256_S64x256x2048_S8320x2048_12_01_0_2_n_n none (mulf (mulf (mulf (Host.dotGeneral Cert.ReferenceExpertsIdeal.dot_S8320x2048_S64x2048x256_S8320x64x256_1_1_0_02_n_n none (extf .f32 a0 bitsLt_bf16_f32) (shapeCast _ a2 Cert.ReferenceExpertsIdeal.Gen.shapeCasts_S1x64x2048x256_S64x2048x256)) (Host.divf (broadcastInDim Cert.ReferenceExpertsIdeal.S8320x64x256 ![] Cert.ReferenceExpertsIdeal.Gen.bcast_S_S8320x64x256 (constant Cert.ReferenceExpertsIdeal.S_ .f32 0x3F800000#32)) (addf (broadcastInDim Cert.ReferenceExpertsIdeal.S8320x64x256 ![] Cert.ReferenceExpertsIdeal.Gen.bcast_S_S8320x64x256 (constant Cert.ReferenceExpertsIdeal.S_ .f32 0x3F800000#32)) (Host.exp (Host.negf (Host.dotGeneral Cert.ReferenceExpertsIdeal.dot_S8320x2048_S64x2048x256_S8320x64x256_1_1_0_02_n_n none (extf .f32 a0 bitsLt_bf16_f32) (shapeCast _ a2 Cert.ReferenceExpertsIdeal.Gen.shapeCasts_S1x64x2048x256_S64x2048x256))))))) (Host.dotGeneral Cert.ReferenceExpertsIdeal.dot_S8320x2048_S64x2048x256_S8320x64x256_1_1_0_02_n_n none (extf .f32 a0 bitsLt_bf16_f32) (shapeCast _ a3 Cert.ReferenceExpertsIdeal.Gen.shapeCasts_S1x64x2048x256_S64x2048x256))) (broadcastInDim Cert.ReferenceExpertsIdeal.S8320x64x256 ![0, 1, 2] Cert.ReferenceExpertsIdeal.Gen.bcast_S8320x64x1_S8320x64x256_0_1_2 (broadcastInDim Cert.ReferenceExpertsIdeal.S8320x64x1 ![0, 1] Cert.ReferenceExpertsIdeal.Gen.bcast_S8320x64_S8320x64x1_0_1 (extractStridedSlice Cert.ReferenceExpertsIdeal.S8320x64 ![0, 0] a1 Cert.ReferenceExpertsIdeal.Gen.slices_S8320x128_S8320x64_0_0)))) (shapeCast _ a4 Cert.ReferenceExpertsIdeal.Gen.shapeCasts_S1x64x256x2048_S64x256x2048)

/-- One hidden unit: the gated product of the row's two projections, times the row's weight. -/
def hidden (x wg wu : Fin 2048 → EReal) (w : EReal) : EReal :=
  (∑ k : Fin 2048, x k * wg k) * Ideal.div 1 (1 + Ideal.exp (-∑ k : Fin 2048, x k * wg k)) * (∑ k : Fin 2048, x k * wu k) * w

/-- What one expert adds to one entry of the result, over its weights and the row's combination weight. -/
def part (x : Fin 2048 → EReal) (wg wu : Fin 2048 → Fin 256 → EReal) (w : EReal) (wd : Fin 256 → EReal) : EReal :=
  ∑ f : Fin 256, hidden x (fun k => wg k f) (fun k => wu k f) w * wd f

/-- The sum over lanes that keeps the lane of expert `e` is that lane's combination weight. -/
theorem lane_sum (x : Fin 128 → EReal) (e : ℕ) (h : e < 128) :
    ∑ l : Fin 128, Scalar.select (IntOp.cmpi CmpIPredicate.eq (BitVec.ofNat 32 l.val) (BitVec.ofNat 32 e)) (x l) 0 = x ⟨e, h⟩ := by
  rw [Finset.sum_eq_single (⟨e, h⟩ : Fin 128)]
  · simp [Scalar.select, IntOp.cmpi]
  · intro l _ hl
    have : BitVec.ofNat 32 l.val ≠ BitVec.ofNat 32 e := fun hh => hl (Fin.ext (by
      have := congrArg BitVec.toNat hh
      simp only [BitVec.toNat_ofNat] at this
      have := l.isLt
      show l.val = e
      omega))
    have h' : (BitVec.ofNat 32 l.val == BitVec.ofNat 32 e) = false := beq_eq_false_iff_ne.mpr this
    simp [Scalar.select, IntOp.cmpi, h']
  · intro hh; exact absurd (Finset.mem_univ _) hh

/-- Parts over equal entries are equal. -/
theorem part_congr {x x' : Fin 2048 → EReal} {wg wg' wu wu' : Fin 2048 → Fin 256 → EReal} {w w' : EReal}
    {wd wd' : Fin 256 → EReal} (hx : ∀ k, x k = x' k) (hg : ∀ k f, wg k f = wg' k f) (hu : ∀ k f, wu k f = wu' k f)
    (hw : w = w') (hd : ∀ f, wd f = wd' f) : part x wg wu w wd = part x' wg' wu' w' wd' := by
  rw [funext hx, funext fun k => funext (hg k), funext fun k => funext (hu k), hw, funext hd]

/-- The zero fill. -/
theorem hzero (j : S832x2048.Idx) : k0_pay2 (F := Ideal) j = 0 := by pointwise [k0_pay2]

/-- What a point stores: what the block held, plus the point's expert's part. -/
theorem hpay (i : grid0.Coords) (x0 : FVec Ideal S832x2048 .bf16) (x1 : FVec Ideal S832x128 .f32)
    (x2 x3 : FVec Ideal S1x2048x256 .f32) (x4 : FVec Ideal S1x256x2048 .f32) (acc : FVec Ideal S832x2048 .f32)
    (j : S832x2048.Idx) :
    k0_pay1 (k0_pay3 i x0 x2 x3 x1) (k0_pay4 acc) x4 j = acc j + part (fun k => x0 (ix2 (j 0) k))
      (fun k f => x2 (ix3 0 k f)) (fun k f => x3 (ix3 0 k f))
      (x1 (ix2 (j 0) ⟨(i 1).val, Nat.lt_trans (i 1).isLt (by decide)⟩)) (fun f => x4 (ix3 0 f (j 1))) := by
  idx_vars j
  have e : (i 1).val < 128 := Nat.lt_trans (i 1).isLt (by decide)
  have hl := lane_sum (fun l => x1 (ix2 j0 l)) (i 1).val e
  pointwise [k0_pay1, k0_pay3, k0_pay4]
  simp only [hl, part, hidden, zero_sub]

/-- The reference, expert by expert. -/
theorem href (a0 : FVec Ideal S8320x2048 .bf16) (a1 : FVec Ideal S8320x128 .f32) (a2 : FVec Ideal S1x64x2048x256 .f32)
    (a3 : FVec Ideal S1x64x2048x256 .f32) (a4 : FVec Ideal S1x64x256x2048 .f32) (j : S8320x2048.Idx) :
    REF a0 a1 a2 a3 a4 j = ∑ e : Fin 64, part (fun k => a0 (ix2 (j 0) k)) (fun k f => a2 (ix4 0 e k f))
      (fun k f => a3 (ix4 0 e k f)) (a1 (ix2 (j 0) ⟨e.val, Nat.lt_trans e.isLt (by decide)⟩)) (fun f => a4 (ix4 0 e f (j 1))) := by
  idx_vars j
  pointwise [REF]
  simp only [part, hidden]

/-- The windows' index maps, and the expert a point works on. -/
theorem idx : ∀ t : Fin cfg0.N, win0_0.index t = ![t.val / 64, 0] ∧ win0_1.index t = ![t.val / 64, 0]
    ∧ win0_2.index t = ![t.val % 64, 0, 0] ∧ win0_3.index t = ![t.val % 64, 0, 0] ∧ win0_4.index t = ![t.val % 64, 0, 0]
    ∧ win0_5.index t = ![t.val / 64, 0] ∧ ((grid0.coords t 1).val = t.val % 64) :=
  (by decide +kernel : ∀ t : Fin grid0.N, _)

/-- The first matrices the kernel reads: the argument's, expert by expert. -/
theorem gate_eq (c : Dev nD) : (V m c main_v0 : FVec Ideal S64x2048x256 .f32)
    = shapeCast S64x2048x256 (m ((c : Thread nD τ).loc main_arg2)) shapeCasts_S1x64x2048x256_S64x2048x256 := by
  unfold V; after_results; try rfl

/-- The second matrices the kernel reads. -/
theorem up_eq (c : Dev nD) : (V m c main_v1 : FVec Ideal S64x2048x256 .f32)
    = shapeCast S64x2048x256 (m ((c : Thread nD τ).loc main_arg3)) shapeCasts_S1x64x2048x256_S64x2048x256 := by
  unfold V; after_results; try rfl

/-- The output matrices the kernel reads. -/
theorem down_eq (c : Dev nD) : (V m c main_v2 : FVec Ideal S64x256x2048 .f32)
    = shapeCast S64x256x2048 (m ((c : Thread nD τ).loc main_arg4)) shapeCasts_S1x64x256x2048_S64x256x2048 := by
  unfold V; after_results; try rfl

/-- Dropping the leading axis of size one. -/
theorem drop_in (w : FVec Ideal S1x64x2048x256 .f32) (e : Fin 64) (k : Fin 2048) (f : Fin 256) :
    shapeCast S64x2048x256 w shapeCasts_S1x64x2048x256_S64x2048x256 (ix3 e k f) = w (ix4 0 e k f) := by pointwise

/-- Dropping the leading axis of size one. -/
theorem drop_out (w : FVec Ideal S1x64x256x2048 .f32) (e : Fin 64) (f : Fin 256) (k : Fin 2048) :
    shapeCast S64x256x2048 w shapeCasts_S1x64x256x2048_S64x256x2048 (ix3 e f k) = w (ix4 0 e f k) := by pointwise

/-- After the run the result array is the reference's result. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5, Pipeline.eq_sum_fin_of_reset_step_apply_of_flush (fun n h => outsAt0 m c n h) 64 (fun _ => 0) _
    (fun t h j => by rw [outsAt0_A m c t h]; frame_out; rw [hpay, hzero]) (fun t h j => by rw [outsAt0_B m c t h]; frame_out; rw [hpay])
    t ((flush0_5 t).mp hf) _, zero_add, href]
  refine Fin.sum_fin_congr fun s => ?_
  have hs := idx ⟨_, Pipeline.run_point_lt_of_flush t ((flush0_5 t).mp hf) s⟩
  have hN : t.val < 640 := lt_of_lt_of_eq t.isLt N_0
  idx_vars y
  refine part_congr (fun k => ?_) (fun k f => ?_) (fun k f => ?_) ?_ (fun f => ?_)
  · blk_ext [iblk, V, idx t, hs]
  · refine Eq.trans (b := V m c main_v0 (ix3 s k f)) (by blk_ext [iblk, idx t, hs]) ?_
    rw [gate_eq]; exact drop_in _ s k f
  · refine Eq.trans (b := V m c main_v1 (ix3 s k f)) (by blk_ext [iblk, idx t, hs]) ?_
    rw [up_eq]; exact drop_in _ s k f
  · blk_ext [iblk, V, idx t, hs]
  · refine Eq.trans (b := V m c main_v2 (ix3 s f (((cfg0.win 5).blk t).view.emb (ix2 y0 y1) 1))) (by blk_ext [iblk, idx t, hs]) ?_
    rw [down_eq]; exact drop_out _ s f _

end Cert.KernelExpertsIdeal.Body

end
-- ==== Proof.Merge.lean ====
module

public import proofs.«01_k».proof.Proof.Gen.KernelMergeIdeal.Value
public import proofs.«01_k».proof.Proof.Gen.ReferenceMergeIdeal.Run
public import Idealize.ShloMosaic.Lib.Pipeline.ValueKit

/-!
The merge of the two mixers' outputs.  Each point of the grid takes 832 rows and 512 columns: both outputs are multiplied
with their projection matrices, each product is gated by the logistic function of its gate's logits plus bias, and the
two are added.  A block of the result is written by exactly one point.
-/

@[expose] public section

set_option maxRecDepth 16384

noncomputable section

namespace Cert.KernelMergeIdeal.Body

open Idealize.ShloMosaic Idealize.ShloMosaic.TcCoe Idealize.SL.Sem
open Idealize.ShloMosaic.Pipeline (Dat)
open Cert.KernelMergeIdeal Cert.KernelMergeIdeal.Gen

variable (m : (ℓ : Loc nD τ sig) → Buf (Elt Ideal) ℓ)

/-- The reference's result over the two mixers' outputs, the two matrices, the gates' logits and their biases. -/
def REF (a0 a1 : FVec Ideal S8320x2048 .bf16) (a2 a3 : FVec Ideal S1x2048x2048 .f32) (a4 : FVec Ideal S8320x4096 .f32)
    (a5 : FVec Ideal S1x2x2048 .f32) : FVec Ideal S8320x2048 .bf16 :=
  truncf .bf16 (addf (mulf (Host.divf (broadcastInDim Cert.ReferenceMergeIdeal.S8320x2048 ![] Cert.ReferenceMergeIdeal.Gen.bcast_S_S8320x2048 (constant Cert.ReferenceMergeIdeal.S_ .f32 0x3F800000#32)) (addf (broadcastInDim Cert.ReferenceMergeIdeal.S8320x2048 ![] Cert.ReferenceMergeIdeal.Gen.bcast_S_S8320x2048 (constant Cert.ReferenceMergeIdeal.S_ .f32 0x3F800000#32)) (Host.exp (Host.negf (addf (extractStridedSlice Cert.ReferenceMergeIdeal.S8320x2048 ![0, 0] a4 Cert.ReferenceMergeIdeal.Gen.slices_S8320x4096_S8320x2048_0_0) (broadcastInDim Cert.ReferenceMergeIdeal.S8320x2048 ![0, 1] Cert.ReferenceMergeIdeal.Gen.bcast_S1x2048_S8320x2048_0_1 (broadcastInDim Cert.ReferenceMergeIdeal.S1x2048 ![1] Cert.ReferenceMergeIdeal.Gen.bcast_S2048_S1x2048_1 (shapeCast _ (extractStridedSlice Cert.ReferenceMergeIdeal.S1x1x2048 ![0, 0, 0] a5 Cert.ReferenceMergeIdeal.Gen.slices_S1x2x2048_S1x1x2048_0_0_0) Cert.ReferenceMergeIdeal.Gen.shapeCasts_S1x1x2048_S2048)))))))) (Host.dotGeneral Cert.ReferenceMergeIdeal.dot_S8320x2048_S2048x2048_S8320x2048_1_0_0_1_n_n none (extf .f32 a0 bitsLt_bf16_f32) (shapeCast _ a2 Cert.ReferenceMergeIdeal.Gen.shapeCasts_S1x2048x2048_S2048x2048))) (mulf (Host.divf (broadcastInDim Cert.ReferenceMergeIdeal.S8320x2048 ![] Cert.ReferenceMergeIdeal.Gen.bcast_S_S8320x2048 (constant Cert.ReferenceMergeIdeal.S_ .f32 0x3F800000#32)) (addf (broadcastInDim Cert.ReferenceMergeIdeal.S8320x2048 ![] Cert.ReferenceMergeIdeal.Gen.bcast_S_S8320x2048 (constant Cert.ReferenceMergeIdeal.S_ .f32 0x3F800000#32)) (Host.exp (Host.negf (addf (extractStridedSlice Cert.ReferenceMergeIdeal.S8320x2048 ![0, 2048] a4 Cert.ReferenceMergeIdeal.Gen.slices_S8320x4096_S8320x2048_0_2048) (broadcastInDim Cert.ReferenceMergeIdeal.S8320x2048 ![0, 1] Cert.ReferenceMergeIdeal.Gen.bcast_S1x2048_S8320x2048_0_1 (broadcastInDim Cert.ReferenceMergeIdeal.S1x2048 ![1] Cert.ReferenceMergeIdeal.Gen.bcast_S2048_S1x2048_1 (shapeCast _ (extractStridedSlice Cert.ReferenceMergeIdeal.S1x1x2048 ![0, 1, 0] a5 Cert.ReferenceMergeIdeal.Gen.slices_S1x2x2048_S1x1x2048_0_1_0) Cert.ReferenceMergeIdeal.Gen.shapeCasts_S1x1x2048_S2048)))))))) (Host.dotGeneral Cert.ReferenceMergeIdeal.dot_S8320x2048_S2048x2048_S8320x2048_1_0_0_1_n_n none (extf .f32 a1 bitsLt_bf16_f32) (shapeCast _ a3 Cert.ReferenceMergeIdeal.Gen.shapeCasts_S1x2048x2048_S2048x2048)))) bitsLt_bf16_f32

/-- One entry of the merge, over two rows, two columns, two logits and two biases. -/
def merged (xa xb wa wb : Fin 2048 → EReal) (ga gb ba bb : EReal) : EReal :=
  Ideal.div 1 (1 + Ideal.exp (-(ga + ba))) * (∑ k : Fin 2048, xa k * wa k)
    + Ideal.div 1 (1 + Ideal.exp (-(gb + bb))) * ∑ k : Fin 2048, xb k * wb k

/-- Merges over equal entries are equal. -/
theorem merged_congr {xa xa' xb xb' wa wa' wb wb' : Fin 2048 → EReal} {ga ga' gb gb' ba ba' bb bb' : EReal}
    (h0 : ∀ k, xa k = xa' k) (h1 : ∀ k, xb k = xb' k) (h2 : ∀ k, wa k = wa' k) (h3 : ∀ k, wb k = wb' k)
    (h4 : ga = ga') (h5 : gb = gb') (h6 : ba = ba') (h7 : bb = bb') :
    merged xa xb wa wb ga gb ba bb = merged xa' xb' wa' wb' ga' gb' ba' bb' := by
  rw [funext h0, funext h1, funext h2, funext h3, h4, h5, h6, h7]

/-- What a point stores, entry by entry. -/
theorem out_at (x0 x1 : FVec Ideal S832x2048 .bf16) (x2 x3 : FVec Ideal S2048x512 .bf16) (x4 x5 : FVec Ideal S832x512 .f32)
    (x6 : FVec Ideal S2x512 .f32) (j : S832x512.Idx) :
    out0_7 (F := Ideal) x0 x1 x2 x3 x4 x5 x6 j = merged (fun k => x0 (ix2 (j 0) k)) (fun k => x1 (ix2 (j 0) k))
      (fun k => x2 (ix2 k (j 1))) (fun k => x3 (ix2 k (j 1))) (x4 (ix2 (j 0) (j 1))) (x5 (ix2 (j 0) (j 1)))
      (x6 (ix2 0 (j 1))) (x6 (ix2 1 (j 1))) := by
  idx_vars j
  frame_out
  pointwise [k0_pay1, k0_pay2, k0_pay3]
  simp only [merged, zero_sub]

/-- The reference, entry by entry. -/
theorem ref_at (a0 a1 : FVec Ideal S8320x2048 .bf16) (a2 a3 : FVec Ideal S1x2048x2048 .f32) (a4 : FVec Ideal S8320x4096 .f32)
    (a5 : FVec Ideal S1x2x2048 .f32) (j : S8320x2048.Idx) :
    REF a0 a1 a2 a3 a4 a5 j = merged (fun k => a0 (ix2 (j 0) k)) (fun k => a1 (ix2 (j 0) k))
      (fun k => a2 (ix3 0 k (j 1))) (fun k => a3 (ix3 0 k (j 1))) (a4 (ix2 (j 0) ⟨(j 1).val, Nat.lt_trans (j 1).isLt (by decide)⟩))
      (a4 (ix2 (j 0) ⟨2048 + (j 1).val, Nat.add_lt_add_left (j 1).isLt 2048⟩)) (a5 (ix3 0 0 (j 1))) (a5 (ix3 0 1 (j 1))) := by
  idx_vars j
  pointwise [REF]
  simp only [merged]

/-- The windows' index maps. -/
theorem idx : ∀ t : Fin cfg0.N, win0_0.index t = ![t.val / 4, 0] ∧ win0_1.index t = ![t.val / 4, 0]
    ∧ win0_2.index t = ![0, t.val % 4] ∧ win0_3.index t = ![0, t.val % 4] ∧ win0_4.index t = ![t.val / 4, t.val % 4]
    ∧ win0_5.index t = ![t.val / 4, 4 + t.val % 4] ∧ win0_6.index t = ![0, t.val % 4] ∧ win0_7.index t = ![t.val / 4, t.val % 4] :=
  (by decide +kernel : ∀ t : Fin grid0.N, _)

/-- A matrix without its leading axis of size one. -/
def drop (w : FVec Ideal S1x2048x2048 .f32) : FVec Ideal S2048x2048 .bf16 :=
  truncf .bf16 (shapeCast S2048x2048 w shapeCasts_S1x2048x2048_S2048x2048) bitsLt_bf16_f32

/-- A matrix without that axis, entry by entry. -/
theorem drop_at (w : FVec Ideal S1x2048x2048 .f32) (k n : Fin 2048) : drop w (ix2 k n) = w (ix3 0 k n) := by
  pointwise [drop]

/-- The biases without their leading axis of size one. -/
theorem drop_bias (b : FVec Ideal S1x2x2048 .f32) (s : Fin 2) (n : Fin 2048) :
    shapeCast S2x2048 b shapeCasts_S1x2x2048_S2x2048 (ix2 s n) = b (ix3 0 s n) := by pointwise

/-- The first matrix the kernel reads. -/
theorem wa_at (c : Dev nD) (k n : Fin 2048) : V m c main_v1 (ix2 k n) = m ((c : Thread nD τ).loc main_arg2) (ix3 0 k n) := by
  have h : (V m c main_v1 : FVec Ideal S2048x2048 .bf16) = drop (m ((c : Thread nD τ).loc main_arg2)) := by unfold V; after_results; try rfl
  exact (congrFun h _).trans (drop_at _ k n)

/-- The second matrix the kernel reads. -/
theorem wb_at (c : Dev nD) (k n : Fin 2048) : V m c main_v3 (ix2 k n) = m ((c : Thread nD τ).loc main_arg3) (ix3 0 k n) := by
  have h : (V m c main_v3 : FVec Ideal S2048x2048 .bf16) = drop (m ((c : Thread nD τ).loc main_arg3)) := by unfold V; after_results; try rfl
  exact (congrFun h _).trans (drop_at _ k n)

/-- The biases the kernel reads. -/
theorem bias_at (c : Dev nD) (s : Fin 2) (n : Fin 2048) :
    V m c main_v4 (ix2 s n) = m ((c : Thread nD τ).loc main_arg5) (ix3 0 s n) := by
  have h : (V m c main_v4 : FVec Ideal S2x2048 .f32) = shapeCast S2x2048 (m ((c : Thread nD τ).loc main_arg5))
      shapeCasts_S1x2x2048_S2x2048 := by unfold V; after_results; try rfl
  exact (congrFun h _).trans (drop_bias _ s n)

/-- After the run the result array is the reference's result. -/
theorem final (c : Dev nD) : (dats m 0 c).arrAt 7 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  have ht : t.val < 40 := lt_of_lt_of_eq t.isLt N_0
  idx_vars y
  rw [out_at, ref_at]
  refine merged_congr (fun k => ?_) (fun k => ?_) (fun k => ?_) (fun k => ?_) ?_ ?_ ?_ ?_
  · blk_ext [iblk, V, idx t]
  · blk_ext [iblk, V, idx t]
  · refine Eq.trans (b := V m c main_v1 (ix2 k (((cfg0.win 7).blk t).view.emb (ix2 y0 y1) 1))) (by blk_ext [iblk, idx t]) (wa_at m c _ _)
  · refine Eq.trans (b := V m c main_v3 (ix2 k (((cfg0.win 7).blk t).view.emb (ix2 y0 y1) 1))) (by blk_ext [iblk, idx t]) (wb_at m c _ _)
  · blk_ext [iblk, V, idx t]
  · blk_ext [iblk, V, idx t]
  · refine Eq.trans (b := V m c main_v4 (ix2 0 (((cfg0.win 7).blk t).view.emb (ix2 y0 y1) 1))) (by blk_ext [iblk, idx t]) (bias_at m c _ _)
  · refine Eq.trans (b := V m c main_v4 (ix2 1 (((cfg0.win 7).blk t).view.emb (ix2 y0 y1) 1))) (by blk_ext [iblk, idx t]) (bias_at m c _ _)

end Cert.KernelMergeIdeal.Body

end
-- ==== Proof.MixNorm.lean ====
module

public import proofs.«01_k».proof.Proof.Gen.KernelMixNormIdeal.Value
public import proofs.«01_k».proof.Proof.Gen.ReferenceMixNormIdeal.Run
public import Idealize.ShloMosaic.Lib.Pipeline.ValueKit

/-!
The mixers' output projection and the first residual norm.  Each point of the grid takes 416 rows, multiplies them with
the whole matrix, adds the scaled residual rows and normalises every row; it stores the normalised rows twice, the
second time converted to the narrower format.
-/

@[expose] public section

set_option maxRecDepth 16384

noncomputable section

namespace Cert.KernelMixNormIdeal.Body

open Idealize.ShloMosaic Idealize.ShloMosaic.TcCoe Idealize.SL.Sem
open Idealize.ShloMosaic.Pipeline (Dat)
open Cert.KernelMixNormIdeal Cert.KernelMixNormIdeal.Gen

variable (m : (ℓ : Loc nD τ sig) → Buf (Elt Ideal) ℓ)

/-- One entry of the layer normalisation of a row, over the row and the entry's scale and shift. -/
def normed (h : Fin 2048 → EReal) (g b : EReal) (n : Fin 2048) : EReal :=
  (h n - Ideal.div (∑ k : Fin 2048, h k) (Ideal.ofBits FTy.f32 1157627904#32))
      * Ideal.rsqrt (Ideal.div (∑ k : Fin 2048, (h k - Ideal.div (∑ k : Fin 2048, h k) (Ideal.ofBits FTy.f32 1157627904#32))
          * (h k - Ideal.div (∑ k : Fin 2048, h k) (Ideal.ofBits FTy.f32 1157627904#32))) (Ideal.ofBits FTy.f32 1157627904#32)
        + Ideal.ofBits FTy.f32 925353388#32) * g + b

/-- Normalisations of equal rows are equal. -/
theorem normed_congr {h h' : Fin 2048 → EReal} {g g' b b' : EReal} {n n' : Fin 2048} (h0 : ∀ k, h k = h' k)
    (h1 : g = g') (h2 : b = b') (h3 : n = n') : normed h g b n = normed h' g' b' n' := by
  rw [funext h0, h1, h2, h3]

/-- The reference's layer normalisation over all rows. -/
def layer (h : FVec Ideal S8320x2048 .f32) (g b : FVec Ideal S1x2048 .f32) : FVec Ideal S8320x2048 .f32 :=
  addf (mulf (mulf (subf h (broadcastInDim Cert.ReferenceMixNormIdeal.S8320x2048 ![0, 1] Cert.ReferenceMixNormIdeal.Gen.bcast_S8320x1_S8320x2048_0_1 (Host.divf (broadcastInDim Cert.ReferenceMixNormIdeal.S8320x1 ![0] Cert.ReferenceMixNormIdeal.Gen.bcast_S8320_S8320x1_0 (Host.reduceAdd h (constant Cert.ReferenceMixNormIdeal.S_ .f32 0x00000000#32) Cert.ReferenceMixNormIdeal.Gen.reducesTo_S8320x2048_S8320_d1 Cert.ReferenceMixNormIdeal.Gen.h_S_)) (broadcastInDim Cert.ReferenceMixNormIdeal.S8320x1 ![] Cert.ReferenceMixNormIdeal.Gen.bcast_S_S8320x1 (constant Cert.ReferenceMixNormIdeal.S_ .f32 0x45000000#32))))) (broadcastInDim Cert.ReferenceMixNormIdeal.S8320x2048 ![0, 1] Cert.ReferenceMixNormIdeal.Gen.bcast_S8320x1_S8320x2048_0_1 (Host.rsqrt (addf (Host.divf (broadcastInDim Cert.ReferenceMixNormIdeal.S8320x1 ![0] Cert.ReferenceMixNormIdeal.Gen.bcast_S8320_S8320x1_0 (Host.reduceAdd (mulf (subf h (broadcastInDim Cert.ReferenceMixNormIdeal.S8320x2048 ![0, 1] Cert.ReferenceMixNormIdeal.Gen.bcast_S8320x1_S8320x2048_0_1 (Host.divf (broadcastInDim Cert.ReferenceMixNormIdeal.S8320x1 ![0] Cert.ReferenceMixNormIdeal.Gen.bcast_S8320_S8320x1_0 (Host.reduceAdd h (constant Cert.ReferenceMixNormIdeal.S_ .f32 0x00000000#32) Cert.ReferenceMixNormIdeal.Gen.reducesTo_S8320x2048_S8320_d1 Cert.ReferenceMixNormIdeal.Gen.h_S_)) (broadcastInDim Cert.ReferenceMixNormIdeal.S8320x1 ![] Cert.ReferenceMixNormIdeal.Gen.bcast_S_S8320x1 (constant Cert.ReferenceMixNormIdeal.S_ .f32 0x45000000#32))))) (subf h (broadcastInDim Cert.ReferenceMixNormIdeal.S8320x2048 ![0, 1] Cert.ReferenceMixNormIdeal.Gen.bcast_S8320x1_S8320x2048_0_1 (Host.divf (broadcastInDim Cert.ReferenceMixNormIdeal.S8320x1 ![0] Cert.ReferenceMixNormIdeal.Gen.bcast_S8320_S8320x1_0 (Host.reduceAdd h (constant Cert.ReferenceMixNormIdeal.S_ .f32 0x00000000#32) Cert.ReferenceMixNormIdeal.Gen.reducesTo_S8320x2048_S8320_d1 Cert.ReferenceMixNormIdeal.Gen.h_S_)) (broadcastInDim Cert.ReferenceMixNormIdeal.S8320x1 ![] Cert.ReferenceMixNormIdeal.Gen.bcast_S_S8320x1 (constant Cert.ReferenceMixNormIdeal.S_ .f32 0x45000000#32)))))) (constant Cert.ReferenceMixNormIdeal.S_ .f32 0x00000000#32) Cert.ReferenceMixNormIdeal.Gen.reducesTo_S8320x2048_S8320_d1 Cert.ReferenceMixNormIdeal.Gen.h_S_)) (broadcastInDim Cert.ReferenceMixNormIdeal.S8320x1 ![] Cert.ReferenceMixNormIdeal.Gen.bcast_S_S8320x1 (constant Cert.ReferenceMixNormIdeal.S_ .f32 0x45000000#32))) (broadcastInDim Cert.ReferenceMixNormIdeal.S8320x1 ![] Cert.ReferenceMixNormIdeal.Gen.bcast_S_S8320x1 (constant Cert.ReferenceMixNormIdeal.S_ .f32 0x3727C5AC#32)))))) (broadcastInDim Cert.ReferenceMixNormIdeal.S8320x2048 ![0, 1] Cert.ReferenceMixNormIdeal.Gen.bcast_S1x2048_S8320x2048_0_1 (broadcastInDim Cert.ReferenceMixNormIdeal.S1x2048 ![1] Cert.ReferenceMixNormIdeal.Gen.bcast_S2048_S1x2048_1 (shapeCast _ g Cert.ReferenceMixNormIdeal.Gen.shapeCasts_S1x2048_S2048)))) (broadcastInDim Cert.ReferenceMixNormIdeal.S8320x2048 ![0, 1] Cert.ReferenceMixNormIdeal.Gen.bcast_S1x2048_S8320x2048_0_1 (broadcastInDim Cert.ReferenceMixNormIdeal.S1x2048 ![1] Cert.ReferenceMixNormIdeal.Gen.bcast_S2048_S1x2048_1 (shapeCast _ b Cert.ReferenceMixNormIdeal.Gen.shapeCasts_S1x2048_S2048)))

/-- The reference's layer normalisation, entry by entry. -/
theorem layer_at (h : FVec Ideal S8320x2048 .f32) (g b : FVec Ideal S1x2048 .f32) (j : S8320x2048.Idx) :
    layer h g b j = normed (fun k => h (ix2 (j 0) k)) (g (ix2 0 (j 1))) (b (ix2 0 (j 1))) (j 1) := by
  idx_vars j
  pointwise [layer]
  simp only [normed]

/-- The rows the reference normalises. -/
def summed (a0 : FVec Ideal S8320x2048 .bf16) (a1 : FVec Ideal S1x2048x2048 .f32) (a2 : FVec Ideal S1x8192x2048 .f32)
    (a3 : FVec Ideal S32x4x2048 .f32) : FVec Ideal S8320x2048 .f32 :=
  addf (mulf (broadcastInDim Cert.ReferenceMixNormIdeal.S8320x2048 ![] Cert.ReferenceMixNormIdeal.Gen.bcast_S_S8320x2048 (constant Cert.ReferenceMixNormIdeal.S_ .f32 0x3F9837F0#32)) (concatenate Cert.ReferenceMixNormIdeal.S8320x2048 0 [⟨Cert.ReferenceMixNormIdeal.S8192x2048, (shapeCast _ a2 Cert.ReferenceMixNormIdeal.Gen.shapeCasts_S1x8192x2048_S8192x2048)⟩, ⟨Cert.ReferenceMixNormIdeal.S128x2048, (shapeCast _ a3 Cert.ReferenceMixNormIdeal.Gen.shapeCasts_S32x4x2048_S128x2048)⟩] Cert.ReferenceMixNormIdeal.Gen.concatenates_S8192x2048_S128x2048_S8320x2048_d0)) (Host.dotGeneral Cert.ReferenceMixNormIdeal.dot_S8320x2048_S2048x2048_S8320x2048_1_0_0_1_n_n none (extf .f32 a0 bitsLt_bf16_f32) (shapeCast _ a1 Cert.ReferenceMixNormIdeal.Gen.shapeCasts_S1x2048x2048_S2048x2048))

/-- The reference's first result over the merged rows, the matrix, the two groups' residual rows, scale and shift. -/
def REF0 (a0 : FVec Ideal S8320x2048 .bf16) (a1 : FVec Ideal S1x2048x2048 .f32) (a2 : FVec Ideal S1x8192x2048 .f32)
    (a3 : FVec Ideal S32x4x2048 .f32) (a4 a5 : FVec Ideal S1x2048 .f32) : FVec Ideal S8320x2048 .f32 :=
  layer (summed a0 a1 a2 a3) a4 a5

/-- The reference's second result: the first in the narrower format. -/
def REF1 (a0 : FVec Ideal S8320x2048 .bf16) (a1 : FVec Ideal S1x2048x2048 .f32) (a2 : FVec Ideal S1x8192x2048 .f32)
    (a3 : FVec Ideal S32x4x2048 .f32) (a4 a5 : FVec Ideal S1x2048 .f32) : FVec Ideal S8320x2048 .bf16 :=
  truncf .bf16 (layer (summed a0 a1 a2 a3) a4 a5) bitsLt_bf16_f32

/-- A residual row's entry: the prompt's rows, then the samples'. -/
def resid (a2 : FVec Ideal S1x8192x2048 .f32) (a3 : FVec Ideal S32x4x2048 .f32) (r : Fin 8320) (k : Fin 2048) : EReal :=
  if h : r.val < 8192 then a2 (ix3 0 ⟨r.val, h⟩ k)
  else a3 (ix3 ⟨(r.val - 8192) / 4, by omega⟩ ⟨(r.val - 8192) % 4, by omega⟩ k)

/-- One entry of the rows to normalise. -/
def entry (x : EReal) (r w : Fin 2048 → EReal) : EReal :=
  Ideal.ofBits FTy.f32 1066940400#32 * x + ∑ k : Fin 2048, r k * w k

/-- Entries over equal data are equal. -/
theorem entry_congr {x x' : EReal} {r r' w w' : Fin 2048 → EReal} (h0 : x = x') (h1 : ∀ k, r k = r' k)
    (h2 : ∀ k, w k = w' k) : entry x r w = entry x' r' w' := by
  rw [h0, funext h1, funext h2]

/-- The rows the reference normalises, entry by entry. -/
theorem summed_at (a0 : FVec Ideal S8320x2048 .bf16) (a1 : FVec Ideal S1x2048x2048 .f32) (a2 : FVec Ideal S1x8192x2048 .f32)
    (a3 : FVec Ideal S32x4x2048 .f32) (r : Fin 8320) (n : Fin 2048) :
    summed a0 a1 a2 a3 (ix2 r n) = entry (resid a2 a3 r n) (fun k => a0 (ix2 r k)) (fun k => a1 (ix3 0 k n)) := by
  pointwise [summed]
  simp only [entry, resid]

/-- The first result a point stores, entry by entry. -/
theorem out_at (x0 : FVec Ideal S416x2048 .bf16) (x1 : FVec Ideal S2048x2048 .bf16) (x2 : FVec Ideal S416x2048 .f32)
    (x3 x4 : FVec Ideal S1x2048 .f32) (j : S416x2048.Idx) :
    out0_5 (F := Ideal) x0 x1 x2 x3 x4 j = normed (fun n => entry (x2 (ix2 (j 0) n)) (fun k => x0 (ix2 (j 0) k))
      (fun k => x1 (ix2 k n))) (x3 (ix2 0 (j 1))) (x4 (ix2 0 (j 1))) (j 1) := by
  idx_vars j
  frame_out
  pointwise [k0_pay1]
  simp only [normed, entry]

/-- The second result a point stores has the same entries. -/
theorem out_at' (x0 : FVec Ideal S416x2048 .bf16) (x1 : FVec Ideal S2048x2048 .bf16) (x2 : FVec Ideal S416x2048 .f32)
    (x3 x4 : FVec Ideal S1x2048 .f32) (j : S416x2048.Idx) :
    out0_6 (F := Ideal) x0 x1 x2 x3 x4 j = normed (fun n => entry (x2 (ix2 (j 0) n)) (fun k => x0 (ix2 (j 0) k))
      (fun k => x1 (ix2 k n))) (x3 (ix2 0 (j 1))) (x4 (ix2 0 (j 1))) (j 1) := by
  idx_vars j
  frame_out
  pointwise [k0_pay1, k0_pay2]
  simp only [normed, entry]

/-- The windows' index maps. -/
theorem idx : ∀ t : Fin cfg0.N, win0_0.index t = ![t.val, 0] ∧ win0_1.index t = ![0, 0]
    ∧ win0_2.index t = ![t.val, 0] ∧ win0_3.index t = ![0, 0] ∧ win0_4.index t = ![0, 0]
    ∧ win0_5.index t = ![t.val, 0] ∧ win0_6.index t = ![t.val, 0] :=
  (by decide +kernel : ∀ t : Fin grid0.N, _)

/-- The matrix without its leading axis of size one. -/
def drop (w : FVec Ideal S1x2048x2048 .f32) : FVec Ideal S2048x2048 .bf16 :=
  truncf .bf16 (shapeCast S2048x2048 w shapeCasts_S1x2048x2048_S2048x2048) bitsLt_bf16_f32

/-- The matrix without that axis, entry by entry. -/
theorem drop_at (w : FVec Ideal S1x2048x2048 .f32) (k n : Fin 2048) : drop w (ix2 k n) = w (ix3 0 k n) := by
  pointwise [drop]

/-- A vector read as a row. -/
def asRow (g : FVec Ideal S1x2048 .f32) : FVec Ideal S1x2048 .f32 :=
  broadcastInDim S1x2048 ![1] bcast_S2048_S1x2048_1 (shapeCast S2048 g shapeCasts_S1x2048_S2048)

/-- A vector read as a row, entry by entry. -/
theorem asRow_at (g : FVec Ideal S1x2048 .f32) (n : Fin 2048) : asRow g (ix2 0 n) = g (ix2 0 n) := by pointwise [asRow]

/-- The residual rows, the prompt's on top of the samples'. -/
def stacked (a2 : FVec Ideal S1x8192x2048 .f32) (a3 : FVec Ideal S32x4x2048 .f32) : FVec Ideal S8320x2048 .f32 :=
  concatenate S8320x2048 0 [⟨S8192x2048, shapeCast S8192x2048 a2 shapeCasts_S1x8192x2048_S8192x2048⟩,
    ⟨S128x2048, shapeCast S128x2048 a3 shapeCasts_S32x4x2048_S128x2048⟩] concatenates_S8192x2048_S128x2048_S8320x2048_d0

/-- The stacked rows, entry by entry. -/
theorem stacked_at (a2 : FVec Ideal S1x8192x2048 .f32) (a3 : FVec Ideal S32x4x2048 .f32) (r : Fin 8320) (k : Fin 2048) :
    stacked a2 a3 (ix2 r k) = resid a2 a3 r k := by
  pointwise [stacked]
  simp only [resid]

/-- The matrix the kernel reads. -/
theorem mat_at (c : Dev nD) (k n : Fin 2048) : V m c main_v1 (ix2 k n) = m ((c : Thread nD τ).loc main_arg1) (ix3 0 k n) := by
  have h : (V m c main_v1 : FVec Ideal S2048x2048 .bf16) = drop (m ((c : Thread nD τ).loc main_arg1)) := by
    unfold V; after_results; try rfl
  exact (congrFun h _).trans (drop_at _ k n)

/-- The residual rows the kernel reads. -/
theorem rows_at (c : Dev nD) (r : Fin 8320) (k : Fin 2048) : V m c main_v4 (ix2 r k)
    = resid (m ((c : Thread nD τ).loc main_arg2)) (m ((c : Thread nD τ).loc main_arg3)) r k := by
  have h : (V m c main_v4 : FVec Ideal S8320x2048 .f32)
      = stacked (m ((c : Thread nD τ).loc main_arg2)) (m ((c : Thread nD τ).loc main_arg3)) := by
    unfold V; after_results; try rfl
  exact (congrFun h _).trans (stacked_at _ _ r k)

/-- The scale the kernel reads. -/
theorem scale_at (c : Dev nD) (n : Fin 2048) : V m c main_v6 (ix2 0 n) = m ((c : Thread nD τ).loc main_arg4) (ix2 0 n) := by
  have h : (V m c main_v6 : FVec Ideal S1x2048 .f32) = asRow (m ((c : Thread nD τ).loc main_arg4)) := by
    unfold V; after_results; try rfl
  exact (congrFun h _).trans (asRow_at _ n)

/-- The shift the kernel reads. -/
theorem shift_at (c : Dev nD) (n : Fin 2048) : V m c main_v8 (ix2 0 n) = m ((c : Thread nD τ).loc main_arg5) (ix2 0 n) := by
  have h : (V m c main_v8 : FVec Ideal S1x2048 .f32) = asRow (m ((c : Thread nD τ).loc main_arg5)) := by
    unfold V; after_results; try rfl
  exact (congrFun h _).trans (asRow_at _ n)

/-- What point `t` normalises is the reference's row, and its scale and shift are the reference's. -/
theorem point (c : Dev nD) (t : Fin cfg0.N) (y0 : Fin 416) (y1 : Fin 2048) (r : Fin 8320) (hr : r.val = t.val * 416 + y0.val)
    (n : Fin 2048) (hn : n = y1) :
    normed (fun n => entry (iblk m c 2 t (ix2 y0 n)) (fun k => iblk m c 0 t (ix2 y0 k)) (fun k => iblk m c 1 t (ix2 k n)))
        (iblk m c 3 t (ix2 0 y1)) (iblk m c 4 t (ix2 0 y1)) y1
      = layer (summed (m ((c : Thread nD τ).loc main_arg0)) (m ((c : Thread nD τ).loc main_arg1))
          (m ((c : Thread nD τ).loc main_arg2)) (m ((c : Thread nD τ).loc main_arg3)))
          (m ((c : Thread nD τ).loc main_arg4)) (m ((c : Thread nD τ).loc main_arg5)) (ix2 r n) := by
  subst hn
  rw [layer_at]
  refine normed_congr (fun n => ?_) ?_ ?_ rfl
  · refine Eq.trans ?_ (summed_at _ _ _ _ _ _).symm
    refine entry_congr ?_ (fun k => ?_) (fun k => ?_)
    · refine Eq.trans (b := V m c main_v4 (ix2 r n)) (by blk_ext [iblk, idx t]) (rows_at m c _ _)
    · blk_ext [iblk, V, idx t]
    · refine Eq.trans (b := V m c main_v1 (ix2 k n)) (by blk_ext [iblk, idx t]) (mat_at m c _ _)
  · refine Eq.trans (b := V m c main_v6 (ix2 0 n)) (by blk_ext [iblk, idx t]) (scale_at m c _)
  · refine Eq.trans (b := V m c main_v8 (ix2 0 n)) (by blk_ext [iblk, idx t]) (shift_at m c _)

/-- After the run the first result array is the reference's. -/
theorem final0 (c : Dev nD) : (dats m 0 c).arrAt 5 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t hf y => ?_
  blk_simp
  rw [after0_5]
  have ht : t.val < 20 := lt_of_lt_of_eq t.isLt N_0
  idx_vars y
  rw [out_at]
  refine (point m c t y0 y1 ⟨t.val * 416 + y0.val, by omega⟩ rfl y1 rfl).trans ?_
  unfold REF0
  blk_ext [idx t]

/-- After the run the second result array is the reference's. -/
theorem final1 (c : Dev nD) : (dats m 0 c).arrAt 6 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have ht : t.val < 20 := lt_of_lt_of_eq t.isLt N_0
  idx_vars y
  rw [out_at']
  refine (point m c t y0 y1 ⟨t.val * 416 + y0.val, by omega⟩ rfl y1 rfl).trans ?_
  unfold REF1 truncf
  blk_ext [idx t]

end Cert.KernelMixNormIdeal.Body

end
-- ==== Proof.Ple.lean ====
module

public import proofs.«01_k».proof.Proof.Gen.KernelPleIdeal.Value
public import proofs.«01_k».proof.Proof.Gen.ReferencePleIdeal.Run
public import Idealize.ShloMosaic.Lib.Pipeline.ValueKit

/-!
The per-layer embedding term.  Each point of the grid takes 832 rows and 1024 columns: the rows times the gate's matrix,
through the logistic function, multiplied with the embeddings times their matrix.  The embeddings' rows are the prompt's,
then the samples'.
-/

@[expose] public section

set_option maxRecDepth 16384

noncomputable section

namespace Cert.KernelPleIdeal.Body

open Idealize.ShloMosaic Idealize.ShloMosaic.TcCoe Idealize.SL.Sem
open Idealize.ShloMosaic.Pipeline (Dat)
open Cert.KernelPleIdeal Cert.KernelPleIdeal.Gen

variable (m : (ℓ : Loc nD τ sig) → Buf (Elt Ideal) ℓ)

/-- The reference's result over the rows, the gate's matrix, the two groups' embeddings and their matrix. -/
def REF (a0 : FVec Ideal S8320x2048 .bf16) (a1 : FVec Ideal S1x2048x2048 .f32) (a2 : FVec Ideal S1x1x8192x256 .f32)
    (a3 : FVec Ideal S1x32x4x256 .f32) (a4 : FVec Ideal S1x256x2048 .f32) : FVec Ideal S8320x2048 .bf16 :=
  truncf .bf16 (mulf (Host.divf (broadcastInDim Cert.ReferencePleIdeal.S8320x2048 ![] Cert.ReferencePleIdeal.Gen.bcast_S_S8320x2048 (constant Cert.ReferencePleIdeal.S_ .f32 0x3F800000#32)) (addf (broadcastInDim Cert.ReferencePleIdeal.S8320x2048 ![] Cert.ReferencePleIdeal.Gen.bcast_S_S8320x2048 (constant Cert.ReferencePleIdeal.S_ .f32 0x3F800000#32)) (Host.exp (Host.negf (Host.dotGeneral Cert.ReferencePleIdeal.dot_S8320x2048_S2048x2048_S8320x2048_1_0_0_1_n_n none (extf .f32 a0 bitsLt_bf16_f32) (shapeCast _ a1 Cert.ReferencePleIdeal.Gen.shapeCasts_S1x2048x2048_S2048x2048)))))) (Host.dotGeneral Cert.ReferencePleIdeal.dot_S8320x256_S256x2048_S8320x2048_1_0_0_1_n_n none (concatenate Cert.ReferencePleIdeal.S8320x256 0 [⟨Cert.ReferencePleIdeal.S8192x256, (shapeCast _ a2 Cert.ReferencePleIdeal.Gen.shapeCasts_S1x1x8192x256_S8192x256)⟩, ⟨Cert.ReferencePleIdeal.S128x256, (shapeCast _ a3 Cert.ReferencePleIdeal.Gen.shapeCasts_S1x32x4x256_S128x256)⟩] Cert.ReferencePleIdeal.Gen.concatenates_S8192x256_S128x256_S8320x256_d0) (shapeCast _ a4 Cert.ReferencePleIdeal.Gen.shapeCasts_S1x256x2048_S256x2048))) bitsLt_bf16_f32

/-- One entry of the term, over a row, a column, the row's embedding and a column of the embeddings' matrix. -/
def term (x wg : Fin 2048 → EReal) (p wp : Fin 256 → EReal) : EReal :=
  Ideal.div 1 (1 + Ideal.exp (-∑ k : Fin 2048, x k * wg k)) * ∑ k : Fin 256, p k * wp k

/-- Terms over equal entries are equal. -/
theorem term_congr {x x' wg wg' : Fin 2048 → EReal} {p p' wp wp' : Fin 256 → EReal}
    (h0 : ∀ k, x k = x' k) (h1 : ∀ k, wg k = wg' k) (h2 : ∀ k, p k = p' k) (h3 : ∀ k, wp k = wp' k) :
    term x wg p wp = term x' wg' p' wp' := by
  rw [funext h0, funext h1, funext h2, funext h3]

/-- The embedding of a row: the prompt's rows, then the samples'. -/
def emb (a2 : FVec Ideal S1x1x8192x256 .f32) (a3 : FVec Ideal S1x32x4x256 .f32) (r : Fin 8320) (k : Fin 256) : EReal :=
  if h : r.val < 8192 then a2 (ix4 0 0 ⟨r.val, h⟩ k)
  else a3 (ix4 0 ⟨(r.val - 8192) / 4, by omega⟩ ⟨(r.val - 8192) % 4, by omega⟩ k)

/-- What a point stores, entry by entry. -/
theorem out_at (x0 : FVec Ideal S832x2048 .bf16) (x1 : FVec Ideal S2048x1024 .bf16) (x2 : FVec Ideal S832x256 .bf16)
    (x3 : FVec Ideal S256x1024 .bf16) (j : S832x1024.Idx) :
    out0_4 (F := Ideal) x0 x1 x2 x3 j = term (fun k => x0 (ix2 (j 0) k)) (fun k => x1 (ix2 k (j 1)))
      (fun k => x2 (ix2 (j 0) k)) (fun k => x3 (ix2 k (j 1))) := by
  idx_vars j
  frame_out
  pointwise [k0_pay1]
  simp only [term, zero_sub]

/-- The reference, entry by entry. -/
theorem ref_at (a0 : FVec Ideal S8320x2048 .bf16) (a1 : FVec Ideal S1x2048x2048 .f32) (a2 : FVec Ideal S1x1x8192x256 .f32)
    (a3 : FVec Ideal S1x32x4x256 .f32) (a4 : FVec Ideal S1x256x2048 .f32) (j : S8320x2048.Idx) :
    REF a0 a1 a2 a3 a4 j = term (fun k => a0 (ix2 (j 0) k)) (fun k => a1 (ix3 0 k (j 1)))
      (fun k => emb a2 a3 (j 0) k) (fun k => a4 (ix3 0 k (j 1))) := by
  idx_vars j
  pointwise [REF]
  simp only [term, emb]

/-- The windows' index maps. -/
theorem idx : ∀ t : Fin cfg0.N, win0_0.index t = ![t.val / 2, 0] ∧ win0_1.index t = ![0, t.val % 2]
    ∧ win0_2.index t = ![t.val / 2, 0] ∧ win0_3.index t = ![0, t.val % 2] ∧ win0_4.index t = ![t.val / 2, t.val % 2] :=
  (by decide +kernel : ∀ t : Fin grid0.N, _)

/-- The gate's matrix without its leading axis of size one. -/
def drop_gate (w : FVec Ideal S1x2048x2048 .f32) : FVec Ideal S2048x2048 .bf16 :=
  truncf .bf16 (shapeCast S2048x2048 w shapeCasts_S1x2048x2048_S2048x2048) bitsLt_bf16_f32

/-- The gate's matrix without that axis, entry by entry. -/
theorem drop_gate_at (w : FVec Ideal S1x2048x2048 .f32) (k n : Fin 2048) : drop_gate w (ix2 k n) = w (ix3 0 k n) := by
  pointwise [drop_gate]

/-- The embeddings' matrix without its leading axis of size one. -/
def drop_proj (w : FVec Ideal S1x256x2048 .f32) : FVec Ideal S256x2048 .bf16 :=
  truncf .bf16 (shapeCast S256x2048 w shapeCasts_S1x256x2048_S256x2048) bitsLt_bf16_f32

/-- The embeddings' matrix without that axis, entry by entry. -/
theorem drop_proj_at (w : FVec Ideal S1x256x2048 .f32) (k : Fin 256) (n : Fin 2048) : drop_proj w (ix2 k n) = w (ix3 0 k n) := by
  pointwise [drop_proj]

/-- The embeddings, the prompt's rows on top of the samples'. -/
def stacked (a2 : FVec Ideal S1x1x8192x256 .f32) (a3 : FVec Ideal S1x32x4x256 .f32) : FVec Ideal S8320x256 .bf16 :=
  truncf .bf16 (concatenate S8320x256 0 [⟨S8192x256, shapeCast S8192x256 (shapeCast S1x8192x256 a2 shapeCasts_S1x1x8192x256_S1x8192x256)
      shapeCasts_S1x8192x256_S8192x256⟩, ⟨S128x256, shapeCast S128x256 (shapeCast S32x4x256 a3 shapeCasts_S1x32x4x256_S32x4x256)
      shapeCasts_S32x4x256_S128x256⟩] concatenates_S8192x256_S128x256_S8320x256_d0) bitsLt_bf16_f32

/-- The stacked embeddings, entry by entry. -/
theorem stacked_at (a2 : FVec Ideal S1x1x8192x256 .f32) (a3 : FVec Ideal S1x32x4x256 .f32) (r : Fin 8320) (k : Fin 256) :
    stacked a2 a3 (ix2 r k) = emb a2 a3 r k := by
  pointwise [stacked]
  simp only [emb]

/-- The gate's matrix the kernel reads. -/
theorem gate_at (c : Dev nD) (k n : Fin 2048) : V m c main_v7 (ix2 k n) = m ((c : Thread nD τ).loc main_arg1) (ix3 0 k n) := by
  have h : (V m c main_v7 : FVec Ideal S2048x2048 .bf16) = drop_gate (m ((c : Thread nD τ).loc main_arg1)) := by unfold V; after_results; try rfl
  exact (congrFun h _).trans (drop_gate_at _ k n)

/-- The embeddings' matrix the kernel reads. -/
theorem proj_at (c : Dev nD) (k : Fin 256) (n : Fin 2048) :
    V m c main_v9 (ix2 k n) = m ((c : Thread nD τ).loc main_arg4) (ix3 0 k n) := by
  have h : (V m c main_v9 : FVec Ideal S256x2048 .bf16) = drop_proj (m ((c : Thread nD τ).loc main_arg4)) := by unfold V; after_results; try rfl
  exact (congrFun h _).trans (drop_proj_at _ k n)

/-- The embeddings the kernel reads. -/
theorem pe_at (c : Dev nD) (r : Fin 8320) (k : Fin 256) : V m c main_v5 (ix2 r k)
    = emb (m ((c : Thread nD τ).loc main_arg2)) (m ((c : Thread nD τ).loc main_arg3)) r k := by
  have h : (V m c main_v5 : FVec Ideal S8320x256 .bf16)
      = stacked (m ((c : Thread nD τ).loc main_arg2)) (m ((c : Thread nD τ).loc main_arg3)) := by
    unfold V; after_results; try rfl
  exact (congrFun h _).trans (stacked_at _ _ r k)

/-- After the run the result array is the reference's result. -/
theorem final (c : Dev nD) : (dats m 0 c).arrAt 4 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 4 _ (by decide +kernel) fun t hf y => ?_
  blk_simp
  rw [after0_4]
  have ht : t.val < 20 := lt_of_lt_of_eq t.isLt N_0
  idx_vars y
  rw [out_at, ref_at]
  refine term_congr (fun k => ?_) (fun k => ?_) (fun k => ?_) (fun k => ?_)
  · blk_ext [iblk, V, idx t]
  · refine Eq.trans (b := V m c main_v7 (ix2 k (((cfg0.win 4).blk t).view.emb (ix2 y0 y1) 1))) (by blk_ext [iblk, idx t]) (gate_at m c _ _)
  · refine Eq.trans (b := V m c main_v5 (ix2 (((cfg0.win 4).blk t).view.emb (ix2 y0 y1) 0) k)) (by blk_ext [iblk, idx t]) (pe_at m c _ _)
  · refine Eq.trans (b := V m c main_v9 (ix2 k (((cfg0.win 4).blk t).view.emb (ix2 y0 y1) 1))) (by blk_ext [iblk, idx t]) (proj_at m c _ _)

end Cert.KernelPleIdeal.Body

end
-- ==== Proof.Final.lean ====
module

public import proofs.«01_k».proof.Proof.Gen.KernelFinalIdeal.Value
public import proofs.«01_k».proof.Proof.Gen.ReferenceFinalIdeal.Run
public import Idealize.ShloMosaic.Lib.Pipeline.ValueKit
public import proofs.«01_k».proof.Proof.MixNorm

/-!
The shared expert and the second residual norm.  Each point of the grid takes 416 rows: it computes the shared expert's
output for them, adds the scaled residual, the routed experts' rows and the embedding term, and normalises every row.
-/

@[expose] public section

set_option maxRecDepth 16384

noncomputable section

namespace Cert.KernelFinalIdeal.Body

open Idealize.ShloMosaic Idealize.ShloMosaic.TcCoe Idealize.SL.Sem
open Idealize.ShloMosaic.Pipeline (Dat)
open Cert.KernelMixNormIdeal.Body (normed normed_congr)
open Cert.KernelFinalIdeal Cert.KernelFinalIdeal.Gen

variable (m : (ℓ : Loc nD τ sig) → Buf (Elt Ideal) ℓ)

/-- The reference's layer normalisation over all rows. -/
def layer (h : FVec Ideal S8320x2048 .f32) (g b : FVec Ideal S1x2048 .f32) : FVec Ideal S8320x2048 .f32 :=
  addf (mulf (mulf (subf h (broadcastInDim Cert.ReferenceFinalIdeal.S8320x2048 ![0, 1] Cert.ReferenceFinalIdeal.Gen.bcast_S8320x1_S8320x2048_0_1 (Host.divf (broadcastInDim Cert.ReferenceFinalIdeal.S8320x1 ![0] Cert.ReferenceFinalIdeal.Gen.bcast_S8320_S8320x1_0 (Host.reduceAdd h (constant Cert.ReferenceFinalIdeal.S_ .f32 0x00000000#32) Cert.ReferenceFinalIdeal.Gen.reducesTo_S8320x2048_S8320_d1 Cert.ReferenceFinalIdeal.Gen.h_S_)) (broadcastInDim Cert.ReferenceFinalIdeal.S8320x1 ![] Cert.ReferenceFinalIdeal.Gen.bcast_S_S8320x1 (constant Cert.ReferenceFinalIdeal.S_ .f32 0x45000000#32))))) (broadcastInDim Cert.ReferenceFinalIdeal.S8320x2048 ![0, 1] Cert.ReferenceFinalIdeal.Gen.bcast_S8320x1_S8320x2048_0_1 (Host.rsqrt (addf (Host.divf (broadcastInDim Cert.ReferenceFinalIdeal.S8320x1 ![0] Cert.ReferenceFinalIdeal.Gen.bcast_S8320_S8320x1_0 (Host.reduceAdd (mulf (subf h (broadcastInDim Cert.ReferenceFinalIdeal.S8320x2048 ![0, 1] Cert.ReferenceFinalIdeal.Gen.bcast_S8320x1_S8320x2048_0_1 (Host.divf (broadcastInDim Cert.ReferenceFinalIdeal.S8320x1 ![0] Cert.ReferenceFinalIdeal.Gen.bcast_S8320_S8320x1_0 (Host.reduceAdd h (constant Cert.ReferenceFinalIdeal.S_ .f32 0x00000000#32) Cert.ReferenceFinalIdeal.Gen.reducesTo_S8320x2048_S8320_d1 Cert.ReferenceFinalIdeal.Gen.h_S_)) (broadcastInDim Cert.ReferenceFinalIdeal.S8320x1 ![] Cert.ReferenceFinalIdeal.Gen.bcast_S_S8320x1 (constant Cert.ReferenceFinalIdeal.S_ .f32 0x45000000#32))))) (subf h (broadcastInDim Cert.ReferenceFinalIdeal.S8320x2048 ![0, 1] Cert.ReferenceFinalIdeal.Gen.bcast_S8320x1_S8320x2048_0_1 (Host.divf (broadcastInDim Cert.ReferenceFinalIdeal.S8320x1 ![0] Cert.ReferenceFinalIdeal.Gen.bcast_S8320_S8320x1_0 (Host.reduceAdd h (constant Cert.ReferenceFinalIdeal.S_ .f32 0x00000000#32) Cert.ReferenceFinalIdeal.Gen.reducesTo_S8320x2048_S8320_d1 Cert.ReferenceFinalIdeal.Gen.h_S_)) (broadcastInDim Cert.ReferenceFinalIdeal.S8320x1 ![] Cert.ReferenceFinalIdeal.Gen.bcast_S_S8320x1 (constant Cert.ReferenceFinalIdeal.S_ .f32 0x45000000#32)))))) (constant Cert.ReferenceFinalIdeal.S_ .f32 0x00000000#32) Cert.ReferenceFinalIdeal.Gen.reducesTo_S8320x2048_S8320_d1 Cert.ReferenceFinalIdeal.Gen.h_S_)) (broadcastInDim Cert.ReferenceFinalIdeal.S8320x1 ![] Cert.ReferenceFinalIdeal.Gen.bcast_S_S8320x1 (constant Cert.ReferenceFinalIdeal.S_ .f32 0x45000000#32))) (broadcastInDim Cert.ReferenceFinalIdeal.S8320x1 ![] Cert.ReferenceFinalIdeal.Gen.bcast_S_S8320x1 (constant Cert.ReferenceFinalIdeal.S_ .f32 0x3727C5AC#32)))))) (broadcastInDim Cert.ReferenceFinalIdeal.S8320x2048 ![0, 1] Cert.ReferenceFinalIdeal.Gen.bcast_S1x2048_S8320x2048_0_1 (broadcastInDim Cert.ReferenceFinalIdeal.S1x2048 ![1] Cert.ReferenceFinalIdeal.Gen.bcast_S2048_S1x2048_1 (shapeCast _ g Cert.ReferenceFinalIdeal.Gen.shapeCasts_S1x2048_S2048)))) (broadcastInDim Cert.ReferenceFinalIdeal.S8320x2048 ![0, 1] Cert.ReferenceFinalIdeal.Gen.bcast_S1x2048_S8320x2048_0_1 (broadcastInDim Cert.ReferenceFinalIdeal.S1x2048 ![1] Cert.ReferenceFinalIdeal.Gen.bcast_S2048_S1x2048_1 (shapeCast _ b Cert.ReferenceFinalIdeal.Gen.shapeCasts_S1x2048_S2048)))

/-- The reference's layer normalisation, entry by entry. -/
theorem layer_at (h : FVec Ideal S8320x2048 .f32) (g b : FVec Ideal S1x2048 .f32) (j : S8320x2048.Idx) :
    layer h g b j = normed (fun k => h (ix2 (j 0) k)) (g (ix2 0 (j 1))) (b (ix2 0 (j 1))) (j 1) := by
  idx_vars j
  pointwise [layer]
  simp only [normed]

/-- The rows the reference normalises. -/
def summed (a0 : FVec Ideal S8320x2048 .f32) (a1 : FVec Ideal S8320x2048 .bf16) (a2 : FVec Ideal S8320x2048 .f32)
    (a3 : FVec Ideal S8320x2048 .bf16) (a4 a5 : FVec Ideal S1x2048x256 .f32) (a6 : FVec Ideal S1x256x2048 .f32) :
    FVec Ideal S8320x2048 .f32 :=
  addf (addf (mulf (broadcastInDim Cert.ReferenceFinalIdeal.S8320x2048 ![] Cert.ReferenceFinalIdeal.Gen.bcast_S_S8320x2048 (constant Cert.ReferenceFinalIdeal.S_ .f32 0x3F9837F0#32)) a0) (addf a2 (Host.dotGeneral Cert.ReferenceFinalIdeal.dot_S8320x256_S256x2048_S8320x2048_1_0_0_1_n_n none (mulf (mulf (Host.dotGeneral Cert.ReferenceFinalIdeal.dot_S8320x2048_S2048x256_S8320x256_1_0_0_1_n_n none (extf .f32 a1 bitsLt_bf16_f32) (shapeCast _ a4 Cert.ReferenceFinalIdeal.Gen.shapeCasts_S1x2048x256_S2048x256)) (Host.divf (broadcastInDim Cert.ReferenceFinalIdeal.S8320x256 ![] Cert.ReferenceFinalIdeal.Gen.bcast_S_S8320x256 (constant Cert.ReferenceFinalIdeal.S_ .f32 0x3F800000#32)) (addf (broadcastInDim Cert.ReferenceFinalIdeal.S8320x256 ![] Cert.ReferenceFinalIdeal.Gen.bcast_S_S8320x256 (constant Cert.ReferenceFinalIdeal.S_ .f32 0x3F800000#32)) (Host.exp (Host.negf (Host.dotGeneral Cert.ReferenceFinalIdeal.dot_S8320x2048_S2048x256_S8320x256_1_0_0_1_n_n none (extf .f32 a1 bitsLt_bf16_f32) (shapeCast _ a4 Cert.ReferenceFinalIdeal.Gen.shapeCasts_S1x2048x256_S2048x256))))))) (Host.dotGeneral Cert.ReferenceFinalIdeal.dot_S8320x2048_S2048x256_S8320x256_1_0_0_1_n_n none (extf .f32 a1 bitsLt_bf16_f32) (shapeCast _ a5 Cert.ReferenceFinalIdeal.Gen.shapeCasts_S1x2048x256_S2048x256))) (shapeCast _ a6 Cert.ReferenceFinalIdeal.Gen.shapeCasts_S1x256x2048_S256x2048)))) (extf .f32 a3 bitsLt_bf16_f32)

/-- The reference's result over the residual rows, the same rows in the narrower format, the routed experts' rows, the
embedding term, the shared expert's three matrices, scale and shift. -/
def REF (a0 : FVec Ideal S8320x2048 .f32) (a1 : FVec Ideal S8320x2048 .bf16) (a2 : FVec Ideal S8320x2048 .f32)
    (a3 : FVec Ideal S8320x2048 .bf16) (a4 a5 : FVec Ideal S1x2048x256 .f32) (a6 : FVec Ideal S1x256x2048 .f32)
    (a7 a8 : FVec Ideal S1x2048 .f32) : FVec Ideal S8320x2048 .f32 :=
  layer (summed a0 a1 a2 a3 a4 a5 a6) a7 a8

/-- One hidden unit of the shared expert. -/
def hidden (x wg wu : Fin 2048 → EReal) : EReal :=
  (∑ k : Fin 2048, x k * wg k) * Ideal.div 1 (1 + Ideal.exp (-∑ k : Fin 2048, x k * wg k)) * ∑ k : Fin 2048, x k * wu k

/-- One entry of the rows to normalise. -/
def entry (u r p : EReal) (x : Fin 2048 → EReal) (wg wu : Fin 2048 → Fin 256 → EReal) (wd : Fin 256 → EReal) : EReal :=
  Ideal.ofBits FTy.f32 1066940400#32 * u + (r + ∑ f : Fin 256, hidden x (fun k => wg k f) (fun k => wu k f) * wd f) + p

/-- Entries over equal data are equal. -/
theorem entry_congr {u u' r r' p p' : EReal} {x x' : Fin 2048 → EReal} {wg wg' wu wu' : Fin 2048 → Fin 256 → EReal}
    {wd wd' : Fin 256 → EReal} (h0 : u = u') (h1 : r = r') (h2 : p = p') (h3 : ∀ k, x k = x' k)
    (h4 : ∀ k f, wg k f = wg' k f) (h5 : ∀ k f, wu k f = wu' k f) (h6 : ∀ f, wd f = wd' f) :
    entry u r p x wg wu wd = entry u' r' p' x' wg' wu' wd' := by
  rw [h0, h1, h2, funext h3, funext fun k => funext (h4 k), funext fun k => funext (h5 k), funext h6]

/-- The rows the reference normalises, entry by entry. -/
theorem summed_at (a0 : FVec Ideal S8320x2048 .f32) (a1 : FVec Ideal S8320x2048 .bf16) (a2 : FVec Ideal S8320x2048 .f32)
    (a3 : FVec Ideal S8320x2048 .bf16) (a4 a5 : FVec Ideal S1x2048x256 .f32) (a6 : FVec Ideal S1x256x2048 .f32)
    (r : Fin 8320) (n : Fin 2048) :
    summed a0 a1 a2 a3 a4 a5 a6 (ix2 r n) = entry (a0 (ix2 r n)) (a2 (ix2 r n)) (a3 (ix2 r n)) (fun k => a1 (ix2 r k))
      (fun k f => a4 (ix3 0 k f)) (fun k f => a5 (ix3 0 k f)) (fun f => a6 (ix3 0 f n)) := by
  pointwise [summed]
  simp only [entry, hidden]

/-- What a point stores, entry by entry. -/
theorem out_at (x0 : FVec Ideal S416x2048 .f32) (x1 : FVec Ideal S416x2048 .bf16) (x2 : FVec Ideal S416x2048 .f32)
    (x3 : FVec Ideal S416x2048 .bf16) (x4 x5 : FVec Ideal S2048x256 .bf16) (x6 : FVec Ideal S256x2048 .bf16)
    (x7 x8 : FVec Ideal S1x2048 .f32) (j : S416x2048.Idx) :
    out0_9 (F := Ideal) x0 x1 x2 x3 x4 x5 x6 x7 x8 j = normed (fun n => entry (x0 (ix2 (j 0) n)) (x2 (ix2 (j 0) n))
      (x3 (ix2 (j 0) n)) (fun k => x1 (ix2 (j 0) k)) (fun k f => x4 (ix2 k f)) (fun k f => x5 (ix2 k f))
      (fun f => x6 (ix2 f n))) (x7 (ix2 0 (j 1))) (x8 (ix2 0 (j 1))) (j 1) := by
  idx_vars j
  frame_out
  pointwise [k0_pay1, k0_pay2, k0_pay3, k0_pay4]
  simp only [normed, entry, hidden, zero_sub]

/-- The windows' index maps. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![0, 0] ∧ win0_7.index t = ![0, 0] ∧ win0_8.index t = ![0, 0]
    ∧ win0_9.index t = ![t.val, 0] :=
  (by decide +kernel : ∀ t : Fin grid0.N, _)

/-- A matrix into the hidden units without its leading axis of size one. -/
def dropIn (w : FVec Ideal S1x2048x256 .f32) : FVec Ideal S2048x256 .bf16 :=
  truncf .bf16 (shapeCast S2048x256 w shapeCasts_S1x2048x256_S2048x256) bitsLt_bf16_f32

/-- That matrix, entry by entry. -/
theorem dropIn_at (w : FVec Ideal S1x2048x256 .f32) (k : Fin 2048) (f : Fin 256) : dropIn w (ix2 k f) = w (ix3 0 k f) := by
  pointwise [dropIn]

/-- The matrix out of the hidden units without its leading axis of size one. -/
def dropOut (w : FVec Ideal S1x256x2048 .f32) : FVec Ideal S256x2048 .bf16 :=
  truncf .bf16 (shapeCast S256x2048 w shapeCasts_S1x256x2048_S256x2048) bitsLt_bf16_f32

/-- That matrix, entry by entry. -/
theorem dropOut_at (w : FVec Ideal S1x256x2048 .f32) (f : Fin 256) (n : Fin 2048) : dropOut w (ix2 f n) = w (ix3 0 f n) := by
  pointwise [dropOut]

/-- A vector read as a row. -/
def asRow (g : FVec Ideal S1x2048 .f32) : FVec Ideal S1x2048 .f32 :=
  broadcastInDim S1x2048 ![1] bcast_S2048_S1x2048_1 (shapeCast S2048 g shapeCasts_S1x2048_S2048)

/-- A vector read as a row, entry by entry. -/
theorem asRow_at (g : FVec Ideal S1x2048 .f32) (n : Fin 2048) : asRow g (ix2 0 n) = g (ix2 0 n) := by pointwise [asRow]

/-- The first matrix the kernel reads. -/
theorem gate_at (c : Dev nD) (k : Fin 2048) (f : Fin 256) :
    V m c main_v1 (ix2 k f) = m ((c : Thread nD τ).loc main_arg4) (ix3 0 k f) := by
  have h : (V m c main_v1 : FVec Ideal S2048x256 .bf16) = dropIn (m ((c : Thread nD τ).loc main_arg4)) := by
    unfold V; after_results; try rfl
  exact (congrFun h _).trans (dropIn_at _ k f)

/-- The second matrix the kernel reads. -/
theorem up_at (c : Dev nD) (k : Fin 2048) (f : Fin 256) :
    V m c main_v3 (ix2 k f) = m ((c : Thread nD τ).loc main_arg5) (ix3 0 k f) := by
  have h : (V m c main_v3 : FVec Ideal S2048x256 .bf16) = dropIn (m ((c : Thread nD τ).loc main_arg5)) := by
    unfold V; after_results; try rfl
  exact (congrFun h _).trans (dropIn_at _ k f)

/-- The output matrix the kernel reads. -/
theorem down_at (c : Dev nD) (f : Fin 256) (n : Fin 2048) :
    V m c main_v5 (ix2 f n) = m ((c : Thread nD τ).loc main_arg6) (ix3 0 f n) := by
  have h : (V m c main_v5 : FVec Ideal S256x2048 .bf16) = dropOut (m ((c : Thread nD τ).loc main_arg6)) := by
    unfold V; after_results; try rfl
  exact (congrFun h _).trans (dropOut_at _ f n)

/-- The scale the kernel reads. -/
theorem scale_at (c : Dev nD) (n : Fin 2048) : V m c main_v7 (ix2 0 n) = m ((c : Thread nD τ).loc main_arg7) (ix2 0 n) := by
  have h : (V m c main_v7 : FVec Ideal S1x2048 .f32) = asRow (m ((c : Thread nD τ).loc main_arg7)) := by
    unfold V; after_results; try rfl
  exact (congrFun h _).trans (asRow_at _ n)

/-- The shift the kernel reads. -/
theorem shift_at (c : Dev nD) (n : Fin 2048) : V m c main_v9 (ix2 0 n) = m ((c : Thread nD τ).loc main_arg8) (ix2 0 n) := by
  have h : (V m c main_v9 : FVec Ideal S1x2048 .f32) = asRow (m ((c : Thread nD τ).loc main_arg8)) := by
    unfold V; after_results; try rfl
  exact (congrFun h _).trans (asRow_at _ n)

/-- What point `t` normalises is the reference's row, and its scale and shift are the reference's. -/
theorem point (c : Dev nD) (t : Fin cfg0.N) (y0 : Fin 416) (y1 : Fin 2048) (r : Fin 8320) (hr : r.val = t.val * 416 + y0.val) :
    normed (fun n => entry (iblk m c 0 t (ix2 y0 n)) (iblk m c 2 t (ix2 y0 n)) (iblk m c 3 t (ix2 y0 n))
        (fun k => iblk m c 1 t (ix2 y0 k)) (fun k f => iblk m c 4 t (ix2 k f)) (fun k f => iblk m c 5 t (ix2 k f))
        (fun f => iblk m c 6 t (ix2 f n))) (iblk m c 7 t (ix2 0 y1)) (iblk m c 8 t (ix2 0 y1)) y1
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r y1) := by
  refine Eq.trans ?_ (layer_at _ _ _ (ix2 r y1)).symm
  refine normed_congr (fun n => ?_) ?_ ?_ rfl
  · refine Eq.trans ?_ (summed_at _ _ _ _ _ _ _ _ _).symm
    refine entry_congr ?_ ?_ ?_ (fun k => ?_) (fun k f => ?_) (fun k f => ?_) (fun f => ?_)
    · blk_ext [iblk, V, idx t]
    · blk_ext [iblk, V, idx t]
    · blk_ext [iblk, V, idx t]
    · blk_ext [iblk, V, idx t]
    · refine Eq.trans (b := V m c main_v1 (ix2 k f)) (by blk_ext [iblk, idx t]) (gate_at m c _ _)
    · refine Eq.trans (b := V m c main_v3 (ix2 k f)) (by blk_ext [iblk, idx t]) (up_at m c _ _)
    · refine Eq.trans (b := V m c main_v5 (ix2 f n)) (by blk_ext [iblk, idx t]) (down_at m c _ _)
  · refine Eq.trans (b := V m c main_v7 (ix2 0 y1)) (by blk_ext [iblk, idx t]) (scale_at m c _)
  · refine Eq.trans (b := V m c main_v9 (ix2 0 y1)) (by blk_ext [iblk, idx t]) (shift_at m c _)

/-- After the run the result array is the reference's result. -/
theorem final (c : Dev nD) : (dats m 0 c).arrAt 9 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  have ht : t.val < 20 := lt_of_lt_of_eq t.isLt N_0
  idx_vars y
  rw [out_at]
  refine (point m c t y0 y1 ⟨t.val * 416 + y0.val, by omega⟩ rfl).trans ?_
  blk_ext [idx t]

end Cert.KernelFinalIdeal.Body

end
-- ==== Proof.LogSigmoid.lean ====
module

public import proofs.«01_k».proof.KernelForgetSampleIdeal
public import Idealize.ShloMosaic.Lib.Pipeline.ValueKit

/-!
The logarithm of the logistic function over the extended reals, in the two forms the programs use, and the sum of an
array that was split into a leading part and two remainders.
-/

@[expose] public section

set_option maxRecDepth 16384

noncomputable section

namespace Cert.LogSigmoid

open Idealize.ShloMosaic Idealize.ShloMosaic.TcCoe

/-- The logarithm of the logistic function as the kernel computes it. -/
def logsig (x : EReal) : EReal := min x 0 - Ideal.log1p (Ideal.exp (0 - max x (-x)))

/-- Its correction term is a nonnegative real. -/
theorem soft_real (x : EReal) : ∃ r : ℝ, 0 ≤ r ∧ Ideal.log1p (Ideal.exp (0 - max x (-x))) = (r : EReal) := by
  have h0 : Ideal.log1p 0 = ((0 : ℝ) : EReal) := by
    unfold Ideal.log1p
    rw [add_zero, ← EReal.coe_one, Ideal.log_coe, if_neg (by norm_num), Real.log_one]
  induction x with
  | bot => exact ⟨0, le_rfl, by simpa using h0⟩
  | top => exact ⟨0, le_rfl, by simpa using h0⟩
  | coe a =>
    obtain ⟨b, hb⟩ : ∃ b : ℝ, (0 : EReal) - max (a : EReal) (-(a : EReal)) = (b : EReal) :=
      ⟨0 - max a (-a), by push_cast; rfl⟩
    refine ⟨Real.log (1 + Real.exp b), Real.log_nonneg (by have := Real.exp_pos b; linarith), ?_⟩
    rw [hb, Ideal.exp_coe]
    unfold Ideal.log1p
    rw [← EReal.coe_one, ← EReal.coe_add, Ideal.log_coe, if_neg (by have := Real.exp_pos b; linarith)]

/-- The logarithm of the logistic function is never positive. -/
theorem logsig_nonpos (x : EReal) : logsig x ≤ 0 := by
  obtain ⟨r, hr, h⟩ := soft_real x
  unfold logsig
  rw [h]
  calc min x 0 - (r : EReal) ≤ 0 - (r : EReal) := EReal.sub_le_sub (min_le_right _ _) le_rfl
    _ = ((0 - r : ℝ) : EReal) := by push_cast; rfl
    _ ≤ 0 := by exact_mod_cast (by linarith : 0 - r ≤ 0)

/-- In particular it is not the upper infinity. -/
theorem logsig_ne_top (x : EReal) : logsig x ≠ ⊤ := fun h => by
  have := logsig_nonpos x
  rw [h] at this
  exact absurd this (by simp)

/-- The reference's form: minus the softplus of the negated argument. -/
theorem softplus_eq (x : EReal) :
    -(max (-x) 0 + Ideal.log1p (Ideal.exp (-max (-x - 0) (-(-x - 0))))) = logsig x := by
  obtain ⟨r, hr, h⟩ := soft_real x
  have e : -max (-x - 0) (-(-x - 0)) = 0 - max x (-x) := by
    rw [sub_zero, neg_neg, zero_sub, max_comm]
  unfold logsig
  rw [e, h, EReal.neg_add (.inr (EReal.coe_ne_top r)) (.inr (EReal.coe_ne_bot r)), sub_eq_add_neg, sub_eq_add_neg]
  congr 1
  rcases le_total x 0 with hx | hx
  · rw [min_eq_left hx, max_eq_left (EReal.neg_nonneg.2 hx), neg_neg]
  · rw [min_eq_right hx, max_eq_right (by simpa using hx), neg_zero]

/-- A number that is not the upper infinity is the sum of itself and its two remainders. -/
theorem split_eq {v : EReal} (h : v ≠ ⊤) : v + (v - v) + (v - v - (v - v)) = v := by
  induction v with
  | bot => simp
  | top => exact absurd rfl h
  | coe a => norm_cast; ring

/-- The three sums over a selection of an array and of its remainders add up to the sum over the selection. -/
theorem split_sum {n : ℕ} (p : Fin n → Prop) [DecidablePred p] (v : Fin n → EReal) (h : ∀ k, v k ≠ ⊤) :
    (∑ k, if p k then v k else 0) + (∑ k, if p k then v k - v k else 0)
      + (∑ k, if p k then v k - v k - (v k - v k) else 0) = ∑ k, if p k then v k else 0 := by
  rw [← Finset.sum_add_distrib, ← Finset.sum_add_distrib]
  refine Finset.sum_congr rfl fun k _ => ?_
  by_cases hp : p k
  · simp only [if_pos hp, split_eq (h k)]
  · simp only [if_neg hp, add_zero]

end Cert.LogSigmoid

end
-- ==== Proof.WindowSum.lean ====
module

public import Idealize.ShloMosaic.Lib.Pipeline.ValueKit

/-!
A running sum written as a sum over a window that ends at the position: its value as a sum over the positions up to it.
-/

@[expose] public section

set_option maxRecDepth 16384

noncomputable section

namespace Cert.WindowSum

open Idealize.ShloMosaic Idealize.ShloMosaic.TcCoe

/-- Adding the entries of a list one by one to a start value adds their sum. -/
theorem foldl_add {ι : Type} (l : List ι) (f : ι → EReal) (v : EReal) :
    l.foldl (fun r n => r + f n) v = v + (l.map f).sum := by
  induction l generalizing v with
  | nil => simp
  | cons a l ih => rw [List.foldl_cons, ih, List.map_cons, List.sum_cons, add_assoc]

/-- A window sum over a zero start value is the sum over the window's positions. -/
theorem window_sum {s t u : Shape} (window strides lo hi : Fin s.rank → Nat) (x : FVec Ideal s .f32) (init : u.Idx → Ideal .f32)
    (h : s.ReduceWindows window strides lo hi t) (hu : 0 < u.numel) (h0 : init (Shape.Idx.first hu) = (0 : EReal)) (j : t.Idx) :
    Host.reduceWindowAdd window strides lo hi x init h hu j
      = ∑ w : (⟨s.rank, window⟩ : Shape).Idx,
          if hin : ∀ a, lo a ≤ (j (a.cast h.1.symm)).val * strides a + (w a).val
              ∧ (j (a.cast h.1.symm)).val * strides a + (w a).val - lo a < s.size a
          then (show EReal from x (fun a => ⟨(j (a.cast h.1.symm)).val * strides a + (w a).val - lo a, (hin a).2⟩)) else 0 := by
  have e : ∀ (v : EReal), v = 0 → (List.finRange (⟨s.rank, window⟩ : Shape).numel).foldl (fun (r : EReal) n => r +
      (if hin : ∀ a, lo a ≤ (j (a.cast h.1.symm)).val * strides a + ((⟨s.rank, window⟩ : Shape).rowMajor.symm n a).val
              ∧ (j (a.cast h.1.symm)).val * strides a + ((⟨s.rank, window⟩ : Shape).rowMajor.symm n a).val - lo a < s.size a
          then (show EReal from x (fun a => ⟨(j (a.cast h.1.symm)).val * strides a
            + ((⟨s.rank, window⟩ : Shape).rowMajor.symm n a).val - lo a, (hin a).2⟩)) else v)) v
      = ∑ w : (⟨s.rank, window⟩ : Shape).Idx,
          if hin : ∀ a, lo a ≤ (j (a.cast h.1.symm)).val * strides a + (w a).val
              ∧ (j (a.cast h.1.symm)).val * strides a + (w a).val - lo a < s.size a
          then (show EReal from x (fun a => ⟨(j (a.cast h.1.symm)).val * strides a + (w a).val - lo a, (hin a).2⟩)) else 0 :=
    fun v hv => by
    subst hv
    rw [foldl_add, zero_add, ← Fin.sum_univ_def]
    exact Fintype.sum_equiv (⟨s.rank, window⟩ : Shape).rowMajor.symm _ _ fun _ => rfl
  refine Eq.trans ?_ (e _ h0)
  unfold Host.reduceWindowAdd
  rw [Ideal.hostReduceWindowAdd_def]
  unfold Ideal.hostReduceWindowAdd Host.reduceWindow
  refine congrArg (fun f => List.foldl f (init (Shape.Idx.first hu)) _) (funext fun r => funext fun n => ?_)
  refine congrArg (fun v : EReal => r + v) ?_
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · rw [dif_pos hin, dif_pos hin]
  · rw [dif_neg hin, dif_neg hin]

/-- A running sum over the rows of a tall array: entry `r` adds the rows up to `r`. -/
theorem rows_sum {u : Shape} (x : FVec Ideal ⟨2, ![8192, 128]⟩ .f32) (init : u.Idx → Ideal .f32) (X : ℕ → EReal) (l : Fin 128)
    (h : (⟨2, ![8192, 128]⟩ : Shape).ReduceWindows ![8192, 1] ![1, 1] ![8191, 0] ![0, 0] ⟨2, ![8192, 128]⟩) (hu : 0 < u.numel)
    (h0 : init (Shape.Idx.first hu) = (0 : EReal)) (r : Fin 8192) (hX : ∀ k : Fin 8192, x (ix2 k l) = X k.val) :
    Host.reduceWindowAdd ![8192, 1] ![1, 1] ![8191, 0] ![0, 0] x init h hu (ix2 r l) = ∑ k ∈ Finset.range (r.val + 1), X k := by
  rw [window_sum _ _ _ _ x init h hu h0]
  refine (sum_idx2 (n0 := 8192) (n1 := 1) _).trans ?_
  have e : ∀ a : Fin 8192, ∀ b : Fin 1, (if hin : ∀ c : Fin 2, (![8191, 0] : Fin 2 → ℕ) c ≤ (ix2 r l (c.cast h.1.symm)).val * (![1, 1] : Fin 2 → ℕ) c + (ix2 a b c).val
        ∧ (ix2 r l (c.cast h.1.symm)).val * (![1, 1] : Fin 2 → ℕ) c + (ix2 a b c).val - (![8191, 0] : Fin 2 → ℕ) c < (![8192, 128] : Fin 2 → ℕ) c
      then (show EReal from x (fun c => ⟨(ix2 r l (c.cast h.1.symm)).val * (![1, 1] : Fin 2 → ℕ) c + (ix2 a b c).val - (![8191, 0] : Fin 2 → ℕ) c, (hin c).2⟩)) else 0)
      = if 8191 ≤ r.val + a.val then X (r.val + a.val - 8191) else 0 := fun a b => by
    by_cases hc : 8191 ≤ r.val + a.val
    · rw [if_pos hc, dif_pos ?_]
      · refine Eq.trans (congrArg x ?_) (hX ⟨r.val + a.val - 8191, by omega⟩)
        funext c
        refine Fin.ext ?_
        match c with
        | ⟨0, _⟩ => show r.val * 1 + a.val - 8191 = r.val + a.val - 8191; omega
        | ⟨1, _⟩ => show l.val * 1 + b.val - 0 = l.val; omega
      · intro c
        match c with
        | ⟨0, _⟩ => show 8191 ≤ r.val * 1 + a.val ∧ r.val * 1 + a.val - 8191 < 8192; omega
        | ⟨1, _⟩ => show 0 ≤ l.val * 1 + b.val ∧ l.val * 1 + b.val - 0 < 128; omega
    · rw [if_neg hc, dif_neg ?_]
      intro hin
      have := (hin 0).1
      have : 8191 ≤ r.val * 1 + a.val := this
      omega
  refine (Finset.sum_congr rfl fun a _ => (Finset.sum_congr rfl fun b _ => e a b)).trans ?_
  simp only [Finset.univ_unique, Finset.sum_const, Finset.card_singleton, one_smul]
  rw [Fin.sum_univ_eq_sum_range (fun a => if 8191 ≤ r.val + a then X (r.val + a - 8191) else 0) 8192,
    ← Finset.sum_filter]
  refine Finset.sum_bij' (fun a _ => r.val + a - 8191) (fun k _ => k + 8191 - r.val) ?_ ?_ ?_ ?_ ?_
  all_goals
    intro a ha
    first
    | (simp only [Finset.mem_filter, Finset.mem_range] at ha ⊢; omega)
    | rfl

/-- Four numbers read from the end of a window, or in their order. -/
theorem four_sum (y : Fin 4 → EReal) (t : Fin 4) :
    (∑ s : Fin 4, if hc : 3 ≤ t.val + s.val then y ⟨t.val + s.val - 3, by omega⟩ else 0)
      = ∑ s : Fin 4, if s.val ≤ t.val then y s else 0 := by
  simp only [Fin.sum_univ_four]
  fin_cases t <;> simp <;> ac_rfl

/-- A running sum inside groups of four rows: row `t` of a group adds the group's rows up to `t`. -/
theorem group_sum {u : Shape} (x : FVec Ideal ⟨3, ![32, 4, 128]⟩ .f32) (init : u.Idx → Ideal .f32)
    (h : (⟨3, ![32, 4, 128]⟩ : Shape).ReduceWindows ![1, 4, 1] ![1, 1, 1] ![0, 3, 0] ![0, 0, 0] ⟨3, ![32, 4, 128]⟩) (hu : 0 < u.numel)
    (h0 : init (Shape.Idx.first hu) = (0 : EReal)) (b : Fin 32) (t : Fin 4) (l : Fin 128) :
    Host.reduceWindowAdd ![1, 4, 1] ![1, 1, 1] ![0, 3, 0] ![0, 0, 0] x init h hu (ix3 b t l)
      = ∑ s : Fin 4, if s.val ≤ t.val then x (ix3 b s l) else (0 : EReal) := by
  rw [window_sum _ _ _ _ x init h hu h0]
  have key : ∀ w : (⟨3, ![1, 4, 1]⟩ : Shape).Idx, (if hin : ∀ c : Fin 3, (![0, 3, 0] : Fin 3 → ℕ) c ≤ (ix3 b t l (c.cast h.1.symm)).val * (![1, 1, 1] : Fin 3 → ℕ) c + (w c).val
        ∧ (ix3 b t l (c.cast h.1.symm)).val * (![1, 1, 1] : Fin 3 → ℕ) c + (w c).val - (![0, 3, 0] : Fin 3 → ℕ) c < (![32, 4, 128] : Fin 3 → ℕ) c
      then (show EReal from x (fun c => ⟨(ix3 b t l (c.cast h.1.symm)).val * (![1, 1, 1] : Fin 3 → ℕ) c + (w c).val - (![0, 3, 0] : Fin 3 → ℕ) c, (hin c).2⟩)) else 0)
      = if hc : 3 ≤ t.val + (w 1).val then x (ix3 b ⟨t.val + (w 1).val - 3, by have := (w 1).isLt; have := t.isLt; show t.val + (w 1).val - 3 < 4; have h4 : (w 1).val < 4 := (w 1).isLt; omega⟩ l) else (0 : EReal) := fun w => by
    have w0 : (w 0).val < 1 := (w 0).isLt
    have w1 : (w 1).val < 4 := (w 1).isLt
    have w2 : (w 2).val < 1 := (w 2).isLt
    by_cases hc : 3 ≤ t.val + (w 1).val
    · rw [dif_pos hc, dif_pos ?_]
      · refine congrArg x (funext fun c => Fin.ext ?_)
        match c with
        | ⟨0, _⟩ => show b.val * 1 + (w 0).val - 0 = b.val; omega
        | ⟨1, _⟩ => show t.val * 1 + (w 1).val - 3 = t.val + (w 1).val - 3; omega
        | ⟨2, _⟩ => show l.val * 1 + (w 2).val - 0 = l.val; omega
      · intro c
        match c with
        | ⟨0, _⟩ => show 0 ≤ b.val * 1 + (w 0).val ∧ b.val * 1 + (w 0).val - 0 < 32; omega
        | ⟨1, _⟩ => show 3 ≤ t.val * 1 + (w 1).val ∧ t.val * 1 + (w 1).val - 3 < 4; omega
        | ⟨2, _⟩ => show 0 ≤ l.val * 1 + (w 2).val ∧ l.val * 1 + (w 2).val - 0 < 128; omega
    · rw [dif_neg hc, dif_neg ?_]
      intro hin
      have : 3 ≤ t.val * 1 + (w 1).val := (hin 1).1
      omega
  refine (Fintype.sum_congr _ _ key).trans ?_
  have re : ∀ g : Fin 4 → EReal, ∑ w : (⟨3, ![1, 4, 1]⟩ : Shape).Idx, g (w 1) = ∑ s : Fin 4, g s := fun g => by
    refine Finset.sum_bij' (fun w _ => (w 1 : Fin 4)) (fun s _ => ix3 0 s 0) (fun _ _ => Finset.mem_univ _)
      (fun _ _ => Finset.mem_univ _) (fun w _ => ?_) (fun s _ => rfl) (fun w _ => rfl)
    rw [eq_ix3 w]
    have a0 : w 0 = (0 : Fin 1) := Subsingleton.elim (α := Fin 1) _ _
    have a2 : w 2 = (0 : Fin 1) := Subsingleton.elim (α := Fin 1) _ _
    rw [a0, a2]
    rfl
  refine (re fun s => if hc : 3 ≤ t.val + s.val then x (ix3 b ⟨t.val + s.val - 3, by omega⟩ l) else (0 : EReal)).trans ?_
  exact four_sum (fun s => x (ix3 b s l)) t

/-- The rows of a row's group of four up to it, counted inside the group or among all rows. -/
theorem group_rows (y : Fin 128 → EReal) (r : Fin 128) :
    (∑ s : Fin 4, if s.val ≤ r.val % 4 then y ⟨r.val / 4 * 4 + s.val, by omega⟩ else 0)
      = ∑ k : Fin 128, if r.val / 4 = k.val / 4 ∧ k.val ≤ r.val then y k else 0 := by
  rw [← Finset.sum_filter, ← Finset.sum_filter]
  refine Finset.sum_bij' (fun s _ => (⟨r.val / 4 * 4 + s.val, by omega⟩ : Fin 128)) (fun k _ => (⟨k.val % 4, by omega⟩ : Fin 4)) ?_ ?_ ?_ ?_ ?_
  · intro s hs
    simp only [Finset.mem_filter, Finset.mem_univ, true_and] at hs ⊢
    omega
  · intro k hk
    simp only [Finset.mem_filter, Finset.mem_univ, true_and] at hk ⊢
    omega
  · intro s hs
    exact Fin.ext (by show (r.val / 4 * 4 + s.val) % 4 = s.val; omega)
  · intro k hk
    simp only [Finset.mem_filter, Finset.mem_univ, true_and] at hk
    exact Fin.ext (by show r.val / 4 * 4 + k.val % 4 = k.val; omega)
  · intro s hs
    rfl

/-- The terms of a tile up to an index, added to the sum of all terms before the tile. -/
theorem tile_sum (f : ℕ → EReal) (b T r : ℕ) (hr : r < T) (v : EReal) (hv : v = ∑ k ∈ Finset.range b, f k) :
    (∑ x : Fin T, if x.val ≤ r then f (b + x.val) else 0) + v = ∑ k ∈ Finset.range (b + r + 1), f k := by
  rw [hv, add_assoc b r 1, Finset.sum_range_add, add_comm, Fin.sum_univ_eq_sum_range (fun i => if i ≤ r then f (b + i) else 0) T,
    ← Finset.sum_filter]
  refine congrArg (fun s => (∑ k ∈ Finset.range b, f k) + ∑ k ∈ s, f (b + k)) (Finset.ext fun i => ?_)
  simp only [Finset.mem_filter, Finset.mem_range]
  omega

/-- A running sum over two rows: its first row is the array's. -/
theorem first_row {u : Shape} (x : FVec Ideal ⟨2, ![2, 2048]⟩ .f32) (init : u.Idx → Ideal .f32)
    (h : (⟨2, ![2, 2048]⟩ : Shape).ReduceWindows ![2, 1] ![1, 1] ![1, 0] ![0, 0] ⟨2, ![2, 2048]⟩) (hu : 0 < u.numel)
    (h0 : init (Shape.Idx.first hu) = (0 : EReal)) (n : Fin 2048) :
    Host.reduceWindowAdd ![2, 1] ![1, 1] ![1, 0] ![0, 0] x init h hu (ix2 0 n) = x (ix2 0 n) := by
  rw [window_sum _ _ _ _ x init h hu h0]
  refine (sum_idx2 (n0 := 2) (n1 := 1) _).trans ?_
  rw [Fin.sum_univ_two, Fin.sum_univ_one, Fin.sum_univ_one, dif_neg ?_, dif_pos ?_, zero_add]
  · refine congrArg x (funext fun c => Fin.ext ?_)
    match c with
    | ⟨0, _⟩ => rfl
    | ⟨1, _⟩ => show n.val * 1 + 0 - 0 = n.val; omega
  · intro c
    match c with
    | ⟨0, _⟩ => show 1 ≤ 0 * 1 + 1 ∧ 0 * 1 + 1 - 1 < 2; omega
    | ⟨1, _⟩ => show 0 ≤ n.val * 1 + 0 ∧ n.val * 1 + 0 - 0 < 2048; omega
  · intro hin
    have : 1 ≤ 0 * 1 + 0 := (hin 0).1
    omega

/-- A running sum inside groups of four rows, for every head. -/
theorem head_group_sum {u : Shape} (x : FVec Ideal ⟨4, ![32, 4, 16, 128]⟩ .f32) (init : u.Idx → Ideal .f32)
    (h : (⟨4, ![32, 4, 16, 128]⟩ : Shape).ReduceWindows ![1, 4, 1, 1] ![1, 1, 1, 1] ![0, 3, 0, 0] ![0, 0, 0, 0] ⟨4, ![32, 4, 16, 128]⟩) (hu : 0 < u.numel)
    (h0 : init (Shape.Idx.first hu) = (0 : EReal)) (b : Fin 32) (t : Fin 4) (e : Fin 16) (l : Fin 128) :
    Host.reduceWindowAdd ![1, 4, 1, 1] ![1, 1, 1, 1] ![0, 3, 0, 0] ![0, 0, 0, 0] x init h hu (ix4 b t e l)
      = ∑ s : Fin 4, if s.val ≤ t.val then x (ix4 b s e l) else (0 : EReal) := by
  rw [window_sum _ _ _ _ x init h hu h0]
  have step : ∀ w : (⟨4, ![1, 4, 1, 1]⟩ : Shape).Idx, (if hin : ∀ c : Fin 4, (![0, 3, 0, 0] : Fin 4 → ℕ) c ≤ (ix4 b t e l (c.cast h.1.symm)).val * (![1, 1, 1, 1] : Fin 4 → ℕ) c + (w c).val
        ∧ (ix4 b t e l (c.cast h.1.symm)).val * (![1, 1, 1, 1] : Fin 4 → ℕ) c + (w c).val - (![0, 3, 0, 0] : Fin 4 → ℕ) c < (![32, 4, 16, 128] : Fin 4 → ℕ) c
      then (show EReal from x (fun c => ⟨(ix4 b t e l (c.cast h.1.symm)).val * (![1, 1, 1, 1] : Fin 4 → ℕ) c + (w c).val - (![0, 3, 0, 0] : Fin 4 → ℕ) c, (hin c).2⟩)) else 0)
      = if hc : 3 ≤ t.val + (w 1).val then x (ix4 b ⟨t.val + (w 1).val - 3, by have h4 : (w 1).val < 4 := (w 1).isLt; omega⟩ e l) else (0 : EReal) := fun w => by
    have w0 : (w 0).val < 1 := (w 0).isLt
    have w1 : (w 1).val < 4 := (w 1).isLt
    have w2 : (w 2).val < 1 := (w 2).isLt
    have w3 : (w 3).val < 1 := (w 3).isLt
    by_cases hc : 3 ≤ t.val + (w 1).val
    · rw [dif_pos hc, dif_pos ?_]
      · refine congrArg x (funext fun c => Fin.ext ?_)
        match c with
        | ⟨0, _⟩ => show b.val * 1 + (w 0).val - 0 = b.val; omega
        | ⟨1, _⟩ => show t.val * 1 + (w 1).val - 3 = t.val + (w 1).val - 3; omega
        | ⟨2, _⟩ => show e.val * 1 + (w 2).val - 0 = e.val; omega
        | ⟨3, _⟩ => show l.val * 1 + (w 3).val - 0 = l.val; omega
      · intro c
        match c with
        | ⟨0, _⟩ => show 0 ≤ b.val * 1 + (w 0).val ∧ b.val * 1 + (w 0).val - 0 < 32; omega
        | ⟨1, _⟩ => show 3 ≤ t.val * 1 + (w 1).val ∧ t.val * 1 + (w 1).val - 3 < 4; omega
        | ⟨2, _⟩ => show 0 ≤ e.val * 1 + (w 2).val ∧ e.val * 1 + (w 2).val - 0 < 16; omega
        | ⟨3, _⟩ => show 0 ≤ l.val * 1 + (w 3).val ∧ l.val * 1 + (w 3).val - 0 < 128; omega
    · rw [dif_neg hc, dif_neg ?_]
      intro hin
      have : 3 ≤ t.val * 1 + (w 1).val := (hin 1).1
      omega
  refine (Fintype.sum_congr _ _ step).trans ?_
  have re : ∀ g : Fin 4 → EReal, ∑ w : (⟨4, ![1, 4, 1, 1]⟩ : Shape).Idx, g (w 1) = ∑ s : Fin 4, g s := fun g => by
    refine Finset.sum_bij' (fun w _ => (w 1 : Fin 4)) (fun s _ => ix4 0 s 0 0) (fun _ _ => Finset.mem_univ _)
      (fun _ _ => Finset.mem_univ _) (fun w _ => funext fun c => ?_) (fun s _ => rfl) (fun w _ => rfl)
    match c with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  refine (re fun s => if hc : 3 ≤ t.val + s.val then x (ix4 b ⟨t.val + s.val - 3, by omega⟩ e l) else (0 : EReal)).trans ?_
  exact four_sum (fun s => x (ix4 b s e l)) t

end Cert.WindowSum

end
-- ==== Proof.ForgetPrompt.lean ====
module

public import proofs.«01_k».proof.Proof.Gen.KernelForgetPromptIdeal.Value
public import proofs.«01_k».proof.Proof.Gen.ReferenceForgetPromptIdeal.Run
public import Idealize.ShloMosaic.Lib.Pipeline.ValueKit
public import proofs.«01_k».proof.Proof.LogSigmoid
public import proofs.«01_k».proof.Proof.WindowSum

/-!
The forget gate of the prompt: the logarithms of the logistic function of the logits, and their running sums along the
rows.  The kernel takes the running sums a tile of 256 rows at a time, by multiplying with a matrix of zeros and ones, and
carries the last row of a tile to the next.
-/

@[expose] public section

set_option maxRecDepth 16384

noncomputable section

namespace Cert.KernelForgetPromptIdeal.Body

open Idealize.ShloMosaic Idealize.ShloMosaic.TcCoe Idealize.SL.Sem
open Idealize.ShloMosaic.Pipeline (Dat)
open Cert.LogSigmoid Cert.WindowSum
open Cert.KernelForgetPromptIdeal Cert.KernelForgetPromptIdeal.Gen

variable (m : (ℓ : Loc nD τ sig) → Buf (Elt Ideal) ℓ)

/-- The logits with their biases. -/
def logits (a0 : FVec Ideal S8320x128 .f32) (a1 : FVec Ideal S1x16 .f32) : FVec Ideal S8192x128 .f32 :=
  addf (extractStridedSlice Cert.ReferenceForgetPromptIdeal.S8192x128 ![0, 0] a0 Cert.ReferenceForgetPromptIdeal.Gen.slices_S8320x128_S8192x128_0_0) (broadcastInDim Cert.ReferenceForgetPromptIdeal.S8192x128 ![0, 1] Cert.ReferenceForgetPromptIdeal.Gen.bcast_S1x128_S8192x128_0_1 (broadcastInDim Cert.ReferenceForgetPromptIdeal.S1x128 ![1] Cert.ReferenceForgetPromptIdeal.Gen.bcast_S128_S1x128_1 (pad Cert.ReferenceForgetPromptIdeal.S128 ![0] ![112] ![0] (shapeCast _ a1 Cert.ReferenceForgetPromptIdeal.Gen.shapeCasts_S1x16_S16) (sitofp .f32 (constantI Cert.ReferenceForgetPromptIdeal.S_ 32 0#32)) Cert.ReferenceForgetPromptIdeal.Gen.pads_S16_S128_01120 Cert.ReferenceForgetPromptIdeal.Gen.h_S_)))

/-- The reference's logarithm of the logistic function. -/
def logsigAll (x : FVec Ideal S8192x128 .f32) : FVec Ideal S8192x128 .f32 :=
  Host.negf (select (cmpf .une (subf (Host.negf x) (broadcastInDim Cert.ReferenceForgetPromptIdeal.S8192x128 ![] Cert.ReferenceForgetPromptIdeal.Gen.bcast_S_S8192x128 (constant Cert.ReferenceForgetPromptIdeal.S_ .f32 0x00000000#32))) (subf (Host.negf x) (broadcastInDim Cert.ReferenceForgetPromptIdeal.S8192x128 ![] Cert.ReferenceForgetPromptIdeal.Gen.bcast_S_S8192x128 (constant Cert.ReferenceForgetPromptIdeal.S_ .f32 0x00000000#32)))) (addf (Host.negf x) (broadcastInDim Cert.ReferenceForgetPromptIdeal.S8192x128 ![] Cert.ReferenceForgetPromptIdeal.Gen.bcast_S_S8192x128 (constant Cert.ReferenceForgetPromptIdeal.S_ .f32 0x00000000#32))) (addf (maximumf (Host.negf x) (broadcastInDim Cert.ReferenceForgetPromptIdeal.S8192x128 ![] Cert.ReferenceForgetPromptIdeal.Gen.bcast_S_S8192x128 (constant Cert.ReferenceForgetPromptIdeal.S_ .f32 0x00000000#32))) (Host.log1p (Host.exp (Host.negf (Host.absf (subf (Host.negf x) (broadcastInDim Cert.ReferenceForgetPromptIdeal.S8192x128 ![] Cert.ReferenceForgetPromptIdeal.Gen.bcast_S_S8192x128 (constant Cert.ReferenceForgetPromptIdeal.S_ .f32 0x00000000#32)))))))))

/-- The reference's running sum. -/
def running (x : FVec Ideal S8192x128 .f32) : FVec Ideal S8192x128 .f32 :=
  Host.reduceWindowAdd ![8192, 1] ![1, 1] ![8191, 0] ![0, 0] (x) (broadcastInDim Cert.ReferenceForgetPromptIdeal.S_ ![] Cert.ReferenceForgetPromptIdeal.Gen.bcast_S_S_ (constant Cert.ReferenceForgetPromptIdeal.S_ .f32 0x00000000#32)) Cert.ReferenceForgetPromptIdeal.Gen.reduceWindows_S8192x128_S8192x128_w8192s1p8191_0_w1s1p0_0 Cert.ReferenceForgetPromptIdeal.Gen.h_S_

/-- The reference's first result: the logarithms of the forget gates. -/
def REF0 (a0 : FVec Ideal S8320x128 .f32) (a1 : FVec Ideal S1x16 .f32) : FVec Ideal S8192x128 .f32 := logsigAll (logits a0 a1)

/-- The reference's second result: their running sums. -/
def REF1 (a0 : FVec Ideal S8320x128 .f32) (a1 : FVec Ideal S1x16 .f32) : FVec Ideal S8192x128 .f32 :=
  running (logsigAll (logits a0 a1))

/-- The bias of a column: sixteen are given, the rest are zero. -/
def bias (a1 : FVec Ideal S1x16 .f32) (n : Fin 128) : EReal := if h : n.val < 16 then a1 (ix2 0 ⟨n.val, h⟩) else (0 : EReal)

/-- The integer zero read as a real is zero. -/
theorem zero_fill : (FloatOps.sitofp FTy.f32 0#32 : Ideal .f32) = (0 : EReal) := by
  show (((0#32 : BitVec 32).toInt : ℝ) : EReal) = 0
  simp

/-- The reference's logits, entry by entry. -/
theorem logits_at (a0 : FVec Ideal S8320x128 .f32) (a1 : FVec Ideal S1x16 .f32) (r : Fin 8192) (n : Fin 128) :
    logits a0 a1 (ix2 r n) = a0 (ix2 ⟨r.val, by omega⟩ n) + bias a1 n := by
  pointwise [logits]
  simp only [zero_fill, bias]

/-- The reference's logarithm of the logistic function, entry by entry. -/
theorem logsigAll_at (x : FVec Ideal S8192x128 .f32) (r : Fin 8192) (n : Fin 128) :
    logsigAll x (ix2 r n) = logsig (x (ix2 r n)) := by
  refine Eq.trans ?_ (softplus_eq _)
  pointwise [logsigAll]
  rw [if_neg (fun h => h rfl)]
  rfl

/-- The bias row the kernel reads: sixteen given columns, the rest zero. -/
def biasRow (a1 : FVec Ideal S1x16 .f32) : FVec Ideal S1x128 .f32 :=
  broadcastInDim S1x128 ![1] bcast_S128_S1x128_1 (pad S128 ![0] ![112] ![0] (shapeCast S16 a1 shapeCasts_S1x16_S16)
    (sitofp .f32 (constantI S_ 32 0#32)) pads_S16_S128_01120 h_S_)

/-- That row, entry by entry. -/
theorem biasRow_at (a1 : FVec Ideal S1x16 .f32) (n : Fin 128) : biasRow a1 (ix2 0 n) = bias a1 n := by
  pointwise [biasRow]
  simp only [zero_fill, bias]

/-- The windows' index maps. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The first result a point stores, entry by entry. -/
theorem gate_at (x0 : FVec Ideal S256x128 .f32) (x1 : FVec Ideal S1x128 .f32) (r : Fin 256) (n : Fin 128) :
    k0_pay3 (F := Ideal) x0 x1 (ix2 r n) = logsig (x0 (ix2 r n) + x1 (ix2 0 n)) := by
  pointwise [k0_pay3]
  rfl

/-- The matrix marks the rows up to the row. -/
theorem mark_eq : ∀ r x : Fin 256, IntOp.cmpi CmpIPredicate.sle (BitVec.ofNat 32 x.val) (BitVec.ofNat 32 r.val)
      = if x.val ≤ r.val then 1#1 else 0#1 := by decide +kernel

/-- A number where the matrix marks, zero elsewhere. -/
theorem marked (r x : Fin 256) (v : EReal) :
    Scalar.select (IntOp.cmpi CmpIPredicate.sle (BitVec.ofNat 32 x.val) (BitVec.ofNat 32 r.val)) v 0
      = if x.val ≤ r.val then v else 0 := by
  rw [mark_eq]
  split <;> rfl

/-- The second result a point stores, entry by entry: the sum over the tile's rows up to the row, and the carried row. -/
theorem sum_at (x0 : FVec Ideal S256x128 .f32) (x1 x2 : FVec Ideal S1x128 .f32) (r : Fin 256) (n : Fin 128) :
    k0_pay4 (F := Ideal) x0 x1 x2 (ix2 r n)
      = (∑ x : Fin 256, if x.val ≤ r.val then logsig (x0 (ix2 x n) + x1 (ix2 0 n)) else 0) + x2 (ix2 0 n) := by
  rw [← split_sum (fun x : Fin 256 => x.val ≤ r.val) (fun x => logsig (x0 (ix2 x n) + x1 (ix2 0 n))) (fun x => logsig_ne_top _)]
  simp only [← marked]
  pointwise [k0_pay3, k0_pay4]
  rfl

/-- The bias row the kernel reads. -/
theorem bias_at (c : Dev nD) (n : Fin 128) : V m c main_v2 (ix2 0 n) = bias (m ((c : Thread nD τ).loc main_arg1)) n := by
  have h : (V m c main_v2 : FVec Ideal S1x128 .f32) = biasRow (m ((c : Thread nD τ).loc main_arg1)) := by
    unfold V
    try simp only [hostOps0, hostOps0_1, hostOps0_2, List.flatten_cons, List.flatten_nil, List.cons_append, List.nil_append, List.append_nil]
    after_results; try rfl
  exact (congrFun h _).trans (biasRow_at _ n)

/-- The logits the kernel reads. -/
theorem rows_at (c : Dev nD) : (V m c main_arg0 : FVec Ideal S8320x128 .f32) = m ((c : Thread nD τ).loc main_arg0) := by
  unfold V
  try simp only [hostOps0, hostOps0_1, hostOps0_2, List.flatten_cons, List.flatten_nil, List.cons_append, List.nil_append, List.append_nil]
  after_results; try rfl

/-- The tile of rows a point reads. -/
theorem tile_at (c : Dev nD) (t : Fin cfg0.N) (r : Fin 256) (n : Fin 128) (h : 256 * t.val + r.val < 8320) :
    X0_0 m c t (ix2 r n) = m ((c : Thread nD τ).loc main_arg0) (ix2 ⟨256 * t.val + r.val, h⟩ n) := by
  refine Eq.trans (b := V m c main_arg0 (ix2 ⟨256 * t.val + r.val, h⟩ n)) ?_ (congrFun (rows_at m c) _)
  unfold X0_0 Pipeline.Window.fill
  rw [dif_pos (moved0_0 t (ix2 r n))]
  blk_ext [iblk, idx t]

/-- The forget gate's logarithm at a row and column of the arguments. -/
def gate (c : Dev nD) (n : Fin 128) (k : ℕ) : EReal :=
  if h : k < 8192 then logsigAll (logits (m ((c : Thread nD τ).loc main_arg0)) (m ((c : Thread nD τ).loc main_arg1))) (ix2 ⟨k, h⟩ n) else 0

/-- The logits with their biases as a point reads them give the reference's. -/
theorem point (c : Dev nD) (t : Fin cfg0.N) (r : Fin 256) (n : Fin 128) :
    logsig ((show EReal from X0_0 m c t (ix2 r n)) + (show EReal from iblk m c 1 t (ix2 0 n))) = gate m c n (256 * t.val + r.val) := by
  have ht : t.val < 32 := lt_of_lt_of_eq t.isLt N_0
  have h : 256 * t.val + r.val < 8192 := by omega
  refine Eq.trans ?_ (dif_pos h).symm
  rw [logsigAll_at, logits_at]
  refine congrArg logsig (Ideal.add_congr (tile_at m c t r n _) ?_)
  exact Eq.trans (b := V m c main_v2 (ix2 0 n)) (by blk_ext [iblk, idx t]) (bias_at m c _)

/-- The first result after a point. -/
theorem first (c : Dev nD) (t : Fin cfg0.N) :
    (outsAt0 m c t.val t.isLt).1 = k0_pay3 (F := Ideal) (X0_0 m c t) (iblk m c 1 t) := by
  by_cases h0 : t.val % 32 = 0
  · rw [outsAt0_A m c t h0]; frame_out
  · rw [outsAt0_B m c t h0]; frame_out

/-- The second result after the first point: nothing was carried to it. -/
theorem second_fill (c : Dev nD) (t : Fin cfg0.N) (h0 : t.val % 32 = 0) :
    (outsAt0 m c t.val t.isLt).2.1 = k0_pay4 (F := Ideal) (X0_0 m c t) (iblk m c 1 t) (k0_pay2 (F := Ideal)) := by
  rw [outsAt0_A m c t h0]; frame_out

/-- The second result after any other point, over the row carried to it. -/
theorem second_keep (c : Dev nD) (t : Fin cfg0.N) (h0 : ¬t.val % 32 = 0) :
    (outsAt0 m c t.val t.isLt).2.1 = k0_pay4 (F := Ideal) (X0_0 m c t) (iblk m c 1 t)
      (outsAt0 m c (t.val - 1) (Nat.lt_of_le_of_lt (Nat.sub_le _ _) t.isLt)).2.2 := by
  rw [outsAt0_B m c t h0]; frame_out
  exact congrArg (k0_pay4 (F := Ideal) (X0_0 m c t) (iblk m c 1 t)) (Memref.IsWhole.read_unread _ _)

/-- The row a point carries on is the last row of its second result. -/
theorem carried (c : Dev nD) (t : Fin cfg0.N) :
    (outsAt0 m c t.val t.isLt).2.2 = k0_pay1 (F := Ideal) (outsAt0 m c t.val t.isLt).2.1 := by
  by_cases h0 : t.val % 32 = 0
  · rw [second_fill m c t h0, outsAt0_A m c t h0]; frame_out
  · rw [second_keep m c t h0, outsAt0_B m c t h0]; frame_out
    exact congrArg (fun z => k0_pay1 (F := Ideal) (k0_pay4 (F := Ideal) (X0_0 m c t) (iblk m c 1 t) z)) (Memref.IsWhole.read_unread _ _)

/-- The last row of a tile. -/
theorem last_at (x : FVec Ideal S256x128 .f32) (n : Fin 128) : k0_pay1 (F := Ideal) x (ix2 0 n) = x (ix2 ⟨255, by omega⟩ n) := by
  pointwise [k0_pay1]

/-- The second result after point `k`: the sums over all rows up to the row. -/
theorem second_at (c : Dev nD) (n : Fin 128) (k : ℕ) (hk : k < cfg0.N) (r : Fin 256) :
    (outsAt0 m c k hk).2.1 (ix2 r n) = ∑ x ∈ Finset.range (256 * k + r.val + 1), gate m c n x := by
  induction k generalizing r with
  | zero =>
    refine (congrFun (second_fill m c ⟨0, hk⟩ (Nat.zero_mod _)) _).trans ?_
    rw [sum_at]
    simp only [point m c ⟨0, hk⟩]
    refine (tile_sum (gate m c n) (256 * 0) 256 r.val r.isLt _ ?_)
    pointwise [k0_pay2]
    rfl
  | succ k ih =>
    have hN : k + 1 < 32 := lt_of_lt_of_eq hk N_0
    have h0 : ¬(k + 1) % 32 = 0 := by omega
    refine (congrFun (second_keep m c ⟨k + 1, hk⟩ h0) _).trans ?_
    rw [sum_at]
    simp only [point m c ⟨k + 1, hk⟩]
    refine (tile_sum (gate m c n) (256 * (k + 1)) 256 r.val r.isLt _ ?_)
    refine (congrFun (carried m c ⟨k, Nat.lt_of_succ_lt hk⟩) _).trans ?_
    rw [last_at]
    exact ih (Nat.lt_of_succ_lt hk) ⟨255, by omega⟩

/-- After the run the first result array is the reference's. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  blk_simp
  rw [after0_2, first]
  idx_vars y
  have ht : t.val < 32 := lt_of_lt_of_eq t.isLt N_0
  have h : 256 * t.val + y0.val < 8192 := by omega
  rw [gate_at]
  refine (point m c t y0 y1).trans ((dif_pos h).trans ?_)
  unfold REF0
  blk_ext [idx t]

/-- The reference's running sum, entry by entry. -/
theorem running_at (x : FVec Ideal S8192x128 .f32) (r : Fin 8192) (n : Fin 128) (X : ℕ → EReal)
    (hX : ∀ k : Fin 8192, x (ix2 k n) = X k.val) :
    running x (ix2 r n) = ∑ k ∈ Finset.range (r.val + 1), X k := by
  unfold running
  exact rows_sum _ _ X n _ _ (by pointwise) r hX

/-- After the run the second result array is the reference's. -/
theorem final1 (c : Dev nD) : (dats m 0 c).arrAt 3 (cfgs 0).N = REF1 (m ((c : Thread nD τ).loc main_arg0)) (m ((c : Thread nD τ).loc main_arg1)) := by
  refine (dats m 0 c).arrAt_eq_of_covers 3 _ (by decide +kernel) fun t hf y => ?_
  blk_simp
  rw [after0_3]
  idx_vars y
  have ht : t.val < 32 := lt_of_lt_of_eq t.isLt N_0
  have h : 256 * t.val + y0.val < 8192 := by omega
  have land : ∀ z : FVec Ideal S8192x128 .f32, z (ix2 ⟨256 * t.val + y0.val, h⟩ y1) = z (((cfg0.win 3).blk t).view.emb (ix2 y0 y1)) :=
    fun z => by blk_ext [idx t]
  refine (second_at m c y1 t.val t.isLt y0).trans ?_
  refine Eq.trans (b := REF1 (m ((c : Thread nD τ).loc main_arg0)) (m ((c : Thread nD τ).loc main_arg1)) (ix2 ⟨256 * t.val + y0.val, h⟩ y1)) ?_ (land _)
  exact (running_at _ ⟨_, h⟩ y1 (gate m c y1) (fun k => by unfold gate; rw [dif_pos k.isLt])).symm

end Cert.KernelForgetPromptIdeal.Body

end
-- ==== Proof.ForgetSample.lean ====
module

public import proofs.«01_k».proof.Proof.Gen.KernelForgetSampleIdeal.Value
public import proofs.«01_k».proof.Proof.Gen.ReferenceForgetSampleIdeal.Run
public import Idealize.ShloMosaic.Lib.Pipeline.ValueKit
public import proofs.«01_k».proof.Proof.LogSigmoid
public import proofs.«01_k».proof.Proof.WindowSum

/-!
The forget gate of the samples: the logarithms of the logistic function of the logits, and their running sums inside each
sample's four rows, which the kernel takes by multiplying with a matrix of zeros and ones that marks, for every row, the
rows of its sample up to it.
-/

@[expose] public section

set_option maxRecDepth 16384

noncomputable section

namespace Cert.KernelForgetSampleIdeal.Body

open Idealize.ShloMosaic Idealize.ShloMosaic.TcCoe Idealize.SL.Sem
open Idealize.ShloMosaic.Pipeline (Dat)
open Cert.LogSigmoid Cert.WindowSum
open Cert.KernelForgetSampleIdeal Cert.KernelForgetSampleIdeal.Gen

variable (m : (ℓ : Loc nD τ sig) → Buf (Elt Ideal) ℓ)

/-- The logits with their biases. -/
def logits (a0 : FVec Ideal S8320x128 .f32) (a1 : FVec Ideal S1x16 .f32) : FVec Ideal S128x128 .f32 :=
  addf (extractStridedSlice Cert.ReferenceForgetSampleIdeal.S128x128 ![8192, 0] a0 Cert.ReferenceForgetSampleIdeal.Gen.slices_S8320x128_S128x128_8192_0) (broadcastInDim Cert.ReferenceForgetSampleIdeal.S128x128 ![0, 1] Cert.ReferenceForgetSampleIdeal.Gen.bcast_S1x128_S128x128_0_1 (broadcastInDim Cert.ReferenceForgetSampleIdeal.S1x128 ![1] Cert.ReferenceForgetSampleIdeal.Gen.bcast_S128_S1x128_1 (pad Cert.ReferenceForgetSampleIdeal.S128 ![0] ![112] ![0] (shapeCast _ a1 Cert.ReferenceForgetSampleIdeal.Gen.shapeCasts_S1x16_S16) (sitofp .f32 (constantI Cert.ReferenceForgetSampleIdeal.S_ 32 0#32)) Cert.ReferenceForgetSampleIdeal.Gen.pads_S16_S128_01120 Cert.ReferenceForgetSampleIdeal.Gen.h_S_)))

/-- The reference's logarithm of the logistic function. -/
def logsigAll (x : FVec Ideal S128x128 .f32) : FVec Ideal S128x128 .f32 :=
  Host.negf (select (cmpf .une (subf (Host.negf x) (broadcastInDim Cert.ReferenceForgetSampleIdeal.S128x128 ![] Cert.ReferenceForgetSampleIdeal.Gen.bcast_S_S128x128 (constant Cert.ReferenceForgetSampleIdeal.S_ .f32 0x00000000#32))) (subf (Host.negf x) (broadcastInDim Cert.ReferenceForgetSampleIdeal.S128x128 ![] Cert.ReferenceForgetSampleIdeal.Gen.bcast_S_S128x128 (constant Cert.ReferenceForgetSampleIdeal.S_ .f32 0x00000000#32)))) (addf (Host.negf x) (broadcastInDim Cert.ReferenceForgetSampleIdeal.S128x128 ![] Cert.ReferenceForgetSampleIdeal.Gen.bcast_S_S128x128 (constant Cert.ReferenceForgetSampleIdeal.S_ .f32 0x00000000#32))) (addf (maximumf (Host.negf x) (broadcastInDim Cert.ReferenceForgetSampleIdeal.S128x128 ![] Cert.ReferenceForgetSampleIdeal.Gen.bcast_S_S128x128 (constant Cert.ReferenceForgetSampleIdeal.S_ .f32 0x00000000#32))) (Host.log1p (Host.exp (Host.negf (Host.absf (subf (Host.negf x) (broadcastInDim Cert.ReferenceForgetSampleIdeal.S128x128 ![] Cert.ReferenceForgetSampleIdeal.Gen.bcast_S_S128x128 (constant Cert.ReferenceForgetSampleIdeal.S_ .f32 0x00000000#32)))))))))

/-- The reference's running sum. -/
def running (x : FVec Ideal S128x128 .f32) : FVec Ideal S128x128 .f32 :=
  shapeCast _ (Host.reduceWindowAdd ![1, 4, 1] ![1, 1, 1] ![0, 3, 0] ![0, 0, 0] (shapeCast _ (x) Cert.ReferenceForgetSampleIdeal.Gen.shapeCasts_S128x128_S32x4x128) (broadcastInDim Cert.ReferenceForgetSampleIdeal.S_ ![] Cert.ReferenceForgetSampleIdeal.Gen.bcast_S_S_ (constant Cert.ReferenceForgetSampleIdeal.S_ .f32 0x00000000#32)) Cert.ReferenceForgetSampleIdeal.Gen.reduceWindows_S32x4x128_S32x4x128_w1s1p0_0_w4s1p3_0_w1s1p0_0 Cert.ReferenceForgetSampleIdeal.Gen.h_S_) Cert.ReferenceForgetSampleIdeal.Gen.shapeCasts_S32x4x128_S128x128

/-- The reference's first result: the logarithms of the forget gates. -/
def REF0 (a0 : FVec Ideal S8320x128 .f32) (a1 : FVec Ideal S1x16 .f32) : FVec Ideal S128x128 .f32 := logsigAll (logits a0 a1)

/-- The reference's second result: their running sums. -/
def REF1 (a0 : FVec Ideal S8320x128 .f32) (a1 : FVec Ideal S1x16 .f32) : FVec Ideal S128x128 .f32 :=
  running (logsigAll (logits a0 a1))

/-- The bias of a column: sixteen are given, the rest are zero. -/
def bias (a1 : FVec Ideal S1x16 .f32) (n : Fin 128) : EReal := if h : n.val < 16 then a1 (ix2 0 ⟨n.val, h⟩) else (0 : EReal)

/-- The integer zero read as a real is zero. -/
theorem zero_fill : (FloatOps.sitofp FTy.f32 0#32 : Ideal .f32) = (0 : EReal) := by
  show (((0#32 : BitVec 32).toInt : ℝ) : EReal) = 0
  simp

/-- The reference's logits, entry by entry. -/
theorem logits_at (a0 : FVec Ideal S8320x128 .f32) (a1 : FVec Ideal S1x16 .f32) (r : Fin 128) (n : Fin 128) :
    logits a0 a1 (ix2 r n) = a0 (ix2 ⟨8192 + r.val, by omega⟩ n) + bias a1 n := by
  pointwise [logits]
  simp only [zero_fill, bias]

/-- The reference's logarithm of the logistic function, entry by entry. -/
theorem logsigAll_at (x : FVec Ideal S128x128 .f32) (r : Fin 128) (n : Fin 128) :
    logsigAll x (ix2 r n) = logsig (x (ix2 r n)) := by
  refine Eq.trans ?_ (softplus_eq _)
  pointwise [logsigAll]
  rw [if_neg (fun h => h rfl)]
  rfl

/-- The bias row the kernel reads: sixteen given columns, the rest zero. -/
def biasRow (a1 : FVec Ideal S1x16 .f32) : FVec Ideal S1x128 .f32 :=
  broadcastInDim S1x128 ![1] bcast_S128_S1x128_1 (pad S128 ![0] ![112] ![0] (shapeCast S16 a1 shapeCasts_S1x16_S16)
    (sitofp .f32 (constantI S_ 32 0#32)) pads_S16_S128_01120 h_S_)

/-- That row, entry by entry. -/
theorem biasRow_at (a1 : FVec Ideal S1x16 .f32) (n : Fin 128) : biasRow a1 (ix2 0 n) = bias a1 n := by
  pointwise [biasRow]
  simp only [zero_fill, bias]

/-- The windows' index maps. -/
theorem idx : ∀ t : Fin cfg0.N, win0_0.index t = ![0, 0] ∧ win0_1.index t = ![0, 0]
    ∧ win0_2.index t = ![0, 0] ∧ win0_3.index t = ![0, 0] :=
  (by decide +kernel : ∀ t : Fin grid0.N, _)

/-- The first result a point stores, entry by entry. -/
theorem out_at (x0 : FVec Ideal S128x128 .f32) (x1 : FVec Ideal S1x128 .f32) (j : S128x128.Idx) :
    out0_2 (F := Ideal) x0 x1 j = logsig (x0 (ix2 (j 0) (j 1)) + x1 (ix2 0 (j 1))) := by
  idx_vars j
  frame_out
  pointwise [k0_pay2]
  rfl

/-- A row's number divided by four, as the kernel computes it on machine integers. -/
def quot (x : ℕ) : BitVec 32 :=
  Scalar.select (IntOp.andi
      (IntOp.cmpi CmpIPredicate.ne
        (IntOp.subi (BitVec.setWidth 32 (IntOp.cmpi CmpIPredicate.sgt (BitVec.ofNat 32 x) 0#32))
          (BitVec.setWidth 32 (IntOp.cmpi CmpIPredicate.slt (BitVec.ofNat 32 x) 0#32)))
        (Scalar.subi (Scalar.extui (Scalar.cmpi CmpIPredicate.sgt 4#32 0#32))
          (Scalar.extui (Scalar.cmpi CmpIPredicate.slt 4#32 0#32))))
      (IntOp.cmpi CmpIPredicate.ne (IntOp.remsi ArithUnit.vector (BitVec.ofNat 32 x) 4#32) 0#32))
    (IntOp.subi (IntOp.divsi ArithUnit.vector (BitVec.ofNat 32 x) 4#32) 1#32)
    (IntOp.divsi ArithUnit.vector (BitVec.ofNat 32 x) 4#32)

/-- The matrix marks the rows of the same group up to the row. -/
theorem mark_eq : ∀ r x : Fin 128, IntOp.andi (IntOp.cmpi CmpIPredicate.eq (quot r.val) (quot x.val))
    (IntOp.cmpi CmpIPredicate.sle (BitVec.ofNat 32 x.val) (BitVec.ofNat 32 r.val))
      = if r.val / 4 = x.val / 4 ∧ x.val ≤ r.val then 1#1 else 0#1 := by decide +kernel

/-- A number where the matrix marks, zero elsewhere. -/
theorem marked (r x : Fin 128) (v : EReal) : Scalar.select (IntOp.andi (IntOp.cmpi CmpIPredicate.eq (quot r.val) (quot x.val))
    (IntOp.cmpi CmpIPredicate.sle (BitVec.ofNat 32 x.val) (BitVec.ofNat 32 r.val))) v 0
      = if r.val / 4 = x.val / 4 ∧ x.val ≤ r.val then v else 0 := by
  rw [mark_eq]
  split <;> rfl

/-- The second result a point stores, entry by entry: the sum over the rows of the same group up to the row. -/
theorem out_at' (x0 : FVec Ideal S128x128 .f32) (x1 : FVec Ideal S1x128 .f32) (j : S128x128.Idx) :
    out0_3 (F := Ideal) x0 x1 j = ∑ x : Fin 128, if (j 0).val / 4 = x.val / 4 ∧ x.val ≤ (j 0).val
      then logsig (x0 (ix2 x (j 1)) + x1 (ix2 0 (j 1))) else 0 := by
  idx_vars j
  frame_out
  refine Eq.trans ?_ (split_sum (fun x : Fin 128 => j0.val / 4 = x.val / 4 ∧ x.val ≤ j0.val)
    (fun x => logsig (x0 (ix2 x j1) + x1 (ix2 0 j1))) (fun x => logsig_ne_top _))
  simp only [← marked]
  pointwise [k0_pay1, k0_pay2, k0_pay3, k0_pay4]
  rfl

/-- The bias row the kernel reads. -/
theorem bias_at (c : Dev nD) (n : Fin 128) : V m c main_v2 (ix2 0 n) = bias (m ((c : Thread nD τ).loc main_arg1)) n := by
  have h : (V m c main_v2 : FVec Ideal S1x128 .f32) = biasRow (m ((c : Thread nD τ).loc main_arg1)) := by
    unfold V
    try simp only [hostOps0, hostOps0_1, hostOps0_2, List.flatten_cons, List.flatten_nil, List.cons_append, List.nil_append, List.append_nil]
    after_results; try rfl
  exact (congrFun h _).trans (biasRow_at _ n)

/-- The samples' rows of the logits. -/
def tailRows (a0 : FVec Ideal S8320x128 .f32) : FVec Ideal S128x128 .f32 :=
  extractStridedSlice S128x128 ![8192, 0] a0 slices_S8320x128_S128x128_8192_0

/-- Those rows, entry by entry. -/
theorem tailRows_at (a0 : FVec Ideal S8320x128 .f32) (r n : Fin 128) :
    tailRows a0 (ix2 r n) = a0 (ix2 ⟨8192 + r.val, by omega⟩ n) := by pointwise [tailRows]

/-- The rows the kernel reads. -/
theorem rows_at (c : Dev nD) (r n : Fin 128) :
    V m c main_v3 (ix2 r n) = m ((c : Thread nD τ).loc main_arg0) (ix2 ⟨8192 + r.val, by omega⟩ n) := by
  have h : (V m c main_v3 : FVec Ideal S128x128 .f32) = tailRows (m ((c : Thread nD τ).loc main_arg0)) := by
    unfold V
    try simp only [hostOps0, hostOps0_1, hostOps0_2, List.flatten_cons, List.flatten_nil, List.cons_append, List.nil_append, List.append_nil]
    after_results; try rfl
  exact (congrFun h _).trans (tailRows_at _ r n)

/-- The logits with their biases as a point reads them are the reference's. -/
theorem point (c : Dev nD) (t : Fin cfg0.N) (r n : Fin 128) :
    logsig ((show EReal from iblk m c 0 t (ix2 r n)) + (show EReal from iblk m c 1 t (ix2 0 n)))
      = logsigAll (logits (m ((c : Thread nD τ).loc main_arg0)) (m ((c : Thread nD τ).loc main_arg1))) (ix2 r n) := by
  rw [logsigAll_at, logits_at]
  refine congrArg logsig (Ideal.add_congr ?_ ?_)
  · refine Eq.trans (b := V m c main_v3 (ix2 r n)) (by blk_ext [iblk, idx t]) (rows_at m c _ _)
  · refine Eq.trans (b := V m c main_v2 (ix2 0 n)) (by blk_ext [iblk, idx t]) (bias_at m c _)

/-- After the run the first result array is the reference's. -/
theorem final0 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  blk_simp
  rw [after0_2]
  idx_vars y
  rw [out_at]
  refine (point m c t y0 y1).trans ?_
  unfold REF0
  blk_ext [idx t]

/-- The reference's running sum, entry by entry: the sum over the rows of the same group up to the row. -/
theorem running_at (x : FVec Ideal S128x128 .f32) (r n : Fin 128) :
    running x (ix2 r n) = ∑ k : Fin 128, if r.val / 4 = k.val / 4 ∧ k.val ≤ r.val then x (ix2 k n) else (0 : EReal) := by
  unfold running
  pointwise
  rw [group_sum _ _ _ _ (by pointwise)]
  pointwise
  exact group_rows (fun k => x (ix2 k n)) r

/-- After the run the second result array is the reference's. -/
theorem final1 (c : Dev nD) : (dats m 0 c).arrAt 3 (cfgs 0).N = REF1 (m ((c : Thread nD τ).loc main_arg0)) (m ((c : Thread nD τ).loc main_arg1)) := by
  refine (dats m 0 c).arrAt_eq_of_covers 3 _ (by decide +kernel) fun t hf y => ?_
  blk_simp
  rw [after0_3]
  idx_vars y
  rw [out_at']
  refine Eq.trans (b := REF1 (m ((c : Thread nD τ).loc main_arg0)) (m ((c : Thread nD τ).loc main_arg1)) (ix2 y0 y1)) ?_ (by blk_ext [idx t])
  refine Eq.trans ?_ (running_at _ y0 y1).symm
  refine Fin.sum_fin_congr fun k => ?_
  by_cases hk : y0.val / 4 = k.val / 4 ∧ k.val ≤ y0.val
  · exact (if_pos hk).trans ((point m c t k y1).trans (if_pos hk).symm)
  · exact (if_neg hk).trans (if_neg hk).symm

end Cert.KernelForgetSampleIdeal.Body

end
-- ==== Proof.HgrnSample.lean ====
module

public import proofs.«01_k».proof.Proof.Gen.KernelHgrnSampleIdeal.Value
public import proofs.«01_k».proof.Proof.Gen.ReferenceHgrnSampleIdeal.Run
public import Idealize.ShloMosaic.Lib.Pipeline.ValueKit
public import proofs.«01_k».proof.Proof.WindowSum

/-!
The state of the HGRN2 scan of the sampled tokens. The kernel works on sixteen rows per sample, of which four hold tokens, and
on four heads per trip of its loop; it takes the running sums of the gates' logarithms by multiplying with a matrix of zeros and
ones and keeps the states transposed. The reference's states are the same sums over the four tokens.
-/

@[expose] public section

set_option maxRecDepth 16384

noncomputable section

namespace Cert.KernelHgrnSampleIdeal.Body

open Idealize.ShloMosaic Idealize.ShloMosaic.TcCoe Idealize.SL.Sem
open Idealize.ShloMosaic.Pipeline (Dat)
open Cert.KernelHgrnSampleIdeal Cert.KernelHgrnSampleIdeal.Gen

open Cert.WindowSum

variable (m : (ℓ : Loc nD τ sig) → Buf (Elt Ideal) ℓ)

/-- What the body leaves of one head's state: the head's columns of the forget values, of the values, of the lower bound's parameter, and
its old state; `M` is the matrix of the running sums. -/
def headState (M : FVec Ideal S32x16 .f32) (f a : Vec Ideal S16x128 .f32) (l : Vec Ideal S2x128 .f32)
    (s : Vec Ideal S1x1x128x128 .f32) : Vec Ideal S1x1x128x128 .f32 :=
  k0_pay99 (k0_pay44 M (k0_pay5 a) (k0_pay9 s) (k0_pay35 (k0_pay4 f) (k0_pay7 l)) (k0_pay36 (k0_pay7 l)) (k0_pay37 (k0_pay4 f)) k0_pay38)

/-- The loop's second head of a trip is the same computation, cut into other pieces. -/
theorem headState_1 (M : FVec Ideal S32x16 .f32) (f a : Vec Ideal S16x128 .f32) (l : Vec Ideal S2x128 .f32) (s : Vec Ideal S1x1x128x128 .f32) :
    k0_pay101 (k0_pay59 M (k0_pay12 a) (k0_pay16 s) (k0_pay53 (k0_pay11 f) (k0_pay14 l)) (k0_pay54 (k0_pay11 f) (k0_pay14 l))
      (iota Kind.tc S16x1 32 [0] iota_S16x1_d0_w32)) = headState M f a l s := rfl

/-- So is its third head. -/
theorem headState_2 (M : FVec Ideal S32x16 .f32) (f a : Vec Ideal S16x128 .f32) (l : Vec Ideal S2x128 .f32) (s : Vec Ideal S1x1x128x128 .f32) :
    k0_pay103 (k0_pay74 M (k0_pay19 a) (k0_pay23 s) (k0_pay68 (k0_pay18 f) (k0_pay21 l)) (k0_pay69 (k0_pay18 f) (k0_pay21 l))
      (iota Kind.tc S16x1 32 [0] iota_S16x1_d0_w32) 16#32 0#1 1#32) = headState M f a l s := rfl

/-- So is its fourth head. -/
theorem headState_3 (M : FVec Ideal S32x16 .f32) (f a : Vec Ideal S16x128 .f32) (l : Vec Ideal S2x128 .f32) (s : Vec Ideal S1x1x128x128 .f32) :
    k0_pay2 (k0_pay91 M (k0_pay26 a) (k0_pay33 s) (k0_pay84 (k0_pay25 f) (k0_pay31 (k0_pay29 l) (k0_pay30 l)))
      (k0_pay85 (k0_pay25 f) (k0_pay31 (k0_pay29 l) (k0_pay30 l))) 16#32 k0_pay86 0#32) = headState M f a l s := rfl

/-- The columns of head `h` of an array of all heads' columns. -/
def columns {n : ℕ} (x : Vec Ideal ⟨2, ![n, 2048]⟩ .f32) (h : Fin 16) : Vec Ideal ⟨2, ![n, 128]⟩ .f32 :=
  fun y => x (ix2 (y 0) ⟨h.val * 128 + (y 1).val, by have : (y 1).val < 128 := (y 1).isLt; omega⟩)

/-- Head `h` of a state. -/
def ofHead (x : Vec Ideal S1x16x128x128 .f32) (h : Fin 16) : Vec Ideal S1x1x128x128 .f32 :=
  fun y => x (ix4 0 h (y 2) (y 3))

/-- The head the body works on in trip `k`, place `j`. -/
def headAt (k : Fin k0_t1_loop.trips) (j : Fin 4) : Fin 16 := ⟨4 * k.val + j.val, by have : k.val < 4 := k.isLt; omega⟩

/-- Where a trip's loads of the columns start. -/
theorem off1 : ∀ (k : Fin k0_t1_loop.trips) (j : Fin 4), k0_off1 k (BitVec.ofNat 32 j.val) = ![0, (4 * k.val + j.val) * 128] := by decide +kernel
/-- Where its loads of the lower bound's parameter start. -/
theorem off2 : ∀ (k : Fin k0_t1_loop.trips) (j : Fin 4), k0_off2 k (BitVec.ofNat 32 j.val) = ![0, (4 * k.val + j.val) * 128] := by decide +kernel
/-- Where its loads and stores of the states start. -/
theorem off4 : ∀ (k : Fin k0_t1_loop.trips) (j : Fin 4), k0_off4 k (BitVec.ofNat 32 j.val) = ![0, 4 * k.val + j.val, 0, 0] := by decide +kernel

variable (c : Dev nD) (i : grid0.Coords)
  (arg1 : Memref sig .tc .vmem S16x2048 .f32) (harg1 : arg1.IsWhole) (arg2 : Memref sig .tc .vmem S16x2048 .f32) (harg2 : arg2.IsWhole)
  (arg3 : Memref sig .tc .vmem S16x2048 .f32) (harg3 : arg3.IsWhole) (arg4 : Memref sig .tc .vmem S16x2048 .f32) (harg4 : arg4.IsWhole)
  (arg5 : Memref sig .tc .vmem S2x2048 .f32) (harg5 : arg5.IsWhole) (arg6 : Memref sig .tc .vmem S1x2048 .f32) (harg6 : arg6.IsWhole)
  (arg7 : Memref sig .tc .vmem S1x16x128x128 .f32) (harg7 : arg7.IsWhole) (arg8 : Memref sig .tc .vmem S16x2048 .bf16) (harg8 : arg8.IsWhole)
  (arg9 : Memref sig .tc .vmem S1x16x128x128 .f32) (harg9 : arg9.IsWhole)

/-- A load of a head's columns reads the columns of that head. -/
theorem load_columns (arg : Memref sig .tc .vmem S16x2048 .f32) (harg : arg.IsWhole) (x : Vec Ideal S16x2048 .f32)
    (k : Fin k0_t1_loop.trips) (j : Fin 4) (inb) :
    View.readAt (Elt Ideal) arg.view (Rect.unit (s := S16x2048) (k0_off1 k (BitVec.ofNat 32 j.val)) S16x128.size inb).toLoadRect (harg.unread x)
      = columns x (headAt k j) := by
  funext y
  show arg.view.read (Elt Ideal) (harg.unread x) _ = _
  rw [harg.read_unread]
  refine congrArg x (funext fun a => Fin.ext ?_)
  have h := congrFun (off1 k j)
  match a with
  | ⟨0, _⟩ => show k0_off1 k (BitVec.ofNat 32 j.val) 0 + 1 * (y 0).val = (y 0).val; rw [h 0]; show 0 + 1 * (y 0).val = (y 0).val; omega
  | ⟨1, _⟩ => show k0_off1 k (BitVec.ofNat 32 j.val) 1 + 1 * (y 1).val = (4 * k.val + j.val) * 128 + (y 1).val; rw [h 1]; show (4 * k.val + j.val) * 128 + 1 * (y 1).val = _; omega

/-- A load of the lower bound's parameter reads the columns of that head. -/
theorem load_bound (arg : Memref sig .tc .vmem S2x2048 .f32) (harg : arg.IsWhole) (x : Vec Ideal S2x2048 .f32)
    (k : Fin k0_t1_loop.trips) (j : Fin 4) (inb) :
    View.readAt (Elt Ideal) arg.view (Rect.unit (s := S2x2048) (k0_off2 k (BitVec.ofNat 32 j.val)) S2x128.size inb).toLoadRect (harg.unread x)
      = columns x (headAt k j) := by
  funext y
  show arg.view.read (Elt Ideal) (harg.unread x) _ = _
  rw [harg.read_unread]
  refine congrArg x (funext fun a => Fin.ext ?_)
  have h := congrFun (off2 k j)
  match a with
  | ⟨0, _⟩ => show k0_off2 k (BitVec.ofNat 32 j.val) 0 + 1 * (y 0).val = (y 0).val; rw [h 0]; show 0 + 1 * (y 0).val = (y 0).val; omega
  | ⟨1, _⟩ => show k0_off2 k (BitVec.ofNat 32 j.val) 1 + 1 * (y 1).val = (4 * k.val + j.val) * 128 + (y 1).val; rw [h 1]; show (4 * k.val + j.val) * 128 + 1 * (y 1).val = _; omega

/-- A load of a state reads the state of that head. -/
theorem load_state (arg : Memref sig .tc .vmem S1x16x128x128 .f32) (harg : arg.IsWhole) (x : Vec Ideal S1x16x128x128 .f32)
    (k : Fin k0_t1_loop.trips) (j : Fin 4) (inb) :
    View.readAt (Elt Ideal) arg.view (Rect.unit (s := S1x16x128x128) (k0_off4 k (BitVec.ofNat 32 j.val)) S1x1x128x128.size inb).toLoadRect (harg.unread x)
      = ofHead x (headAt k j) := by
  funext y
  show arg.view.read (Elt Ideal) (harg.unread x) _ = _
  rw [harg.read_unread]
  refine congrArg x (funext fun a => Fin.ext ?_)
  have h := congrFun (off4 k j)
  have h0 : (y 0).val < 1 := (y 0).isLt
  have h1 : (y 1).val < 1 := (y 1).isLt
  match a with
  | ⟨0, _⟩ => show k0_off4 k (BitVec.ofNat 32 j.val) 0 + 1 * (y 0).val = 0; rw [h 0]; show 0 + 1 * (y 0).val = 0; omega
  | ⟨1, _⟩ => show k0_off4 k (BitVec.ofNat 32 j.val) 1 + 1 * (y 1).val = 4 * k.val + j.val; rw [h 1]; show 4 * k.val + j.val + 1 * (y 1).val = _; omega
  | ⟨2, _⟩ => show k0_off4 k (BitVec.ofNat 32 j.val) 2 + 1 * (y 2).val = (y 2).val; rw [h 2]; show 0 + 1 * (y 2).val = (y 2).val; omega
  | ⟨3, _⟩ => show k0_off4 k (BitVec.ofNat 32 j.val) 3 + 1 * (y 3).val = (y 3).val; rw [h 3]; show 0 + 1 * (y 3).val = (y 3).val; omega

/-- All heads' states after the body. -/
def allHeads (M : FVec Ideal S32x16 .f32) (x1 x2 : Vec Ideal S16x2048 .f32) (x4 : Vec Ideal S2x2048 .f32)
    (x6 : Vec Ideal S1x16x128x128 .f32) : Vec Ideal S1x16x128x128 .f32 :=
  fun y => headState M (columns x1 (y 1)) (columns x2 (y 1)) (columns x4 (y 1)) (ofHead x6 (y 1)) (ix4 0 0 (y 2) (y 3))

/-- A head's new state, stored at its place. -/
theorem placed (M : FVec Ideal S32x16 .f32) (x1 x2 : Vec Ideal S16x2048 .f32) (x4 : Vec Ideal S2x2048 .f32)
    (x6 : Vec Ideal S1x16x128x128 .f32) (k : Fin k0_t1_loop.trips) (j : Fin 4) (inb)
    (x : (Rect.unit (s := S1x16x128x128) (k0_off4 k (BitVec.ofNat 32 j.val)) S1x1x128x128.size inb).shape.Idx) :
    headState M (columns x1 (headAt k j)) (columns x2 (headAt k j)) (columns x4 (headAt k j)) (ofHead x6 (headAt k j)) x
      = allHeads M x1 x2 x4 x6 ((Rect.unit (s := S1x16x128x128) (k0_off4 k (BitVec.ofNat 32 j.val)) S1x1x128x128.size inb).emb x) := by
  have h := congrFun (off4 k j)
  have h0 : (x 0).val < 1 := (x 0).isLt
  have h1 : (x 1).val < 1 := (x 1).isLt
  have e : (Rect.unit (s := S1x16x128x128) (k0_off4 k (BitVec.ofNat 32 j.val)) S1x1x128x128.size inb).emb x
      = (ix4 0 (headAt k j) (x 2) (x 3) : S1x16x128x128.Idx) := by
    funext a
    refine Fin.ext ?_
    match a with
    | ⟨0, _⟩ => show k0_off4 k (BitVec.ofNat 32 j.val) 0 + 1 * (x 0).val = 0; rw [h 0]; show 0 + 1 * (x 0).val = 0; omega
    | ⟨1, _⟩ => show k0_off4 k (BitVec.ofNat 32 j.val) 1 + 1 * (x 1).val = 4 * k.val + j.val; rw [h 1]; show 4 * k.val + j.val + 1 * (x 1).val = _; omega
    | ⟨2, _⟩ => show k0_off4 k (BitVec.ofNat 32 j.val) 2 + 1 * (x 2).val = (x 2).val; rw [h 2]; show 0 + 1 * (x 2).val = (x 2).val; omega
    | ⟨3, _⟩ => show k0_off4 k (BitVec.ofNat 32 j.val) 3 + 1 * (x 3).val = (x 3).val; rw [h 3]; show 0 + 1 * (x 3).val = (x 3).val; omega
  rw [e]
  refine congrArg (headState M _ _ _ _) ?_
  funext a
  refine Fin.ext ?_
  match a with
  | ⟨0, _⟩ => show (x 0).val = 0; omega
  | ⟨1, _⟩ => show (x 1).val = 0; omega
  | ⟨2, _⟩ => rfl
  | ⟨3, _⟩ => rfl

/-- Every store of a trip holds its head's part of the new states. -/
theorem trip_stores (v0 v1 v25 v27 : IVec S16x16 32) (v41 v45 : IVec S16x16 1)
    (x0 x1 x2 x3 : Vec Ideal S16x2048 .f32) (x4 : Vec Ideal S2x2048 .f32) (x5 : Vec Ideal S1x2048 .f32) (x6 : Vec Ideal S1x16x128x128 .f32)
    (k : Fin k0_t1_loop.trips) :
    ∀ p ∈ (tripL_k0_t1 (F := Ideal) Variants.none c none i arg1 harg1 arg2 harg2 arg3 harg3 arg4 harg4 arg5 harg5 arg6 harg6 arg7 harg7 arg8 harg8 arg9 harg9 v0 v1 v25 v27 v41 v45
        (harg1.unread x0) (harg2.unread x1) (harg3.unread x2) (harg4.unread x3) (harg5.unread x4) (harg6.unread x5) (harg7.unread x6) k).2,
      ∀ x : p.1.shape.Idx, p.2 x = allHeads (k0_pay1 v0 v1 v25 v27 v41 v45) x1 x2 x4 x6 (p.1.emb x) := by
  intro p hp
  unfold tripL_k0_t1 trip_k0_t1 at hp
  simp only [List.mem_cons, List.not_mem_nil, or_false] at hp
  rcases hp with rfl | rfl | rfl | rfl <;> intro x
  · refine Eq.trans (congrFun ?_ x) (placed _ x1 x2 x4 x6 k 3 (k0_off4_inb k 3) x)
    rw [← load_columns arg2 harg2 x1 k 3 (k0_off1_inb k 3), ← load_columns arg3 harg3 x2 k 3 (k0_off1_inb k 3),
      ← load_bound arg5 harg5 x4 k 3 (k0_off2_inb k 3), ← load_state arg7 harg7 x6 k 3 (k0_off4_inb k 3)]
    exact headState_3 _ _ _ _ _
  · refine Eq.trans (congrFun ?_ x) (placed _ x1 x2 x4 x6 k 2 (k0_off4_inb k 2) x)
    rw [← load_columns arg2 harg2 x1 k 2 (k0_off1_inb k 2), ← load_columns arg3 harg3 x2 k 2 (k0_off1_inb k 2),
      ← load_bound arg5 harg5 x4 k 2 (k0_off2_inb k 2), ← load_state arg7 harg7 x6 k 2 (k0_off4_inb k 2)]
    exact headState_2 _ _ _ _ _
  · refine Eq.trans (congrFun ?_ x) (placed _ x1 x2 x4 x6 k 1 (k0_off4_inb k 1) x)
    rw [← load_columns arg2 harg2 x1 k 1 (k0_off1_inb k 1), ← load_columns arg3 harg3 x2 k 1 (k0_off1_inb k 1),
      ← load_bound arg5 harg5 x4 k 1 (k0_off2_inb k 1), ← load_state arg7 harg7 x6 k 1 (k0_off4_inb k 1)]
    exact headState_1 _ _ _ _ _
  · refine Eq.trans (congrFun ?_ x) (placed _ x1 x2 x4 x6 k 0 (k0_off4_inb k 0) x)
    rw [← load_columns arg2 harg2 x1 k 0 (k0_off1_inb k 0), ← load_columns arg3 harg3 x2 k 0 (k0_off1_inb k 0),
      ← load_bound arg5 harg5 x4 k 0 (k0_off2_inb k 0), ← load_state arg7 harg7 x6 k 0 (k0_off4_inb k 0)]
    rfl

/-- So does every store of the trips before any trip. -/
theorem stores (v0 v1 v25 v27 : IVec S16x16 32) (v41 v45 : IVec S16x16 1)
    (x0 x1 x2 x3 : Vec Ideal S16x2048 .f32) (x4 : Vec Ideal S2x2048 .f32) (x5 : Vec Ideal S1x2048 .f32) (x6 : Vec Ideal S1x16x128x128 .f32) :
    ∀ n : ℕ, n ≤ k0_t1_loop.trips → ∀ p ∈ (pb_k0_t1 (F := Ideal) Variants.none c none i arg1 harg1 arg2 harg2 arg3 harg3 arg4 harg4 arg5 harg5 arg6 harg6 arg7 harg7 arg8 harg8 arg9 harg9 v0 v1 v25 v27 v41 v45
        (harg1.unread x0) (harg2.unread x1) (harg3.unread x2) (harg4.unread x3) (harg5.unread x4) (harg6.unread x5) (harg7.unread x6) n).2,
      ∀ x : p.1.shape.Idx, p.2 x = allHeads (k0_pay1 v0 v1 v25 v27 v41 v45) x1 x2 x4 x6 (p.1.emb x)
  | 0, _, p, hp => absurd hp List.not_mem_nil
  | n + 1, hn, p, hp => by
    rw [pb_k0_t1_succ (F := Ideal) Variants.none c none i arg1 harg1 arg2 harg2 arg3 harg3 arg4 harg4 arg5 harg5 arg6 harg6 arg7 harg7 arg8 harg8 arg9 harg9 v0 v1 v25 v27 v41 v45
        (harg1.unread x0) (harg2.unread x1) (harg3.unread x2) (harg4.unread x3) (harg5.unread x4) (harg6.unread x5) (harg7.unread x6)
        ⟨n, hn⟩] at hp
    rcases List.mem_append.mp hp with hp | hp
    · exact trip_stores c i arg1 harg1 arg2 harg2 arg3 harg3 arg4 harg4 arg5 harg5 arg6 harg6 arg7 harg7 arg8 harg8 arg9 harg9 v0 v1 v25 v27 v41 v45 x0 x1 x2 x3 x4 x5 x6 ⟨n, hn⟩ p hp
    · exact stores v0 v1 v25 v27 v41 v45 x0 x1 x2 x3 x4 x5 x6 n (Nat.le_of_succ_le hn) p hp

/-- The matrix of the running sums, as the body computes it. -/
def sums : FVec Ideal S32x16 .f32 :=
  k0_pay1 (iota Kind.tc S16x16 32 [0] iota_S16x16_d0_w32) (iota Kind.tc S16x16 32 [1] iota_S16x16_d1_w32) k0_pay105 k0_pay106 k0_pay107 k0_pay108

/-- What the body leaves in the state's block. -/
theorem out_eq (x0 x1 x2 x3 : Vec Ideal S16x2048 .f32) (x4 : Vec Ideal S2x2048 .f32) (x5 : Vec Ideal S1x2048 .f32) (x6 : Vec Ideal S1x16x128x128 .f32) :
    out0_A_8 c i arg1 harg1 arg2 harg2 arg3 harg3 arg4 harg4 arg5 harg5 arg6 harg6 arg7 harg7 arg8 harg8 arg9 harg9 x0 x1 x2 x3 x4 x5 x6 = allHeads sums x1 x2 x4 x6 := by
  funext y
  unfold out0_A_8
  refine View.read_writes_apply_of_pieces _ _ _ _ ?_ y (cover0_A_8 c i arg1 harg1 arg2 harg2 arg3 harg3 arg4 harg4 arg5 harg5 arg6 harg6 arg7 harg7 arg8 harg8 arg9 harg9 x0 x1 x2 x3 x4 x5 x6 y)
  exact stores c i arg1 harg1 arg2 harg2 arg3 harg3 arg4 harg4 arg5 harg5 arg6 harg6 arg7 harg7 arg8 harg8 arg9 harg9 _ _ _ _ _ _ x0 x1 x2 x3 x4 x5 x6 k0_t1_loop.trips le_rfl

/-- The rows that hold a sampled token. -/
theorem valid_at : ∀ r : Fin 16, k0_pay39 (ix2 r 0) = if r.val < 4 then 1#1 else 0#1 := by decide +kernel

/-- Where the matrix of the running sums is one: in its upper half up to the row's number … -/
theorem upto_at : ∀ r k : Fin 16, IntOp.andi
      (IntOp.cmpi .eq (k0_pay105 (ix2 r k))
        (Scalar.select (IntOp.andi (k0_pay107 (ix2 r k)) (k0_pay108 (ix2 r k))) (IntOp.subi (k0_pay106 (ix2 r k)) 1#32) (k0_pay106 (ix2 r k))))
      (IntOp.cmpi .sle (BitVec.ofNat 32 k.val) (BitVec.ofNat 32 r.val))
      = if k.val ≤ r.val then 1#1 else 0#1 := by decide +kernel

/-- … and in its lower half everywhere. -/
theorem all_at : ∀ r k : Fin 16, IntOp.cmpi .eq (k0_pay105 (ix2 r k))
      (Scalar.select (IntOp.andi (k0_pay107 (ix2 r k)) (k0_pay108 (ix2 r k))) (IntOp.subi (k0_pay106 (ix2 r k)) 1#32) (k0_pay106 (ix2 r k)))
      = 1#1 := by decide +kernel

/-- The first entry of the softmax of two numbers. -/
def soft (f : Fin 2 → EReal) : EReal :=
  Ideal.div (Ideal.exp (f 0 - Finset.fold max (Ideal.ofBits FTy.f32 4286578688#32) f Finset.univ))
    (∑ x, Ideal.exp (f x - Finset.fold max (Ideal.ofBits FTy.f32 4286578688#32) f Finset.univ))

/-- The logarithm of a gate above its lower bound. -/
def gate (l z : EReal) : EReal := Ideal.log (l + (1 - l) * Ideal.div 1 (1 + Ideal.exp (-z)))

/-- The key that belongs to a gate. -/
def key (l z : EReal) : EReal := (1 - l) * Ideal.div 1 (1 + Ideal.exp (- -z))

/-- The sum of the first entries of four. -/
def upto (g : Fin 4 → EReal) (t : Fin 4) : EReal := ∑ s : Fin 4, if s.val ≤ t.val then g s else 0

/-- One entry of a new state: the old entry decayed by all four gates, and the four tokens' keys, each decayed by the gates after it,
times their values. -/
def entry (l : EReal) (z v : Fin 4 → EReal) (s : EReal) : EReal :=
  Ideal.exp (upto (fun x => gate l (z x)) 3) * s
    + ∑ x : Fin 4, key l (z x) * Ideal.exp (upto (fun x => gate l (z x)) 3 - upto (fun x => gate l (z x)) x) * v x

/-- The lower bound the body computes is the first entry of the softmax. -/
theorem low_at (l : Vec Ideal S2x128 .f32) (q : Fin 128) : k0_pay7 l (ix2 0 q) = soft (fun x => l (ix2 x q)) := by
  pointwise [k0_pay7]
  rfl

/-- The logarithms of the gates the body computes, entry by entry. -/
theorem gate_at (f : Vec Ideal S16x128 .f32) (l : FVec Ideal S1x128 .f32) (r : Fin 16) (q : Fin 128) :
    k0_pay35 (k0_pay4 f) l (ix2 r q) = gate (l (ix2 0 q)) (f (ix2 r q)) := by
  pointwise [k0_pay35, k0_pay4]
  unfold gate
  rw [zero_sub]

/-- A number where a row holds a sampled token, zero elsewhere. -/
theorem valid (r : Fin 16) (v : EReal) : Scalar.select (k0_pay39 (ix2 r 0)) v 0 = if r.val < 4 then v else 0 := by
  rw [valid_at]
  split <;> rfl

/-- The keys the body computes, entry by entry: zero in the rows that hold no token. -/
theorem key_at (f : Vec Ideal S16x128 .f32) (l : FVec Ideal S1x128 .f32) (r : Fin 16) (q : Fin 128) :
    k0_pay40 (k0_pay36 l) (k0_pay37 (k0_pay4 f)) k0_pay38 (ix2 r q) = if r.val < 4 then key (l (ix2 0 q)) (f (ix2 r q)) else 0 := by
  rw [← valid]
  pointwise [k0_pay40, k0_pay36, k0_pay37, k0_pay4, k0_pay38]
  unfold key
  rw [zero_sub, zero_sub]

/-- Sixteen numbers of which only the first four are not zero. -/
theorem sixteen (F : Fin 16 → EReal) : (∑ x : Fin 16, if x.val < 4 then F x else 0) = ∑ s : Fin 4, F ⟨s.val, by omega⟩ := by
  simp [Fin.sum_univ_succ]

/-- The upper half of the matrix of the running sums marks the rows up to the row. -/
theorem sums_upper (r k : Fin 16) (h : r.val < 32) : sums (ix2 ⟨r.val, h⟩ k) = if k.val ≤ r.val then (1 : EReal) else 0 := by
  have e : ∀ b : BitVec 1, (b = if k.val ≤ r.val then 1#1 else 0#1) → Scalar.select b (1 : EReal) 0 = if k.val ≤ r.val then (1 : EReal) else 0 :=
    fun b hb => by rw [hb]; split <;> rfl
  pointwise [sums, k0_pay1]
  exact e _ (upto_at r k)

/-- Its lower half marks all rows. -/
theorem sums_lower (r k : Fin 16) (h : 16 + r.val < 32) : sums (ix2 ⟨16 + r.val, h⟩ k) = (1 : EReal) := by
  have e : ∀ b : BitVec 1, b = 1#1 → Scalar.select b (1 : EReal) 0 = (1 : EReal) := fun b hb => by rw [hb]; rfl
  pointwise [sums, k0_pay1]
  exact e _ (all_at r k)

/-- A product with the upper half of the matrix: the sum up to the row. -/
theorem upper_at (f : FVec Ideal S16x128 .f32) (r : Fin 16) (h : r.val < 32) (q : Fin 128) :
    k0_pay41 sums f (ix2 ⟨r.val, h⟩ q) = ∑ s : Fin 4, if s.val ≤ r.val then f (ix2 ⟨s.val, by omega⟩ q) else (0 : EReal) := by
  refine Eq.trans (b := ∑ x : Fin 16, Scalar.select (k0_pay39 (ix2 x 0)) ((show EReal from sums (ix2 ⟨r.val, h⟩ x)) * f (ix2 x q)) 0)
    (by pointwise [k0_pay41]) ?_
  refine Eq.trans ?_ (sixteen fun x => if x.val ≤ r.val then f (ix2 x q) else (0 : EReal))
  refine Fin.sum_fin_congr fun x => ?_
  rw [valid]
  by_cases hx : x.val < 4
  · rw [if_pos hx, if_pos hx, sums_upper r x h]
    split
    · exact one_mul _
    · exact zero_mul _
  · rw [if_neg hx, if_neg hx]

/-- A product with its lower half: the sum over all four tokens. -/
theorem lower_at (f : FVec Ideal S16x128 .f32) (r : Fin 16) (h : 16 + r.val < 32) (q : Fin 128) :
    k0_pay41 sums f (ix2 ⟨16 + r.val, h⟩ q) = upto (fun s => f (ix2 ⟨s.val, by omega⟩ q)) 3 := by
  refine Eq.trans (b := ∑ s : Fin 4, f (ix2 ⟨s.val, by omega⟩ q)) ?_ (Fin.sum_fin_congr fun s => (if_pos (by show s.val ≤ 3; omega)).symm)
  refine Eq.trans (b := ∑ x : Fin 16, Scalar.select (k0_pay39 (ix2 x 0)) ((show EReal from sums (ix2 ⟨16 + r.val, h⟩ x)) * f (ix2 x q)) 0)
    (by pointwise [k0_pay41]) ?_
  refine Eq.trans ?_ (sixteen fun x => f (ix2 x q))
  refine Fin.sum_fin_congr fun x => ?_
  rw [valid, sums_lower r x h, one_mul]

/-- What the body leaves of one head's state, entry by entry. -/
theorem headState_at (f a : Vec Ideal S16x128 .f32) (l : Vec Ideal S2x128 .f32) (s : Vec Ideal S1x1x128x128 .f32) (k v : Fin 128) :
    headState sums f a l s (ix4 0 0 k v)
      = entry (soft fun x => l (ix2 x k)) (fun x => f (ix2 ⟨x.val, by omega⟩ k)) (fun x => a (ix2 ⟨x.val, by omega⟩ v)) (s (ix4 0 0 k v)) := by
  unfold headState
  have hg : ∀ r : Fin 16, k0_pay35 (k0_pay4 f) (k0_pay7 l) (ix2 r k) = gate (soft fun x => l (ix2 x k)) (f (ix2 r k)) := fun r => by
    rw [gate_at, low_at]
  have hk : ∀ r : Fin 16, k0_pay40 (k0_pay36 (k0_pay7 l)) (k0_pay37 (k0_pay4 f)) k0_pay38 (ix2 r k)
      = if r.val < 4 then key (soft fun x => l (ix2 x k)) (f (ix2 r k)) else (0 : EReal) := fun r => by
    rw [key_at, low_at]
  have hl : ∀ (r : Fin 16) (h : 16 + r.val < 32), k0_pay41 sums (k0_pay35 (k0_pay4 f) (k0_pay7 l)) (ix2 ⟨16 + r.val, h⟩ k)
      = upto (fun x => gate (soft fun x => l (ix2 x k)) (f (ix2 ⟨x.val, by omega⟩ k))) 3 := fun r h => by
    rw [lower_at]; simp only [hg]
  have hu : ∀ (r : Fin 16) (h : r.val < 32), k0_pay41 sums (k0_pay35 (k0_pay4 f) (k0_pay7 l)) (ix2 ⟨r.val, h⟩ k)
      = ∑ x : Fin 4, if x.val ≤ r.val then gate (soft fun x => l (ix2 x k)) (f (ix2 ⟨x.val, by omega⟩ k)) else (0 : EReal) := fun r h => by
    rw [upper_at]; simp only [hg]
  have ha : ∀ r : Fin 16, k0_pay5 a (ix2 r v) = a (ix2 r v) := fun r => by pointwise [k0_pay5]
  have hs : k0_pay9 s (ix2 v k) = s (ix4 0 0 k v) := by pointwise [k0_pay9]
  generalize k0_pay35 (k0_pay4 f) (k0_pay7 l) = G at *
  generalize k0_pay36 (k0_pay7 l) = K1 at *
  generalize k0_pay37 (k0_pay4 f) = K2 at *
  generalize k0_pay5 a = A at *
  generalize k0_pay9 s = S at *
  pointwise [k0_pay99, k0_pay44, k0_pay42]
  unfold entry
  refine Ideal.add_congr ?_ ?_
  · refine (Ideal.mul_congr hs (congrArg Ideal.exp (hl 0 (by decide)))).trans (mul_comm _ _)
  · refine Eq.trans (Fin.sum_fin_congr fun x => ?_) (sixteen fun x => key (soft fun x => l (ix2 x k)) (f (ix2 x k))
      * Ideal.exp (upto (fun x => gate (soft fun x => l (ix2 x k)) (f (ix2 ⟨x.val, by omega⟩ k))) 3
        - ∑ y : Fin 4, if y.val ≤ x.val then gate (soft fun x => l (ix2 x k)) (f (ix2 ⟨y.val, by omega⟩ k)) else (0 : EReal)) * a (ix2 x v))
    rw [hk, hl, hu, ha]
    split
    · exact mul_comm _ _
    · rw [zero_mul, mul_zero]

/-- The softmax over the two rows of the lower bound's parameter. -/
def softAll (a1 : FVec Ideal S2x2048 .f32) : FVec Ideal S2x2048 .f32 :=
  Host.divf (Host.exp (subf a1 (broadcastInDim Cert.ReferenceHgrnSampleIdeal.S2x2048 ![0, 1] Cert.ReferenceHgrnSampleIdeal.Gen.bcast_S1x2048_S2x2048_0_1 (broadcastInDim Cert.ReferenceHgrnSampleIdeal.S1x2048 ![1] Cert.ReferenceHgrnSampleIdeal.Gen.bcast_S2048_S1x2048_1 (maximumf (broadcastInDim Cert.ReferenceHgrnSampleIdeal.S2048 ![] Cert.ReferenceHgrnSampleIdeal.Gen.bcast_S_S2048 (constant Cert.ReferenceHgrnSampleIdeal.S_ .f32 0xFF800000#32)) (Host.reduce FloatOps.maximumf a1 (constant Cert.ReferenceHgrnSampleIdeal.S_ .f32 0xFF800000#32) Cert.ReferenceHgrnSampleIdeal.Gen.reducesTo_S2x2048_S2048_d0 Cert.ReferenceHgrnSampleIdeal.Gen.h_S_)))))) (broadcastInDim Cert.ReferenceHgrnSampleIdeal.S2x2048 ![0, 1] Cert.ReferenceHgrnSampleIdeal.Gen.bcast_S1x2048_S2x2048_0_1 (broadcastInDim Cert.ReferenceHgrnSampleIdeal.S1x2048 ![1] Cert.ReferenceHgrnSampleIdeal.Gen.bcast_S2048_S1x2048_1 (Host.reduceAdd (Host.exp (subf a1 (broadcastInDim Cert.ReferenceHgrnSampleIdeal.S2x2048 ![0, 1] Cert.ReferenceHgrnSampleIdeal.Gen.bcast_S1x2048_S2x2048_0_1 (broadcastInDim Cert.ReferenceHgrnSampleIdeal.S1x2048 ![1] Cert.ReferenceHgrnSampleIdeal.Gen.bcast_S2048_S1x2048_1 (maximumf (broadcastInDim Cert.ReferenceHgrnSampleIdeal.S2048 ![] Cert.ReferenceHgrnSampleIdeal.Gen.bcast_S_S2048 (constant Cert.ReferenceHgrnSampleIdeal.S_ .f32 0xFF800000#32)) (Host.reduce FloatOps.maximumf a1 (constant Cert.ReferenceHgrnSampleIdeal.S_ .f32 0xFF800000#32) Cert.ReferenceHgrnSampleIdeal.Gen.reducesTo_S2x2048_S2048_d0 Cert.ReferenceHgrnSampleIdeal.Gen.h_S_)))))) (constant Cert.ReferenceHgrnSampleIdeal.S_ .f32 0x00000000#32) Cert.ReferenceHgrnSampleIdeal.Gen.reducesTo_S2x2048_S2048_d0 Cert.ReferenceHgrnSampleIdeal.Gen.h_S_)))

/-- The lower bounds of the gates: the first row of the running sum of that softmax. -/
def lowAll (a1 : FVec Ideal S2x2048 .f32) : FVec Ideal Cert.ReferenceHgrnSampleIdeal.S16x128 .f32 :=
  shapeCast _ (shapeCast _ (extractStridedSlice Cert.ReferenceHgrnSampleIdeal.S1x2048 ![0, 0] (Host.reduceWindowAdd ![2, 1] ![1, 1] ![1, 0] ![0, 0] (softAll a1) (broadcastInDim Cert.ReferenceHgrnSampleIdeal.S_ ![] Cert.ReferenceHgrnSampleIdeal.Gen.bcast_S_S_ (constant Cert.ReferenceHgrnSampleIdeal.S_ .f32 0x00000000#32)) Cert.ReferenceHgrnSampleIdeal.Gen.reduceWindows_S2x2048_S2x2048_w2s1p1_0_w1s1p0_0 Cert.ReferenceHgrnSampleIdeal.Gen.h_S_) Cert.ReferenceHgrnSampleIdeal.Gen.slices_S2x2048_S1x2048_0_0) Cert.ReferenceHgrnSampleIdeal.Gen.shapeCasts_S1x2048_S2048) Cert.ReferenceHgrnSampleIdeal.Gen.shapeCasts_S2048_S16x128

/-- The sampled tokens' columns of the forget gate. -/
def forgetAll (a0 : FVec Ideal S8320x14336 .f32) : FVec Ideal Cert.ReferenceHgrnSampleIdeal.S32x4x16x128 .f32 :=
  shapeCast _ (extractStridedSlice Cert.ReferenceHgrnSampleIdeal.S128x2048 ![8192, 2048] a0 Cert.ReferenceHgrnSampleIdeal.Gen.slices_S8320x14336_S128x2048_8192_2048) Cert.ReferenceHgrnSampleIdeal.Gen.shapeCasts_S128x2048_S32x4x16x128

/-- The sampled tokens' columns of the values. -/
def valueAll (a0 : FVec Ideal S8320x14336 .f32) : FVec Ideal Cert.ReferenceHgrnSampleIdeal.S32x4x16x128 .f32 :=
  shapeCast _ (extractStridedSlice Cert.ReferenceHgrnSampleIdeal.S128x2048 ![8192, 4096] a0 Cert.ReferenceHgrnSampleIdeal.Gen.slices_S8320x14336_S128x2048_8192_4096) Cert.ReferenceHgrnSampleIdeal.Gen.shapeCasts_S128x2048_S32x4x16x128

/-- The logarithms of the gates. -/
def gateAll (l : FVec Ideal Cert.ReferenceHgrnSampleIdeal.S16x128 .f32) (z : FVec Ideal Cert.ReferenceHgrnSampleIdeal.S32x4x16x128 .f32) :
    FVec Ideal Cert.ReferenceHgrnSampleIdeal.S32x4x16x128 .f32 :=
  Host.log (addf (broadcastInDim Cert.ReferenceHgrnSampleIdeal.S32x4x16x128 ![0, 1, 2, 3] Cert.ReferenceHgrnSampleIdeal.Gen.bcast_S1x1x16x128_S32x4x16x128_0_1_2_3 (broadcastInDim Cert.ReferenceHgrnSampleIdeal.S1x1x16x128 ![2, 3] Cert.ReferenceHgrnSampleIdeal.Gen.bcast_S16x128_S1x1x16x128_2_3 l)) (mulf (broadcastInDim Cert.ReferenceHgrnSampleIdeal.S32x4x16x128 ![0, 1, 2, 3] Cert.ReferenceHgrnSampleIdeal.Gen.bcast_S1x1x16x128_S32x4x16x128_0_1_2_3 (broadcastInDim Cert.ReferenceHgrnSampleIdeal.S1x1x16x128 ![2, 3] Cert.ReferenceHgrnSampleIdeal.Gen.bcast_S16x128_S1x1x16x128_2_3 (subf (broadcastInDim Cert.ReferenceHgrnSampleIdeal.S16x128 ![] Cert.ReferenceHgrnSampleIdeal.Gen.bcast_S_S16x128 (constant Cert.ReferenceHgrnSampleIdeal.S_ .f32 0x3F800000#32)) l))) (Host.divf (broadcastInDim Cert.ReferenceHgrnSampleIdeal.S32x4x16x128 ![] Cert.ReferenceHgrnSampleIdeal.Gen.bcast_S_S32x4x16x128 (constant Cert.ReferenceHgrnSampleIdeal.S_ .f32 0x3F800000#32)) (addf (broadcastInDim Cert.ReferenceHgrnSampleIdeal.S32x4x16x128 ![] Cert.ReferenceHgrnSampleIdeal.Gen.bcast_S_S32x4x16x128 (constant Cert.ReferenceHgrnSampleIdeal.S_ .f32 0x3F800000#32)) (Host.exp (Host.negf z))))))

/-- The keys. -/
def keyAll (l : FVec Ideal Cert.ReferenceHgrnSampleIdeal.S16x128 .f32) (z : FVec Ideal Cert.ReferenceHgrnSampleIdeal.S32x4x16x128 .f32) :
    FVec Ideal Cert.ReferenceHgrnSampleIdeal.S32x4x16x128 .f32 :=
  mulf (broadcastInDim Cert.ReferenceHgrnSampleIdeal.S32x4x16x128 ![0, 1, 2, 3] Cert.ReferenceHgrnSampleIdeal.Gen.bcast_S1x1x16x128_S32x4x16x128_0_1_2_3 (broadcastInDim Cert.ReferenceHgrnSampleIdeal.S1x1x16x128 ![2, 3] Cert.ReferenceHgrnSampleIdeal.Gen.bcast_S16x128_S1x1x16x128_2_3 (subf (broadcastInDim Cert.ReferenceHgrnSampleIdeal.S16x128 ![] Cert.ReferenceHgrnSampleIdeal.Gen.bcast_S_S16x128 (constant Cert.ReferenceHgrnSampleIdeal.S_ .f32 0x3F800000#32)) l))) (Host.divf (broadcastInDim Cert.ReferenceHgrnSampleIdeal.S32x4x16x128 ![] Cert.ReferenceHgrnSampleIdeal.Gen.bcast_S_S32x4x16x128 (constant Cert.ReferenceHgrnSampleIdeal.S_ .f32 0x3F800000#32)) (addf (broadcastInDim Cert.ReferenceHgrnSampleIdeal.S32x4x16x128 ![] Cert.ReferenceHgrnSampleIdeal.Gen.bcast_S_S32x4x16x128 (constant Cert.ReferenceHgrnSampleIdeal.S_ .f32 0x3F800000#32)) (Host.exp (Host.negf (Host.negf z)))))

/-- The running sum over a sample's tokens. -/
def running (g : FVec Ideal Cert.ReferenceHgrnSampleIdeal.S32x4x16x128 .f32) : FVec Ideal Cert.ReferenceHgrnSampleIdeal.S32x4x16x128 .f32 :=
  Host.reduceWindowAdd ![1, 4, 1, 1] ![1, 1, 1, 1] ![0, 3, 0, 0] ![0, 0, 0, 0] g (broadcastInDim Cert.ReferenceHgrnSampleIdeal.S_ ![] Cert.ReferenceHgrnSampleIdeal.Gen.bcast_S_S_ (constant Cert.ReferenceHgrnSampleIdeal.S_ .f32 0x00000000#32)) Cert.ReferenceHgrnSampleIdeal.Gen.reduceWindows_S32x4x16x128_S32x4x16x128_w1s1p0_0_w4s1p3_0_w1s1p0_0_w1s1p0_0 Cert.ReferenceHgrnSampleIdeal.Gen.h_S_

/-- The reference's result: the new states. -/
def REF (a0 : FVec Ideal S8320x14336 .f32) (a1 : FVec Ideal S2x2048 .f32) (a3 : FVec Ideal S1x32x16x128x128 .f32) :
    FVec Ideal S32x16x128x128 .f32 :=
  addf (mulf (broadcastInDim Cert.ReferenceHgrnSampleIdeal.S32x16x128x128 ![0, 1, 2, 3] Cert.ReferenceHgrnSampleIdeal.Gen.bcast_S32x16x128x1_S32x16x128x128_0_1_2_3 (broadcastInDim Cert.ReferenceHgrnSampleIdeal.S32x16x128x1 ![0, 1, 2] Cert.ReferenceHgrnSampleIdeal.Gen.bcast_S32x16x128_S32x16x128x1_0_1_2 (Host.exp (shapeCast _ (extractStridedSlice Cert.ReferenceHgrnSampleIdeal.S32x1x16x128 ![0, 3, 0, 0] (running (gateAll (lowAll a1) (forgetAll a0))) Cert.ReferenceHgrnSampleIdeal.Gen.slices_S32x4x16x128_S32x1x16x128_0_3_0_0) Cert.ReferenceHgrnSampleIdeal.Gen.shapeCasts_S32x1x16x128_S32x16x128)))) (shapeCast _ a3 Cert.ReferenceHgrnSampleIdeal.Gen.shapeCasts_S1x32x16x128x128_S32x16x128x128)) (Host.dotGeneral Cert.ReferenceHgrnSampleIdeal.dot_S32x4x16x128_S32x4x16x128_S32x16x128x128_1_1_3_3_02_02 none (mulf (keyAll (lowAll a1) (forgetAll a0)) (Host.exp (subf (broadcastInDim Cert.ReferenceHgrnSampleIdeal.S32x4x16x128 ![0, 1, 2, 3] Cert.ReferenceHgrnSampleIdeal.Gen.bcast_S32x1x16x128_S32x4x16x128_0_1_2_3 (extractStridedSlice Cert.ReferenceHgrnSampleIdeal.S32x1x16x128 ![0, 3, 0, 0] (running (gateAll (lowAll a1) (forgetAll a0))) Cert.ReferenceHgrnSampleIdeal.Gen.slices_S32x4x16x128_S32x1x16x128_0_3_0_0)) (running (gateAll (lowAll a1) (forgetAll a0)))))) (valueAll a0))

/-- The first row of the softmax, entry by entry. -/
theorem softAll_at (a1 : FVec Ideal S2x2048 .f32) (n : Fin 2048) : softAll a1 (ix2 0 n) = soft fun x => a1 (ix2 x n) := by
  have e : ∀ f : Fin 2 → EReal, max (Ideal.ofBits FTy.f32 4286578688#32) (Finset.fold max (Ideal.ofBits FTy.f32 4286578688#32) f Finset.univ)
      = Finset.fold max (Ideal.ofBits FTy.f32 4286578688#32) f Finset.univ := fun f =>
    max_eq_right ((Finset.le_fold_max _).mpr (Or.inl le_rfl))
  pointwise [softAll]
  simp only [e]
  rfl

/-- The lower bounds, entry by entry. -/
theorem lowAll_at (a1 : FVec Ideal S2x2048 .f32) (h : Fin 16) (k : Fin 128) :
    lowAll a1 (ix2 h k) = soft fun x => a1 (ix2 x ⟨h.val * 128 + k.val, by omega⟩) := by
  unfold lowAll
  pointwise
  rw [first_row _ _ _ _ (by pointwise)]
  exact softAll_at _ _

/-- The columns of the forget gate, entry by entry. -/
theorem forgetAll_at (a0 : FVec Ideal S8320x14336 .f32) (b : Fin 32) (t : Fin 4) (h : Fin 16) (k : Fin 128) :
    forgetAll a0 (ix4 b t h k) = a0 (ix2 ⟨8192 + (b.val * 4 + t.val), by omega⟩ ⟨2048 + (h.val * 128 + k.val), by omega⟩) := by
  pointwise [forgetAll]

/-- The columns of the values, entry by entry. -/
theorem valueAll_at (a0 : FVec Ideal S8320x14336 .f32) (b : Fin 32) (t : Fin 4) (h : Fin 16) (k : Fin 128) :
    valueAll a0 (ix4 b t h k) = a0 (ix2 ⟨8192 + (b.val * 4 + t.val), by omega⟩ ⟨4096 + (h.val * 128 + k.val), by omega⟩) := by
  pointwise [valueAll]

/-- The logarithms of the gates, entry by entry. -/
theorem gateAll_at (l : FVec Ideal Cert.ReferenceHgrnSampleIdeal.S16x128 .f32) (z : FVec Ideal Cert.ReferenceHgrnSampleIdeal.S32x4x16x128 .f32)
    (b : Fin 32) (t : Fin 4) (h : Fin 16) (k : Fin 128) : gateAll l z (ix4 b t h k) = gate (l (ix2 h k)) (z (ix4 b t h k)) := by
  pointwise [gateAll]
  rfl

/-- The keys, entry by entry. -/
theorem keyAll_at (l : FVec Ideal Cert.ReferenceHgrnSampleIdeal.S16x128 .f32) (z : FVec Ideal Cert.ReferenceHgrnSampleIdeal.S32x4x16x128 .f32)
    (b : Fin 32) (t : Fin 4) (h : Fin 16) (k : Fin 128) : keyAll l z (ix4 b t h k) = key (l (ix2 h k)) (z (ix4 b t h k)) := by
  pointwise [keyAll]
  rfl

/-- The running sum, entry by entry. -/
theorem running_at (g : FVec Ideal Cert.ReferenceHgrnSampleIdeal.S32x4x16x128 .f32) (b : Fin 32) (t : Fin 4) (h : Fin 16) (k : Fin 128) :
    running g (ix4 b t h k) = upto (fun s => g (ix4 b s h k)) t := by
  unfold running
  rw [head_group_sum _ _ _ _ (by pointwise)]
  rfl

/-- The reference's result, entry by entry. -/
theorem REF_at (a0 : FVec Ideal S8320x14336 .f32) (a1 : FVec Ideal S2x2048 .f32) (a3 : FVec Ideal S1x32x16x128x128 .f32)
    (b : Fin 32) (h : Fin 16) (k v : Fin 128) : REF a0 a1 a3 (ix4 b h k v)
      = entry (soft fun x => a1 (ix2 x ⟨h.val * 128 + k.val, by omega⟩))
          (fun t => a0 (ix2 ⟨8192 + (b.val * 4 + t.val), by omega⟩ ⟨2048 + (h.val * 128 + k.val), by omega⟩))
          (fun t => a0 (ix2 ⟨8192 + (b.val * 4 + t.val), by omega⟩ ⟨4096 + (h.val * 128 + v.val), by omega⟩))
          (a3 (ix5 0 b h k v)) := by
  have hr : ∀ t : Fin 4, running (gateAll (lowAll a1) (forgetAll a0)) (ix4 b t h k)
      = upto (fun s => gate (soft fun x => a1 (ix2 x ⟨h.val * 128 + k.val, by omega⟩))
          (a0 (ix2 ⟨8192 + (b.val * 4 + s.val), by omega⟩ ⟨2048 + (h.val * 128 + k.val), by omega⟩))) t := fun t => by
    rw [running_at]
    simp only [gateAll_at, lowAll_at, forgetAll_at]
  have hk : ∀ t : Fin 4, keyAll (lowAll a1) (forgetAll a0) (ix4 b t h k)
      = key (soft fun x => a1 (ix2 x ⟨h.val * 128 + k.val, by omega⟩))
          (a0 (ix2 ⟨8192 + (b.val * 4 + t.val), by omega⟩ ⟨2048 + (h.val * 128 + k.val), by omega⟩)) := fun t => by
    rw [keyAll_at, lowAll_at, forgetAll_at]
  pointwise [REF]
  simp only [hr, hk, valueAll_at]
  rfl

/-- The kernel's padded columns: sixteen rows per sample, of which the first four hold its tokens. -/
def padded (a0 : FVec Ideal S8320x14336 .f32) : FVec Ideal S512x8192 .f32 :=
  shapeCast _ (pad S32x16x8192 ![0, 0, 0] ![0, 12, 0] ![0, 0, 0] (shapeCast S32x4x8192 (extractStridedSlice S128x8192 ![8192, 0] a0 slices_S8320x14336_S128x8192_8192_0) shapeCasts_S128x8192_S32x4x8192)
    (sitofp .f32 (constantI S_ 32 0#32)) pads_S32x4x8192_S32x16x8192_000_0120_000 h_S_) shapeCasts_S32x16x8192_S512x8192

/-- The padded columns in the rows of the tokens, entry by entry. -/
theorem padded_at (a0 : FVec Ideal S8320x14336 .f32) (b : Fin 32) (t : Fin 4) (n : Fin 8192) :
    padded a0 (ix2 ⟨b.val * 16 + t.val, by omega⟩ n) = a0 (ix2 ⟨8192 + (b.val * 4 + t.val), by omega⟩ ⟨n.val, by omega⟩) := by
  have e : (b.val * 16 + t.val) % 16 = t.val := by omega
  pointwise [padded]
  refine (dif_pos (by omega)).trans (congrArg a0 ?_)
  refine congrArg (fun r => (ix2 r _ : S8320x14336.Idx)) (Fin.ext ?_)
  show 8192 + (b.val * 4 + (b.val * 16 + t.val) % 16) = 8192 + (b.val * 4 + t.val)
  omega

/-- The windows' index maps. -/
theorem idx : ∀ t : Fin cfg0.N, win0_1.index t = ![t.val, 1] ∧ win0_2.index t = ![t.val, 2] ∧ win0_4.index t = ![0, 0]
    ∧ win0_6.index t = ![t.val, 0, 0, 0] ∧ win0_8.index t = ![t.val, 0, 0, 0] :=
  (by decide +kernel : ∀ t : Fin grid0.N, _)

/-- The padded columns the kernel reads. -/
theorem rows_at (c : Dev nD) (b : Fin 32) (t : Fin 4) (n : Fin 8192) :
    V m c main_v3 (ix2 ⟨b.val * 16 + t.val, by omega⟩ n)
      = m ((c : Thread nD τ).loc main_arg0) (ix2 ⟨8192 + (b.val * 4 + t.val), by omega⟩ ⟨n.val, by omega⟩) := by
  have h : (V m c main_v3 : FVec Ideal S512x8192 .f32) = padded (m ((c : Thread nD τ).loc main_arg0)) := by
    unfold V
    simp only [hostOps0, hostOps0_1, hostOps0_2, List.flatten_cons, List.flatten_nil, List.cons_append, List.nil_append, List.append_nil]
    after_results; try rfl
  exact (congrFun h _).trans (padded_at _ b t n)

/-- The old states without their leading axis. -/
def oldStates (a3 : FVec Ideal S1x32x16x128x128 .f32) : FVec Ideal S32x16x128x128 .f32 :=
  shapeCast S32x16x128x128 a3 shapeCasts_S1x32x16x128x128_S32x16x128x128

/-- The old states the kernel reads. -/
theorem states_at (c : Dev nD) (b : Fin 32) (h : Fin 16) (k v : Fin 128) :
    V m c main_v6 (ix4 b h k v) = m ((c : Thread nD τ).loc main_arg3) (ix5 0 b h k v) := by
  have e : (V m c main_v6 : FVec Ideal S32x16x128x128 .f32) = oldStates (m ((c : Thread nD τ).loc main_arg3)) := by
    unfold V
    simp only [hostOps0, hostOps0_1, hostOps0_2, List.flatten_cons, List.flatten_nil, List.cons_append, List.nil_append, List.append_nil]
    after_results; try rfl
  refine (congrFun e _).trans ?_
  pointwise [oldStates]

/-- The parameter's block of a point. -/
theorem bound_at (c : Dev nD) (t : Fin cfg0.N) (x : Fin 2) (n : Fin 2048) :
    (show EReal from iblk m c 4 t (ix2 x n)) = m ((c : Thread nD τ).loc main_arg1) (ix2 x n) := by
  refine Eq.trans (b := V m c main_arg1 (ix2 x n)) (by blk_ext [iblk, idx t]) ?_
  unfold V
  try rfl

/-- The forget gate's block of a point. -/
theorem forget_at (c : Dev nD) (t : Fin cfg0.N) (ht : t.val < 32) (s : Fin 4) (n : Fin 2048) :
    (show EReal from iblk m c 1 t (ix2 ⟨s.val, by omega⟩ n)) = V m c main_v3 (ix2 ⟨t.val * 16 + s.val, by omega⟩ ⟨2048 + n.val, by omega⟩) := by
  blk_ext [iblk, idx t]

/-- The values' block of a point. -/
theorem value_at (c : Dev nD) (t : Fin cfg0.N) (ht : t.val < 32) (s : Fin 4) (n : Fin 2048) :
    (show EReal from iblk m c 2 t (ix2 ⟨s.val, by omega⟩ n)) = V m c main_v3 (ix2 ⟨t.val * 16 + s.val, by omega⟩ ⟨4096 + n.val, by omega⟩) := by
  blk_ext [iblk, idx t]

/-- The old states' block of a point. -/
theorem state_at (c : Dev nD) (t : Fin cfg0.N) (ht : t.val < 32) (h : Fin 16) (k v : Fin 128) :
    (show EReal from iblk m c 6 t (ix4 0 h k v)) = V m c main_v6 (ix4 ⟨t.val, ht⟩ h k v) := by
  blk_ext [iblk, idx t]

/-- After the run the second result array is the reference's. -/
theorem final (c : Dev nD) : (dats m 0 c).arrAt 8 (cfgs 0).N
    = REF (m ((c : Thread nD τ).loc main_arg0)) (m ((c : Thread nD τ).loc main_arg1)) (m ((c : Thread nD τ).loc main_arg3)) := by
  refine (dats m 0 c).arrAt_eq_of_covers 8 _ (by decide +kernel) fun t hf y => ?_
  blk_simp
  rw [after0_8]
  idx_vars y
  have y00 : y0 = 0 := Subsingleton.elim (α := Fin 1) _ _
  subst y00
  have ht : t.val < 32 := lt_of_lt_of_eq t.isLt (by decide)
  refine Eq.trans ?_ (Eq.trans (b := REF (m ((c : Thread nD τ).loc main_arg0)) (m ((c : Thread nD τ).loc main_arg1))
    (m ((c : Thread nD τ).loc main_arg3)) (ix4 ⟨t.val, ht⟩ y1 y2 y3)) (REF_at _ _ _ ⟨t.val, ht⟩ y1 y2 y3).symm ?_)
  · unfold outsAt0
    refine (congrFun (out_eq _ _ _ _ _ _ _ _ _ _ _ _ _ _ _ _ _ _ _ _ _ _ _ _ _ _ _) _).trans ?_
    refine (headState_at _ _ _ _ y2 y3).trans ?_
    refine congr (congr (congr (congrArg entry (congrArg soft (funext fun x => ?_))) (funext fun s => ?_)) (funext fun s => ?_)) ?_
    · exact bound_at m c t x _
    · exact (forget_at m c t ht s _).trans (rows_at m c ⟨t.val, ht⟩ s ⟨2048 + (y1.val * 128 + y2.val), by omega⟩)
    · exact (value_at m c t ht s _).trans (rows_at m c ⟨t.val, ht⟩ s ⟨4096 + (y1.val * 128 + y3.val), by omega⟩)
    · exact (state_at m c t ht y1 y2 y3).trans (states_at m c ⟨t.val, ht⟩ y1 y2 y3)
  · generalize REF (m ((c : Thread nD τ).loc main_arg0)) (m ((c : Thread nD τ).loc main_arg1)) (m ((c : Thread nD τ).loc main_arg3)) = z
    blk_ext [idx t]

end Cert.KernelHgrnSampleIdeal.Body

end
-- ==== Proof.RouterSort.lean ====
module

public import Idealize.ShloMosaic.Lib.Pipeline.ValueKit
public import Idealize.ShloMosaic.Lib.SortPrefix

/-!
Ranks and stable sorts. A stable sort from the greatest down puts an element at the place that is the number of elements before it:
the greater ones, and the equal ones at smaller positions. So choosing the first `k` of a sorted list is choosing the elements whose
rank is below `k`, and the two greatest values are found by two maxima and a count.
-/

@[expose] public section

set_option maxRecDepth 16384

open Idealize.ShloMosaic

noncomputable section

namespace Cert.RouterSort

variable {n : ℕ}

/-- Whether `o` comes before `e`: it is greater, or equal and at a smaller position. -/
def first (x : Fin n → EReal) (o e : Fin n) : Bool := decide (x e < x o) || (decide (x o = x e) && decide (o < e))

/-- The number of elements that come before `e`. -/
def rank (x : Fin n → EReal) (e : Fin n) : ℕ := (Finset.univ.filter fun o => first x o e = true).card

/-- Where the stable sort from the greatest down takes its elements. -/
def order (x : Fin n → EReal) : Fin n → Fin n :=
  sortedFrom fun k k' => FloatOps.cmpfTotal (F := Ideal) (φ := .f32) .gt (x k) (x k') == 1#1

theorem first_total (x : Fin n → EReal) : StrictTotalBefore (first x) := by
  have h := StrictTotalBefore.of_key_then_position (fun a b : EReal => decide (b < a)) x (by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)
  exact h

/-- The comparison of the sort. -/
theorem gt_eq (a b : EReal) : (FloatOps.cmpfTotal (F := Ideal) (φ := .f32) .gt a b == 1#1) = decide (b < a) := by
  rw [Ideal.cmpfTotal_def]
  by_cases h : b < a <;> simp [Ideal.cmp, CmpDirection.ordered, h]

/-- On a list of increasing positions a stable sort by value alone is the sort by value and then position. -/
theorem sort_eq (x : Fin n → EReal) : ∀ l : List (Fin n), l.Pairwise (· < ·) →
    stableSort (fun k k' => FloatOps.cmpfTotal (F := Ideal) (φ := .f32) .gt (x k) (x k') == 1#1) l = stableSort (first x) l
  | [], _ => rfl
  | a :: l, h => by
    rw [List.pairwise_cons] at h
    unfold stableSort
    rw [sort_eq x l h.2]
    refine insertBefore_congr _ _ a _ fun b hb => ?_
    have hab := h.1 b ((perm_stableSort (first x) l).mem_iff.mp hb)
    rw [gt_eq, first]
    simp [not_lt.mpr hab.le]

theorem order_eq (x : Fin n → EReal) : order x = sortedFrom (first x) := by
  funext k
  unfold order sortedFrom
  have h : sortPositions n (fun k k' => FloatOps.cmpfTotal (F := Ideal) (φ := .f32) .gt (x k) (x k') == 1#1) = sortPositions n (first x) :=
    sort_eq x _ (List.pairwise_lt_finRange n)
  rw [List.get_of_eq h]
  rfl

theorem order_injective (x : Fin n → EReal) : Function.Injective (order x) := sortedFrom_injective _

theorem order_surjective (x : Fin n → EReal) : Function.Surjective (order x) := sortedFrom_surjective _

/-- What the sort puts earlier comes before. -/
theorem order_first (x : Fin n → EReal) (i j : Fin n) (h : i < j) : first x (order x i) (order x j) = true := by
  have hn := sortedFrom_noInversion (first x) (first x) (fun a b h => (first_total x).asymm a b h) (fun _ _ h => h)
    (fun a b c h h' => (first_total x).negTrans a b c h h') i j h
  rw [← order_eq] at hn
  rcases (first_total x).total (order x i) (order x j) (fun e => absurd (order_injective x e) h.ne) with h' | h'
  · exact h'
  · rw [hn] at h'; exact absurd h' (by decide)

/-- The rank of an element is its place in the sorted list. -/
theorem rank_order (x : Fin n → EReal) (i : Fin n) : rank x (order x i) = i.val := by
  have h : (Finset.univ.filter fun o => first x o (order x i) = true) = (Finset.Iio i).image (order x) := by
    ext o
    obtain ⟨j, rfl⟩ := order_surjective x o
    simp only [Finset.mem_filter, Finset.mem_univ, true_and, Finset.mem_image, Finset.mem_Iio]
    constructor
    · intro hf
      refine ⟨j, ?_, rfl⟩
      by_contra hj
      rcases eq_or_lt_of_le (not_lt.mp hj) with rfl | hij
      · rw [(first_total x).irrefl] at hf; exact absurd hf (by decide)
      · rw [(first_total x).asymm _ _ (order_first x i j hij)] at hf; exact absurd hf (by decide)
    · rintro ⟨j', hj', e⟩
      rw [← e]
      exact order_first x j' i hj'
  rw [rank, h, Finset.card_image_of_injective _ (order_injective x), Fin.card_Iio]

/-- A sum over the first `k` of the sorted list is the sum over the elements of rank below `k`. -/
theorem sum_order {k : ℕ} (hk : k ≤ n) (x : Fin n → EReal) (f : Fin n → EReal) :
    ∑ i : Fin k, f (order x (Fin.castLE hk i)) = ∑ e, if rank x e < k then f e else 0 := by
  rw [← Finset.sum_filter]
  refine Finset.sum_nbij (fun i => order x (Fin.castLE hk i)) ?_ ?_ ?_ (fun _ _ => rfl)
  · intro i _
    simp only [Finset.mem_filter, Finset.mem_univ, true_and, rank_order]
    exact i.isLt
  · intro i _ j _ h
    exact Fin.castLE_injective hk (order_injective x h)
  · intro e he
    obtain ⟨j, rfl⟩ := order_surjective x e
    simp only [Finset.coe_filter, Finset.mem_univ, true_and, Set.mem_setOf_eq, rank_order] at he
    exact ⟨⟨j.val, he⟩, by simp, rfl⟩

/-- Counting by adding ones. -/
theorem sum_ones {ι : Type} [Fintype ι] (p : ι → Prop) [DecidablePred p] :
    ∑ o, (if p o then (1 : EReal) else 0) = (((Finset.univ.filter p).card : ℕ) : EReal) := by
  rw [← Finset.sum_filter, Finset.sum_const, nsmul_one]

/-- Values fall along the sorted list. -/
theorem order_antitone (x : Fin n → EReal) (i j : Fin n) (h : i ≤ j) : x (order x j) ≤ x (order x i) := by
  rcases eq_or_lt_of_le h with rfl | h
  · exact le_rfl
  · have := order_first x i j h
    simp only [first, Bool.or_eq_true, Bool.and_eq_true, decide_eq_true_eq] at this
    rcases this with h' | h'
    · exact h'.le
    · exact h'.1.ge

/-- The greatest value. -/
def top (x : Fin n → EReal) : EReal := Finset.fold max ⊥ x Finset.univ

/-- The sum of the two greatest values: the greatest, and either the greatest again, when it occurs twice, or the greatest below it. -/
def topTwo (x : Fin n → EReal) : EReal :=
  top x + (if (2 : EReal) ≤ ∑ o, (if x o = top x then (1 : EReal) else 0) then top x
    else top fun o => if x o < top x then x o else ⊥)

theorem le_top (x : Fin n → EReal) (e : Fin n) : x e ≤ top x :=
  (Finset.le_fold_max _).mpr (Or.inr ⟨e, Finset.mem_univ _, le_rfl⟩)

theorem top_le (x : Fin n → EReal) (c : EReal) (h : ∀ e, x e ≤ c) : top x ≤ c :=
  (Finset.fold_max_le _).mpr ⟨bot_le, fun e _ => h e⟩

/-- It is the sum of the first two of the sorted list. -/
theorem topTwo_eq (x : Fin 8 → EReal) : topTwo x = x (order x 0) + x (order x 1) := by
  have hne : order x 0 ≠ order x 1 := fun e => absurd (order_injective x e) (by decide)
  have ht : top x = x (order x 0) := by
    refine le_antisymm (top_le x _ fun e => ?_) (le_top x _)
    obtain ⟨j, rfl⟩ := order_surjective x e
    exact order_antitone x 0 j (Fin.zero_le j)
  have hb : ∀ e, e ≠ order x 0 → x e ≤ x (order x 1) := by
    intro e he
    obtain ⟨j, rfl⟩ := order_surjective x e
    refine order_antitone x 1 j ?_
    rcases Fin.eq_zero_or_eq_succ j with rfl | ⟨j', rfl⟩
    · exact absurd rfl he
    · exact Fin.succ_le_succ_iff.mpr (Fin.zero_le j')
  unfold topTwo
  rw [sum_ones, ht]
  by_cases h : x (order x 1) = x (order x 0)
  · have hc : 2 ≤ (Finset.univ.filter fun o => x o = x (order x 0)).card := by
      rw [← Finset.card_pair hne]
      refine Finset.card_le_card fun o ho => ?_
      simp only [Finset.mem_insert, Finset.mem_singleton] at ho
      rcases ho with rfl | rfl <;> simp [h]
    rw [if_pos (by exact_mod_cast hc), h]
  · have hlt : x (order x 1) < x (order x 0) := lt_of_le_of_ne (order_antitone x 0 1 (by decide)) h
    have hc : (Finset.univ.filter fun o => x o = x (order x 0)).card = 1 := by
      rw [Finset.card_eq_one]
      refine ⟨order x 0, ?_⟩
      ext o
      simp only [Finset.mem_filter, Finset.mem_univ, true_and, Finset.mem_singleton]
      refine ⟨fun ho => ?_, fun ho => by rw [ho]⟩
      by_contra hne'
      exact absurd (hb o hne') (by rw [ho]; exact not_le.mpr hlt)
    rw [hc, if_neg (by norm_num)]
    congr 1
    refine le_antisymm (top_le _ _ fun e => ?_) ?_
    · split
      · rename_i he
        exact hb e fun e' => absurd he (by rw [e']; exact lt_irrefl _)
      · exact bot_le
    · have := le_top (fun o => if x o < x (order x 0) then x o else ⊥) (order x 1)
      simpa [hlt] using this

/-- One comparison of a rank, as a sum of ones and zeros takes it. -/
theorem comparison (x : Fin n → EReal) (o j : Fin n) (b : BitVec 1) (hb : b = if o < j then 1#1 else 0#1) :
    (if x j < x o then (1 : EReal) else if x o = x j then Scalar.select b 1 0 else 0) = if first x o j = true then 1 else 0 := by
  subst hb
  by_cases h : x j < x o
  · simp [first, h]
  · by_cases h' : x o = x j
    · by_cases h'' : o < j <;> simp [first, h', h'', Scalar.select]
    · simp [first, h, h']

/-- The eight comparisons of a group's rank. -/
theorem rank_eight (x : Fin 8 → EReal) (j : Fin 8) : (rank x j : EReal) = ∑ o, if first x o j = true then (1 : EReal) else 0 := by
  rw [rank, sum_ones]

/-- The eight experts of a group. -/
def member (f : Fin 64 → EReal) (g i : Fin 8) : EReal := f ⟨8 * g.val + i.val, by omega⟩

/-- The score of a group: the sum of its two greatest selection scores. -/
def groupScore (f : Fin 64 → EReal) (g : Fin 8) : EReal := topTwo (member f g)

/-- The selection scores, lowered outside the four best groups. -/
def lowered (f : Fin 64 → EReal) (e : Fin 64) : EReal :=
  if rank (groupScore f) ⟨e.val / 8, by omega⟩ < 4 then f e else Ideal.ofBits .f32 (0xF149F2CA#32)

/-- The scores of the eight chosen experts. -/
def weight (s f : Fin 64 → EReal) (e : Fin 64) : EReal := if rank (lowered f) e < 8 then s e else 0

/-- The combine weights: the chosen scores, normalised and scaled. -/
def combined (s f : Fin 64 → EReal) (e : Fin 64) : EReal :=
  Ideal.div (weight s f e) (∑ o, weight s f o) * Ideal.ofBits .f32 (0x40200000#32)

end Cert.RouterSort
-- ==== Proof.RouterGroups.lean ====
module

public import proofs.«01_k».proof.Proof.Gen.KernelRouterIdeal.Value
public import Idealize.ShloMosaic.Lib.Pipeline.ValueKit
public import proofs.«01_k».proof.Proof.RouterSort

/-!
The routing kernel's groups: the score of a group of eight experts, the group's rank among the eight, and the selection scores outside
the four best groups lowered.
-/

@[expose] public section

set_option maxRecDepth 16384

noncomputable section

namespace Cert.KernelRouterIdeal.Body

open Idealize.ShloMosaic Idealize.ShloMosaic.TcCoe Idealize.SL.Sem
open Idealize.ShloMosaic.Pipeline (Dat)
open Cert.KernelRouterIdeal Cert.KernelRouterIdeal.Gen

open Cert.RouterSort

theorem minf : Ideal.ofBits .f32 (0xFF800000#32) = (⊥ : EReal) := by simp [Ideal.ofBits, Ideal.ieee]

theorem two_eq : Ideal.ofBits .f32 (0x40000000#32) = (2 : EReal) := by
  simp [Ideal.ofBits, Ideal.ieee]
  rw [← EReal.coe_mul]
  norm_num
  rfl

theorem four_eq : Ideal.ofBits .f32 (0x40800000#32) = (4 : EReal) := by
  simp [Ideal.ofBits, Ideal.ieee]
  rw [← EReal.coe_mul]
  norm_num
  rfl

theorem eight_eq : Ideal.ofBits .f32 (0x41000000#32) = (8 : EReal) := by
  simp [Ideal.ofBits, Ideal.ieee]
  rw [← EReal.coe_mul]
  norm_num
  rfl

/-! ### The score of a group, as the body writes it for each of the eight -/

theorem score_0 (x0 : Vec Ideal S640x2048 .f32) (x1 : Vec Ideal S64x2048 .f32) (x2 : Vec Ideal S64x1 .f32) (q : Fin 640) :
    k0_pay15 x1 x0 x2 (ix2 0 q) = topTwo (fun i => k0_pay7 x1 x0 x2 (ix2 i q)) := by
  pointwise [k0_pay15]
  rw [minf, two_eq]; rfl

theorem score_1 (x : FVec Ideal S8x640 .f32) (q : Fin 640) : k0_pay16 x (ix2 0 q) = topTwo (fun i => x (ix2 i q)) := by
  pointwise [k0_pay16]
  rw [minf, two_eq]; rfl

theorem score_2 (x : FVec Ideal S8x640 .f32) (q : Fin 640) : k0_pay17 x (ix2 0 q) = topTwo (fun i => x (ix2 i q)) := by
  pointwise [k0_pay17]
  rw [minf, two_eq]; rfl

theorem score_3 (x : FVec Ideal S8x640 .f32) (q : Fin 640) :
    k0_pay21 x (k0_pay18 x) (k0_pay19 x) (Scalar.ofBits .f32 0x00000000#32) k0_pay20 (ix2 0 q) = topTwo (fun i => x (ix2 i q)) := by
  pointwise [k0_pay21, k0_pay18, k0_pay19, k0_pay20]
  rw [minf, two_eq]; rfl

theorem score_4 (x : FVec Ideal S8x640 .f32) (q : Fin 640) : k0_pay22 x (ix2 0 q) = topTwo (fun i => x (ix2 i q)) := by
  pointwise [k0_pay22]
  rw [minf, two_eq]; rfl

theorem score_5 (x : FVec Ideal S8x640 .f32) (q : Fin 640) :
    k0_pay26 x (k0_pay23 x) (k0_pay24 x) (k0_pay25 x) (Scalar.ofBits .f32 0xFF800000#32) (ix2 0 q) = topTwo (fun i => x (ix2 i q)) := by
  pointwise [k0_pay26, k0_pay23, k0_pay24, k0_pay25]
  rw [minf, two_eq]; rfl

theorem score_6 (x : FVec Ideal S8x640 .f32) (q : Fin 640) : k0_pay27 x (ix2 0 q) = topTwo (fun i => x (ix2 i q)) := by
  pointwise [k0_pay27]
  rw [minf, two_eq]; rfl

/-- The scores of the groups, one above the other; the last group's is put together here. -/
def scores (a b c d e f g : FVec Ideal S1x640 .f32) (x : FVec Ideal S8x640 .f32) : FVec Ideal S8x640 .f32 :=
  k0_pay31 a b c d e f g (k0_pay28 x) (k0_pay29 x) (k0_pay30 x)

theorem scores_at (a b c d e f g : FVec Ideal S1x640 .f32) (x : FVec Ideal S8x640 .f32) (j : Fin 8) (q : Fin 640) :
    scores a b c d e f g x (ix2 j q)
      = (![a (ix2 0 q), b (ix2 0 q), c (ix2 0 q), d (ix2 0 q), e (ix2 0 q), f (ix2 0 q), g (ix2 0 q), topTwo (fun i => x (ix2 i q))] : Fin 8 → EReal) j := by
  unfold scores
  match j with
  | ⟨0, _⟩ => pointwise [k0_pay31, k0_pay28, k0_pay29, k0_pay30]
  | ⟨1, _⟩ => pointwise [k0_pay31, k0_pay28, k0_pay29, k0_pay30]
  | ⟨2, _⟩ => pointwise [k0_pay31, k0_pay28, k0_pay29, k0_pay30]
  | ⟨3, _⟩ => pointwise [k0_pay31, k0_pay28, k0_pay29, k0_pay30]
  | ⟨4, _⟩ => pointwise [k0_pay31, k0_pay28, k0_pay29, k0_pay30]
  | ⟨5, _⟩ => pointwise [k0_pay31, k0_pay28, k0_pay29, k0_pay30]
  | ⟨6, _⟩ => pointwise [k0_pay31, k0_pay28, k0_pay29, k0_pay30]
  | ⟨7, _⟩ =>
    pointwise [k0_pay31, k0_pay28, k0_pay29, k0_pay30]
    rw [minf, two_eq]; rfl

/-- The ranks of the groups, counted by comparing each with all eight. -/
def ranks (a b c d e f g : FVec Ideal S1x640 .f32) (x : FVec Ideal S8x640 .f32) : FVec Ideal S8x640 .f32 :=
  k0_pay42 (scores a b c d e f g x) (iota .tc S8x640 32 [0] iota_S8x640_d0_w32)
    (k0_pay37 (scores a b c d e f g x) (iota .tc S8x640 32 [0] iota_S8x640_d0_w32)
      (k0_pay32 a b c d e f g (k0_pay28 x) (k0_pay29 x) (k0_pay30 x))
      (k0_pay34 a b c d e f g (k0_pay28 x) (k0_pay29 x) (k0_pay30 x))
      (k0_pay35 a b c d e f g (k0_pay28 x) (k0_pay29 x) (k0_pay30 x)) k0_pay36 (Scalar.ofBits .f32 0x00000000#32))
    (k0_pay39 (scores a b c d e f g x)) (k0_pay40 (scores a b c d e f g x)) (k0_pay41 (iota .tc S8x640 32 [0] iota_S8x640_d0_w32))
    (Scalar.ofBits .f32 0x00000000#32)

theorem ranks_at (a b c d e f g : FVec Ideal S1x640 .f32) (x : FVec Ideal S8x640 .f32) (j : Fin 8) (q : Fin 640) :
    ranks a b c d e f g x (ix2 j q) = (rank (fun o : Fin 8 => scores a b c d e f g x (ix2 o q)) j : EReal) := by
  have hs : k0_pay31 a b c d e f g (k0_pay28 x) (k0_pay29 x) (k0_pay30 x) = scores a b c d e f g x := rfl
  unfold ranks
  generalize hS : scores a b c d e f g x = S at hs ⊢
  pointwise [k0_pay42, k0_pay39, k0_pay40, k0_pay41, k0_pay38, k0_pay37, k0_pay36, k0_pay32, k0_pay33, k0_pay34, k0_pay35]
  rw [hs, rank_eight, Fin.sum_univ_eight]
  have key : ∀ o : Fin 8, _ := fun o => comparison (fun o : Fin 8 => S (ix2 o q)) o j (IntOp.cmpi .sgt (BitVec.ofNat 32 j.val) (BitVec.ofNat 32 o.val))
    (by revert o j; decide)
  rw [← key 0, ← key 1, ← key 2, ← key 3, ← key 4, ← key 5, ← key 6, ← key 7]
  try rw [zero_add]
  rfl

/-- A group's block of selection scores, lowered when its rank `r` is not below four. -/
def keep (r y : EReal) : EReal := if r < 4 then y else Ideal.ofBits .f32 (0xF149F2CA#32)

theorem first_block (y v : FVec Ideal S8x640 .f32) (w : IVec S8x640 32) (r : FVec Ideal S8x640 .f32) (s t : IVec S8x640 1) (u : FVec Ideal S8x640 .f32) (z : EReal)
    (i : Fin 8) (q : Fin 640) : k0_pay43 (F := Ideal) y v w r s t u z (ix2 i q) = keep (k0_pay42 (F := Ideal) v w r s t u z (ix2 0 q)) (y (ix2 i q)) := by
  pointwise [k0_pay43]
  rw [four_eq]
  rfl

theorem second_block (v : FVec Ideal S8x640 .f32) (w : IVec S8x640 32) (r : FVec Ideal S8x640 .f32) (s t : IVec S8x640 1) (u : FVec Ideal S8x640 .f32) (z : EReal)
    (q : Fin 640) (y : EReal) : Scalar.select (k0_pay44 (F := Ideal) v w r s t u z (ix2 0 q)) y (Ideal.ofBits .f32 (0xF149F2CA#32))
      = keep (k0_pay42 (F := Ideal) v w r s t u z (ix2 1 q)) y := by
  pointwise [k0_pay44]
  rw [four_eq]
  rfl

theorem blocks_at (r y1 y2 y3 y4 y5 y6 y7 z : FVec Ideal S8x640 .f32) (b : IVec S1x640 1) (k i : Fin 8) (q : Fin 640) :
    k0_pay45 y1 y2 y3 y4 y5 y6 y7 r z b (Scalar.ofBits .f32 0xF149F2CA#32) (ix2 ⟨8 * k.val + i.val, by omega⟩ q)
      = (![z (ix2 i q), Scalar.select (b (ix2 0 q)) (y1 (ix2 i q)) (Ideal.ofBits .f32 (0xF149F2CA#32)),
          keep (r (ix2 2 q)) (y2 (ix2 i q)), keep (r (ix2 3 q)) (y3 (ix2 i q)), keep (r (ix2 4 q)) (y4 (ix2 i q)),
          keep (r (ix2 5 q)) (y5 (ix2 i q)), keep (r (ix2 6 q)) (y6 (ix2 i q)), keep (r (ix2 7 q)) (y7 (ix2 i q))] : Fin 8 → EReal) k := by
  match k with
  | ⟨0, _⟩ => pointwise [k0_pay45]
  | ⟨1, _⟩ => pointwise [k0_pay45]
  | ⟨2, _⟩ =>
    pointwise [k0_pay45]
    rw [dif_neg (by omega), dif_neg (by omega), dif_pos (by omega), four_eq]
    simp only [show (⟨16 + i.val - 8 - 8, by omega⟩ : Fin 8) = i from Fin.ext (by simp only []; omega)]
    try rfl
  | ⟨3, _⟩ =>
    pointwise [k0_pay45]
    rw [dif_neg (by omega), dif_neg (by omega), dif_neg (by omega), dif_pos (by omega), four_eq]
    simp only [show (⟨24 + i.val - 8 - 8 - 8, by omega⟩ : Fin 8) = i from Fin.ext (by simp only []; omega)]
    try rfl
  | ⟨4, _⟩ =>
    pointwise [k0_pay45]
    rw [dif_neg (by omega), dif_neg (by omega), dif_neg (by omega), dif_neg (by omega), dif_pos (by omega), four_eq]
    simp only [show (⟨32 + i.val - 8 - 8 - 8 - 8, by omega⟩ : Fin 8) = i from Fin.ext (by simp only []; omega)]
    try rfl
  | ⟨5, _⟩ =>
    pointwise [k0_pay45]
    rw [dif_neg (by omega), dif_neg (by omega), dif_neg (by omega), dif_neg (by omega), dif_neg (by omega), dif_pos (by omega), four_eq]
    simp only [show (⟨40 + i.val - 8 - 8 - 8 - 8 - 8, by omega⟩ : Fin 8) = i from Fin.ext (by simp only []; omega)]
    try rfl
  | ⟨6, _⟩ =>
    pointwise [k0_pay45]
    rw [dif_neg (by omega), dif_neg (by omega), dif_neg (by omega), dif_neg (by omega), dif_neg (by omega), dif_neg (by omega), dif_pos (by omega), four_eq]
    simp only [show (⟨48 + i.val - 8 - 8 - 8 - 8 - 8 - 8, by omega⟩ : Fin 8) = i from Fin.ext (by simp only []; omega)]
    try rfl
  | ⟨7, _⟩ =>
    pointwise [k0_pay45]
    rw [dif_neg (by omega), dif_neg (by omega), dif_neg (by omega), dif_neg (by omega), dif_neg (by omega), dif_neg (by omega), dif_neg (by omega), four_eq]
    simp only [show (⟨56 + i.val - 8 - 8 - 8 - 8 - 8 - 8 - 8, by omega⟩ : Fin 8) = i from Fin.ext (by simp only []; omega)]
    try rfl

/-- The selection scores, the blocks of the groups one above the other and the worse groups' lowered. -/
def masked (a b c d e f g : FVec Ideal S1x640 .f32) (y0 y1 y2 y3 y4 y5 y6 y7 : FVec Ideal S8x640 .f32) : FVec Ideal S64x640 .f32 :=
  let v175 := scores a b c d e f g y7
  let v176 := iota .tc S8x640 32 [0] iota_S8x640_d0_w32
  let v252 := k0_pay37 v175 v176 (k0_pay32 a b c d e f g (k0_pay28 y7) (k0_pay29 y7) (k0_pay30 y7))
    (k0_pay34 a b c d e f g (k0_pay28 y7) (k0_pay29 y7) (k0_pay30 y7))
    (k0_pay35 a b c d e f g (k0_pay28 y7) (k0_pay29 y7) (k0_pay30 y7)) k0_pay36 (Scalar.ofBits .f32 0x00000000#32)
  k0_pay45 y1 y2 y3 y4 y5 y6 y7 (ranks a b c d e f g y7)
    (k0_pay43 y0 v175 v176 v252 (k0_pay39 v175) (k0_pay40 v175) (k0_pay41 v176) (Scalar.ofBits .f32 0x00000000#32))
    (k0_pay44 v175 v176 v252 (k0_pay39 v175) (k0_pay40 v175) (k0_pay41 v176) (Scalar.ofBits .f32 0x00000000#32))
    (Scalar.ofBits .f32 0xF149F2CA#32)

theorem masked_at (a b c d e f g : FVec Ideal S1x640 .f32) (y0 y1 y2 y3 y4 y5 y6 y7 : FVec Ideal S8x640 .f32) (k i : Fin 8) (q : Fin 640) :
    masked a b c d e f g y0 y1 y2 y3 y4 y5 y6 y7 (ix2 ⟨8 * k.val + i.val, by omega⟩ q)
      = keep (ranks a b c d e f g y7 (ix2 k q))
        ((![y0 (ix2 i q), y1 (ix2 i q), y2 (ix2 i q), y3 (ix2 i q), y4 (ix2 i q), y5 (ix2 i q), y6 (ix2 i q), y7 (ix2 i q)] : Fin 8 → EReal) k) := by
  unfold masked
  dsimp only
  rw [blocks_at, first_block, second_block]
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

end Cert.KernelRouterIdeal.Body
-- ==== Proof.RouterReference.lean ====
module

public import Idealize.ShloMosaic.Lib.IdealHost
public import proofs.«01_k».proof.Proof.RouterSort
public import proofs.«01_k».proof.Proof.Gen.ReferenceRouterIdeal.Run

/-!
The reference's routing, entry by entry. It sorts: the two greatest scores of a group, the four greatest groups, the eight greatest of
the experts left. What it takes are the elements whose rank is small enough, so its weights are those the ranks give.
-/

@[expose] public section

set_option maxRecDepth 16384

noncomputable section

namespace Cert.ReferenceRouterIdeal.Rows

open Idealize.ShloMosaic Idealize.ShloMosaic.TcCoe Idealize.SL.Sem Idealize.ShloMosaic.StableHlo
open Cert.ReferenceRouterIdeal Cert.ReferenceRouterIdeal.Gen
open Cert.RouterSort

/-- The scores of the experts. -/
def scores (u : FVec Ideal S8320x2048 .f32) (w : FVec Ideal S1x2048x64 .f32) : FVec Ideal S8320x64 .f32 :=
  Host.divf (broadcastInDim S8320x64 ![] bcast_S_S8320x64 (constant S_ .f32 0x3F800000#32)) (addf (broadcastInDim S8320x64 ![] bcast_S_S8320x64 (constant S_ .f32 0x3F800000#32)) (Host.exp (Host.negf (Host.dotGeneral dot_S8320x2048_S2048x64_S8320x64_1_0_0_1_n_n none u (shapeCast _ w shapeCasts_S1x2048x64_S2048x64)))))

/-- The selection scores: the scores plus the bias. -/
def selection (s : FVec Ideal S8320x64 .f32) (b : FVec Ideal S1x64 .f32) : FVec Ideal S8320x64 .f32 :=
  addf s (broadcastInDim S8320x64 ![0, 1] bcast_S1x64_S8320x64_0_1 (broadcastInDim S1x64 ![1] bcast_S64_S1x64_1 (shapeCast _ b shapeCasts_S1x64_S64)))

/-- The groups' scores. -/
def groups (f : FVec Ideal S8320x64 .f32) : FVec Ideal S8320x8 .f32 :=
  Host.reduceAdd ((Host.topK S8320x8x2 2 (FloatOps.cmpfTotal (F := Ideal) (φ := .f32) .gt) (shapeCast S8320x8x8 f shapeCasts_S8320x64_S8320x8x8) sliceFits_S8320x8x8_S8320x8x2).1) (constant (F := Ideal) S_ .f32 0x00000000#32) reducesTo_S8320x8x2_S8320x8_d2 h_S_

/-- The four greatest groups' numbers. -/
def groupNumbers (g : FVec Ideal S8320x8 .f32) : IVec S8320x4 32 :=
  (Host.topK S8320x4 1 (FloatOps.cmpfTotal (F := Ideal) (φ := .f32) .gt) g sliceFits_S8320x8_S8320x4).2

/-- The groups kept. -/
def kept (n : IVec S8320x4 32) : IVec S8320x8 1 :=
  cmpf .ogt (Host.reduceAdd (uitofp .f32 (cmpi .eq (broadcastInDim S8320x4x8 ![0, 1, 2] bcast_S8320x4x1_S8320x4x8_0_1_2 (broadcastInDim S8320x4x1 ![0, 1] bcast_S8320x4_S8320x4x1_0_1 n)) (broadcastInDim S8320x4x8 ![0, 1, 2] bcast_S1x1x8_S8320x4x8_0_1_2 (iotaInDim S1x1x8 32 2)))) (constant (F := Ideal) S_ .f32 0x00000000#32) reducesTo_S8320x4x8_S8320x8_d1 h_S_) (broadcastInDim S8320x8 ![] bcast_S_S8320x8 (constant (F := Ideal) S_ .f32 0x00000000#32))

/-- The selection scores with those of the other groups lowered. -/
def masked (k : IVec S8320x8 1) (f : FVec Ideal S8320x64 .f32) : FVec Ideal S8320x64 .f32 :=
  select (shapeCast S8320x64 (broadcastInDim S8320x8x8 ![0, 1] bcast_S8320x8_S8320x8x8_0_1 k) shapeCasts_S8320x8x8_S8320x64) f (broadcastInDim S8320x64 ![] bcast_S_S8320x64 (id (constant (F := Ideal) S_ .f32 0xF149F2CA#32)))

/-- The eight greatest experts' numbers. -/
def numbers (v : FVec Ideal S8320x64 .f32) : IVec S8320x8 32 :=
  (Host.topK S8320x8 1 (FloatOps.cmpfTotal (F := Ideal) (φ := .f32) .gt) v sliceFits_S8320x64_S8320x8).2

/-- The places the reference takes the scores at: the experts' numbers, counted from the end where negative. -/
def places (n : IVec S8320x8 32) : IVec S8320x8x1 32 :=
  shapeCast S8320x8x1 (select (cmpi .slt n (broadcastInDim S8320x8 ![] bcast_S_S8320x8 (constantI S_ 32 0#32))) (addi n (broadcastInDim S8320x8 ![] bcast_S_S8320x8 (constantI S_ 32 64#32))) n) shapeCasts_S8320x8_S8320x8x1

/-- The scores taken there. -/
def taken (s : FVec Ideal S8320x64 .f32) (p : IVec S8320x8x1 32) : FVec Ideal S8320x8 .f32 :=
  select (Host.reduce IntOp.andi (andi (cmpi .sge p (broadcastInDim S8320x8x1 ![] bcast_S_S8320x8x1 (constantI S_ 32 0#32))) (cmpi .sle p (broadcastInDim S8320x8x1 ![0, 1, 2] bcast_S1x1x1_S8320x8x1_0_1_2 (broadcastInDim S1x1x1 ![2] bcast_S1_S1x1x1_2 (constantI S1 32 63#32))))) (constantI S_ 1 1#1) reducesTo_S8320x8x1_S8320x8_d2 h_S_)
    (Host.gather gather_S8320x64_S8320x8x1_S8320x8_n_1_0_0_1_2_11 s p) (broadcastInDim S8320x8 ![] bcast_S_S8320x8 (constant (F := Ideal) S_ .f32 0x7FC00000#32))

/-- The combine weights from the experts' numbers and their scores. -/
def weights (n : IVec S8320x8 32) (w : FVec Ideal S8320x8 .f32) : FVec Ideal S8320x128 .f32 :=
  pad S8320x128 ![0, 0] ![0, 64] ![0, 0] (Host.reduceAdd (mulf (uitofp .f32 (cmpi .eq (broadcastInDim S8320x8x64 ![0, 1, 2] bcast_S8320x8x1_S8320x8x64_0_1_2 (broadcastInDim S8320x8x1 ![0, 1] bcast_S8320x8_S8320x8x1_0_1 n)) (broadcastInDim S8320x8x64 ![0, 1, 2] bcast_S1x1x64_S8320x8x64_0_1_2 (iotaInDim S1x1x64 32 2)))) (broadcastInDim S8320x8x64 ![0, 1, 2] bcast_S8320x8x1_S8320x8x64_0_1_2 (broadcastInDim S8320x8x1 ![0, 1] bcast_S8320x8_S8320x8x1_0_1 (mulf (Host.divf w (broadcastInDim S8320x8 ![0, 1] bcast_S8320x1_S8320x8_0_1 (broadcastInDim S8320x1 ![0] bcast_S8320_S8320x1_0 (Host.reduceAdd w (constant (F := Ideal) S_ .f32 0x00000000#32) reducesTo_S8320x8_S8320_d1 h_S_)))) (broadcastInDim S8320x8 ![] bcast_S_S8320x8 (constant (F := Ideal) S_ .f32 0x40200000#32)))))) (constant (F := Ideal) S_ .f32 0x00000000#32) reducesTo_S8320x8x64_S8320x64_d1 h_S_) (sitofp .f32 (constantI S_ 32 0#32)) pads_S8320x64_S8320x128_000_0640 h_S_

/-- The reference's combine weights. -/
def result (u : FVec Ideal S8320x2048 .f32) (w : FVec Ideal S1x2048x64 .f32) (b : FVec Ideal S1x64 .f32) : FVec Ideal S8320x128 .f32 :=
  weights (numbers (masked (kept (groupNumbers (groups (selection (scores u w) b)))) (selection (scores u w) b)))
    (taken (scores u w) (places (numbers (masked (kept (groupNumbers (groups (selection (scores u w) b)))) (selection (scores u w) b)))))

/-- The run's result is that function of the arguments. -/
theorem result_eq (m : (ℓ : Loc nD τ sig) → Buf (Elt Ideal) ℓ) (c : Dev nD) :
    Cert.ReferenceRouterIdeal.Value.res_main_v33 m c
      = result (m ((c.tc : Thread nD τ).loc main_arg0)) (m ((c.tc : Thread nD τ).loc main_arg1)) (m ((c.tc : Thread nD τ).loc main_arg2)) := rfl

/-- The numbers a top-k gives along the rows of a matrix. -/
theorem topK_number {R N K : ℕ} (hK : K ≤ N) (x : (⟨2, ![R, N]⟩ : Shape).Idx → EReal) (h : (⟨2, ![R, N]⟩ : Shape).Slices (fun _ => 0) ⟨2, ![R, K]⟩) (t : Fin R) (i : Fin K) :
    (Host.topK ⟨2, ![R, K]⟩ 1 (FloatOps.cmpfTotal (F := Ideal) (φ := .f32) .gt) x h).2 (ix2 t i)
      = BitVec.ofNat 32 (order (fun e : Fin N => x (ix2 t e)) (Fin.castLE hK i)).val := by
  have key : ∀ (j : Fin N) (k : Fin N), Shape.Idx.along (s := ⟨2, ![R, N]⟩) (ix2 t j) 1 k = ix2 t k := by
    intro j k; funext a
    match a with
    | ⟨0, _⟩ => rfl
    | ⟨1, _⟩ => rfl
  have at' : ∀ j : Fin N, j = Fin.castLE hK i →
      (⟨2, ![R, N]⟩ : Shape).size 1 = N ∧ sortedFrom (fun k k' : Fin N => FloatOps.cmpfTotal (F := Ideal) (φ := .f32) .gt (x (Shape.Idx.along (s := ⟨2, ![R, N]⟩) (ix2 t j) 1 k)) (x (Shape.Idx.along (s := ⟨2, ![R, N]⟩) (ix2 t j) 1 k')) == 1#1) j
        = order (fun e : Fin N => x (ix2 t e)) (Fin.castLE hK i) := by
    rintro j rfl
    refine ⟨rfl, ?_⟩
    simp only [key]
    rfl
  have hj : (fun a : Fin 2 => (⟨0 + ((ix2 t i : (⟨2, ![R, K]⟩ : Shape).Idx) a).val, Nat.lt_of_lt_of_le (Nat.add_lt_add_left (Fin.isLt _) _) (h.2 a)⟩ : Fin ((⟨2, ![R, N]⟩ : Shape).size a)))
      = (ix2 t (Fin.castLE hK i) : (⟨2, ![R, N]⟩ : Shape).Idx) := by
    funext a
    refine Fin.ext ?_
    match a with
    | ⟨0, _⟩ => exact Nat.zero_add _
    | ⟨1, _⟩ => exact Nat.zero_add _
  unfold Host.topK Host.sort2 extractStridedSlice
  dsimp only
  rw [dif_pos (by decide : 1 < 2)]
  dsimp only
  refine (congrArg (fun j : (⟨2, ![R, N]⟩ : Shape).Idx => BitVec.ofNat 32 (sortedFrom (fun k k' : Fin N => FloatOps.cmpfTotal (F := Ideal) (φ := .f32) .gt (x (j.along 1 k)) (x (j.along 1 k')) == 1#1) (j 1)).val) hj).trans ?_
  exact congrArg (fun e : Fin N => BitVec.ofNat 32 e.val) (at' _ rfl).2

/-- The values a top-k gives along the last axis of three. -/
theorem topK_value {R S N K : ℕ} (hK : K ≤ N) (x : (⟨3, ![R, S, N]⟩ : Shape).Idx → EReal) (h : (⟨3, ![R, S, N]⟩ : Shape).Slices (fun _ => 0) ⟨3, ![R, S, K]⟩) (t : Fin R) (g : Fin S) (i : Fin K) :
    (Host.topK ⟨3, ![R, S, K]⟩ 2 (FloatOps.cmpfTotal (F := Ideal) (φ := .f32) .gt) x h).1 (ix3 t g i)
      = x (ix3 t g (order (fun e : Fin N => x (ix3 t g e)) (Fin.castLE hK i))) := by
  have key : ∀ (j : Fin N) (k : Fin N), Shape.Idx.along (s := ⟨3, ![R, S, N]⟩) (ix3 t g j) 2 k = ix3 t g k := by
    intro j k; funext a
    match a with
    | ⟨0, _⟩ => rfl
    | ⟨1, _⟩ => rfl
    | ⟨2, _⟩ => rfl
  have hj : (fun a : Fin 3 => (⟨0 + ((ix3 t g i : (⟨3, ![R, S, K]⟩ : Shape).Idx) a).val, Nat.lt_of_lt_of_le (Nat.add_lt_add_left (Fin.isLt _) _) (h.2 a)⟩ : Fin ((⟨3, ![R, S, N]⟩ : Shape).size a)))
      = (ix3 t g (Fin.castLE hK i) : (⟨3, ![R, S, N]⟩ : Shape).Idx) := by
    funext a
    refine Fin.ext ?_
    match a with
    | ⟨0, _⟩ => exact Nat.zero_add _
    | ⟨1, _⟩ => exact Nat.zero_add _
    | ⟨2, _⟩ => exact Nat.zero_add _
  unfold Host.topK Host.sort2 extractStridedSlice
  dsimp only
  rw [dif_pos (by decide : 2 < 3)]
  dsimp only
  refine (congrArg (fun j : (⟨3, ![R, S, N]⟩ : Shape).Idx => x (j.along 2 (sortedFrom (fun k k' : Fin N => FloatOps.cmpfTotal (F := Ideal) (φ := .f32) .gt (x (j.along 2 k)) (x (j.along 2 k')) == 1#1) (j 2)))) hj).trans ?_
  have e : ∀ j : Fin N, sortedFrom (fun k k' : Fin N => FloatOps.cmpfTotal (F := Ideal) (φ := .f32) .gt (x (Shape.Idx.along (s := ⟨3, ![R, S, N]⟩) (ix3 t g (Fin.castLE hK i)) 2 k)) (x (Shape.Idx.along (s := ⟨3, ![R, S, N]⟩) (ix3 t g (Fin.castLE hK i)) 2 k')) == 1#1) j
        = order (fun e : Fin N => x (ix3 t g e)) j := by
    intro j
    simp only [key]
    rfl
  exact (congrArg x (key _ _)).trans (congrArg (fun k : Fin N => x (ix3 t g k)) (e (Fin.castLE hK i)))

/-- A comparison of two small numbers as words, as a number. -/
theorem same_number (a b : ℕ) (ha : a < 64) (hb : b < 64) :
    FloatOps.uitofp (F := Ideal) .f32 (IntOp.cmpi .eq (BitVec.ofNat 32 a) (BitVec.ofNat 32 b)) = if a = b then (1 : EReal) else 0 := by
  have e : IntOp.cmpi .eq (BitVec.ofNat 32 a) (BitVec.ofNat 32 b) = if a = b then 1#1 else 0#1 := by
    by_cases h : a = b
    · subst h; simp [IntOp.cmpi]
    · have h' : BitVec.ofNat 32 a ≠ BitVec.ofNat 32 b := fun h' => h (by
        have := congrArg BitVec.toNat h'
        simp only [BitVec.toNat_ofNat] at this
        omega)
      rw [if_neg h]
      show BitVec.ofBool (BitVec.ofNat 32 a == BitVec.ofNat 32 b) = 0#1
      rw [beq_eq_false_iff_ne.mpr h']
      rfl
  rw [e]
  by_cases h : a = b
  · simp [h, FloatOps.uitofp]
  · simp [h, FloatOps.uitofp]

/-- What a sum over the first of the sorted list picks out. -/
theorem sum_picked {n k : ℕ} (hk : k ≤ n) (x v : Fin n → EReal) (j : Fin n) :
    (∑ i : Fin k, (if (order x (Fin.castLE hk i)).val = j.val then (1 : EReal) else 0) * v (order x (Fin.castLE hk i)))
      = if rank x j < k then v j else 0 := by
  rw [sum_order hk x fun e => (if e.val = j.val then (1 : EReal) else 0) * v e, Finset.sum_eq_single j]
  · simp
  · intro e _ he
    have : e.val ≠ j.val := fun h => he (Fin.ext h)
    simp [this]
  · simp

/-- A group's score. -/
theorem groups_at (f : FVec Ideal S8320x64 .f32) (t : Fin 8320) (g : Fin 8) :
    groups f (ix2 t g) = groupScore (fun e => f (ix2 t e)) g := by
  unfold groupScore
  rw [topTwo_eq]
  pointwise [groups]
  have hm : ∀ e : Fin 8, shapeCast S8320x8x8 f shapeCasts_S8320x64_S8320x8x8 (ix3 t g e) = member (fun e => f (ix2 t e)) g e := by
    intro e
    unfold member
    pointwise []
    exact congrArg (fun k => f (ix2 t k)) (Fin.ext (show g.val * 8 + e.val = 8 * g.val + e.val by omega))
  have hv : ∀ x : Fin 2, (Host.topK S8320x8x2 2 (FloatOps.cmpfTotal (F := Ideal) (φ := .f32) .gt) (shapeCast S8320x8x8 f shapeCasts_S8320x64_S8320x8x8)
            sliceFits_S8320x8x8_S8320x8x2).1 (ix3 t g x)
      = member (fun e => f (ix2 t e)) g (order (member (fun e => f (ix2 t e)) g) (Fin.castLE (by decide) x)) := by
    intro x
    refine (topK_value (R := 8320) (S := 8) (N := 8) (K := 2) (by decide) _ _ t g x).trans ?_
    rw [hm, funext hm]
  rw [Fin.sum_univ_two, hv, hv]
  rfl

/-- The groups the reference keeps are those with a rank below four. -/
theorem kept_at (g : FVec Ideal S8320x8 .f32) (t : Fin 8320) (j : Fin 8) :
    kept (groupNumbers g) (ix2 t j) = if rank (fun o => g (ix2 t o)) j < 4 then 1#1 else 0#1 := by
  pointwise [kept]
  have hn : ∀ i : Fin 4, groupNumbers g (ix2 t i) = BitVec.ofNat 32 (order (fun o : Fin 8 => g (ix2 t o)) (Fin.castLE (by decide) i)).val :=
    fun i => topK_number (R := 8320) (N := 8) (K := 4) (by decide) g _ t i
  have hs := sum_picked (by decide : 4 ≤ 8) (fun o : Fin 8 => g (ix2 t o)) (fun _ => 1) j
  simp only [mul_one] at hs
  have e : (∑ x : Fin 4, FloatOps.uitofp (F := Ideal) FTy.f32 (IntOp.cmpi CmpIPredicate.eq (groupNumbers g (ix2 t x)) (BitVec.ofNat 32 j.val)))
      = if rank (fun o => g (ix2 t o)) j < 4 then (1 : EReal) else 0 := by
    refine Eq.trans (Finset.sum_congr rfl fun x _ => ?_) hs
    rw [hn, same_number _ _ (by omega) (by omega)]
  rw [e]
  by_cases h : rank (fun o => g (ix2 t o)) j < 4 <;> simp [h]

/-- The selection scores with those of the other groups lowered, entry by entry. -/
theorem masked_at (f : FVec Ideal S8320x64 .f32) (t : Fin 8320) (e : Fin 64) :
    masked (kept (groupNumbers (groups f))) f (ix2 t e) = lowered (fun o => f (ix2 t o)) e := by
  pointwise [masked]
  rw [kept_at, funext fun o => groups_at f t o]
  unfold lowered
  by_cases h : rank (groupScore fun o => f (ix2 t o)) ⟨e.val / 8, by omega⟩ < 4
  · simp [h, Scalar.select]
  · simp only [h, if_false, Scalar.select]
    rfl

/-- The numbers of the experts chosen. -/
theorem numbers_at (v : FVec Ideal S8320x64 .f32) (t : Fin 8320) (i : Fin 8) :
    numbers v (ix2 t i) = BitVec.ofNat 32 (order (fun o : Fin 64 => v (ix2 t o)) (Fin.castLE (by decide) i)).val :=
  topK_number (R := 8320) (N := 64) (K := 8) (by decide) v _ t i

/-- The places are the experts' numbers. -/
theorem places_at (n : IVec S8320x8 32) (t : Fin 8320) (i : Fin 8) (e : Fin 64) (h : n (ix2 t i) = BitVec.ofNat 32 e.val) :
    places n (ix3 t i 0) = BitVec.ofNat 32 e.val := by
  have d : ∀ e : Fin 64, Scalar.select (IntOp.cmpi CmpIPredicate.slt (BitVec.ofNat 32 e.val) 0#32) (IntOp.addi (BitVec.ofNat 32 e.val) 64#32) (BitVec.ofNat 32 e.val)
      = BitVec.ofNat 32 e.val := by decide +kernel
  pointwise [places]
  rw [h]
  exact d e

/-- The gather reads a token's row at the place given, held between the ends of the row. -/
theorem gather_at (s : FVec Ideal S8320x64 .f32) (p : IVec S8320x8x1 32) (t : Fin 8320) (i : Fin 8) :
    Host.gather gather_S8320x64_S8320x8x1_S8320x8_n_1_0_0_1_2_11 s p (ix2 t i) = s (ix2 t ⟨min (p (ix3 t i 0)).toInt.toNat 63, by omega⟩) := by
  refine congrArg s (funext fun a => Fin.ext ?_)
  show gather_S8320x64_S8320x8x1_S8320x8_n_1_0_0_1_2_11.start (ix2 t i) p a + gather_S8320x64_S8320x8x1_S8320x8_n_1_0_0_1_2_11.batchCoord (ix2 t i) a
    + gather_S8320x64_S8320x8x1_S8320x8_n_1_0_0_1_2_11.offCoord (ix2 t i) a = _
  have ho : gather_S8320x64_S8320x8x1_S8320x8_n_1_0_0_1_2_11.offCoord (ix2 t i) a = 0 := by
    refine GatherDims.offCoord_eq_zero _ _ _ fun h => ?_
    have h' := (GatherDims.mem_sKept _ _).mp h
    match a with
    | ⟨0, _⟩ => exact h'.2 (List.mem_singleton.mpr rfl)
    | ⟨1, _⟩ => exact h'.1 (List.mem_singleton.mpr rfl)
  rw [ho, Nat.add_zero]
  match a with
  | ⟨0, h0⟩ =>
    rw [GatherDims.start_batching _ _ _ _ (List.mem_singleton.mpr rfl), Nat.zero_add]
    unfold GatherDims.batchCoord
    rw [dif_pos (show ⟨0, h0⟩ ∈ gather_S8320x64_S8320x8x1_S8320x8_n_1_0_0_1_2_11.operandBatchingDims from List.mem_singleton.mpr rfl)]
    rfl
  | ⟨1, h1⟩ =>
    rw [GatherDims.batchCoord_eq_zero _ _ _ (fun h => Nat.one_ne_zero (congrArg Fin.val (List.mem_singleton.mp h))), Nat.add_zero]
    unfold GatherDims.start
    rw [dif_pos (show ⟨1, h1⟩ ∈ gather_S8320x64_S8320x8x1_S8320x8_n_1_0_0_1_2_11.startIndexMap from List.mem_singleton.mpr rfl)]
    refine congrArg (fun y => min (p y).toInt.toNat 63) (funext fun b => Fin.ext ?_)
    match b with
    | ⟨0, _⟩ => rfl
    | ⟨1, _⟩ => rfl
    | ⟨2, _⟩ => rfl

/-- The scores the reference takes. -/
theorem taken_at (s : FVec Ideal S8320x64 .f32) (p : IVec S8320x8x1 32) (t : Fin 8320) (i : Fin 8) (e : Fin 64) (h : p (ix3 t i 0) = BitVec.ofNat 32 e.val) :
    taken s p (ix2 t i) = s (ix2 t e) := by
  have d : ∀ e : Fin 64, IntOp.andi (IntOp.andi (IntOp.cmpi CmpIPredicate.sge (BitVec.ofNat 32 e.val) 0#32) (IntOp.cmpi CmpIPredicate.sle (BitVec.ofNat 32 e.val) 63#32)) 1#1 = 1#1
      ∧ min (BitVec.ofNat 32 e.val).toInt.toNat 63 = e.val := by decide +kernel
  pointwise [taken]
  rw [gather_at]
  have hu : (Finset.univ : Finset (Fin 1)) = {0} := rfl
  rw [hu, Finset.fold_singleton]
  simp only [h, (d e).1, (d e).2]
  rfl

/-- The combine weights where the experts taken are the first of the sorted list. -/
theorem weights_at (n : IVec S8320x8 32) (w : FVec Ideal S8320x8 .f32) (t : Fin 8320) (s f : Fin 64 → EReal)
    (hn : ∀ i, n (ix2 t i) = BitVec.ofNat 32 (order (lowered f) (Fin.castLE (by decide) i)).val)
    (hw : ∀ i, w (ix2 t i) = s (order (lowered f) (Fin.castLE (by decide) i))) (hs : (∑ e, weight s f e) ≠ 0) (j : Fin 128) :
    weights n w (ix2 t j) = if h : j.val < 64 then combined s f ⟨j.val, h⟩ else 0 := by
  pointwise [weights]
  by_cases h : j.val < 64
  · rw [dif_pos h, dif_pos h]
    have hsum : (∑ i : Fin 8, w (ix2 t i)) = ∑ e, weight s f e := by
      rw [funext hw]
      exact sum_order (by decide : 8 ≤ 64) (lowered f) s
    rw [hsum]
    have e : ∀ i : Fin 8, FloatOps.uitofp (F := Ideal) FTy.f32 (IntOp.cmpi CmpIPredicate.eq (n (ix2 t i)) (BitVec.ofNat 32 j.val))
          * (Ideal.div (w (ix2 t i)) (∑ e, weight s f e) * Ideal.ofBits FTy.f32 1075838976#32)
        = (if (order (lowered f) (Fin.castLE (by decide) i)).val = (⟨j.val, h⟩ : Fin 64).val then (1 : EReal) else 0)
          * (fun o => Ideal.div (s o) (∑ e, weight s f e) * Ideal.ofBits FTy.f32 1075838976#32) (order (lowered f) (Fin.castLE (by decide) i)) := by
      intro i
      rw [hn, hw, same_number _ _ (by omega) h]
    refine (Finset.sum_congr rfl fun i _ => e i).trans ((sum_picked (by decide : 8 ≤ 64) (lowered f)
      (fun o => Ideal.div (s o) (∑ e, weight s f e) * Ideal.ofBits FTy.f32 1075838976#32) ⟨j.val, h⟩).trans ?_)
    unfold combined
    by_cases hr : rank (lowered f) ⟨j.val, h⟩ < 8
    · rw [if_pos hr, weight, if_pos hr]
    · rw [if_neg hr, weight, if_neg hr, Ideal.zero_div hs, zero_mul]
  · rw [dif_neg h, dif_neg h]
    simp [FloatOps.sitofp]

/-- The reference's scores. -/
theorem scores_at (u : FVec Ideal S8320x2048 .f32) (w : FVec Ideal S1x2048x64 .f32) (t : Fin 8320) (j : Fin 64) :
    scores u w (ix2 t j) = Ideal.div 1 (1 + Ideal.exp (-∑ x, u (ix2 t x) * w (ix3 0 x j))) := by
  pointwise [scores]

/-- The reference's selection scores. -/
theorem selection_at (s : FVec Ideal S8320x64 .f32) (b : FVec Ideal S1x64 .f32) (t : Fin 8320) (j : Fin 64) :
    selection s b (ix2 t j) = s (ix2 t j) + b (ix2 0 j) := by
  pointwise [selection]

/-- A score is above zero where its logit is above minus infinity. -/
theorem score_pos (z : EReal) (hz : z ≠ ⊥) : 0 < Ideal.div 1 (1 + Ideal.exp (-z)) := by
  have h0 : (0 : EReal) ≤ Ideal.exp (-z) := by
    induction z with
    | bot => exact absurd rfl hz
    | top => simp
    | coe r => rw [← EReal.coe_neg, Ideal.exp_coe]; exact_mod_cast (Real.exp_pos _).le
  have ht : Ideal.exp (-z) ≠ ⊤ := by
    induction z with
    | bot => exact absurd rfl hz
    | top => simp
    | coe r => rw [← EReal.coe_neg, Ideal.exp_coe]; exact EReal.coe_ne_top _
  have h1 : (0 : EReal) < 1 + Ideal.exp (-z) := lt_of_lt_of_le zero_lt_one (le_add_of_nonneg_right h0)
  have h2 : 1 + Ideal.exp (-z) ≠ ⊤ := EReal.add_ne_top (EReal.coe_ne_top 1) ht
  rw [Ideal.div, if_neg h1.ne', one_mul]
  exact EReal.inv_pos_of_pos_ne_top h1 h2

/-- So the chosen scores of a token do not sum to zero. -/
theorem weights_sum (s f : Fin 64 → EReal) (hs : ∀ e, 0 < s e) : (∑ e, weight s f e) ≠ 0 := by
  have h0 : ∀ e, 0 ≤ weight s f e := by
    intro e; unfold weight; split
    · exact (hs e).le
    · exact le_rfl
  have h1 : 0 < weight s f (order (lowered f) 0) := by
    unfold weight
    rw [if_pos (by rw [rank_order]; decide)]
    exact hs _
  exact (lt_of_lt_of_le h1 (Finset.single_le_sum (fun e _ => h0 e) (Finset.mem_univ _))).ne'

/-- The reference's combine weights of a token whose logits are above minus infinity. -/
theorem result_at (u : FVec Ideal S8320x2048 .f32) (w : FVec Ideal S1x2048x64 .f32) (b : FVec Ideal S1x64 .f32) (t : Fin 8320)
    (hz : ∀ e : Fin 64, (∑ x : Fin 2048, u (ix2 t x) * w (ix3 0 x e)) ≠ ⊥) (j : Fin 128) :
    result u w b (ix2 t j) = if h : j.val < 64 then combined (fun e => scores u w (ix2 t e)) (fun e => selection (scores u w) b (ix2 t e)) ⟨j.val, h⟩ else 0 := by
  have hn : ∀ i : Fin 8, numbers (masked (kept (groupNumbers (groups (selection (scores u w) b)))) (selection (scores u w) b)) (ix2 t i)
      = BitVec.ofNat 32 (order (lowered fun e => selection (scores u w) b (ix2 t e)) (Fin.castLE (by decide) i)).val := by
    intro i
    rw [numbers_at, funext fun o => masked_at (selection (scores u w) b) t o]
  have hw : ∀ i : Fin 8, taken (scores u w) (places (numbers (masked (kept (groupNumbers (groups (selection (scores u w) b)))) (selection (scores u w) b)))) (ix2 t i)
      = scores u w (ix2 t (order (lowered fun e => selection (scores u w) b (ix2 t e)) (Fin.castLE (by decide) i))) :=
    fun i => taken_at (scores u w) _ t i _ (places_at _ t i _ (hn i))
  unfold result
  refine weights_at _ _ t (fun e => scores u w (ix2 t e)) (fun e => selection (scores u w) b (ix2 t e)) hn hw (weights_sum _ _ fun e => ?_) j
  rw [scores_at]
  exact score_pos _ (hz e)

end Cert.ReferenceRouterIdeal.Rows

end
-- ==== Proof.RouterValue.lean ====
module

public import Idealize.ShloMosaic.Lib.VecWindow
public import proofs.«01_k».proof.Proof.RouterGroups
public import proofs.«01_k».proof.Proof.RouterReference

/-!
The routing. The kernel counts, for every expert of a token, how many experts come before it, and keeps the scores of those with a rank
below eight; the reference sorts. Both give the same combine weights.
-/

@[expose] public section

set_option maxRecDepth 16384

noncomputable section

namespace Cert.KernelRouterIdeal.Body

open Idealize.ShloMosaic Idealize.ShloMosaic.TcCoe Idealize.SL.Sem
open Idealize.ShloMosaic.Pipeline (Dat)
open Cert.KernelRouterIdeal Cert.KernelRouterIdeal.Gen

open Cert.RouterSort

/-- The selection scores the body ranks. -/
def chosen (x0 : Vec Ideal S640x2048 .f32) (x1 : Vec Ideal S64x2048 .f32) (x2 : Vec Ideal S64x1 .f32) : FVec Ideal S64x640 .f32 :=
  masked (k0_pay15 x1 x0 x2) (k0_pay16 (k0_pay8 x1 x0 x2)) (k0_pay17 (k0_pay9 x1 x0 x2))
    (k0_pay21 (k0_pay10 x1 x0 x2) (k0_pay18 (k0_pay10 x1 x0 x2)) (k0_pay19 (k0_pay10 x1 x0 x2)) (Scalar.ofBits .f32 0x00000000#32) k0_pay20)
    (k0_pay22 (k0_pay11 x1 x0 x2))
    (k0_pay26 (k0_pay12 x1 x0 x2) (k0_pay23 (k0_pay12 x1 x0 x2)) (k0_pay24 (k0_pay12 x1 x0 x2)) (k0_pay25 (k0_pay12 x1 x0 x2)) (Scalar.ofBits .f32 0xFF800000#32))
    (k0_pay27 (k0_pay13 x1 x0 x2))
    (k0_pay7 x1 x0 x2) (k0_pay8 x1 x0 x2) (k0_pay9 x1 x0 x2) (k0_pay10 x1 x0 x2) (k0_pay11 x1 x0 x2) (k0_pay12 x1 x0 x2) (k0_pay13 x1 x0 x2) (k0_pay14 x1 x0 x2)

/-- The blocks of eight rows are the groups' members. -/
theorem score_group (x0 : Vec Ideal S640x2048 .f32) (x1 : Vec Ideal S64x2048 .f32) (x2 : Vec Ideal S64x1 .f32) (k i : Fin 8) (q : Fin 640) :
    (![k0_pay7 x1 x0 x2 (ix2 i q), k0_pay8 x1 x0 x2 (ix2 i q), k0_pay9 x1 x0 x2 (ix2 i q), k0_pay10 x1 x0 x2 (ix2 i q),
      k0_pay11 x1 x0 x2 (ix2 i q), k0_pay12 x1 x0 x2 (ix2 i q), k0_pay13 x1 x0 x2 (ix2 i q), k0_pay14 x1 x0 x2 (ix2 i q)] : Fin 8 → EReal) k
      = member (fun e => k0_pay6 x1 x0 x2 (ix2 e q)) k i := by
  unfold member
  match k with
  | ⟨0, _⟩ => pointwise [k0_pay7]
  | ⟨1, _⟩ => pointwise [k0_pay8]
  | ⟨2, _⟩ => pointwise [k0_pay9]
  | ⟨3, _⟩ => pointwise [k0_pay10]
  | ⟨4, _⟩ => pointwise [k0_pay11]
  | ⟨5, _⟩ => pointwise [k0_pay12]
  | ⟨6, _⟩ => pointwise [k0_pay13]
  | ⟨7, _⟩ => pointwise [k0_pay14]

/-- They are the scores with the bias, lowered in the groups that are not kept. -/
theorem chosen_at (x0 : Vec Ideal S640x2048 .f32) (x1 : Vec Ideal S64x2048 .f32) (x2 : Vec Ideal S64x1 .f32) (e : Fin 64) (q : Fin 640) :
    chosen x0 x1 x2 (ix2 e q) = lowered (fun e => k0_pay6 x1 x0 x2 (ix2 e q)) e := by
  have he : e = ⟨8 * (⟨e.val / 8, by omega⟩ : Fin 8).val + (⟨e.val % 8, by omega⟩ : Fin 8).val, by simp only []; omega⟩ :=
    Fin.ext (by simp only []; omega)
  unfold lowered
  conv_lhs => rw [he]
  unfold chosen
  rw [masked_at, score_group, ranks_at]
  have hs : (fun o : Fin 8 => scores (k0_pay15 x1 x0 x2) (k0_pay16 (k0_pay8 x1 x0 x2)) (k0_pay17 (k0_pay9 x1 x0 x2))
      (k0_pay21 (k0_pay10 x1 x0 x2) (k0_pay18 (k0_pay10 x1 x0 x2)) (k0_pay19 (k0_pay10 x1 x0 x2)) (Scalar.ofBits .f32 0x00000000#32) k0_pay20)
      (k0_pay22 (k0_pay11 x1 x0 x2))
      (k0_pay26 (k0_pay12 x1 x0 x2) (k0_pay23 (k0_pay12 x1 x0 x2)) (k0_pay24 (k0_pay12 x1 x0 x2)) (k0_pay25 (k0_pay12 x1 x0 x2)) (Scalar.ofBits .f32 0xFF800000#32))
      (k0_pay27 (k0_pay13 x1 x0 x2)) (k0_pay14 x1 x0 x2) (ix2 o q)) = groupScore (fun e => k0_pay6 x1 x0 x2 (ix2 e q)) := by
    funext o
    rw [scores_at, score_0, score_1, score_2, score_3, score_4, score_5, score_6]
    unfold groupScore
    rw [← funext (fun i => score_group x0 x1 x2 o i q)]
    match o with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
  rw [hs]
  unfold keep member
  have h4 : ∀ n : ℕ, ((n : EReal) < 4) = (n < 4) := fun n => propext (by exact_mod_cast EReal.natCast_lt_iff (m := n) (n := 4))
  simp only [h4, ← he]

variable (c : Dev nD) (i : grid0.Coords) (arg1 : Memref sig .tc .vmem S640x2048 .f32) (harg1 : arg1.IsWhole) (arg2 : Memref sig .tc .vmem S64x2048 .f32) (harg2 : arg2.IsWhole)
  (arg3 : Memref sig .tc .vmem S64x1 .f32) (harg3 : arg3.IsWhole) (arg4 : Memref sig .tc .vmem S640x128 .f32) (harg4 : arg4.IsWhole) (arg5 : Memref sig .tc .vmem S64x640 .f32) (harg5 : arg5.IsWhole)

/-- The scores the body computes. -/
theorem run_scores (x0 : Vec Ideal S640x2048 .f32) (x1 : Vec Ideal S64x2048 .f32) :
    kernelRun0_A.sl.r c arg1 harg1 arg2 harg2 x0 x1 = k0_pay5 x1 x0 := by
  unfold kernelRun0_A.sl.r
  exact congrArg₂ k0_pay5 ((View.readAt_full arg2.view _ _).trans (harg2.read_unread x1)) ((View.readAt_full arg1.view _ _).trans (harg1.read_unread x0))

/-- The selection scores the body computes. -/
theorem run_chosen (x0 : Vec Ideal S640x2048 .f32) (x1 : Vec Ideal S64x2048 .f32) (x2 : Vec Ideal S64x1 .f32) :
    kernelRun0_A.sl.r_34 c arg1 harg1 arg2 harg2 arg3 harg3 x0 x1 x2 = chosen x0 x1 x2 := by
  have e0 : View.readAt (Elt Ideal) arg1.view (Rect.unit (s := S640x2048) ![0, 0] S640x2048.size inb_S640x2048_S640x2048_0_0).toLoadRect (harg1.unread x0) = x0 :=
    (View.readAt_full arg1.view _ _).trans (harg1.read_unread x0)
  have e1 : View.readAt (Elt Ideal) arg2.view (Rect.unit (s := S64x2048) ![0, 0] S64x2048.size inb_S64x2048_S64x2048_0_0).toLoadRect (harg2.unread x1) = x1 :=
    (View.readAt_full arg2.view _ _).trans (harg2.read_unread x1)
  have e2 : View.readAt (Elt Ideal) arg3.view (Rect.unit (s := S64x1) ![0, 0] S64x1.size inb_S64x1_S64x1_0_0).toLoadRect (harg3.unread x2) = x2 :=
    (View.readAt_full arg3.view _ _).trans (harg3.read_unread x2)
  unfold chosen
  conv_rhs => rw [← e0, ← e1, ← e2]
  rfl

/-- The buffer of the selection scores once they are stored reads them. -/
theorem stored (x0 : Vec Ideal S640x2048 .f32) (x1 : Vec Ideal S64x2048 .f32) (x2 : Vec Ideal S64x1 .f32) :
    arg5.view.read (Elt Ideal) (arg5.view.writes (Elt Ideal) arg5.view.junk (kernelRun0_A.sl.HS0_1 c arg1 harg1 arg2 harg2 arg3 harg3 x0 x1 x2)) = chosen x0 x1 x2 := by
  unfold kernelRun0_A.sl.HS0_1
  rw [run_chosen]
  refine (View.read_writes_full arg5.view _ _ _ _).trans ?_
  funext y
  idx_vars y
  pointwise [k0_pay1]

/-- One trip of the counting loop. -/
theorem trip_eq (v : FVec Ideal S64x640 .f32) (X : BufTy.Contents (Elt Ideal) arg5.view.ty) (k : Fin k0_t1_loop.trips) (acc : FVec Ideal S64x640 .f32) :
    (trip_k0_t1 (F := Ideal) Variants.none c none i arg1 harg1 arg2 harg2 arg3 harg3 arg4 harg4 arg5 harg5 v X k).1 acc
      = k0_pay3 v k acc (View.readAt (Elt Ideal) arg5.view (Rect.unit (s := S64x640) (k0_off1 k) S1x640.size (k0_off1_inb k)).toLoadRect X) := by
  unfold trip_k0_t1
  rfl

/-- The row a trip loads. -/
theorem row_load (X : BufTy.Contents (Elt Ideal) arg5.view.ty) (k : Fin k0_t1_loop.trips) (q : Fin 640) (inb) :
    View.readAt (Elt Ideal) arg5.view (Rect.unit (s := S64x640) (k0_off1 k) S1x640.size inb).toLoadRect X (ix2 0 q)
      = arg5.view.read (Elt Ideal) X (ix2 ⟨k.val, k.isLt⟩ q) := by
  have h : ∀ k : Fin k0_t1_loop.trips, k0_off1 k = ![k.val, 0] := by decide +kernel
  refine congrArg (arg5.view.read (Elt Ideal) X) (funext fun a => Fin.ext ?_)
  have h := congrFun (h k)
  match a with
  | ⟨0, _⟩ => show k0_off1 k 0 + 1 * 0 = k.val; rw [h 0]; rfl
  | ⟨1, _⟩ => show k0_off1 k 1 + 1 * q.val = q.val; rw [h 1]; show 0 + 1 * q.val = _; omega

/-- A trip's number is compared with an expert's. -/
theorem earlier : ∀ (k : Fin k0_t1_loop.trips) (e : Fin 64),
    IntOp.cmpi .slt (Scf.iv 0#32 1#32 k.val) (BitVec.ofNat 32 e.val) = if (⟨k.val, k.isLt⟩ : Fin 64) < e then 1#1 else 0#1 := by decide +kernel

/-- One trip counts its row's expert where it comes before. -/
theorem trip_at (v : FVec Ideal S64x640 .f32) (k : Fin k0_t1_loop.trips) (acc : FVec Ideal S64x640 .f32) (r : Vec Ideal S1x640 .f32) (e : Fin 64) (q : Fin 640)
    (hr : r (ix2 0 q) = v (ix2 ⟨k.val, k.isLt⟩ q)) :
    k0_pay3 v k acc r (ix2 e q) = acc (ix2 e q) + if first (fun o => v (ix2 o q)) ⟨k.val, k.isLt⟩ e = true then 1 else 0 := by
  pointwise [k0_pay3]
  rw [hr]
  exact congrArg (acc (ix2 e q) + ·) (comparison (fun o => v (ix2 o q)) ⟨k.val, k.isLt⟩ e _ (earlier k e))

/-- The counting loop after some trips. -/
theorem loop_at (v : FVec Ideal S64x640 .f32) (X : BufTy.Contents (Elt Ideal) arg5.view.ty) (hX : arg5.view.read (Elt Ideal) X = v) (e : Fin 64) (q : Fin 640) :
    ∀ n : ℕ, n ≤ k0_t1_loop.trips →
      st_k0_t1 (F := Ideal) Variants.none c none i arg1 harg1 arg2 harg2 arg3 harg3 arg4 harg4 arg5 harg5 v X k0_pay2 n (ix2 e q)
        = ∑ o : Fin 64, if o.val < n then (if first (fun o => v (ix2 o q)) o e = true then (1 : EReal) else 0) else 0
  | 0, _ => by
    rw [st_k0_t1_zero]
    pointwise [k0_pay2]
    simp
  | n + 1, hn => by
    have hn' : n < 64 := hn
    rw [st_k0_t1_succ (F := Ideal) Variants.none c none i arg1 harg1 arg2 harg2 arg3 harg3 arg4 harg4 arg5 harg5 v X k0_pay2 ⟨n, hn⟩]
    unfold tripR_k0_t1
    rw [trip_eq, trip_at v ⟨n, hn⟩ _ _ e q (by rw [row_load, hX]), loop_at v X hX e q n (Nat.le_of_succ_le hn)]
    have hs : ∀ g : Fin 64 → EReal, (∑ o : Fin 64, if o.val < n then g o else 0) + g ⟨n, hn'⟩ = ∑ o : Fin 64, if o.val < n + 1 then g o else 0 := by
      intro g
      have e1 : g ⟨n, hn'⟩ = ∑ o : Fin 64, if o = ⟨n, hn'⟩ then g o else 0 := by simp
      rw [e1, ← Finset.sum_add_distrib]
      refine Finset.sum_congr rfl fun o _ => ?_
      rcases lt_trichotomy o.val n with h | h | h
      · simp [h, Nat.lt_succ_of_lt h, Fin.ext_iff, h.ne]
      · simp [h, Fin.ext_iff]
      · simp [Fin.ext_iff, h.ne', Nat.not_lt.2 h.le, Nat.not_lt.2 (Nat.succ_le_of_lt h)]
    exact hs _

/-- The rank of an expert, as the loop leaves it. -/
theorem rank_at (v : FVec Ideal S64x640 .f32) (X : BufTy.Contents (Elt Ideal) arg5.view.ty) (hX : arg5.view.read (Elt Ideal) X = v) (e : Fin 64) (q : Fin 640) :
    st_k0_t1 (F := Ideal) Variants.none c none i arg1 harg1 arg2 harg2 arg3 harg3 arg4 harg4 arg5 harg5 v X k0_pay2 k0_t1_loop.trips (ix2 e q)
      = (rank (fun o => v (ix2 o q)) e : EReal) := by
  rw [loop_at c i arg1 harg1 arg2 harg2 arg3 harg3 arg4 harg4 arg5 harg5 v X hX e q _ le_rfl, rank, ← sum_ones]
  exact Finset.sum_congr rfl fun o _ => if_pos o.isLt

/-- The combine weights from scores and ranks. -/
theorem weights_at (s : FVec Ideal S64x640 .f32) (r : FVec Ideal S64x640 .f32) (f : Fin 64 → EReal) (q : Fin 640) (hr : ∀ e, r (ix2 e q) = (rank (lowered f) e : EReal)) (j : Fin 128) :
    k0_pay4 s r (ix2 q j) = if h : j.val < 64 then combined (fun o => s (ix2 o q)) f ⟨j.val, h⟩ else 0 := by
  have h8 : ∀ n : ℕ, ((n : EReal) < 8) = (n < 8) := fun n => propext (by exact_mod_cast EReal.natCast_lt_iff (m := n) (n := 8))
  pointwise [k0_pay4]
  simp only [hr, eight_eq, h8]
  rfl

/-- The block the body leaves: the combine weights of its tokens, and zeros in the columns past the experts. -/
theorem out_at (x0 : Vec Ideal S640x2048 .f32) (x1 : Vec Ideal S64x2048 .f32) (x2 : Vec Ideal S64x1 .f32) (q : Fin 640) (j : Fin 128) :
    out0_A_3 c i arg1 harg1 arg2 harg2 arg3 harg3 arg4 harg4 arg5 harg5 x0 x1 x2 (ix2 q j)
      = if h : j.val < 64 then combined (fun o => k0_pay5 x1 x0 (ix2 o q)) (fun o => k0_pay6 x1 x0 x2 (ix2 o q)) ⟨j.val, h⟩ else 0 := by
  unfold out0_A_3 kernelRun0_A
  dsimp only
  rw [run_scores, run_chosen]
  refine (congrFun (View.read_writes_full _ _ _ _ _) (ix2 q j)).trans ?_
  refine weights_at _ _ (fun o => k0_pay6 x1 x0 x2 (ix2 o q)) q (fun e => ?_) j
  refine (rank_at c i arg1 harg1 arg2 harg2 arg3 harg3 arg4 harg4 arg5 harg5 (chosen x0 x1 x2) _ (stored c arg1 harg1 arg2 harg2 arg3 harg3 arg5 x0 x1 x2) e q).trans ?_
  rw [funext fun o => chosen_at x0 x1 x2 o q]

/-- The scores the body computes, entry by entry. -/
theorem pay5_at (x0 : Vec Ideal S640x2048 .f32) (x1 : Vec Ideal S64x2048 .f32) (e : Fin 64) (q : Fin 640) :
    k0_pay5 x1 x0 (ix2 e q) = Ideal.div 1 (1 + Ideal.exp (-∑ x, x0 (ix2 q x) * x1 (ix2 e x))) := by
  pointwise [k0_pay5]
  rw [zero_sub]
  exact congrArg (fun z => Ideal.div 1 (1 + Ideal.exp (-z))) (Finset.sum_congr rfl fun x _ => mul_comm _ _)

/-- The selection scores before any is lowered, entry by entry. -/
theorem pay6_at (x0 : Vec Ideal S640x2048 .f32) (x1 : Vec Ideal S64x2048 .f32) (x2 : Vec Ideal S64x1 .f32) (e : Fin 64) (q : Fin 640) :
    k0_pay6 x1 x0 x2 (ix2 e q) = k0_pay5 x1 x0 (ix2 e q) + x2 (ix2 e 0) := by
  pointwise [k0_pay6]

variable (m : (ℓ : Loc nD τ sig) → Buf (Elt Ideal) ℓ)

/-- The windows' index maps. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The tokens' block of a point. -/
theorem rows_at (c : Dev nD) (t : Fin cfg0.N) (ht : t.val < 13) (q : Fin 640) (x : Fin 2048) :
    (show EReal from iblk m c 0 t (ix2 q x)) = m ((c : Thread nD τ).loc main_arg0) (ix2 ⟨t.val * 640 + q.val, by omega⟩ x) := by
  refine Eq.trans (b := V m c main_arg0 (ix2 ⟨t.val * 640 + q.val, by omega⟩ x)) (by blk_ext [iblk, idx t]) ?_
  unfold V
  try rfl

/-- The weight turned over. -/
def turned (w : FVec Ideal S1x2048x64 .f32) : FVec Ideal S64x2048 .f32 :=
  transpose S64x2048 [1, 0] (shapeCast S2048x64 w shapeCasts_S1x2048x64_S2048x64) transposes_S2048x64_S64x2048_1_0

/-- The weight's block of a point. -/
theorem weight_at (c : Dev nD) (t : Fin cfg0.N) (e : Fin 64) (x : Fin 2048) :
    (show EReal from iblk m c 1 t (ix2 e x)) = m ((c : Thread nD τ).loc main_arg1) (ix3 0 x e) := by
  have h : (V m c main_v1 : FVec Ideal S64x2048 .f32) = turned (m ((c : Thread nD τ).loc main_arg1)) := by
    unfold V
    simp only [hostOps0]
    after_results; try rfl
  refine Eq.trans (b := V m c main_v1 (ix2 e x)) (by blk_ext [iblk, idx t]) ((congrFun h _).trans ?_)
  pointwise [turned]

/-- The bias as a column. -/
def column (b : FVec Ideal S1x64 .f32) : FVec Ideal S64x1 .f32 :=
  broadcastInDim S64x1 ![0] bcast_S64_S64x1_0 (shapeCast S64 b shapeCasts_S1x64_S64)

/-- The bias' block of a point. -/
theorem bias_at (c : Dev nD) (t : Fin cfg0.N) (e : Fin 64) :
    (show EReal from iblk m c 2 t (ix2 e 0)) = m ((c : Thread nD τ).loc main_arg2) (ix2 0 e) := by
  have h : (V m c main_v3 : FVec Ideal S64x1 .f32) = column (m ((c : Thread nD τ).loc main_arg2)) := by
    unfold V
    simp only [hostOps0]
    after_results; try rfl
  refine Eq.trans (b := V m c main_v3 (ix2 e 0)) (by blk_ext [iblk, idx t]) ((congrFun h _).trans ?_)
  pointwise [column]

/-- The reference's combine weights. -/
def REF (a0 : FVec Ideal S8320x2048 .f32) (a1 : FVec Ideal S1x2048x64 .f32) (a2 : FVec Ideal S1x64 .f32) : FVec Ideal S8320x128 .f32 :=
  Cert.ReferenceRouterIdeal.Rows.result a0 a1 a2

/-- After the run the result array is the reference's, where no logit is minus infinity. -/
theorem final (c : Dev nD)
    (hz : ∀ (t : Fin 8320) (e : Fin 64), (∑ x : Fin 2048, (show EReal from m ((c : Thread nD τ).loc main_arg0) (ix2 t x)) * (show EReal from m ((c : Thread nD τ).loc main_arg1) (ix3 0 x e))) ≠ ⊥) :
    (dats m 0 c).arrAt 3 (cfgs 0).N
      = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  have ht : t.val < 13 := lt_of_lt_of_eq t.isLt (by decide)
  refine Eq.trans ?_ (Eq.trans (b := REF (m ((c : Thread nD τ).loc main_arg0)) (m ((c : Thread nD τ).loc main_arg1))
    (m ((c : Thread nD τ).loc main_arg2)) (ix2 ⟨t.val * 640 + y0.val, by omega⟩ y1)) (Cert.ReferenceRouterIdeal.Rows.result_at _ _ _ ⟨t.val * 640 + y0.val, by omega⟩ (hz _) y1).symm ?_)
  · unfold outsAt0
    refine (out_at _ _ _ _ _ _ _ _ _ _ _ _ _ _ _ y0 y1).trans ?_
    have hs : ∀ e : Fin 64, k0_pay5 (iblk m c 1 t) (iblk m c 0 t) (ix2 e y0)
        = Cert.ReferenceRouterIdeal.Rows.scores (m ((c : Thread nD τ).loc main_arg0)) (m ((c : Thread nD τ).loc main_arg1)) (ix2 ⟨t.val * 640 + y0.val, by omega⟩ e) := by
      intro e
      refine (pay5_at _ _ e y0).trans ((congrArg (fun z => Ideal.div 1 (1 + Ideal.exp (-z))) (Finset.sum_congr rfl fun x _ => ?_)).trans
        (Cert.ReferenceRouterIdeal.Rows.scores_at _ _ _ e).symm)
      exact congrArg₂ (· * ·) (rows_at m c t ht y0 x) (weight_at m c t e x)
    have hf : ∀ e : Fin 64, k0_pay6 (iblk m c 1 t) (iblk m c 0 t) (iblk m c 2 t) (ix2 e y0)
        = Cert.ReferenceRouterIdeal.Rows.selection (Cert.ReferenceRouterIdeal.Rows.scores (m ((c : Thread nD τ).loc main_arg0)) (m ((c : Thread nD τ).loc main_arg1)))
          (m ((c : Thread nD τ).loc main_arg2)) (ix2 ⟨t.val * 640 + y0.val, by omega⟩ e) := by
      intro e
      refine (pay6_at _ _ _ e y0).trans ((congrArg₂ (· + ·) (hs e) (bias_at m c t e)).trans (Cert.ReferenceRouterIdeal.Rows.selection_at _ _ _ e).symm)
    rw [funext hs, funext hf]
  · generalize REF (m ((c : Thread nD τ).loc main_arg0)) (m ((c : Thread nD τ).loc main_arg1)) (m ((c : Thread nD τ).loc main_arg2)) = z
    blk_ext [idx t]

end Cert.KernelRouterIdeal.Body

end
-- ==== Proof.HgrnPromptFrame.lean ====
module

public import proofs.«01_k».proof.Proof.Gen.KernelHgrnPrompt.Frame
public import proofs.«01_k».proof.Proof.Gen.KernelHgrnPrompt.Loops
public import proofs.«01_k».proof.Proof.Gen.KernelHgrnPrompt.Skeleton
public import Idealize.ShloMosaic.Lib.Pipeline.FrameBody
public import Idealize.ShloMosaic.Lib.Tactic
public import Idealize.ShloMosaic.Lib.WordCmp

/-!
The prompt's HGRN2 scan runs to its end and leaves its arguments alone. Nothing is said here of what it computes: the two
outputs and the carried state are held at whatever the body left.
-/

@[expose] public section

set_option maxRecDepth 16384

noncomputable section

namespace Cert.KernelHgrnPrompt.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelHgrnPrompt Cert.KernelHgrnPrompt.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's first branch is taken: the point is the first. -/
abbrev atFirst (i : grid0.Coords) : Prop := (Scalar.cmpi .ne (Scalar.extui (Scalar.cmpi .eq (BitVec.ofNat 32 (i 0).val) 0#32)) 0#32) = 1#1

/-- The body's second branch is taken: the point is the last. -/
abbrev atLast (i : grid0.Coords) : Prop := k0_cond2 i = 1#1

/-- Window 0's staging buffer at a point. -/
abbrev buf0 (t : Fin cfg0.N) : Memref sig .tc .vmem S128x2048 .f32 := win0_0.stage (cfg0.slots t 0)
/-- Window 1's staging buffer at a point. -/
abbrev buf1 (t : Fin cfg0.N) : Memref sig .tc .vmem S128x2048 .f32 := win0_1.stage (cfg0.slots t 1)
/-- Window 2's staging buffer at a point. -/
abbrev buf2 (t : Fin cfg0.N) : Memref sig .tc .vmem S128x2048 .f32 := win0_2.stage (cfg0.slots t 2)
/-- Window 3's staging buffer at a point. -/
abbrev buf3 (t : Fin cfg0.N) : Memref sig .tc .vmem S128x2048 .f32 := win0_3.stage (cfg0.slots t 3)
/-- Window 4's staging buffer at a point. -/
abbrev buf4 (t : Fin cfg0.N) : Memref sig .tc .vmem S2x2048 .f32 := win0_4.stage (cfg0.slots t 4)
/-- Window 5's staging buffer at a point. -/
abbrev buf5 (t : Fin cfg0.N) : Memref sig .tc .vmem S1x2048 .f32 := win0_5.stage (cfg0.slots t 5)
/-- Window 6's staging buffer at a point. -/
abbrev buf6 (t : Fin cfg0.N) : Memref sig .tc .vmem S128x2048 .bf16 := win0_6.stage (cfg0.slots t 6)
/-- Window 7's staging buffer at a point. -/
abbrev buf7 (t : Fin cfg0.N) : Memref sig .tc .vmem S16x128x128 .f32 := win0_7.stage (cfg0.slots t 7)

/-- The buffer the kernel carries the states in from point to point. -/
abbrev stateBuf : Memref sig .tc .vmem S16x128x128 .f32 := Memref.whole cc0_scratch0

/-- Besides the windows the region owns the state buffer and the generator register. -/
theorem rest_eq (c : Dev nD) :
    (Pipeline.ΦA spec0 c : sProp 𝕄) = iprop((∃ d, owns (c : Thread nD τ) stateBuf fullShare d) ∗ (∃ r, prngReg c r)) := by
  unfold Pipeline.ΦA; rw [scopedRest0_eq]; simp only [stateBuf, owns_whole]; try rfl

set_option maxHeartbeats 4000000 in
/-- The body runs from the inputs at their contents and the outputs and the state at any, and gives all of them back. -/
theorem body_runs (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S2x2048 .f32) (harg5 : arg5.IsWhole) (arg6 : Memref sig .tc .vmem S1x2048 .f32) (harg6 : arg6.IsWhole) (arg7 : Memref sig .tc .vmem S128x2048 .bf16) (harg7 : arg7.IsWhole) (arg8 : Memref sig .tc .vmem S16x128x128 .f32) (harg8 : arg8.IsWhole) (arg9 : Memref sig .tc .vmem S16x128x128 .f32) (harg9 : arg9.IsWhole)
    (x0 : Vec F S128x2048 .f32) (x1 : Vec F S128x2048 .f32) (x2 : Vec F S128x2048 .f32) (x3 : Vec F S128x2048 .f32) (x4 : Vec F S2x2048 .f32) (x5 : Vec F S1x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0__hgrn_prompt_kernel i arg1 harg1 arg2 harg2 arg3 harg3 arg4 harg4 arg5 harg5 arg6 harg6 arg7 harg7 arg8 harg8 arg9 harg9) K := by
  by_cases hc0 : atFirst i <;> by_cases hc1 : atLast i
  all_goals
    simp only [cc0__hgrn_prompt_kernel_eq_skeleton]; unfold cc0__hgrn_prompt_kernel_skel
    simp only [k0_part239_eq_skeleton, k0_part236_eq_skeleton, k0_part237_eq_skeleton, k0_part238_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

/-- The outputs of which nothing is said: both. -/
def unsaid : Fin 8 → Bool := fun w => w.val == 6 || w.val == 7

/-- What the pipeline holds: the arrays as found, each input's buffer at its block after the body. -/
def held (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

theorem held_A (c : Dev nD) (w : Fin cfg0.W) : (held m 0 c).A w = V m c (Pipeline.arrRef spec0 w) := by
  dsimp only [held]

theorem before_0 (c : Dev nD) (t : Fin cfg0.N) (d) : (held m 0 c).before 0 t d = iblk m c 0 t :=
  before0_0_of m (held m 0 c) (held_A m c 0) (fun t => by dsimp only [held]) t d
theorem before_1 (c : Dev nD) (t : Fin cfg0.N) (d) : (held m 0 c).before 1 t d = iblk m c 1 t :=
  before0_1_of m (held m 0 c) (held_A m c 1) (fun t => by dsimp only [held]) t d
theorem before_2 (c : Dev nD) (t : Fin cfg0.N) (d) : (held m 0 c).before 2 t d = iblk m c 2 t :=
  before0_2_of m (held m 0 c) (held_A m c 2) (fun t => by dsimp only [held]) t d
theorem before_3 (c : Dev nD) (t : Fin cfg0.N) (d) : (held m 0 c).before 3 t d = iblk m c 3 t :=
  before0_3_of m (held m 0 c) (held_A m c 3) (fun t => by dsimp only [held]) t d
theorem before_4 (c : Dev nD) (t : Fin cfg0.N) (d) : (held m 0 c).before 4 t d = iblk m c 4 t :=
  before0_4_of m (held m 0 c) (held_A m c 4) (fun t => by dsimp only [held]) t d
theorem before_5 (c : Dev nD) (t : Fin cfg0.N) (d) : (held m 0 c).before 5 t d = iblk m c 5 t :=
  before0_5_of m (held m 0 c) (held_A m c 5) (fun t => by dsimp only [held]) t d

/-- The body at a point, between what the pipeline hands it and what it takes back. -/
theorem body_at (c : Dev nD) (t : Fin cfg0.N) :
    iprop((held m 0 c).Φ t.castSucc ∗ (held m 0 c).owesAt () t.castSucc
      ∗ (∃ d, owns (c : Thread nD τ) (buf0 t) fullShare ((held m 0 c).before 0 t d))
      ∗ (∃ d, owns (c : Thread nD τ) (buf1 t) fullShare ((held m 0 c).before 1 t d))
      ∗ (∃ d, owns (c : Thread nD τ) (buf2 t) fullShare ((held m 0 c).before 2 t d))
      ∗ (∃ d, owns (c : Thread nD τ) (buf3 t) fullShare ((held m 0 c).before 3 t d))
      ∗ (∃ d, owns (c : Thread nD τ) (buf4 t) fullShare ((held m 0 c).before 4 t d))
      ∗ (∃ d, owns (c : Thread nD τ) (buf5 t) fullShare ((held m 0 c).before 5 t d))
      ∗ (∃ d, owns (c : Thread nD τ) (buf6 t) fullShare d) ∗ (∃ d, owns (c : Thread nD τ) (buf7 t) fullShare d))
    ⊢ wp frame (wpE (defs₀ (F := F)) Variants.none c none) Set.univ (bodyAt0 t) (fun _ =>
      iprop((held m 0 c).Φ t.succ ∗ (held m 0 c).owesAt () t.succ
        ∗ (held m 0 c).leavesExact 0 t ∗ (held m 0 c).leavesExact 1 t ∗ (held m 0 c).leavesExact 2 t ∗ (held m 0 c).leavesExact 3 t ∗ (held m 0 c).leavesExact 4 t ∗ (held m 0 c).leavesExact 5 t
        ∗ (∃ d, owns (c : Thread nD τ) (buf6 t) fullShare d) ∗ (∃ d, owns (c : Thread nD τ) (buf7 t) fullShare d))) := by
  unfold bodyAt0
  simp only [before_0, before_1, before_2, before_3, before_4, before_5]
  rw [show (held m 0 c).owesAt () t.succ = (held m 0 c).owesAt () t.castSucc from rfl]
  rw [show (held m 0 c).Φ t.succ = Pipeline.ΦA spec0 c from rfl, show (held m 0 c).Φ t.castSucc = Pipeline.ΦA spec0 c from rfl, rest_eq]
  rw [show (held m 0 c).leavesExact 0 t = owns (c : Thread nD τ) (buf0 t) fullShare (iblk m c 0 t) from by
    unfold Dat.leavesExact; rw [show cfg0.idle 0 (grid0.coords t) = false from rfl]; dsimp only [held]]
  rw [show (held m 0 c).leavesExact 1 t = owns (c : Thread nD τ) (buf1 t) fullShare (iblk m c 1 t) from by
    unfold Dat.leavesExact; rw [show cfg0.idle 1 (grid0.coords t) = false from rfl]; dsimp only [held]]
  rw [show (held m 0 c).leavesExact 2 t = owns (c : Thread nD τ) (buf2 t) fullShare (iblk m c 2 t) from by
    unfold Dat.leavesExact; rw [show cfg0.idle 2 (grid0.coords t) = false from rfl]; dsimp only [held]]
  rw [show (held m 0 c).leavesExact 3 t = owns (c : Thread nD τ) (buf3 t) fullShare (iblk m c 3 t) from by
    unfold Dat.leavesExact; rw [show cfg0.idle 3 (grid0.coords t) = false from rfl]; dsimp only [held]]
  rw [show (held m 0 c).leavesExact 4 t = owns (c : Thread nD τ) (buf4 t) fullShare (iblk m c 4 t) from by
    unfold Dat.leavesExact; rw [show cfg0.idle 4 (grid0.coords t) = false from rfl]; dsimp only [held]]
  rw [show (held m 0 c).leavesExact 5 t = owns (c : Thread nD τ) (buf5 t) fullShare (iblk m c 5 t) from by
    unfold Dat.leavesExact; rw [show cfg0.idle 5 (grid0.coords t) = false from rfl]; dsimp only [held]]
  iintro ⟨⟨HS, Hg⟩, Ho, ⟨%d0, H0⟩, ⟨%d1, H1⟩, ⟨%d2, H2⟩, ⟨%d3, H3⟩, ⟨%d4, H4⟩, ⟨%d5, H5⟩, H6, H7⟩
  iapply (body_runs c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's obligation of the body. -/
theorem body_obligation (c : Dev nD) : BodyObligation (held (F := F) m 0 c) (defs₀ (F := F)) Variants.none () Set.univ unsaid := fun t => by
  rw [bigSep_W0, bigSep_W0, show defs₀ (F := F) .tc cfg0.body (cfg0.bodyArgs t (cfg0.slots t)) = bodyAt0 t from by unfold defs₀; rw [Defs.onTc_tc]]
  exact triple_restated (body_at m c t) rfl .rfl fun _ => .rfl

set_option backward.isDefEq.respectTransparency.types false in
/-- The program runs to its end, and no counter is left raised. -/
theorem run : θ_run defs (onTc (τ := τ) (main (F := F))) (s₀ m ρ) (fun r => (Pipeline.RDat.FramePost (cfgs 0) (fun c => (held m 0 c).toRForget unsaid) (V m)) r ∧ r.2.sem = fun _ => 0) :=
  Pipeline.θ_run_frame_forget_shared (Q' := _) cfgs (held m) (0 : Fin 1) launch₀0 defs₀ Variants.none unsaid m ρ main
    (hbody := fun c => (body_obligation m c).loose) (hq := fun _ _ _ => rfl)
    (howed := fun _ _ => rfl) (V := V m) (hmain := hmain m Variants.none) (hA := held_A m) (hΦ := fun _ _ => rfl)

/-- The program runs to its end, its arguments end as they were, and no counter is left raised. -/
theorem arguments_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 3 rfl).trans ((held_A m c 3).trans (V_main_arg0 m c)),
      (Pipeline.RDat.FramePost.arr_in h.1 c 4 rfl).trans ((held_A m c 4).trans (V_main_arg1 m c)),
      ((h.1 c).2 main_arg2 (Pipeline.mem_restRefs_of main_arg2 (by decide) (by decide))).trans (V_main_arg2 m c)⟩, h.2⟩) (run m ρ)

end Cert.KernelHgrnPrompt.Body

end
-- ==== Proof.HgrnPromptSums.lean ====
module

public import Idealize.ShloMosaic.Lib.Pipeline.ValueKit
public import proofs.«01_k».proof.Proof.WindowSum

/-!
The state of the HGRN2 scan as a sum over the tokens read so far, and how sixteen further tokens change it. One channel has a gate,
a key and a value per token, numbered from zero; a token's key and value enter the state decayed by all later gates.
-/

@[expose] public section

set_option maxRecDepth 16384

noncomputable section

namespace Cert.PromptSums

open Idealize.ShloMosaic Idealize.ShloMosaic.TcCoe

/-- The sum of the first `n` gates. -/
def total (g : ℕ → EReal) (n : ℕ) : EReal := ∑ s ∈ Finset.range n, g s

/-- The state after `n` tokens. -/
def state (g κ v : ℕ → EReal) (n : ℕ) : EReal :=
  ∑ s ∈ Finset.range n, κ s * Ideal.exp (total g n - total g (s + 1)) * v s

/-- Gates of which either all are real or all are minus infinity. -/
def Uniform (g : ℕ → EReal) : Prop := (∃ γ : ℕ → ℝ, ∀ s, g s = (γ s : EReal)) ∨ ∀ s, g s = ⊥

/-- A sum of real gates is real. -/
theorem sum_real (γ : ℕ → ℝ) (n : ℕ) : (∑ s ∈ Finset.range n, (γ s : EReal)) = ((∑ s ∈ Finset.range n, γ s : ℝ) : EReal) := by
  induction n with
  | zero => simp
  | succ n ih => rw [Finset.sum_range_succ, Finset.sum_range_succ, ih, EReal.coe_add]

/-- A sum of gates at minus infinity is minus infinity, unless it is empty. -/
theorem sum_bot (n : ℕ) : (∑ s ∈ Finset.range (n + 1), (⊥ : EReal)) = ⊥ := by
  rw [Finset.sum_range_succ, EReal.add_bot]

/-- A sum times a real exponential, term by term. -/
theorem sum_mul_exp (f : ℕ → EReal) (x : ℝ) (n : ℕ) :
    (∑ s ∈ Finset.range n, f s) * Ideal.exp (x : EReal) = ∑ s ∈ Finset.range n, f s * Ideal.exp (x : EReal) := by
  have h0 : (0 : EReal) ≤ Ideal.exp (x : EReal) := by rw [Ideal.exp_coe]; exact_mod_cast (Real.exp_pos x).le
  have ht : Ideal.exp (x : EReal) ≠ ⊤ := by rw [Ideal.exp_coe]; exact EReal.coe_ne_top _
  induction n with
  | zero => simp
  | succ n ih => rw [Finset.sum_range_succ, Finset.sum_range_succ, EReal.right_distrib_of_nonneg_of_ne_top h0 ht, ih]

/-- Sixteen further tokens: the state decays by their gates, and each adds its key and value, decayed by the gates after it. -/
theorem state_step (g κ v : ℕ → EReal) (hg : Uniform g) (n : ℕ) :
    state g κ v (n + 16) = state g κ v n * Ideal.exp (∑ y ∈ Finset.range 16, g (n + y))
      + ∑ x ∈ Finset.range 16, v (n + x) * (κ (n + x) * Ideal.exp ((∑ y ∈ Finset.range 16, g (n + y)) - ∑ y ∈ Finset.range (x + 1), g (n + y))) := by
  unfold state
  rw [Finset.sum_range_add]
  rcases hg with ⟨γ, hγ⟩ | hb
  · have ht : ∀ k, total g k = ((∑ s ∈ Finset.range k, γ s : ℝ) : EReal) := fun k => by
      unfold total; rw [← sum_real]; exact Finset.sum_congr rfl fun s _ => hγ s
    have hp : ∀ k, (∑ y ∈ Finset.range k, g (n + y)) = ((∑ y ∈ Finset.range k, γ (n + y) : ℝ) : EReal) := fun k => by
      rw [← sum_real (fun y => γ (n + y))]; exact Finset.sum_congr rfl fun s _ => hγ _
    have hs : ∀ k, (∑ s ∈ Finset.range (n + k), γ s) = (∑ s ∈ Finset.range n, γ s) + ∑ y ∈ Finset.range k, γ (n + y) := fun k => Finset.sum_range_add _ _ _
    rw [hp 16, sum_mul_exp]
    refine congrArg₂ (· + ·) (Finset.sum_congr rfl fun s _ => ?_) (Finset.sum_congr rfl fun x _ => ?_)
    · rw [ht, ht, ht, hs 16, ← EReal.coe_sub, ← EReal.coe_sub]
      have e : ∀ a b c : ℝ, Ideal.exp ((a + b - c : ℝ) : EReal) = Ideal.exp ((a - c : ℝ) : EReal) * Ideal.exp (b : EReal) := fun a b c => by
        rw [Ideal.exp_coe, Ideal.exp_coe, Ideal.exp_coe, ← EReal.coe_mul, ← Real.exp_add]
        refine congrArg (fun r : ℝ => (Real.exp r : EReal)) ?_
        ring
      rw [e]
      ac_rfl
    · rw [ht, ht, hp, hs 16, add_assoc n x 1, hs (x + 1), ← EReal.coe_sub, ← EReal.coe_sub, add_sub_add_left_eq_sub]
      exact mul_comm _ _
  · obtain rfl : g = fun _ => ⊥ := funext hb
    have ht : ∀ k, total (fun _ => (⊥ : EReal)) (k + 1) = ⊥ := fun k => sum_bot k
    have e : Ideal.exp ((⊥ : EReal) - ⊥) = 0 := by
      rw [sub_eq_add_neg, EReal.neg_bot, EReal.bot_add, Ideal.exp_bot]
    have e' : ∀ x : EReal, Ideal.exp (⊥ - x) = 0 := fun x => by
      rw [sub_eq_add_neg, EReal.bot_add, Ideal.exp_bot]
    rw [ht (n + 15), sum_bot 15, Ideal.exp_bot, mul_zero]
    refine congrArg₂ (· + ·) (Finset.sum_eq_zero fun s _ => ?_) (Finset.sum_congr rfl fun x _ => ?_)
    · rw [e', mul_zero, zero_mul]
    · rw [e', e', mul_zero, mul_zero, zero_mul]

/-- The sum of a block's marked gates: the rows of one sixteen-row block of 128, up to a row. -/
theorem marked_sum (g : ℕ → EReal) (j x : ℕ) (hj : j < 8) (hx : x < 16) :
    (∑ c : Fin 128, (if c.val / 16 = j ∧ c.val ≤ 16 * j + x then (1 : EReal) else 0) * g c.val) = ∑ y ∈ Finset.range (x + 1), g (16 * j + y) := by
  rw [Fin.sum_univ_eq_sum_range (fun c => (if c / 16 = j ∧ c ≤ 16 * j + x then (1 : EReal) else 0) * g c) 128]
  have e : ∀ c ∈ Finset.range 128, (if c / 16 = j ∧ c ≤ 16 * j + x then (1 : EReal) else 0) * g c
      = if 16 * j ≤ c ∧ c < 16 * j + (x + 1) then g c else 0 := fun c hc => by
    have : (c / 16 = j ∧ c ≤ 16 * j + x) ↔ (16 * j ≤ c ∧ c < 16 * j + (x + 1)) := by omega
    by_cases h : 16 * j ≤ c ∧ c < 16 * j + (x + 1)
    · rw [if_pos h, if_pos (this.mpr h), one_mul]
    · rw [if_neg h, if_neg (fun h' => h (this.mp h')), zero_mul]
  rw [Finset.sum_congr rfl e, ← Finset.sum_filter]
  have f : (Finset.range 128).filter (fun c => 16 * j ≤ c ∧ c < 16 * j + (x + 1)) = Finset.Ico (16 * j) (16 * j + (x + 1)) := by
    ext c
    simp only [Finset.mem_filter, Finset.mem_range, Finset.mem_Ico]
    omega
  rw [f, Finset.sum_Ico_eq_sum_range, Nat.add_sub_cancel_left]

/-- A gate's logarithm above a lower bound between zero and one is real. -/
theorem gate_real (l : ℝ) (h0 : 0 < l) (h1 : l ≤ 1) (z : EReal) :
    ∃ r : ℝ, Ideal.log ((l : EReal) + (1 - (l : EReal)) * Ideal.div 1 (1 + Ideal.exp (-z))) = (r : EReal) := by
  have hs : ∃ s : ℝ, 0 ≤ s ∧ Ideal.div 1 (1 + Ideal.exp (-z)) = (s : EReal) := by
    change ∃ s : ℝ, 0 ≤ s ∧ Ideal.logistic z = (s : EReal)
    induction z with
    | bot => exact ⟨0, le_rfl, Ideal.logistic_bot⟩
    | top => exact ⟨1, zero_le_one, Ideal.logistic_top⟩
    | coe r => exact ⟨_, by positivity, Ideal.logistic_coe r⟩
  obtain ⟨s, hs0, hs⟩ := hs
  have hp : ¬ (l + (1 - l) * s ≤ 0) := by nlinarith [mul_nonneg (sub_nonneg.mpr h1) hs0]
  refine ⟨Real.log (l + (1 - l) * s), ?_⟩
  rw [hs, show (1 : EReal) - (l : EReal) = ((1 - l : ℝ) : EReal) from by rw [EReal.coe_sub, EReal.coe_one], ← EReal.coe_mul, ← EReal.coe_add,
    Ideal.log_coe, if_neg hp]

/-- A gate's logarithm above a lower bound of minus infinity is minus infinity. -/
theorem gate_bot (y : EReal) : Ideal.log ((⊥ : EReal) + y) = ⊥ := by
  rw [EReal.bot_add, Ideal.log_bot]

/-- The first of two softmax entries, if its number is above minus infinity: between zero and one, or minus infinity where one of the
two numbers is plus infinity. -/
theorem softmax_first (a b : EReal) (ha : a ≠ ⊥) :
    (∃ l : ℝ, 0 < l ∧ l ≤ 1 ∧ Ideal.div (Ideal.exp (a - max a b)) (Ideal.exp (a - max a b) + Ideal.exp (b - max a b)) = (l : EReal))
      ∨ Ideal.div (Ideal.exp (a - max a b)) (Ideal.exp (a - max a b) + Ideal.exp (b - max a b)) = ⊥ := by
  have hz : Ideal.div 0 (0 + 0) = ⊥ := by
    rw [add_zero, Ideal.div, if_pos rfl, if_neg (lt_irrefl _)]
  have top : ∀ x : EReal, Ideal.exp (x - ⊤) = 0 := fun x => by
    rw [sub_eq_add_neg, EReal.neg_top, EReal.add_bot, Ideal.exp_bot]
  by_cases hm : max a b = ⊤
  · right
    rw [hm, top, top, hz]
  · left
    have ha' : a ≠ ⊤ := fun h => hm (by rw [h]; exact max_eq_left le_top)
    have hb' : b ≠ ⊤ := fun h => hm (by rw [h]; exact max_eq_right le_top)
    lift a to ℝ using ⟨ha', ha⟩
    have key : ∀ p q : ℝ, 0 < p → 0 ≤ q → ∃ l : ℝ, 0 < l ∧ l ≤ 1 ∧ Ideal.div (p : EReal) ((p : EReal) + (q : EReal)) = (l : EReal) := fun p q hp hq => by
      refine ⟨p * (1 / (p + q)), by positivity, ?_, ?_⟩
      · rw [mul_one_div, div_le_one (by positivity)]; linarith
      · rw [← EReal.coe_add, Ideal.div_coe (by positivity), ← EReal.coe_mul]
    induction b with
    | bot =>
      rw [max_eq_left bot_le, ← EReal.coe_sub, Ideal.exp_coe, sub_eq_add_neg (⊥ : EReal), EReal.bot_add, Ideal.exp_bot]
      exact key _ 0 (Real.exp_pos _) le_rfl
    | top => exact absurd rfl hb'
    | coe b =>
      rw [show max (a : EReal) (b : EReal) = ((max a b : ℝ) : EReal) from EReal.coe_strictMono.monotone.map_max.symm, ← EReal.coe_sub, ← EReal.coe_sub, Ideal.exp_coe,
        Ideal.exp_coe]
      exact key _ _ (Real.exp_pos _) (Real.exp_pos _).le

/-- The greatest of two numbers, as a fold. -/
theorem fold_two (w : EReal) (hw : w = ⊥) (f : Fin 2 → EReal) : Finset.fold max w f Finset.univ = max (f 0) (f 1) := by
  subst hw
  refine le_antisymm ((Finset.fold_max_le _).mpr ⟨bot_le, fun x _ => ?_⟩) (max_le ?_ ?_)
  · match x with
    | ⟨0, _⟩ => exact le_max_left _ _
    | ⟨1, _⟩ => exact le_max_right _ _
  · exact (Finset.le_fold_max _).mpr (Or.inr ⟨0, Finset.mem_univ _, le_rfl⟩)
  · exact (Finset.le_fold_max _).mpr (Or.inr ⟨1, Finset.mem_univ _, le_rfl⟩)

/-- A running sum down 8192 rows of heads' channels. -/
theorem rows_head_sum {u : Shape} (x : FVec Ideal ⟨3, ![8192, 16, 128]⟩ .f32) (init : u.Idx → Ideal .f32) (X : ℕ → EReal) (e : Fin 16) (l : Fin 128)
    (h : (⟨3, ![8192, 16, 128]⟩ : Shape).ReduceWindows ![8192, 1, 1] ![1, 1, 1] ![8191, 0, 0] ![0, 0, 0] ⟨3, ![8192, 16, 128]⟩) (hu : 0 < u.numel)
    (h0 : init (Shape.Idx.first hu) = (0 : EReal)) (r : Fin 8192) (hX : ∀ k : Fin 8192, x (ix3 k e l) = X k.val) :
    Host.reduceWindowAdd ![8192, 1, 1] ![1, 1, 1] ![8191, 0, 0] ![0, 0, 0] x init h hu (ix3 r e l) = ∑ k ∈ Finset.range (r.val + 1), X k := by
  rw [Cert.WindowSum.window_sum _ _ _ _ x init h hu h0]
  have step : ∀ w : (⟨3, ![8192, 1, 1]⟩ : Shape).Idx, (if hin : ∀ c : Fin 3, (![8191, 0, 0] : Fin 3 → ℕ) c ≤ (ix3 r e l (c.cast h.1.symm)).val * (![1, 1, 1] : Fin 3 → ℕ) c + (w c).val
        ∧ (ix3 r e l (c.cast h.1.symm)).val * (![1, 1, 1] : Fin 3 → ℕ) c + (w c).val - (![8191, 0, 0] : Fin 3 → ℕ) c < (![8192, 16, 128] : Fin 3 → ℕ) c
      then (show EReal from x (fun c => ⟨(ix3 r e l (c.cast h.1.symm)).val * (![1, 1, 1] : Fin 3 → ℕ) c + (w c).val - (![8191, 0, 0] : Fin 3 → ℕ) c, (hin c).2⟩)) else 0)
      = if 8191 ≤ r.val + (w 0).val then X (r.val + (w 0).val - 8191) else 0 := fun w => by
    have w0 : (w 0).val < 8192 := (w 0).isLt
    have w1 : (w 1).val < 1 := (w 1).isLt
    have w2 : (w 2).val < 1 := (w 2).isLt
    by_cases hc : 8191 ≤ r.val + (w 0).val
    · rw [if_pos hc, dif_pos ?_]
      · refine Eq.trans (congrArg x ?_) (hX ⟨r.val + (w 0).val - 8191, by omega⟩)
        funext c
        refine Fin.ext ?_
        match c with
        | ⟨0, _⟩ => show r.val * 1 + (w 0).val - 8191 = r.val + (w 0).val - 8191; omega
        | ⟨1, _⟩ => show e.val * 1 + (w 1).val - 0 = e.val; omega
        | ⟨2, _⟩ => show l.val * 1 + (w 2).val - 0 = l.val; omega
      · intro c
        match c with
        | ⟨0, _⟩ => show 8191 ≤ r.val * 1 + (w 0).val ∧ r.val * 1 + (w 0).val - 8191 < 8192; omega
        | ⟨1, _⟩ => show 0 ≤ e.val * 1 + (w 1).val ∧ e.val * 1 + (w 1).val - 0 < 16; omega
        | ⟨2, _⟩ => show 0 ≤ l.val * 1 + (w 2).val ∧ l.val * 1 + (w 2).val - 0 < 128; omega
    · rw [if_neg hc, dif_neg ?_]
      intro hin
      have : 8191 ≤ r.val * 1 + (w 0).val := (hin 0).1
      omega
  refine (Fintype.sum_congr _ _ step).trans ?_
  have re : ∀ g : Fin 8192 → EReal, ∑ w : (⟨3, ![8192, 1, 1]⟩ : Shape).Idx, g (w 0) = ∑ s : Fin 8192, g s := fun g => by
    refine Finset.sum_bij' (fun w _ => (w 0 : Fin 8192)) (fun s _ => ix3 s 0 0) (fun _ _ => Finset.mem_univ _)
      (fun _ _ => Finset.mem_univ _) (fun w _ => funext fun c => ?_) (fun s _ => rfl) (fun w _ => rfl)
    match c with
    | ⟨0, _⟩ => rfl
    | ⟨1, _⟩ => exact Subsingleton.elim (α := Fin 1) _ _
    | ⟨2, _⟩ => exact Subsingleton.elim (α := Fin 1) _ _
  refine (re fun s => if 8191 ≤ r.val + s.val then X (r.val + s.val - 8191) else 0).trans ?_
  rw [Fin.sum_univ_eq_sum_range (fun a => if 8191 ≤ r.val + a then X (r.val + a - 8191) else 0) 8192,
    ← Finset.sum_filter]
  refine Finset.sum_bij' (fun a _ => r.val + a - 8191) (fun k _ => k + 8191 - r.val) ?_ ?_ ?_ ?_ ?_
  all_goals
    intro a ha
    first
    | (simp only [Finset.mem_filter, Finset.mem_range] at ha ⊢; omega)
    | rfl

end Cert.PromptSums

end
-- ==== Proof.HgrnPromptHead.lean ====
module

public import proofs.«01_k».proof.Proof.Gen.KernelHgrnPromptIdeal.Skeleton
public import Idealize.ShloMosaic.Lib.Pipeline.ValueKit
public import proofs.«01_k».proof.Proof.HgrnSample
public import proofs.«01_k».proof.Proof.HgrnPromptSums

/-!
One head of the prompt's HGRN2 scan over 128 tokens. The body decays the state and adds to it block by block, sixteen tokens at
a time; it takes the running sums of the gates' logarithms inside the blocks by multiplying with a matrix of zeros and ones.
-/

@[expose] public section

set_option maxRecDepth 16384

noncomputable section

namespace Cert.KernelHgrnPromptIdeal.Body

open Idealize.ShloMosaic Idealize.ShloMosaic.TcCoe Idealize.SL.Sem
open Cert.KernelHgrnPromptIdeal Cert.KernelHgrnPromptIdeal.Gen
open Cert.KernelHgrnSampleIdeal.Body (soft gate key)
open Cert.PromptSums

/-- The state after one block of sixteen tokens, the block from row `o`: `b` holds the sums of the gates over each row's block, `kt` the
decayed keys and `vb` the values. -/
def blockStep (o : ℕ) (h16 : S128x128.Slices ![o, 0] S16x128) (h1 : S128x128.Slices ![o, 0] S1x128) (b : FVec Ideal S128x128 .f32)
    (kt vb : FVec Ideal S128x128 .bf16) (st : FVec Ideal S128x128 .f32) : FVec Ideal S128x128 .f32 :=
  addf (mulf st (broadcastTo S128x128 (exp (extractStridedSlice S1x128 ![o, 0] b h1)) broadcasts_S1x128_S128x128))
    (matmul dot_S16x128_S16x128_S128x128_0_0_1_1_n_n none (extractStridedSlice S16x128 ![o, 0] vb h16) (extractStridedSlice S16x128 ![o, 0] kt h16)
      (constant S128x128 .f32 0x00000000#32))

/-- The state after all eight blocks. -/
def eightBlocks (b : FVec Ideal S128x128 .f32) (kt vb : FVec Ideal S128x128 .bf16) (st : FVec Ideal S128x128 .f32) : FVec Ideal S128x128 .f32 :=
  blockStep 112 slices_S128x128_o112_0_S16x128 slices_S128x128_o112_0_S1x128 b kt vb
    (blockStep 96 slices_S128x128_o96_0_S16x128 slices_S128x128_o96_0_S1x128 b kt vb
    (blockStep 80 slices_S128x128_o80_0_S16x128 slices_S128x128_o80_0_S1x128 b kt vb
    (blockStep 64 slices_S128x128_o64_0_S16x128 slices_S128x128_o64_0_S1x128 b kt vb
    (blockStep 48 slices_S128x128_o48_0_S16x128 slices_S128x128_o48_0_S1x128 b kt vb
    (blockStep 32 slices_S128x128_o32_0_S16x128 slices_S128x128_o32_0_S1x128 b kt vb
    (blockStep 16 slices_S128x128_o16_0_S16x128 slices_S128x128_o16_0_S1x128 b kt vb
    (blockStep 0 slices_S128x128_o0_0_S16x128 slices_S128x128_o0_0_S1x128 b kt vb st)))))))

/-- What the body leaves of one head's state: the head's columns of the forget values, of the values, of the lower bound's parameter, and
its old state; `M` is the matrix of the running sums. -/
def headState (M : FVec Ideal S256x128 .f32) (f a : Vec Ideal S128x128 .f32) (l : Vec Ideal S2x128 .f32) (s : Vec Ideal S1x128x128 .f32) :
    Vec Ideal S1x128x128 .f32 :=
  k0_pay806 (eightBlocks (k0_pay23 M f (k0_pay5 l)) (k0_pay25 M f (k0_pay5 l)) (k0_pay26 a) (k0_pay7 s))

/-- The first head of a trip. -/
theorem headState_0 (M : FVec Ideal S256x128 .f32) (f a : Vec Ideal S128x128 .f32) (l : Vec Ideal S2x128 .f32) (s : Vec Ideal S1x128x128 .f32) :
    k0_pay806 (k0_pay38 (k0_pay29 (k0_pay25 M f (k0_pay5 l)) (k0_pay26 a)) (k0_pay36 (k0_pay7 s) (k0_pay23 M f (k0_pay5 l)) (k0_pay25 M f (k0_pay5 l)) (k0_pay26 a) (k0_pay27 M f a (k0_pay5 l)) (k0_pay28 M f a (k0_pay5 l))) (k0_pay37 (k0_pay23 M f (k0_pay5 l))))
      = headState M f a l s := rfl

/-- The second head is the same computation, cut into other pieces. -/
theorem headState_1 (M : FVec Ideal S256x128 .f32) (f a : Vec Ideal S128x128 .f32) (l : Vec Ideal S2x128 .f32) (s : Vec Ideal S1x128x128 .f32) :
    k0_pay808 (k0_pay232 (k0_pay216 M f (k0_pay8 l)) (k0_pay221 (k0_pay218 M f (k0_pay8 l)) (k0_pay219 a)) (k0_pay222 (k0_pay218 M f (k0_pay8 l)) (k0_pay219 a)) (k0_pay223 (k0_pay218 M f (k0_pay8 l)) (k0_pay219 a)) (k0_pay229 (k0_pay10 s) (k0_pay216 M f (k0_pay8 l)) (k0_pay218 M f (k0_pay8 l)) (k0_pay219 a) (k0_pay220 a)))
      = headState M f a l s := rfl

/-- So is the third. -/
theorem headState_2 (M : FVec Ideal S256x128 .f32) (f a : Vec Ideal S128x128 .f32) (l : Vec Ideal S2x128 .f32) (s : Vec Ideal S1x128x128 .f32)
    (L : FVec Ideal S1x128 .f32) (hL : L = k0_pay12 (k0_pay11 l)) :
    k0_pay810 (k0_pay431 (k0_pay415 M f L) (k0_pay419 a (k0_pay412 f L) (k0_pay414 M f L) (k0_pay415 M f L)) (k0_pay420 a (k0_pay412 f L) (k0_pay414 M f L) (k0_pay415 M f L)) (k0_pay421 a (k0_pay412 f L) (k0_pay414 M f L) (k0_pay415 M f L)) (k0_pay422 a (k0_pay412 f L) (k0_pay414 M f L) (k0_pay415 M f L)) (k0_pay426 a (k0_pay14 s) (k0_pay412 f L) (k0_pay414 M f L) (k0_pay415 M f L)) (k0_pay427 (k0_pay415 M f L)))
      = headState M f a l s := by
  subst hL
  rfl

/-- So is the fourth. -/
theorem headState_3 (M : FVec Ideal S256x128 .f32) (f a : Vec Ideal S128x128 .f32) (l : Vec Ideal S2x128 .f32) (s : Vec Ideal S1x128x128 .f32) :
    k0_pay812 (k0_pay630 (k0_pay614 M (k0_pay610 f (k0_pay15 l))) (k0_pay618 M a (k0_pay610 f (k0_pay15 l)) (k0_pay611 f (k0_pay15 l))) (k0_pay619 M a (k0_pay610 f (k0_pay15 l)) (k0_pay611 f (k0_pay15 l))) (k0_pay620 M a (k0_pay610 f (k0_pay15 l)) (k0_pay611 f (k0_pay15 l))) (k0_pay621 M a (k0_pay610 f (k0_pay15 l)) (k0_pay611 f (k0_pay15 l))) (k0_pay622 M a (k0_pay610 f (k0_pay15 l)) (k0_pay611 f (k0_pay15 l))) (k0_pay625 M a (k0_pay17 s) (k0_pay610 f (k0_pay15 l)) (k0_pay611 f (k0_pay15 l))))
      = headState M f a l s := rfl

/-- The matrix of the running sums. -/
def sums : FVec Ideal S256x128 .f32 :=
  k0_pay1 (iota Kind.tc S128x128 32 [0] iota_S128x128_d0_w32) (iota Kind.tc S128x128 32 [1] iota_S128x128_d1_w32) k0_pay829 16#32 k0_pay830 k0_pay831 k0_pay832

/-- A row's block. -/
theorem row_block : ∀ r : Fin 128, k0_pay829 (ix2 r 0) = BitVec.ofNat 32 (r.val / 16) := by decide +kernel

/-- The block of a column, as the body computes it. -/
def colBlock (y : S128x128.Idx) : BitVec 32 :=
  Scalar.select (IntOp.andi (IntOp.cmpi .ne (k0_pay831 y) (k0_pay832 y)) (IntOp.cmpi .ne (IntOp.remsi .vector (BitVec.ofNat 32 (y 1).val) 16#32) 0#32))
    (IntOp.subi (k0_pay830 y) 1#32) (k0_pay830 y)

/-- It is the column's number divided by sixteen. -/
theorem col_block : ∀ r : Fin 128, colBlock (ix2 0 r) = BitVec.ofNat 32 (r.val / 16) := by decide +kernel

/-- Comparing blocks. -/
theorem same_block : ∀ a b : Fin 8, IntOp.cmpi .eq (BitVec.ofNat 32 a.val) (BitVec.ofNat 32 b.val) = if a.val = b.val then 1#1 else 0#1 := by decide +kernel

/-- Comparing a column with a row. -/
theorem upto : ∀ a b : Fin 128, IntOp.cmpi .sle (BitVec.ofNat 32 a.val) (BitVec.ofNat 32 b.val) = if a.val ≤ b.val then 1#1 else 0#1 := by decide +kernel

/-- A row and a column lie in the same block. -/
theorem block_at (r c : Fin 128) : IntOp.cmpi .eq (k0_pay829 (ix2 r c)) (colBlock (ix2 r c)) = if r.val / 16 = c.val / 16 then 1#1 else 0#1 := by
  rw [show k0_pay829 (ix2 r c) = k0_pay829 (ix2 r 0) from rfl, show colBlock (ix2 r c) = colBlock (ix2 0 c) from rfl, row_block, col_block]
  exact same_block ⟨r.val / 16, by omega⟩ ⟨c.val / 16, by omega⟩

/-- The upper half of the matrix marks the rows of the same block up to the row. -/
theorem sums_upper (r k : Fin 128) (h : r.val < 256) : sums (ix2 ⟨r.val, h⟩ k) = if k.val / 16 = r.val / 16 ∧ k.val ≤ r.val then (1 : EReal) else 0 := by
  refine Eq.trans (b := Scalar.select (IntOp.andi (IntOp.cmpi .eq (k0_pay829 (ix2 r k)) (colBlock (ix2 r k))) (IntOp.cmpi .sle (BitVec.ofNat 32 k.val) (BitVec.ofNat 32 r.val))) (1 : EReal) 0) ?_ ?_
  · unfold colBlock
    pointwise [sums, k0_pay1]
  · rw [block_at, upto]
    by_cases h1 : r.val / 16 = k.val / 16 <;> by_cases h2 : k.val ≤ r.val
    · rw [if_pos h1, if_pos h2, if_pos ⟨h1.symm, h2⟩]; rfl
    · rw [if_pos h1, if_neg h2, if_neg (fun h => h2 h.2)]; rfl
    · rw [if_neg h1, if_pos h2, if_neg (fun h => h1 h.1.symm)]; rfl
    · rw [if_neg h1, if_neg h2, if_neg (fun h => h2 h.2)]; rfl

/-- Its lower half marks all rows of the same block. -/
theorem sums_lower (r k : Fin 128) (h : 128 + r.val < 256) : sums (ix2 ⟨128 + r.val, h⟩ k) = if k.val / 16 = r.val / 16 then (1 : EReal) else 0 := by
  refine Eq.trans (b := Scalar.select (IntOp.cmpi .eq (k0_pay829 (ix2 r k)) (colBlock (ix2 r k))) (1 : EReal) 0) ?_ ?_
  · unfold colBlock
    pointwise [sums, k0_pay1]
  · rw [block_at]
    by_cases h1 : r.val / 16 = k.val / 16
    · rw [if_pos h1, if_pos h1.symm]; rfl
    · rw [if_neg h1, if_neg (fun h => h1 h.symm)]; rfl

/-- The lower bound the body computes is the first entry of the softmax. -/
theorem low_at (l : Vec Ideal S2x128 .f32) (q : Fin 128) : k0_pay5 l (ix2 0 q) = soft (fun x => l (ix2 x q)) := by
  pointwise [k0_pay5]
  rfl

/-- The keys the body computes, entry by entry. -/
theorem key_at (f : Vec Ideal S128x128 .f32) (l : FVec Ideal S1x128 .f32) (r q : Fin 128) :
    k0_pay20 f l (ix2 r q) = key (l (ix2 0 q)) (f (ix2 r q)) := by
  pointwise [k0_pay20]
  unfold key
  rw [zero_sub, zero_sub]

/-- A product with the upper half of the matrix: the sum of the block's gates up to the row. -/
theorem upper_at (g : ℕ → EReal) (f : Vec Ideal S128x128 .f32) (l : FVec Ideal S1x128 .f32) (q : Fin 128)
    (hg : ∀ r : Fin 128, gate (l (ix2 0 q)) (f (ix2 r q)) = g r.val) (j x : ℕ) (hj : j < 8) (hx : x < 16) :
    k0_pay22 sums f l (ix2 ⟨16 * j + x, by omega⟩ q) = ∑ y ∈ Finset.range (x + 1), g (16 * j + y) := by
  refine Eq.trans (b := ∑ c : Fin 128, (show EReal from sums (ix2 ⟨16 * j + x, by omega⟩ c)) * gate (l (ix2 0 q)) (f (ix2 c q))) ?_ ?_
  · pointwise [k0_pay22, k0_pay21]
    refine Fin.sum_fin_congr fun c => ?_
    unfold gate
    rw [zero_sub]
  · rw [← marked_sum g j x hj hx]
    refine Fin.sum_fin_congr fun c => ?_
    rw [hg, sums_upper ⟨16 * j + x, by omega⟩ c (by show 16 * j + x < 256; omega)]
    refine congrArg (· * g c.val) ?_
    show (if c.val / 16 = (16 * j + x) / 16 ∧ c.val ≤ 16 * j + x then (1 : EReal) else 0) = _
    rw [show (16 * j + x) / 16 = j from by omega]

/-- A product with its lower half: the sum of all the block's gates. -/
theorem lower_at (g : ℕ → EReal) (f : Vec Ideal S128x128 .f32) (l : FVec Ideal S1x128 .f32) (q : Fin 128)
    (hg : ∀ r : Fin 128, gate (l (ix2 0 q)) (f (ix2 r q)) = g r.val) (j x : ℕ) (hj : j < 8) (hx : x < 16) :
    k0_pay23 sums f l (ix2 ⟨16 * j + x, by omega⟩ q) = ∑ y ∈ Finset.range 16, g (16 * j + y) := by
  refine Eq.trans (b := ∑ c : Fin 128, (show EReal from sums (ix2 ⟨128 + (16 * j + x), by omega⟩ c)) * gate (l (ix2 0 q)) (f (ix2 c q))) ?_ ?_
  · pointwise [k0_pay23, k0_pay21]
    refine Fin.sum_fin_congr fun c => ?_
    unfold gate
    rw [zero_sub]
  · rw [← marked_sum g j 15 hj (by omega)]
    refine Fin.sum_fin_congr fun c => ?_
    rw [hg, sums_lower ⟨16 * j + x, by omega⟩ c (by show 128 + (16 * j + x) < 256; omega)]
    refine congrArg (· * g c.val) ?_
    show (if c.val / 16 = (16 * j + x) / 16 then (1 : EReal) else 0) = _
    rw [show (16 * j + x) / 16 = j from by omega]
    refine if_congr ⟨fun h => ⟨h, by omega⟩, fun h => h.1⟩ rfl rfl

/-- One block's step, entry by entry. -/
theorem blockStep_at (o : ℕ) (ho : o ≤ 112) (h16 : S128x128.Slices ![o, 0] S16x128) (h1 : S128x128.Slices ![o, 0] S1x128) (b : FVec Ideal S128x128 .f32)
    (kt vb : FVec Ideal S128x128 .bf16) (st : FVec Ideal S128x128 .f32) (v k : Fin 128) :
    blockStep o h16 h1 b kt vb st (ix2 v k) = (show EReal from st (ix2 v k)) * Ideal.exp (b (ix2 ⟨o, by omega⟩ k))
      + ∑ x : Fin 16, (show EReal from vb (ix2 ⟨o + x.val, by omega⟩ v)) * kt (ix2 ⟨o + x.val, by omega⟩ k) := by
  pointwise [blockStep]

/-- One block's step over the sums that make a state. -/
theorem blockStep_state (g κ v : ℕ → EReal) (hu : Uniform g) (n j : ℕ) (hj : j < 8) (o : ℕ) (ho : o = 16 * j)
    (h16 : S128x128.Slices ![o, 0] S16x128) (h1 : S128x128.Slices ![o, 0] S1x128)
    (f a : Vec Ideal S128x128 .f32) (l : FVec Ideal S1x128 .f32) (st : FVec Ideal S128x128 .f32) (w q : Fin 128)
    (hg : ∀ r : Fin 128, gate (l (ix2 0 q)) (f (ix2 r q)) = g (n + r.val))
    (hk : ∀ r : Fin 128, key (l (ix2 0 q)) (f (ix2 r q)) = κ (n + r.val))
    (hv : ∀ r : Fin 128, a (ix2 r w) = v (n + r.val))
    (hs : st (ix2 w q) = state g κ v (n + 16 * j)) :
    blockStep o h16 h1 (k0_pay23 sums f l) (k0_pay25 sums f l) (k0_pay26 a) st (ix2 w q) = state g κ v (n + 16 * (j + 1)) := by
  subst ho
  rw [blockStep_at _ (by omega), show n + 16 * (j + 1) = (n + 16 * j) + 16 from by omega, state_step g κ v hu]
  have hb := fun x hx => lower_at (fun r => g (n + r)) f l q hg j x hj hx
  have ha := fun x hx => upper_at (fun r => g (n + r)) f l q hg j x hj hx
  simp only [← Nat.add_assoc] at hb ha
  refine Ideal.add_congr (Ideal.mul_congr hs (congrArg Ideal.exp (hb 0 (by omega)))) ?_
  rw [← Fin.sum_univ_eq_sum_range (fun x => v (n + 16 * j + x) * (κ (n + 16 * j + x) * Ideal.exp ((∑ y ∈ Finset.range 16, g (n + 16 * j + y)) - ∑ y ∈ Finset.range (x + 1), g (n + 16 * j + y)))) 16]
  refine Fin.sum_fin_congr fun x => ?_
  have e : k0_pay25 sums f l (ix2 ⟨16 * j + x.val, by omega⟩ q)
      = key (l (ix2 0 q)) (f (ix2 ⟨16 * j + x.val, by omega⟩ q)) * Ideal.exp ((k0_pay23 sums f l (ix2 ⟨16 * j + x.val, by omega⟩ q) : EReal) - k0_pay22 sums f l (ix2 ⟨16 * j + x.val, by omega⟩ q)) := by
    rw [← key_at]
    pointwise [k0_pay25]
  rw [e, hb x.val x.isLt, ha x.val x.isLt, hk]
  have e' : k0_pay26 a (ix2 ⟨16 * j + x.val, by omega⟩ w) = a (ix2 ⟨16 * j + x.val, by omega⟩ w) := by pointwise [k0_pay26]
  rw [e', hv]
  simp only [← Nat.add_assoc]

/-- What the body leaves of one head's state, entry by entry: the state 128 tokens later. -/
theorem headState_at (g κ v : ℕ → EReal) (hu : Uniform g) (n : ℕ) (f a : Vec Ideal S128x128 .f32) (l : Vec Ideal S2x128 .f32)
    (s : Vec Ideal S1x128x128 .f32) (w q : Fin 128)
    (hg : ∀ r : Fin 128, gate (soft fun x => l (ix2 x q)) (f (ix2 r q)) = g (n + r.val))
    (hk : ∀ r : Fin 128, key (soft fun x => l (ix2 x q)) (f (ix2 r q)) = κ (n + r.val))
    (hv : ∀ r : Fin 128, a (ix2 r w) = v (n + r.val))
    (hs : s (ix3 0 w q) = state g κ v n) : headState sums f a l s (ix3 0 w q) = state g κ v (n + 128) := by
  rw [← low_at] at hg hk
  have h0 : k0_pay7 s (ix2 w q) = state g κ v (n + 16 * 0) := Eq.trans (by pointwise [k0_pay7]) hs
  have step := fun j hj o ho h16 h1 st => blockStep_state g κ v hu n j hj o ho h16 h1 f a (k0_pay5 l) st w q hg hk hv
  refine Eq.trans (b := eightBlocks (k0_pay23 sums f (k0_pay5 l)) (k0_pay25 sums f (k0_pay5 l)) (k0_pay26 a) (k0_pay7 s) (ix2 w q)) (by unfold headState; pointwise [k0_pay806]) ?_
  unfold eightBlocks
  exact step 7 (by omega) _ rfl _ _ _ (step 6 (by omega) _ rfl _ _ _ (step 5 (by omega) _ rfl _ _ _ (step 4 (by omega) _ rfl _ _ _
    (step 3 (by omega) _ rfl _ _ _ (step 2 (by omega) _ rfl _ _ _ (step 1 (by omega) _ rfl _ _ _ (step 0 (by omega) _ rfl _ _ _ h0)))))))

end Cert.KernelHgrnPromptIdeal.Body

end
-- ==== Proof.HgrnPromptLoop.lean ====
module

public import proofs.«01_k».proof.Proof.Gen.KernelHgrnPromptIdeal.Loops
public import Idealize.ShloMosaic.Lib.WritesUnit
public import proofs.«01_k».proof.Proof.HgrnPromptHead

/-!
The body's loop over the heads of the prompt's HGRN2 scan: four heads per trip, each trip storing its four heads' new states.
-/

@[expose] public section

set_option maxRecDepth 16384

noncomputable section

namespace Cert.KernelHgrnPromptIdeal.Body

open Idealize.ShloMosaic Idealize.ShloMosaic.TcCoe Idealize.SL.Sem
open Cert.KernelHgrnPromptIdeal Cert.KernelHgrnPromptIdeal.Gen

/-- The columns of head `h` of an array of all heads' columns. -/
def columns {n : ℕ} (x : Vec Ideal ⟨2, ![n, 2048]⟩ .f32) (h : Fin 16) : Vec Ideal ⟨2, ![n, 128]⟩ .f32 :=
  fun y => x (ix2 (y 0) ⟨h.val * 128 + (y 1).val, by have : (y 1).val < 128 := (y 1).isLt; omega⟩)

/-- Head `h` of the states. -/
def ofHead (x : Vec Ideal S16x128x128 .f32) (h : Fin 16) : Vec Ideal S1x128x128 .f32 :=
  fun y => x (ix3 h (y 1) (y 2))

/-- The head the body works on in trip `k`, place `j`. -/
def headAt (k : Fin k0_t1_loop.trips) (j : Fin 4) : Fin 16 := ⟨4 * k.val + j.val, by have : k.val < 4 := k.isLt; omega⟩

/-- Where a trip's loads of the columns start. -/
theorem off1 : ∀ (k : Fin k0_t1_loop.trips) (j : Fin 4), k0_off1 k (BitVec.ofNat 32 j.val) = ![0, (4 * k.val + j.val) * 128] := by decide +kernel
/-- Where its loads of the lower bound's parameter start. -/
theorem off2 : ∀ (k : Fin k0_t1_loop.trips) (j : Fin 4), k0_off2 k (BitVec.ofNat 32 j.val) = ![0, (4 * k.val + j.val) * 128] := by decide +kernel
/-- Where its loads and stores of the states start. -/
theorem off4 : ∀ (k : Fin k0_t1_loop.trips) (j : Fin 4), k0_off4 k (BitVec.ofNat 32 j.val) = ![4 * k.val + j.val, 0, 0] := by decide +kernel

/-- All heads' states after the body. -/
def allHeads (M : FVec Ideal S256x128 .f32) (x1 x2 : Vec Ideal S128x2048 .f32) (x4 : Vec Ideal S2x2048 .f32)
    (s : Vec Ideal S16x128x128 .f32) : Vec Ideal S16x128x128 .f32 :=
  fun y => headState M (columns x1 (y 0)) (columns x2 (y 0)) (columns x4 (y 0)) (ofHead s (y 0)) (ix3 0 (y 1) (y 2))

/-- A load of a head's columns reads the columns of that head. -/
theorem load_columns (arg : Memref sig .tc .vmem S128x2048 .f32) (harg : arg.IsWhole) (x : Vec Ideal S128x2048 .f32)
    (k : Fin k0_t1_loop.trips) (j : Fin 4) (inb) :
    View.readAt (Elt Ideal) arg.view (Rect.unit (s := S128x2048) (k0_off1 k (BitVec.ofNat 32 j.val)) S128x128.size inb).toLoadRect (harg.unread x)
      = columns x (headAt k j) := by
  funext y
  show arg.view.read (Elt Ideal) (harg.unread x) _ = _
  rw [harg.read_unread]
  refine congrArg x (funext fun a => Fin.ext ?_)
  have h := congrFun (off1 k j)
  match a with
  | ⟨0, _⟩ => show k0_off1 k (BitVec.ofNat 32 j.val) 0 + 1 * (y 0).val = (y 0).val; rw [h 0]; show 0 + 1 * (y 0).val = (y 0).val; omega
  | ⟨1, _⟩ => show k0_off1 k (BitVec.ofNat 32 j.val) 1 + 1 * (y 1).val = (4 * k.val + j.val) * 128 + (y 1).val; rw [h 1]; show (4 * k.val + j.val) * 128 + 1 * (y 1).val = _; omega

/-- A load of the lower bound's parameter reads the columns of that head. -/
theorem load_bound (arg : Memref sig .tc .vmem S2x2048 .f32) (harg : arg.IsWhole) (x : Vec Ideal S2x2048 .f32)
    (k : Fin k0_t1_loop.trips) (j : Fin 4) (inb) :
    View.readAt (Elt Ideal) arg.view (Rect.unit (s := S2x2048) (k0_off2 k (BitVec.ofNat 32 j.val)) S2x128.size inb).toLoadRect (harg.unread x)
      = columns x (headAt k j) := by
  funext y
  show arg.view.read (Elt Ideal) (harg.unread x) _ = _
  rw [harg.read_unread]
  refine congrArg x (funext fun a => Fin.ext ?_)
  have h := congrFun (off2 k j)
  match a with
  | ⟨0, _⟩ => show k0_off2 k (BitVec.ofNat 32 j.val) 0 + 1 * (y 0).val = (y 0).val; rw [h 0]; show 0 + 1 * (y 0).val = (y 0).val; omega
  | ⟨1, _⟩ => show k0_off2 k (BitVec.ofNat 32 j.val) 1 + 1 * (y 1).val = (4 * k.val + j.val) * 128 + (y 1).val; rw [h 1]; show (4 * k.val + j.val) * 128 + 1 * (y 1).val = _; omega

/-- A load of a state reads the state of that head. -/
theorem load_state (arg : Memref sig .tc .vmem S16x128x128 .f32) (f : BufTy.Contents (Elt Ideal) arg.view.ty)
    (k : Fin k0_t1_loop.trips) (j : Fin 4) (inb) :
    View.readAt (Elt Ideal) arg.view (Rect.unit (s := S16x128x128) (k0_off4 k (BitVec.ofNat 32 j.val)) S1x128x128.size inb).toLoadRect f
      = ofHead (arg.view.read (Elt Ideal) f) (headAt k j) := by
  funext y
  show arg.view.read (Elt Ideal) f _ = _
  refine congrArg (arg.view.read (Elt Ideal) f) (funext fun a => Fin.ext ?_)
  have h := congrFun (off4 k j)
  have h0 : (y 0).val < 1 := (y 0).isLt
  match a with
  | ⟨0, _⟩ => show k0_off4 k (BitVec.ofNat 32 j.val) 0 + 1 * (y 0).val = 4 * k.val + j.val; rw [h 0]; show 4 * k.val + j.val + 1 * (y 0).val = _; omega
  | ⟨1, _⟩ => show k0_off4 k (BitVec.ofNat 32 j.val) 1 + 1 * (y 1).val = (y 1).val; rw [h 1]; show 0 + 1 * (y 1).val = (y 1).val; omega
  | ⟨2, _⟩ => show k0_off4 k (BitVec.ofNat 32 j.val) 2 + 1 * (y 2).val = (y 2).val; rw [h 2]; show 0 + 1 * (y 2).val = (y 2).val; omega

/-- A head's new state over the values the trip loads. -/
def newHead (M : FVec Ideal S256x128 .f32) (arg2 : Memref sig .tc .vmem S128x2048 .f32) (harg2 : arg2.IsWhole) (x1 : Vec Ideal S128x2048 .f32)
    (arg3 : Memref sig .tc .vmem S128x2048 .f32) (harg3 : arg3.IsWhole) (x2 : Vec Ideal S128x2048 .f32)
    (arg5 : Memref sig .tc .vmem S2x2048 .f32) (harg5 : arg5.IsWhole) (x4 : Vec Ideal S2x2048 .f32)
    (arg9 : Memref sig .tc .vmem S16x128x128 .f32) (f9 : BufTy.Contents (Elt Ideal) arg9.view.ty) (k : Fin k0_t1_loop.trips) (j : Fin 4) :
    Vec Ideal S1x128x128 .f32 :=
  headState M
    (View.readAt (Elt Ideal) arg2.view (Rect.unit (s := S128x2048) (k0_off1 k (BitVec.ofNat 32 j.val)) S128x128.size (k0_off1_inb k j)).toLoadRect (harg2.unread x1))
    (View.readAt (Elt Ideal) arg3.view (Rect.unit (s := S128x2048) (k0_off1 k (BitVec.ofNat 32 j.val)) S128x128.size (k0_off1_inb k j)).toLoadRect (harg3.unread x2))
    (View.readAt (Elt Ideal) arg5.view (Rect.unit (s := S2x2048) (k0_off2 k (BitVec.ofNat 32 j.val)) S2x128.size (k0_off2_inb k j)).toLoadRect (harg5.unread x4))
    (View.readAt (Elt Ideal) arg9.view (Rect.unit (s := S16x128x128) (k0_off4 k (BitVec.ofNat 32 j.val)) S1x128x128.size (k0_off4_inb k j)).toLoadRect f9)

/-- It is that head's part of all heads' new states. -/
theorem newHead_at (M : FVec Ideal S256x128 .f32) (arg2 : Memref sig .tc .vmem S128x2048 .f32) (harg2 : arg2.IsWhole) (x1 : Vec Ideal S128x2048 .f32)
    (arg3 : Memref sig .tc .vmem S128x2048 .f32) (harg3 : arg3.IsWhole) (x2 : Vec Ideal S128x2048 .f32)
    (arg5 : Memref sig .tc .vmem S2x2048 .f32) (harg5 : arg5.IsWhole) (x4 : Vec Ideal S2x2048 .f32)
    (arg9 : Memref sig .tc .vmem S16x128x128 .f32) (f9 : BufTy.Contents (Elt Ideal) arg9.view.ty) (k : Fin k0_t1_loop.trips) (j : Fin 4)
    (y : S16x128x128.Idx) (hy : (y 0).val = 4 * k.val + j.val) :
    newHead M arg2 harg2 x1 arg3 harg3 x2 arg5 harg5 x4 arg9 f9 k j (ix3 0 (y 1) (y 2)) = allHeads M x1 x2 x4 (arg9.view.read (Elt Ideal) f9) y := by
  have e : (y 0 : Fin 16) = headAt k j := Fin.ext hy
  unfold newHead allHeads
  rw [load_columns, load_columns, load_bound, load_state, e]

variable (c : Dev nD) (i : grid0.Coords)
  (arg1 : Memref sig .tc .vmem S128x2048 .f32) (harg1 : arg1.IsWhole) (arg2 : Memref sig .tc .vmem S128x2048 .f32) (harg2 : arg2.IsWhole)
  (arg3 : Memref sig .tc .vmem S128x2048 .f32) (harg3 : arg3.IsWhole) (arg4 : Memref sig .tc .vmem S128x2048 .f32) (harg4 : arg4.IsWhole)
  (arg5 : Memref sig .tc .vmem S2x2048 .f32) (harg5 : arg5.IsWhole) (arg6 : Memref sig .tc .vmem S1x2048 .f32) (harg6 : arg6.IsWhole)
  (arg7 : Memref sig .tc .vmem S128x2048 .bf16) (harg7 : arg7.IsWhole) (arg8 : Memref sig .tc .vmem S16x128x128 .f32) (harg8 : arg8.IsWhole)
  (arg9 : Memref sig .tc .vmem S16x128x128 .f32) (harg9 : arg9.IsWhole)
  (v3 v4 v28 : IVec S128x128 32) (c16 : BitVec 32) (v30 v37 v43 : IVec S128x128 32)
  (x0 x1 x2 x3 : Vec Ideal S128x2048 .f32) (x4 : Vec Ideal S2x2048 .f32) (x5 : Vec Ideal S1x2048 .f32)

/-- A trip's stores of states: its four heads', the last first. -/
theorem trip_pieces (k : Fin k0_t1_loop.trips) (f7 : BufTy.Contents (Elt Ideal) arg7.view.ty) (f9 : BufTy.Contents (Elt Ideal) arg9.view.ty) :
    (tripL_k0_t1 (F := Ideal) Variants.none c none i arg1 harg1 arg2 harg2 arg3 harg3 arg4 harg4 arg5 harg5 arg6 harg6 arg7 harg7 arg8 harg8 arg9 harg9 v3 v4 v28 c16 v30 v37 v43 (harg1.unread x0) (harg2.unread x1) (harg3.unread x2) (harg4.unread x3) (harg5.unread x4) (harg6.unread x5) k f7 f9).2
      = [(⟨Rect.unit (s := S16x128x128) (k0_off4 k (BitVec.ofNat 32 (3 : Fin 4).val)) S1x128x128.size (k0_off4_inb k 3), newHead (k0_pay1 v3 v4 v28 c16 v30 v37 v43) arg2 harg2 x1 arg3 harg3 x2 arg5 harg5 x4 arg9 f9 k 3⟩ : View.Piece (Elt Ideal) S16x128x128 .f32),
         (⟨Rect.unit (s := S16x128x128) (k0_off4 k (BitVec.ofNat 32 (2 : Fin 4).val)) S1x128x128.size (k0_off4_inb k 2), newHead (k0_pay1 v3 v4 v28 c16 v30 v37 v43) arg2 harg2 x1 arg3 harg3 x2 arg5 harg5 x4 arg9 f9 k 2⟩ : View.Piece (Elt Ideal) S16x128x128 .f32),
         (⟨Rect.unit (s := S16x128x128) (k0_off4 k (BitVec.ofNat 32 (1 : Fin 4).val)) S1x128x128.size (k0_off4_inb k 1), newHead (k0_pay1 v3 v4 v28 c16 v30 v37 v43) arg2 harg2 x1 arg3 harg3 x2 arg5 harg5 x4 arg9 f9 k 1⟩ : View.Piece (Elt Ideal) S16x128x128 .f32),
         (⟨Rect.unit (s := S16x128x128) (k0_off4 k (BitVec.ofNat 32 (0 : Fin 4).val)) S1x128x128.size (k0_off4_inb k 0), newHead (k0_pay1 v3 v4 v28 c16 v30 v37 v43) arg2 harg2 x1 arg3 harg3 x2 arg5 harg5 x4 arg9 f9 k 0⟩ : View.Piece (Elt Ideal) S16x128x128 .f32)] := by
  unfold tripL_k0_t1 trip_k0_t1
  rfl

/-- What the states are after a trip: its four heads' are new, the others are as they were. -/
theorem trip_read (k : Fin k0_t1_loop.trips) (f7 : BufTy.Contents (Elt Ideal) arg7.view.ty) (f9 : BufTy.Contents (Elt Ideal) arg9.view.ty) (y : S16x128x128.Idx) :
    arg9.view.read (Elt Ideal) (arg9.view.writes (Elt Ideal) f9 (tripL_k0_t1 (F := Ideal) Variants.none c none i arg1 harg1 arg2 harg2 arg3 harg3 arg4 harg4 arg5 harg5 arg6 harg6 arg7 harg7 arg8 harg8 arg9 harg9 v3 v4 v28 c16 v30 v37 v43 (harg1.unread x0) (harg2.unread x1) (harg3.unread x2) (harg4.unread x3) (harg5.unread x4) (harg6.unread x5) k f7 f9).2) y
      = if 4 * k.val ≤ (y 0).val ∧ (y 0).val < 4 * k.val + 4 then allHeads (k0_pay1 v3 v4 v28 c16 v30 v37 v43) x1 x2 x4 (arg9.view.read (Elt Ideal) f9) y
        else arg9.view.read (Elt Ideal) f9 y := by
  rw [trip_pieces]
  have hx : ∀ j : Fin 4, (y 0).val = 4 * k.val + j.val → ∀ a, (y a).val = (![4 * k.val + j.val, 0, 0] : Fin 3 → ℕ) a + ((ix3 0 (y 1) (y 2) : S1x128x128.Idx) a).val := fun j hj a => by
    match a with
    | ⟨0, _⟩ => exact hj
    | ⟨1, _⟩ => show (y 1).val = 0 + (y 1).val; omega
    | ⟨2, _⟩ => show (y 2).val = 0 + (y 2).val; omega
  have hn : ∀ j : Fin 4, (y 0).val ≠ 4 * k.val + j.val → (y 0).val < (![4 * k.val + j.val, 0, 0] : Fin 3 → ℕ) 0 ∨ (![4 * k.val + j.val, 0, 0] : Fin 3 → ℕ) 0 + S1x128x128.size 0 ≤ (y 0).val := fun j hj => by
    show (y 0).val < 4 * k.val + j.val ∨ 4 * k.val + j.val + 1 ≤ (y 0).val
    omega
  by_cases h3 : (y 0).val = 4 * k.val + (3 : Fin 4).val
  · rw [if_pos (by rw [h3]; exact ⟨Nat.le_add_right _ _, Nat.add_lt_add_left (Fin.isLt _) _⟩)]
    exact (View.read_writes_cons_unit_of_mem arg9.view f9 (k0_off4_inb k 3) _ _ y (ix3 0 (y 1) (y 2)) (off4 k 3) (hx 3 h3)).trans
      (newHead_at _ arg2 harg2 x1 arg3 harg3 x2 arg5 harg5 x4 arg9 f9 k 3 y h3)
  refine (View.read_writes_cons_unit_of_not_mem arg9.view f9 (k0_off4_inb k 3) _ _ y (off4 k 3) 0 (hn 3 h3)).trans ?_
  by_cases h2 : (y 0).val = 4 * k.val + (2 : Fin 4).val
  · rw [if_pos (by rw [h2]; exact ⟨Nat.le_add_right _ _, Nat.add_lt_add_left (Fin.isLt _) _⟩)]
    exact (View.read_writes_cons_unit_of_mem arg9.view f9 (k0_off4_inb k 2) _ _ y (ix3 0 (y 1) (y 2)) (off4 k 2) (hx 2 h2)).trans
      (newHead_at _ arg2 harg2 x1 arg3 harg3 x2 arg5 harg5 x4 arg9 f9 k 2 y h2)
  refine (View.read_writes_cons_unit_of_not_mem arg9.view f9 (k0_off4_inb k 2) _ _ y (off4 k 2) 0 (hn 2 h2)).trans ?_
  by_cases h1 : (y 0).val = 4 * k.val + (1 : Fin 4).val
  · rw [if_pos (by rw [h1]; exact ⟨Nat.le_add_right _ _, Nat.add_lt_add_left (Fin.isLt _) _⟩)]
    exact (View.read_writes_cons_unit_of_mem arg9.view f9 (k0_off4_inb k 1) _ _ y (ix3 0 (y 1) (y 2)) (off4 k 1) (hx 1 h1)).trans
      (newHead_at _ arg2 harg2 x1 arg3 harg3 x2 arg5 harg5 x4 arg9 f9 k 1 y h1)
  refine (View.read_writes_cons_unit_of_not_mem arg9.view f9 (k0_off4_inb k 1) _ _ y (off4 k 1) 0 (hn 1 h1)).trans ?_
  by_cases h0 : (y 0).val = 4 * k.val + (0 : Fin 4).val
  · rw [if_pos (by rw [h0]; exact ⟨Nat.le_add_right _ _, Nat.add_lt_add_left (Fin.isLt _) _⟩)]
    exact (View.read_writes_cons_unit_of_mem arg9.view f9 (k0_off4_inb k 0) _ _ y (ix3 0 (y 1) (y 2)) (off4 k 0) (hx 0 h0)).trans
      (newHead_at _ arg2 harg2 x1 arg3 harg3 x2 arg5 harg5 x4 arg9 f9 k 0 y h0)
  refine (View.read_writes_cons_unit_of_not_mem arg9.view f9 (k0_off4_inb k 0) _ _ y (off4 k 0) 0 (hn 0 h0)).trans ?_
  rw [View.writes_nil, if_neg]
  intro h
  have g3 : (y 0).val ≠ 4 * k.val + 3 := h3
  have g2 : (y 0).val ≠ 4 * k.val + 2 := h2
  have g1 : (y 0).val ≠ 4 * k.val + 1 := h1
  have g0 : (y 0).val ≠ 4 * k.val + 0 := h0
  omega

/-- What the states are before a trip: the heads of the trips before it are new, the others as they were. -/
theorem trips_read (g7 : BufTy.Contents (Elt Ideal) arg7.view.ty) (g9 : BufTy.Contents (Elt Ideal) arg9.view.ty) :
    ∀ n : ℕ, n ≤ k0_t1_loop.trips → ∀ y : S16x128x128.Idx,
      arg9.view.read (Elt Ideal) (arg9.view.writes (Elt Ideal) g9 (pb_k0_t1 (F := Ideal) Variants.none c none i arg1 harg1 arg2 harg2 arg3 harg3 arg4 harg4 arg5 harg5 arg6 harg6 arg7 harg7 arg8 harg8 arg9 harg9 v3 v4 v28 c16 v30 v37 v43 (harg1.unread x0) (harg2.unread x1) (harg3.unread x2) (harg4.unread x3) (harg5.unread x4) (harg6.unread x5) g7 g9 n).2) y
        = if (y 0).val < 4 * n then allHeads (k0_pay1 v3 v4 v28 c16 v30 v37 v43) x1 x2 x4 (arg9.view.read (Elt Ideal) g9) y else arg9.view.read (Elt Ideal) g9 y
  | 0, _, y => by
    rw [if_neg (by omega)]
    rfl
  | n + 1, hn, y => by
    have ih := trips_read g7 g9 n (Nat.le_of_succ_le hn)
    rw [pb_k0_t1_succ (F := Ideal) Variants.none c none i arg1 harg1 arg2 harg2 arg3 harg3 arg4 harg4 arg5 harg5 arg6 harg6 arg7 harg7 arg8 harg8 arg9 harg9 v3 v4 v28 c16 v30 v37 v43 (harg1.unread x0) (harg2.unread x1) (harg3.unread x2) (harg4.unread x3) (harg5.unread x4) (harg6.unread x5) g7 g9 ⟨n, hn⟩, View.writes_append, trip_read]
    show (if 4 * n ≤ (y 0).val ∧ (y 0).val < 4 * n + 4 then _ else _) = _
    by_cases h : 4 * n ≤ (y 0).val ∧ (y 0).val < 4 * n + 4
    · rw [if_pos h, if_pos (by omega)]
      unfold allHeads
      refine congrArg (fun s => headState _ _ _ _ s (ix3 0 (y 1) (y 2))) (funext fun z => ?_)
      exact (ih (ix3 (y 0) (z 1) (z 2))).trans (if_neg (by show ¬ (y 0).val < 4 * n; omega))
    · rw [if_neg h, ih y]
      by_cases h' : (y 0).val < 4 * n
      · rw [if_pos h', if_pos (by omega)]
      · rw [if_neg h', if_neg (by omega)]

/-- What the states are after the loop. -/
theorem loop_read (g7 : BufTy.Contents (Elt Ideal) arg7.view.ty) (g9 : BufTy.Contents (Elt Ideal) arg9.view.ty) :
    arg9.view.read (Elt Ideal) (arg9.view.writes (Elt Ideal) g9 (pb_k0_t1 (F := Ideal) Variants.none c none i arg1 harg1 arg2 harg2 arg3 harg3 arg4 harg4 arg5 harg5 arg6 harg6 arg7 harg7 arg8 harg8 arg9 harg9 v3 v4 v28 c16 v30 v37 v43 (harg1.unread x0) (harg2.unread x1) (harg3.unread x2) (harg4.unread x3) (harg5.unread x4) (harg6.unread x5) g7 g9 k0_t1_loop.trips).2)
      = allHeads (k0_pay1 v3 v4 v28 c16 v30 v37 v43) x1 x2 x4 (arg9.view.read (Elt Ideal) g9) := by
  funext y
  rw [trips_read c i arg1 harg1 arg2 harg2 arg3 harg3 arg4 harg4 arg5 harg5 arg6 harg6 arg7 harg7 arg8 harg8 arg9 harg9 v3 v4 v28 c16 v30 v37 v43 x0 x1 x2 x3 x4 x5 g7 g9 k0_t1_loop.trips le_rfl y, if_pos]
  have : (y 0).val < 16 := (y 0).isLt
  show (y 0).val < 4 * 4
  omega

end Cert.KernelHgrnPromptIdeal.Body

end
-- ==== Proof.HgrnPromptRun.lean ====
module

public import proofs.«01_k».proof.Proof.Gen.KernelHgrnPromptIdeal.Frame
public import proofs.«01_k».proof.Proof.Gen.KernelHgrnPromptIdeal.Loops
public import proofs.«01_k».proof.Proof.Gen.KernelHgrnPromptIdeal.Skeleton
public import Idealize.ShloMosaic.Lib.Pipeline.FrameBody
public import Idealize.ShloMosaic.Lib.Tactic
public import Idealize.ShloMosaic.Lib.WordCmp
public import Idealize.ShloMosaic.Lib.WritesUnit
public import proofs.«01_k».proof.Proof.HgrnPromptLoop

/-!
The body of the prompt's HGRN2 scan: what it leaves of the carried states at each point, and in the output at the last.
-/

@[expose] public section

set_option maxRecDepth 16384

noncomputable section

namespace Cert.KernelHgrnPromptIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelHgrnPromptIdeal Cert.KernelHgrnPromptIdeal.Gen

local notation "𝕄" => MT nD τ sig Unit (Elt Ideal) ℕ (UR sig nD τ) ℕ

variable (m : (ℓ : Loc nD τ sig) → Buf (Elt Ideal) ℓ) (ρ : Dev nD → PrngReg)

/-- The body's first branch is taken: the point is the first. -/
abbrev atFirst (i : grid0.Coords) : Prop := (Scalar.cmpi .ne (Scalar.extui (Scalar.cmpi .eq (BitVec.ofNat 32 (i 0).val) 0#32)) 0#32) = 1#1

/-- The body's second branch is taken: the point is the last. -/
abbrev atLast (i : grid0.Coords) : Prop := k0_cond2 i = 1#1

/-- Window 0's staging buffer at a point. -/
abbrev buf0 (t : Fin cfg0.N) : Memref sig .tc .vmem S128x2048 .f32 := win0_0.stage (cfg0.slots t 0)
/-- Window 1's staging buffer at a point. -/
abbrev buf1 (t : Fin cfg0.N) : Memref sig .tc .vmem S128x2048 .f32 := win0_1.stage (cfg0.slots t 1)
/-- Window 2's staging buffer at a point. -/
abbrev buf2 (t : Fin cfg0.N) : Memref sig .tc .vmem S128x2048 .f32 := win0_2.stage (cfg0.slots t 2)
/-- Window 3's staging buffer at a point. -/
abbrev buf3 (t : Fin cfg0.N) : Memref sig .tc .vmem S128x2048 .f32 := win0_3.stage (cfg0.slots t 3)
/-- Window 4's staging buffer at a point. -/
abbrev buf4 (t : Fin cfg0.N) : Memref sig .tc .vmem S2x2048 .f32 := win0_4.stage (cfg0.slots t 4)
/-- Window 5's staging buffer at a point. -/
abbrev buf5 (t : Fin cfg0.N) : Memref sig .tc .vmem S1x2048 .f32 := win0_5.stage (cfg0.slots t 5)
/-- Window 6's staging buffer at a point. -/
abbrev buf6 (t : Fin cfg0.N) : Memref sig .tc .vmem S128x2048 .bf16 := win0_6.stage (cfg0.slots t 6)
/-- Window 7's staging buffer at a point. -/
abbrev buf7 (t : Fin cfg0.N) : Memref sig .tc .vmem S16x128x128 .f32 := win0_7.stage (cfg0.slots t 7)

/-- The buffer the kernel carries the states in from point to point. -/
abbrev stateBuf : Memref sig .tc .vmem S16x128x128 .f32 := Memref.whole cc0_scratch0

/-- Besides the windows the region owns the state buffer and the generator register. -/
theorem rest_eq (c : Dev nD) :
    (Pipeline.ΦA spec0 c : sProp 𝕄) = iprop((∃ d, owns (c : Thread nD τ) stateBuf fullShare d) ∗ (∃ r, prngReg c r)) := by
  unfold Pipeline.ΦA; rw [scopedRest0_eq]; simp only [stateBuf, owns_whole]; try rfl

/-- Each head's state turned over: the value index and the key index change places. -/
def turned (s : Vec Ideal S16x128x128 .f32) : Vec Ideal S16x128x128 .f32 := fun y => s (ix3 (y 0) (y 2) (y 1))

/-- After a store of zeros over the whole buffer it reads zeros. -/
theorem read_whole (arg9 : Memref sig .tc .vmem S16x128x128 .f32) (f : BufTy.Contents (Elt Ideal) arg9.view.ty) :
    arg9.view.read (Elt Ideal) (arg9.view.writes (Elt Ideal) f [⟨Rect.unit (s := S16x128x128) ![0, 0, 0] S16x128x128.size inb_S16x128x128_S16x128x128_0_0_0, k0_pay828 (F := Ideal)⟩]) = k0_pay828 (F := Ideal) := by
  funext y
  exact View.read_writes_cons_unit_of_mem arg9.view f inb_S16x128x128_S16x128x128_0_0_0 _ _ y y rfl fun a => by
    match a with
    | ⟨0, _⟩ => show (y 0).val = 0 + (y 0).val; omega
    | ⟨1, _⟩ => show (y 1).val = 0 + (y 1).val; omega
    | ⟨2, _⟩ => show (y 2).val = 0 + (y 2).val; omega

/-- A head's stored state at an index: the state with the indices changed over. -/
theorem turn_at (v : Vec Ideal S1x128x128 .f32) (x : S1x128x128.Idx) : k0_pay813 v x = v (ix3 0 (x 2) (x 1)) := by
  idx_vars x
  pointwise [k0_pay813]

/-- One of the last point's stores is its part of the states turned over. -/
theorem stored (arg9 : Memref sig .tc .vmem S16x128x128 .f32) (f9 : BufTy.Contents (Elt Ideal) arg9.view.ty) (h : ℕ)
    (inb : ∀ a, (![h, 0, 0] : Fin 3 → ℕ) a + S1x128x128.size a ≤ S16x128x128.size a) (x : S1x128x128.Idx) :
    k0_pay813 (View.readAt (Elt Ideal) arg9.view (Rect.unit (s := S16x128x128) ![h, 0, 0] S1x128x128.size inb).toLoadRect f9) x
      = turned (arg9.view.read (Elt Ideal) f9) ((Rect.unit (s := S16x128x128) ![h, 0, 0] S1x128x128.size inb).emb x) := by
  rw [turn_at]
  show arg9.view.read (Elt Ideal) f9 _ = arg9.view.read (Elt Ideal) f9 _
  refine congrArg (arg9.view.read (Elt Ideal) f9) (funext fun a => Fin.ext ?_)
  have h0 : (x 0).val < 1 := (x 0).isLt
  match a with
  | ⟨0, _⟩ => show h + 1 * 0 = h + 1 * (x 0).val; omega
  | ⟨1, _⟩ => rfl
  | ⟨2, _⟩ => rfl

/-- What the last point's sixteen stores leave: the states turned over. -/
theorem stores_read (arg8 arg9 : Memref sig .tc .vmem S16x128x128 .f32) (f8 : BufTy.Contents (Elt Ideal) arg8.view.ty) (f9 : BufTy.Contents (Elt Ideal) arg9.view.ty) :
    arg8.view.read (Elt Ideal) (arg8.view.writes (Elt Ideal) f8
      [⟨Rect.unit (s := S16x128x128) ![15, 0, 0] S1x128x128.size inb_S16x128x128_S1x128x128_15_0_0, k0_pay4 (View.readAt (Elt Ideal) arg9.view (Rect.unit (s := S16x128x128) ![15, 0, 0] S1x128x128.size inb_S16x128x128_S1x128x128_15_0_0).toLoadRect f9)⟩,
       ⟨Rect.unit (s := S16x128x128) ![14, 0, 0] S1x128x128.size inb_S16x128x128_S1x128x128_14_0_0, k0_pay3 (View.readAt (Elt Ideal) arg9.view (Rect.unit (s := S16x128x128) ![14, 0, 0] S1x128x128.size inb_S16x128x128_S1x128x128_14_0_0).toLoadRect f9)⟩,
       ⟨Rect.unit (s := S16x128x128) ![13, 0, 0] S1x128x128.size inb_S16x128x128_S1x128x128_13_0_0, k0_pay2 (k0_pay827 (View.readAt (Elt Ideal) arg9.view (Rect.unit (s := S16x128x128) ![13, 0, 0] S1x128x128.size inb_S16x128x128_S1x128x128_13_0_0).toLoadRect f9))⟩,
       ⟨Rect.unit (s := S16x128x128) ![12, 0, 0] S1x128x128.size inb_S16x128x128_S1x128x128_12_0_0, k0_pay826 (View.readAt (Elt Ideal) arg9.view (Rect.unit (s := S16x128x128) ![12, 0, 0] S1x128x128.size inb_S16x128x128_S1x128x128_12_0_0).toLoadRect f9)⟩,
       ⟨Rect.unit (s := S16x128x128) ![11, 0, 0] S1x128x128.size inb_S16x128x128_S1x128x128_11_0_0, k0_pay825 (View.readAt (Elt Ideal) arg9.view (Rect.unit (s := S16x128x128) ![11, 0, 0] S1x128x128.size inb_S16x128x128_S1x128x128_11_0_0).toLoadRect f9)⟩,
       ⟨Rect.unit (s := S16x128x128) ![10, 0, 0] S1x128x128.size inb_S16x128x128_S1x128x128_10_0_0, k0_pay824 (View.readAt (Elt Ideal) arg9.view (Rect.unit (s := S16x128x128) ![10, 0, 0] S1x128x128.size inb_S16x128x128_S1x128x128_10_0_0).toLoadRect f9)⟩,
       ⟨Rect.unit (s := S16x128x128) ![9, 0, 0] S1x128x128.size inb_S16x128x128_S1x128x128_9_0_0, k0_pay823 (View.readAt (Elt Ideal) arg9.view (Rect.unit (s := S16x128x128) ![9, 0, 0] S1x128x128.size inb_S16x128x128_S1x128x128_9_0_0).toLoadRect f9)⟩,
       ⟨Rect.unit (s := S16x128x128) ![8, 0, 0] S1x128x128.size inb_S16x128x128_S1x128x128_8_0_0, k0_pay822 (View.readAt (Elt Ideal) arg9.view (Rect.unit (s := S16x128x128) ![8, 0, 0] S1x128x128.size inb_S16x128x128_S1x128x128_8_0_0).toLoadRect f9)⟩,
       ⟨Rect.unit (s := S16x128x128) ![7, 0, 0] S1x128x128.size inb_S16x128x128_S1x128x128_7_0_0, k0_pay821 (View.readAt (Elt Ideal) arg9.view (Rect.unit (s := S16x128x128) ![7, 0, 0] S1x128x128.size inb_S16x128x128_S1x128x128_7_0_0).toLoadRect f9)⟩,
       ⟨Rect.unit (s := S16x128x128) ![6, 0, 0] S1x128x128.size inb_S16x128x128_S1x128x128_6_0_0, k0_pay820 (View.readAt (Elt Ideal) arg9.view (Rect.unit (s := S16x128x128) ![6, 0, 0] S1x128x128.size inb_S16x128x128_S1x128x128_6_0_0).toLoadRect f9)⟩,
       ⟨Rect.unit (s := S16x128x128) ![5, 0, 0] S1x128x128.size inb_S16x128x128_S1x128x128_5_0_0, k0_pay819 (View.readAt (Elt Ideal) arg9.view (Rect.unit (s := S16x128x128) ![5, 0, 0] S1x128x128.size inb_S16x128x128_S1x128x128_5_0_0).toLoadRect f9)⟩,
       ⟨Rect.unit (s := S16x128x128) ![4, 0, 0] S1x128x128.size inb_S16x128x128_S1x128x128_4_0_0, k0_pay818 (k0_pay817 (View.readAt (Elt Ideal) arg9.view (Rect.unit (s := S16x128x128) ![4, 0, 0] S1x128x128.size inb_S16x128x128_S1x128x128_4_0_0).toLoadRect f9))⟩,
       ⟨Rect.unit (s := S16x128x128) ![3, 0, 0] S1x128x128.size inb_S16x128x128_S1x128x128_3_0_0, k0_pay816 (View.readAt (Elt Ideal) arg9.view (Rect.unit (s := S16x128x128) ![3, 0, 0] S1x128x128.size inb_S16x128x128_S1x128x128_3_0_0).toLoadRect f9)⟩,
       ⟨Rect.unit (s := S16x128x128) ![2, 0, 0] S1x128x128.size inb_S16x128x128_S1x128x128_2_0_0, k0_pay815 (View.readAt (Elt Ideal) arg9.view (Rect.unit (s := S16x128x128) ![2, 0, 0] S1x128x128.size inb_S16x128x128_S1x128x128_2_0_0).toLoadRect f9)⟩,
       ⟨Rect.unit (s := S16x128x128) ![1, 0, 0] S1x128x128.size inb_S16x128x128_S1x128x128_1_0_0, k0_pay814 (View.readAt (Elt Ideal) arg9.view (Rect.unit (s := S16x128x128) ![1, 0, 0] S1x128x128.size inb_S16x128x128_S1x128x128_1_0_0).toLoadRect f9)⟩,
       ⟨Rect.unit (s := S16x128x128) ![0, 0, 0] S1x128x128.size inb_S16x128x128_S1x128x128_0_0_0, k0_pay813 (View.readAt (Elt Ideal) arg9.view (Rect.unit (s := S16x128x128) ![0, 0, 0] S1x128x128.size inb_S16x128x128_S1x128x128_0_0_0).toLoadRect f9)⟩]) = turned (arg9.view.read (Elt Ideal) f9) := by
  funext y
  refine View.read_writes_apply_of_pieces arg8.view f8 (turned (arg9.view.read (Elt Ideal) f9)) _ (fun p hp x => ?_) y ?_
  swap; · exact View.cover_of_tiledL (s := S16x128x128) _ S1x128x128.size (by sl_kernel_rfl) y
  simp only [List.mem_cons, List.not_mem_nil, or_false] at hp
  rcases hp with rfl | rfl | rfl | rfl | rfl | rfl | rfl | rfl | rfl | rfl | rfl | rfl | rfl | rfl | rfl | rfl
  all_goals exact stored arg9 f9 _ _ x

set_option maxHeartbeats 4000000 in
/-- At the first point, whatever the states were, the body leaves all heads' states after it of zeros. -/
theorem runs_first (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S2x2048 .f32) (harg5 : arg5.IsWhole) (arg6 : Memref sig .tc .vmem S1x2048 .f32) (harg6 : arg6.IsWhole) (arg7 : Memref sig .tc .vmem S128x2048 .bf16) (harg7 : arg7.IsWhole) (arg8 : Memref sig .tc .vmem S16x128x128 .f32) (harg8 : arg8.IsWhole) (arg9 : Memref sig .tc .vmem S16x128x128 .f32) (harg9 : arg9.IsWhole)
    (hc0 : atFirst i) (hc1 : ¬ atLast i)
    (x0 : Vec Ideal S128x2048 .f32) (x1 : Vec Ideal S128x2048 .f32) (x2 : Vec Ideal S128x2048 .f32) (x3 : Vec Ideal S128x2048 .f32) (x4 : Vec Ideal S2x2048 .f32) (x5 : Vec Ideal S1x2048 .f32) (x7 : Vec Ideal S16x128x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ owns (c : Thread nD τ) arg9 fullShare (allHeads sums x1 x2 x4 (k0_pay828 (F := Ideal)))) -∗ K ⟨⟩))
      ⊢ wp frame (wpE (defs₀ (F := Ideal)) Variants.none c none) E (cc0__hgrn_prompt_kernel i arg1 harg1 arg2 harg2 arg3 harg3 arg4 harg4 arg5 harg5 arg6 harg6 arg7 harg7 arg8 harg8 arg9 harg9) K := by
  simp only [cc0__hgrn_prompt_kernel_eq_skeleton]; unfold cc0__hgrn_prompt_kernel_skel
  simp only [k0_part239_eq_skeleton, k0_part236_eq_skeleton, k0_part237_eq_skeleton, k0_part238_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg8.eq_unread hf7
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [H7]
  · iexists _; isplitr; swap; · iexact H7
    ipureintro
    exact harg8.read_unread _
  iexists _; isplitr; swap; · iexact HS0
  ipureintro
  rw [View.writes_append]
  refine (loop_read c i arg1 harg1 arg2 harg2 arg3 harg3 arg4 harg4 arg5 harg5 arg6 harg6 arg7 harg7 arg8 harg8 arg9 harg9 _ _ _ _ _ _ _ x0 x1 x2 x3 x4 x5 _ _).trans (congrArg (allHeads sums x1 x2 x4) ?_)
  exact read_whole arg9 _

set_option maxHeartbeats 4000000 in
/-- At a point between, the body leaves all heads' states after it of those it found. -/
theorem runs_next (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S2x2048 .f32) (harg5 : arg5.IsWhole) (arg6 : Memref sig .tc .vmem S1x2048 .f32) (harg6 : arg6.IsWhole) (arg7 : Memref sig .tc .vmem S128x2048 .bf16) (harg7 : arg7.IsWhole) (arg8 : Memref sig .tc .vmem S16x128x128 .f32) (harg8 : arg8.IsWhole) (arg9 : Memref sig .tc .vmem S16x128x128 .f32) (harg9 : arg9.IsWhole)
    (hc0 : ¬ atFirst i) (hc1 : ¬ atLast i)
    (x0 : Vec Ideal S128x2048 .f32) (x1 : Vec Ideal S128x2048 .f32) (x2 : Vec Ideal S128x2048 .f32) (x3 : Vec Ideal S128x2048 .f32) (x4 : Vec Ideal S2x2048 .f32) (x5 : Vec Ideal S1x2048 .f32) (x7 xs : Vec Ideal S16x128x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7 ∗ owns (c : Thread nD τ) arg9 fullShare (allHeads sums x1 x2 x4 xs)) -∗ K ⟨⟩))
      ⊢ wp frame (wpE (defs₀ (F := Ideal)) Variants.none c none) E (cc0__hgrn_prompt_kernel i arg1 harg1 arg2 harg2 arg3 harg3 arg4 harg4 arg5 harg5 arg6 harg6 arg7 harg7 arg8 harg8 arg9 harg9) K := by
  simp only [cc0__hgrn_prompt_kernel_eq_skeleton]; unfold cc0__hgrn_prompt_kernel_skel
  simp only [k0_part239_eq_skeleton, k0_part236_eq_skeleton, k0_part237_eq_skeleton, k0_part238_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg8.eq_unread hf7
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [H7]
  · iexists _; isplitr; swap; · iexact H7
    ipureintro
    exact harg8.read_unread _
  iexists _; isplitr; swap; · iexact HS0
  ipureintro
  exact (loop_read c i arg1 harg1 arg2 harg2 arg3 harg3 arg4 harg4 arg5 harg5 arg6 harg6 arg7 harg7 arg8 harg8 arg9 harg9 _ _ _ _ _ _ _ x0 x1 x2 x3 x4 x5 _ _).trans (congrArg (allHeads sums x1 x2 x4) hfs0)

set_option maxHeartbeats 4000000 in
/-- At the last point the body does so too, and leaves the new states, each turned over, in the output. -/
theorem runs_last (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S2x2048 .f32) (harg5 : arg5.IsWhole) (arg6 : Memref sig .tc .vmem S1x2048 .f32) (harg6 : arg6.IsWhole) (arg7 : Memref sig .tc .vmem S128x2048 .bf16) (harg7 : arg7.IsWhole) (arg8 : Memref sig .tc .vmem S16x128x128 .f32) (harg8 : arg8.IsWhole) (arg9 : Memref sig .tc .vmem S16x128x128 .f32) (harg9 : arg9.IsWhole)
    (hc0 : ¬ atFirst i) (hc1 : atLast i)
    (x0 : Vec Ideal S128x2048 .f32) (x1 : Vec Ideal S128x2048 .f32) (x2 : Vec Ideal S128x2048 .f32) (x3 : Vec Ideal S128x2048 .f32) (x4 : Vec Ideal S2x2048 .f32) (x5 : Vec Ideal S1x2048 .f32) (xs : Vec Ideal S16x128x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare (turned (allHeads sums x1 x2 x4 xs)) ∗ owns (c : Thread nD τ) arg9 fullShare (allHeads sums x1 x2 x4 xs)) -∗ K ⟨⟩))
      ⊢ wp frame (wpE (defs₀ (F := Ideal)) Variants.none c none) E (cc0__hgrn_prompt_kernel i arg1 harg1 arg2 harg2 arg3 harg3 arg4 harg4 arg5 harg5 arg6 harg6 arg7 harg7 arg8 harg8 arg9 harg9) K := by
  simp only [cc0__hgrn_prompt_kernel_eq_skeleton]; unfold cc0__hgrn_prompt_kernel_skel
  simp only [k0_part239_eq_skeleton, k0_part236_eq_skeleton, k0_part237_eq_skeleton, k0_part238_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _, _; isplitr; swap; · iexact H6
    ipureintro; rfl
  isplitl [H7]
  · iexists _; isplitr; swap; · iexact H7
    ipureintro
    refine (stores_read arg8 arg9 f7 _).trans (congrArg turned ?_)
    exact (loop_read c i arg1 harg1 arg2 harg2 arg3 harg3 arg4 harg4 arg5 harg5 arg6 harg6 arg7 harg7 arg8 harg8 arg9 harg9 _ _ _ _ _ _ _ x0 x1 x2 x3 x4 x5 _ _).trans (congrArg (allHeads sums x1 x2 x4) hfs0)
  iexists _; isplitr; swap; · iexact HS0
  ipureintro
  exact (loop_read c i arg1 harg1 arg2 harg2 arg3 harg3 arg4 harg4 arg5 harg5 arg6 harg6 arg7 harg7 arg8 harg8 arg9 harg9 _ _ _ _ _ _ _ x0 x1 x2 x3 x4 x5 _ _).trans (congrArg (allHeads sums x1 x2 x4) hfs0)

end Cert.KernelHgrnPromptIdeal.Body

end
-- ==== Proof.HgrnPromptCall.lean ====
module

public import proofs.«01_k».proof.Proof.HgrnPromptRun

/-!
The prompt's HGRN2 scan as a whole: it runs to its end, leaves its arguments alone, and its second result holds the states after the last point.
-/

@[expose] public section

set_option maxRecDepth 16384

noncomputable section

namespace Cert.KernelHgrnPromptIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelHgrnPromptIdeal Cert.KernelHgrnPromptIdeal.Gen

local notation "𝕄" => MT nD τ sig Unit (Elt Ideal) ℕ (UR sig nD τ) ℕ

variable (m : (ℓ : Loc nD τ sig) → Buf (Elt Ideal) ℓ) (ρ : Dev nD → PrngReg)

/-- The states after the first `n` points, from zeros. -/
def stateAfter (c : Dev nD) : ℕ → Vec Ideal S16x128x128 .f32
  | 0 => k0_pay828 (F := Ideal)
  | n + 1 => if h : n < cfg0.N then allHeads sums (iblk m c 1 ⟨n, h⟩) (iblk m c 2 ⟨n, h⟩) (iblk m c 4 ⟨n, h⟩) (stateAfter c n) else stateAfter c n

/-- One point further. -/
theorem stateAfter_succ (c : Dev nD) (t : Fin cfg0.N) :
    stateAfter m c (t.val + 1) = allHeads sums (iblk m c 1 t) (iblk m c 2 t) (iblk m c 4 t) (stateAfter m c t.val) := by
  show (if h : t.val < cfg0.N then _ else _) = _
  rw [dif_pos t.isLt]

/-- What the body is handed besides the windows before point `n`: at the first anything in the state buffer, then the states so far. -/
def carried (c : Dev nD) : ℕ → sProp 𝕄
  | 0 => Pipeline.ΦA spec0 c
  | n + 1 => iprop(owns (c : Thread nD τ) stateBuf fullShare (stateAfter m c (n + 1)) ∗ (∃ r, prngReg c r))

/-- Before a point that is not the first. -/
theorem carried_pos (c : Dev nD) (n : ℕ) (h : n ≠ 0) :
    carried m c n = iprop(owns (c : Thread nD τ) stateBuf fullShare (stateAfter m c n) ∗ (∃ r, prngReg c r)) := by
  cases n with
  | zero => exact absurd rfl h
  | succ n => rfl

/-- After any point the states are some contents of the buffer. -/
theorem carried_any (c : Dev nD) (n : ℕ) : carried m c n ⊢ (Pipeline.ΦA spec0 c : sProp 𝕄) := by
  cases n with
  | zero => exact Idealize.SL.BI.Entails.refl _
  | succ n =>
    rw [carried_pos m c _ (Nat.succ_ne_zero n), rest_eq]
    iintro ⟨HS, Hg⟩
    isplitl [HS]
    · iexists _; iexact HS
    iexact Hg

/-- The output of which nothing is said: the first. -/
def unsaid : Fin 8 → Bool := fun w => w.val == 6

/-- What the pipeline holds: the arrays as found, each input's buffer at its block after the body, the second output at the states turned over. -/
def held (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, _⟩ => turned (stateAfter m c (t.val + 1))
  Φ t := carried m c t.val
  q w := Pipeline.shareOf spec0 w
  owed _ := 0

theorem held_A (c : Dev nD) (w : Fin cfg0.W) : (held m 0 c).A w = V m c (Pipeline.arrRef spec0 w) := by
  dsimp only [held]

theorem before_0 (c : Dev nD) (t : Fin cfg0.N) (d) : (held m 0 c).before 0 t d = iblk m c 0 t :=
  before0_0_of m (held m 0 c) (held_A m c 0) (fun t => by dsimp only [held]) t d
theorem before_1 (c : Dev nD) (t : Fin cfg0.N) (d) : (held m 0 c).before 1 t d = iblk m c 1 t :=
  before0_1_of m (held m 0 c) (held_A m c 1) (fun t => by dsimp only [held]) t d
theorem before_2 (c : Dev nD) (t : Fin cfg0.N) (d) : (held m 0 c).before 2 t d = iblk m c 2 t :=
  before0_2_of m (held m 0 c) (held_A m c 2) (fun t => by dsimp only [held]) t d
theorem before_3 (c : Dev nD) (t : Fin cfg0.N) (d) : (held m 0 c).before 3 t d = iblk m c 3 t :=
  before0_3_of m (held m 0 c) (held_A m c 3) (fun t => by dsimp only [held]) t d
theorem before_4 (c : Dev nD) (t : Fin cfg0.N) (d) : (held m 0 c).before 4 t d = iblk m c 4 t :=
  before0_4_of m (held m 0 c) (held_A m c 4) (fun t => by dsimp only [held]) t d
theorem before_5 (c : Dev nD) (t : Fin cfg0.N) (d) : (held m 0 c).before 5 t d = iblk m c 5 t :=
  before0_5_of m (held m 0 c) (held_A m c 5) (fun t => by dsimp only [held]) t d

/-- The second output after a point. -/
theorem after_7 (c : Dev nD) (t : Fin cfg0.N) : (held m 0 c).after 7 t = turned (stateAfter m c (t.val + 1)) := by dsimp only [held]

/-- The body's first branch is taken at the first point and only there. -/
theorem atFirst_iff : ∀ t : Fin cfg0.N, atFirst (grid0.coords t) ↔ t.val = 0 := (by decide +kernel : ∀ t : Fin grid0.N, _)

/-- Its second branch is taken at the last point and only there. -/
theorem atLast_iff : ∀ t : Fin cfg0.N, atLast (grid0.coords t) ↔ t.val = 63 := (by decide +kernel : ∀ t : Fin grid0.N, _)

/-- The second output is written back at the last point and only there. -/
theorem flush_7 (t : Fin cfg0.N) (h : t.val ≠ 63) : (cfg0.win 7).flush t = false := by
  have hN : t.val < 64 := lt_of_lt_of_eq t.isLt (show cfg0.N = 64 from N_0)
  rw [Bool.eq_false_iff]
  intro e
  have := (flush0_7 t).mp e
  omega

/-- At a point that is not the last the second output's buffer is handed on as it was. -/
theorem leaves_7 (c : Dev nD) (t : Fin cfg0.N) (h : t.val ≠ 63) :
    (held m 0 c).leavesExact 7 t = iprop(∃ d, owns (c : Thread nD τ) (buf7 t) fullShare ((held m 0 c).before 7 t d)) :=
  (held m 0 c).leavesExact_idle 7 t (by
    show (!(k0_cond2 (grid0.coords t) == 1#1)) = true
    rw [Bool.not_eq_true', beq_eq_false_iff_ne]
    exact fun e => h ((atLast_iff t).mp e)) (flush_7 t h)

/-- At the last point it holds the states turned over. -/
theorem leaves_7_last (c : Dev nD) (t : Fin cfg0.N) (h : t.val = 63) :
    (held m 0 c).leavesExact 7 t = owns (c : Thread nD τ) (buf7 t) fullShare (turned (stateAfter m c (t.val + 1))) := by
  unfold Dat.leavesExact
  rw [show cfg0.idle 7 (grid0.coords t) = false from by
    show (!(k0_cond2 (grid0.coords t) == 1#1)) = false
    rw [Bool.not_eq_false', beq_iff_eq]
    exact (atLast_iff t).mpr h, after_7]

set_option maxHeartbeats 1000000 in
/-- The body at a point, between what the pipeline hands it and what it takes back. -/
theorem body_at (c : Dev nD) (t : Fin cfg0.N) :
    iprop((held m 0 c).Φ t.castSucc ∗ (held m 0 c).owesAt () t.castSucc
      ∗ (∃ d, owns (c : Thread nD τ) (buf0 t) fullShare ((held m 0 c).before 0 t d))
      ∗ (∃ d, owns (c : Thread nD τ) (buf1 t) fullShare ((held m 0 c).before 1 t d))
      ∗ (∃ d, owns (c : Thread nD τ) (buf2 t) fullShare ((held m 0 c).before 2 t d))
      ∗ (∃ d, owns (c : Thread nD τ) (buf3 t) fullShare ((held m 0 c).before 3 t d))
      ∗ (∃ d, owns (c : Thread nD τ) (buf4 t) fullShare ((held m 0 c).before 4 t d))
      ∗ (∃ d, owns (c : Thread nD τ) (buf5 t) fullShare ((held m 0 c).before 5 t d))
      ∗ (∃ d, owns (c : Thread nD τ) (buf6 t) fullShare d) ∗ (∃ d, owns (c : Thread nD τ) (buf7 t) fullShare ((held m 0 c).before 7 t d)))
    ⊢ wp frame (wpE (defs₀ (F := Ideal)) Variants.none c none) Set.univ (bodyAt0 t) (fun _ =>
      iprop((held m 0 c).Φ t.succ ∗ (held m 0 c).owesAt () t.succ
        ∗ (held m 0 c).leavesExact 0 t ∗ (held m 0 c).leavesExact 1 t ∗ (held m 0 c).leavesExact 2 t ∗ (held m 0 c).leavesExact 3 t ∗ (held m 0 c).leavesExact 4 t ∗ (held m 0 c).leavesExact 5 t
        ∗ (∃ d, owns (c : Thread nD τ) (buf6 t) fullShare d) ∗ (held m 0 c).leavesExact 7 t)) := by
  unfold bodyAt0
  simp only [before_0, before_1, before_2, before_3, before_4, before_5]
  rw [show (held m 0 c).owesAt () t.succ = (held m 0 c).owesAt () t.castSucc from rfl]
  rw [show (held m 0 c).Φ t.succ = iprop(owns (c : Thread nD τ) stateBuf fullShare (stateAfter m c (t.val + 1)) ∗ (∃ r, prngReg c r)) from rfl,
    show (held m 0 c).Φ t.castSucc = carried m c t.val from rfl, stateAfter_succ]
  rw [show (held m 0 c).leavesExact 0 t = owns (c : Thread nD τ) (buf0 t) fullShare (iblk m c 0 t) from by
    unfold Dat.leavesExact; rw [show cfg0.idle 0 (grid0.coords t) = false from rfl]; dsimp only [held]]
  rw [show (held m 0 c).leavesExact 1 t = owns (c : Thread nD τ) (buf1 t) fullShare (iblk m c 1 t) from by
    unfold Dat.leavesExact; rw [show cfg0.idle 1 (grid0.coords t) = false from rfl]; dsimp only [held]]
  rw [show (held m 0 c).leavesExact 2 t = owns (c : Thread nD τ) (buf2 t) fullShare (iblk m c 2 t) from by
    unfold Dat.leavesExact; rw [show cfg0.idle 2 (grid0.coords t) = false from rfl]; dsimp only [held]]
  rw [show (held m 0 c).leavesExact 3 t = owns (c : Thread nD τ) (buf3 t) fullShare (iblk m c 3 t) from by
    unfold Dat.leavesExact; rw [show cfg0.idle 3 (grid0.coords t) = false from rfl]; dsimp only [held]]
  rw [show (held m 0 c).leavesExact 4 t = owns (c : Thread nD τ) (buf4 t) fullShare (iblk m c 4 t) from by
    unfold Dat.leavesExact; rw [show cfg0.idle 4 (grid0.coords t) = false from rfl]; dsimp only [held]]
  rw [show (held m 0 c).leavesExact 5 t = owns (c : Thread nD τ) (buf5 t) fullShare (iblk m c 5 t) from by
    unfold Dat.leavesExact; rw [show cfg0.idle 5 (grid0.coords t) = false from rfl]; dsimp only [held]]
  by_cases hF : t.val = 0
  · have hL : t.val ≠ 63 := by omega
    rw [leaves_7 m c t hL, show carried m c t.val = Pipeline.ΦA spec0 c from by rw [hF]; rfl, rest_eq, show stateAfter m c t.val = k0_pay828 (F := Ideal) from by rw [hF]; rfl]
    iintro ⟨⟨HS, Hg⟩, Ho, ⟨%d0, H0⟩, ⟨%d1, H1⟩, ⟨%d2, H2⟩, ⟨%d3, H3⟩, ⟨%d4, H4⟩, ⟨%d5, H5⟩, H6, ⟨%d7, H7⟩⟩
    iapply (runs_first c (grid0.coords t) _ _ _ _ _ _ _ _ _ _ _ _ _ _ _ _ _ _ ((atFirst_iff t).mpr hF) (fun e => hL ((atLast_iff t).mp e)) (iblk m c 0 t) (iblk m c 1 t) (iblk m c 2 t) (iblk m c 3 t) (iblk m c 4 t) (iblk m c 5 t) ((held m 0 c).before 7 t d7) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7
  by_cases hL : t.val = 63
  · rw [leaves_7_last m c t hL, carried_pos m c t.val hF, stateAfter_succ]
    iintro ⟨⟨HS, Hg⟩, Ho, ⟨%d0, H0⟩, ⟨%d1, H1⟩, ⟨%d2, H2⟩, ⟨%d3, H3⟩, ⟨%d4, H4⟩, ⟨%d5, H5⟩, H6, ⟨%d7, H7⟩⟩
    iapply (runs_last c (grid0.coords t) _ _ _ _ _ _ _ _ _ _ _ _ _ _ _ _ _ _ (fun e => hF ((atFirst_iff t).mp e)) ((atLast_iff t).mpr hL) (iblk m c 0 t) (iblk m c 1 t) (iblk m c 2 t) (iblk m c 3 t) (iblk m c 4 t) (iblk m c 5 t) (stateAfter m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [leaves_7 m c t hL, carried_pos m c t.val hF]
    iintro ⟨⟨HS, Hg⟩, Ho, ⟨%d0, H0⟩, ⟨%d1, H1⟩, ⟨%d2, H2⟩, ⟨%d3, H3⟩, ⟨%d4, H4⟩, ⟨%d5, H5⟩, H6, ⟨%d7, H7⟩⟩
    iapply (runs_next c (grid0.coords t) _ _ _ _ _ _ _ _ _ _ _ _ _ _ _ _ _ _ (fun e => hF ((atFirst_iff t).mp e)) (fun e => hL ((atLast_iff t).mp e)) (iblk m c 0 t) (iblk m c 1 t) (iblk m c 2 t) (iblk m c 3 t) (iblk m c 4 t) (iblk m c 5 t) ((held m 0 c).before 7 t d7) (stateAfter m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists d7; iexact H7

/-- The pipeline's obligation of the body. -/
theorem body_obligation (c : Dev nD) : BodyObligation (held m 0 c) (defs₀ (F := Ideal)) Variants.none () Set.univ unsaid := fun t => by
  rw [bigSep_W0, bigSep_W0, show defs₀ (F := Ideal) .tc cfg0.body (cfg0.bodyArgs t (cfg0.slots t)) = bodyAt0 t from by unfold defs₀; rw [Defs.onTc_tc]]
  exact triple_restated (body_at m c t) rfl .rfl fun _ => .rfl

/-- What the region is entered with is what the first point is handed. -/
theorem enters (c : Dev nD) : (Pipeline.ΦA spec0 c : sProp 𝕄) ⊢ (held m 0 c).Φ 0 := Idealize.SL.BI.Entails.refl _

/-- What the last point leaves is given back. -/
theorem leaves (c : Dev nD) : (held m 0 c).Φ (Fin.last cfg0.N) ⊢ (Pipeline.ΦA spec0 c : sProp 𝕄) := by
  rw [show (held m 0 c).Φ (Fin.last cfg0.N) = carried m c (Fin.last cfg0.N).val from rfl]
  exact carried_any m c _

set_option backward.isDefEq.respectTransparency.types false in
/-- The program runs to its end, and no counter is left raised. -/
theorem run : θ_run defs (onTc (τ := τ) (main (F := Ideal))) (s₀ m ρ) (fun r => (Pipeline.RDat.FramePost (cfgs 0) (fun c => (held m 0 c).toRForget unsaid) (V m)) r ∧ r.2.sem = fun _ => 0) :=
  Pipeline.θ_run_frame_track_forget_shared (Q' := _) cfgs (held m) (0 : Fin 1) launch₀0 defs₀ Variants.none unsaid m ρ main
    (hbody := fun c => (body_obligation m c).loose) (hq := fun _ _ _ => rfl)
    (howed := fun _ _ => rfl) (V := V m) (hmain := hmain m Variants.none) (hA := held_A m) (hin := enters m) (hout := leaves m)

/-- The second result array after the run: the states after the last point, turned over. -/
theorem result (c : Dev nD) : (held m 0 c).arrAt 7 (cfgs 0).N = turned (stateAfter m c 64) := by
  refine (held m 0 c).arrAt_eq_of_covers 7 _ (by decide +kernel) fun t hf y => ?_
  have h63 : t.val % 64 = 63 := (flush0_7 t).mp hf
  have hN : t.val < 64 := lt_of_lt_of_eq t.isLt (show cfg0.N = 64 from N_0)
  have ht : t.val + 1 = 64 := by omega
  rw [after_7, ht]
  blk_simp
  idx_vars y
  generalize turned (stateAfter m c 64) = z
  blk_ext [show ∀ t : Fin cfg0.N, win0_7.index t = ![0, 0, 0] from (by decide +kernel : ∀ t : Fin grid0.N, win0_7.index t = ![0, 0, 0])]

/-- The program runs to its end, its second result holds the states after the last point turned over, its arguments end as they were, and no counter is left raised. -/
theorem ends : θ_run defs (onTc (τ := τ) (main (F := Ideal))) ⟨m, fun _ => 0, ρ⟩ (fun r => (∀ c : Dev nD,
      r.2.mem ((c.tc : Thread nD τ).loc main_v2_1) = turned (stateAfter m c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(((held m 0 c).toRForget_arrAt_iff (show unsaid 7 = false from rfl) _ _).mp ((h.1 c).1 7)).trans (result m c),
      (Pipeline.RDat.FramePost.arr_in h.1 c 3 rfl).trans ((held_A m c 3).trans (V_main_arg0 m c)),
      (Pipeline.RDat.FramePost.arr_in h.1 c 4 rfl).trans ((held_A m c 4).trans (V_main_arg1 m c)),
      ((h.1 c).2 main_arg2 (Pipeline.mem_restRefs_of main_arg2 (by decide) (by decide))).trans (V_main_arg2 m c)⟩, h.2⟩) (run m ρ)

end Cert.KernelHgrnPromptIdeal.Body

end
-- ==== Proof.HgrnPromptValue.lean ====
module

public import proofs.«01_k».proof.Proof.Gen.ReferenceHgrnPromptIdeal.Run
public import Idealize.ShloMosaic.Lib.Pipeline.ValueKit
public import proofs.«01_k».proof.Proof.HgrnPromptCall

/-!
The states after the prompt's HGRN2 scan. The kernel goes through the tokens in blocks, decaying the states from block to block; the
reference weighs each token's key by all the gates after it. Both are the same sum over the prompt's tokens where the first row of the
lower bound's parameter is above minus infinity: every gate's logarithm is then a real number, or all of a channel's are minus infinity.
-/

@[expose] public section

set_option maxRecDepth 16384

noncomputable section

namespace Cert.KernelHgrnPromptIdeal.Body

open Idealize.ShloMosaic Idealize.ShloMosaic.TcCoe Idealize.SL.Sem
open Idealize.ShloMosaic.Pipeline (Dat)
open Cert.KernelHgrnPromptIdeal Cert.KernelHgrnPromptIdeal.Gen
open Cert.KernelHgrnSampleIdeal.Body (soft gate key lowAll lowAll_at)
open Cert.PromptSums

variable (m : (ℓ : Loc nD τ sig) → Buf (Elt Ideal) ℓ)

/-- The prompt's columns of the forget gate. -/
def forgets (a0 : FVec Ideal S8320x14336 .f32) : FVec Ideal Cert.ReferenceHgrnPromptIdeal.S8192x16x128 .f32 :=
  shapeCast _ (extractStridedSlice Cert.ReferenceHgrnPromptIdeal.S8192x2048 ![0, 2048] a0 Cert.ReferenceHgrnPromptIdeal.Gen.slices_S8320x14336_S8192x2048_0_2048) Cert.ReferenceHgrnPromptIdeal.Gen.shapeCasts_S8192x2048_S8192x16x128

/-- The prompt's columns of the values. -/
def values (a0 : FVec Ideal S8320x14336 .f32) : FVec Ideal Cert.ReferenceHgrnPromptIdeal.S8192x16x128 .f32 :=
  shapeCast _ (extractStridedSlice Cert.ReferenceHgrnPromptIdeal.S8192x2048 ![0, 4096] a0 Cert.ReferenceHgrnPromptIdeal.Gen.slices_S8320x14336_S8192x2048_0_4096) Cert.ReferenceHgrnPromptIdeal.Gen.shapeCasts_S8192x2048_S8192x16x128

/-- The logarithms of the gates. -/
def gates (l : FVec Ideal Cert.ReferenceHgrnPromptIdeal.S16x128 .f32) (z : FVec Ideal Cert.ReferenceHgrnPromptIdeal.S8192x16x128 .f32) : FVec Ideal Cert.ReferenceHgrnPromptIdeal.S8192x16x128 .f32 :=
  Host.log (addf (broadcastInDim Cert.ReferenceHgrnPromptIdeal.S8192x16x128 ![0, 1, 2] Cert.ReferenceHgrnPromptIdeal.Gen.bcast_S1x16x128_S8192x16x128_0_1_2 (broadcastInDim Cert.ReferenceHgrnPromptIdeal.S1x16x128 ![1, 2] Cert.ReferenceHgrnPromptIdeal.Gen.bcast_S16x128_S1x16x128_1_2 l)) (mulf (broadcastInDim Cert.ReferenceHgrnPromptIdeal.S8192x16x128 ![0, 1, 2] Cert.ReferenceHgrnPromptIdeal.Gen.bcast_S1x16x128_S8192x16x128_0_1_2 (broadcastInDim Cert.ReferenceHgrnPromptIdeal.S1x16x128 ![1, 2] Cert.ReferenceHgrnPromptIdeal.Gen.bcast_S16x128_S1x16x128_1_2 (subf (broadcastInDim Cert.ReferenceHgrnPromptIdeal.S16x128 ![] Cert.ReferenceHgrnPromptIdeal.Gen.bcast_S_S16x128 (constant Cert.ReferenceHgrnPromptIdeal.S_ .f32 0x3F800000#32)) l))) (Host.divf (broadcastInDim Cert.ReferenceHgrnPromptIdeal.S8192x16x128 ![] Cert.ReferenceHgrnPromptIdeal.Gen.bcast_S_S8192x16x128 (constant Cert.ReferenceHgrnPromptIdeal.S_ .f32 0x3F800000#32)) (addf (broadcastInDim Cert.ReferenceHgrnPromptIdeal.S8192x16x128 ![] Cert.ReferenceHgrnPromptIdeal.Gen.bcast_S_S8192x16x128 (constant Cert.ReferenceHgrnPromptIdeal.S_ .f32 0x3F800000#32)) (Host.exp (Host.negf z))))))

/-- The keys. -/
def keys (l : FVec Ideal Cert.ReferenceHgrnPromptIdeal.S16x128 .f32) (z : FVec Ideal Cert.ReferenceHgrnPromptIdeal.S8192x16x128 .f32) : FVec Ideal Cert.ReferenceHgrnPromptIdeal.S8192x16x128 .f32 :=
  mulf (broadcastInDim Cert.ReferenceHgrnPromptIdeal.S8192x16x128 ![0, 1, 2] Cert.ReferenceHgrnPromptIdeal.Gen.bcast_S1x16x128_S8192x16x128_0_1_2 (broadcastInDim Cert.ReferenceHgrnPromptIdeal.S1x16x128 ![1, 2] Cert.ReferenceHgrnPromptIdeal.Gen.bcast_S16x128_S1x16x128_1_2 (subf (broadcastInDim Cert.ReferenceHgrnPromptIdeal.S16x128 ![] Cert.ReferenceHgrnPromptIdeal.Gen.bcast_S_S16x128 (constant Cert.ReferenceHgrnPromptIdeal.S_ .f32 0x3F800000#32)) l))) (Host.divf (broadcastInDim Cert.ReferenceHgrnPromptIdeal.S8192x16x128 ![] Cert.ReferenceHgrnPromptIdeal.Gen.bcast_S_S8192x16x128 (constant Cert.ReferenceHgrnPromptIdeal.S_ .f32 0x3F800000#32)) (addf (broadcastInDim Cert.ReferenceHgrnPromptIdeal.S8192x16x128 ![] Cert.ReferenceHgrnPromptIdeal.Gen.bcast_S_S8192x16x128 (constant Cert.ReferenceHgrnPromptIdeal.S_ .f32 0x3F800000#32)) (Host.exp (Host.negf (Host.negf z)))))

/-- The running sum over the prompt's tokens. -/
def sumsUp (g : FVec Ideal Cert.ReferenceHgrnPromptIdeal.S8192x16x128 .f32) : FVec Ideal Cert.ReferenceHgrnPromptIdeal.S8192x16x128 .f32 :=
  Host.reduceWindowAdd ![8192, 1, 1] ![1, 1, 1] ![8191, 0, 0] ![0, 0, 0] g (broadcastInDim Cert.ReferenceHgrnPromptIdeal.S_ ![] Cert.ReferenceHgrnPromptIdeal.Gen.bcast_S_S_ (constant Cert.ReferenceHgrnPromptIdeal.S_ .f32 0x00000000#32)) Cert.ReferenceHgrnPromptIdeal.Gen.reduceWindows_S8192x16x128_S8192x16x128_w8192s1p8191_0_w1s1p0_0_w1s1p0_0 Cert.ReferenceHgrnPromptIdeal.Gen.h_S_

/-- The reference's result: the states after the prompt. -/
def REF (a0 : FVec Ideal S8320x14336 .f32) (a1 : FVec Ideal S2x2048 .f32) : FVec Ideal S16x128x128 .f32 :=
  Host.dotGeneral Cert.ReferenceHgrnPromptIdeal.dot_S8192x16x128_S8192x16x128_S16x128x128_0_0_2_2_1_1 none (mulf (keys (lowAll a1) (forgets a0)) (Host.exp (subf (broadcastInDim Cert.ReferenceHgrnPromptIdeal.S8192x16x128 ![0, 1, 2] Cert.ReferenceHgrnPromptIdeal.Gen.bcast_S1x16x128_S8192x16x128_0_1_2 (extractStridedSlice Cert.ReferenceHgrnPromptIdeal.S1x16x128 ![8191, 0, 0] (sumsUp (gates (lowAll a1) (forgets a0))) Cert.ReferenceHgrnPromptIdeal.Gen.slices_S8192x16x128_S1x16x128_8191_0_0)) (sumsUp (gates (lowAll a1) (forgets a0)))))) (values a0)

/-- The forget gate's columns, entry by entry. -/
theorem forgets_at (a0 : FVec Ideal S8320x14336 .f32) (s : Fin 8192) (h : Fin 16) (k : Fin 128) :
    forgets a0 (ix3 s h k) = a0 (ix2 ⟨s.val, by omega⟩ ⟨2048 + (h.val * 128 + k.val), by omega⟩) := by
  pointwise [forgets]

/-- The values' columns, entry by entry. -/
theorem values_at (a0 : FVec Ideal S8320x14336 .f32) (s : Fin 8192) (h : Fin 16) (k : Fin 128) :
    values a0 (ix3 s h k) = a0 (ix2 ⟨s.val, by omega⟩ ⟨4096 + (h.val * 128 + k.val), by omega⟩) := by
  pointwise [values]

/-- The logarithms of the gates, entry by entry. -/
theorem gates_at (l : FVec Ideal Cert.ReferenceHgrnPromptIdeal.S16x128 .f32) (z : FVec Ideal Cert.ReferenceHgrnPromptIdeal.S8192x16x128 .f32) (s : Fin 8192) (h : Fin 16) (k : Fin 128) :
    gates l z (ix3 s h k) = gate (l (ix2 h k)) (z (ix3 s h k)) := by
  pointwise [gates]
  rfl

/-- The keys, entry by entry. -/
theorem keys_at (l : FVec Ideal Cert.ReferenceHgrnPromptIdeal.S16x128 .f32) (z : FVec Ideal Cert.ReferenceHgrnPromptIdeal.S8192x16x128 .f32) (s : Fin 8192) (h : Fin 16) (k : Fin 128) :
    keys l z (ix3 s h k) = key (l (ix2 h k)) (z (ix3 s h k)) := by
  pointwise [keys]
  rfl

/-- The running sum, entry by entry. -/
theorem sumsUp_at (g : FVec Ideal Cert.ReferenceHgrnPromptIdeal.S8192x16x128 .f32) (X : ℕ → EReal) (s : Fin 8192) (h : Fin 16) (k : Fin 128)
    (hX : ∀ r : Fin 8192, g (ix3 r h k) = X r.val) : sumsUp g (ix3 s h k) = total X (s.val + 1) := by
  unfold sumsUp total
  exact rows_head_sum _ _ X h k _ _ (by pointwise) s hX

/-- A channel's entries down the prompt's tokens, as a sequence that starts again after the last. -/
def column (a0 : FVec Ideal S8320x14336 .f32) (n : ℕ) (hn : n < 14336) (s : ℕ) : EReal := a0 (ix2 ⟨s % 8192, by omega⟩ ⟨n, hn⟩)

/-- At a token of the prompt. -/
theorem column_at (a0 : FVec Ideal S8320x14336 .f32) (n : ℕ) (hn : n < 14336) (s : ℕ) (hs : s < 8192) :
    column a0 n hn s = a0 (ix2 ⟨s, by omega⟩ ⟨n, hn⟩) :=
  congrArg (fun r => a0 (ix2 r _)) (Fin.ext (Nat.mod_eq_of_lt hs))

/-- A channel's logarithms of the gates. -/
def gateSeq (a0 : FVec Ideal S8320x14336 .f32) (a1 : FVec Ideal S2x2048 .f32) (h : Fin 16) (k : Fin 128) (s : ℕ) : EReal :=
  gate (soft fun x => a1 (ix2 x ⟨h.val * 128 + k.val, by omega⟩)) (column a0 (2048 + (h.val * 128 + k.val)) (by omega) s)

/-- A channel's keys. -/
def keySeq (a0 : FVec Ideal S8320x14336 .f32) (a1 : FVec Ideal S2x2048 .f32) (h : Fin 16) (k : Fin 128) (s : ℕ) : EReal :=
  key (soft fun x => a1 (ix2 x ⟨h.val * 128 + k.val, by omega⟩)) (column a0 (2048 + (h.val * 128 + k.val)) (by omega) s)

/-- A channel's values. -/
def valueSeq (a0 : FVec Ideal S8320x14336 .f32) (h : Fin 16) (v : Fin 128) (s : ℕ) : EReal :=
  column a0 (4096 + (h.val * 128 + v.val)) (by omega) s

/-- The reference's result, entry by entry. -/
theorem REF_at (a0 : FVec Ideal S8320x14336 .f32) (a1 : FVec Ideal S2x2048 .f32) (h : Fin 16) (k v : Fin 128) :
    REF a0 a1 (ix3 h k v) = state (gateSeq a0 a1 h k) (keySeq a0 a1 h k) (valueSeq a0 h v) 8192 := by
  have hg : ∀ r : Fin 8192, gates (lowAll a1) (forgets a0) (ix3 r h k) = gateSeq a0 a1 h k r.val := fun r => by
    rw [gates_at, lowAll_at, forgets_at, gateSeq, column_at _ _ _ _ r.isLt]
  have hk : ∀ r : Fin 8192, keys (lowAll a1) (forgets a0) (ix3 r h k) = keySeq a0 a1 h k r.val := fun r => by
    rw [keys_at, lowAll_at, forgets_at, keySeq, column_at _ _ _ _ r.isLt]
  have hv : ∀ r : Fin 8192, values a0 (ix3 r h v) = valueSeq a0 h v r.val := fun r => by
    rw [values_at, valueSeq, column_at _ _ _ _ r.isLt]
  have hb : ∀ r : Fin 8192, sumsUp (gates (lowAll a1) (forgets a0)) (ix3 r h k) = total (gateSeq a0 a1 h k) (r.val + 1) := fun r =>
    sumsUp_at _ _ r h k hg
  unfold REF state
  generalize sumsUp (gates (lowAll a1) (forgets a0)) = B at *
  generalize keys (lowAll a1) (forgets a0) = K at *
  generalize values a0 = W at *
  rw [Finset.sum_range]
  refine Eq.trans (b := ∑ s : Fin 8192, K (ix3 s h k) * Ideal.exp (B (ix3 ⟨8191, by omega⟩ h k) - B (ix3 s h k)) * W (ix3 s h v)) (by pointwise) ?_
  refine Finset.sum_congr rfl fun s _ => ?_
  rw [hk, hb, hb, hv]

/-- A channel's logarithms of the gates are all real, or all minus infinity. -/
theorem gateSeq_uniform (a0 : FVec Ideal S8320x14336 .f32) (a1 : FVec Ideal S2x2048 .f32) (h : Fin 16) (k : Fin 128)
    (hb : a1 (ix2 0 ⟨h.val * 128 + k.val, by omega⟩) ≠ (⊥ : EReal)) : Uniform (gateSeq a0 a1 h k) := by
  have hw : Ideal.ofBits FTy.f32 4286578688#32 = ⊥ := by simp [Ideal.ofBits, Ideal.ieee]
  rcases softmax_first (a1 (ix2 0 ⟨h.val * 128 + k.val, by omega⟩)) (a1 (ix2 1 ⟨h.val * 128 + k.val, by omega⟩)) hb with ⟨l, h0, h1, e⟩ | e
  · have hs : soft (fun x => a1 (ix2 x ⟨h.val * 128 + k.val, by omega⟩)) = (l : EReal) := by
      unfold soft
      rw [Fin.sum_univ_two, fold_two _ hw]
      exact e
    left
    refine ⟨fun s => (gate_real l h0 h1 (column a0 (2048 + (h.val * 128 + k.val)) (by omega) s)).choose, fun s => ?_⟩
    unfold gateSeq gate
    rw [hs]
    exact (gate_real l h0 h1 (column a0 (2048 + (h.val * 128 + k.val)) (by omega) s)).choose_spec
  · have hs : soft (fun x => a1 (ix2 x ⟨h.val * 128 + k.val, by omega⟩)) = ⊥ := by
      unfold soft
      rw [Fin.sum_univ_two, fold_two _ hw]
      exact e
    right
    intro s
    unfold gateSeq gate
    rw [hs]
    exact gate_bot _

/-- The windows' index maps. -/
theorem idx : ∀ t : Fin cfg0.N, win0_1.index t = ![t.val, 1] ∧ win0_2.index t = ![t.val, 2] ∧ win0_4.index t = ![0, 0] :=
  (by decide +kernel : ∀ t : Fin grid0.N, _)

/-- The parameter's block of a point. -/
theorem bound_at (c : Dev nD) (t : Fin cfg0.N) (x : Fin 2) (n : Fin 2048) :
    (show EReal from iblk m c 4 t (ix2 x n)) = m ((c : Thread nD τ).loc main_arg1) (ix2 x n) := by
  refine Eq.trans (b := V m c main_arg1 (ix2 x n)) (by blk_ext [iblk, idx t]) ?_
  rw [V_main_arg1]

/-- The forget gate's block of a point. -/
theorem forget_at (c : Dev nD) (t : Fin cfg0.N) (ht : t.val < 64) (r : Fin 128) (n : Fin 2048) :
    (show EReal from iblk m c 1 t (ix2 r n)) = m ((c : Thread nD τ).loc main_arg0) (ix2 ⟨t.val * 128 + r.val, by omega⟩ ⟨2048 + n.val, by omega⟩) := by
  refine Eq.trans (b := V m c main_arg0 (ix2 ⟨t.val * 128 + r.val, by omega⟩ ⟨2048 + n.val, by omega⟩)) (by blk_ext [iblk, idx t]) ?_
  rw [V_main_arg0]

/-- The values' block of a point. -/
theorem value_at (c : Dev nD) (t : Fin cfg0.N) (ht : t.val < 64) (r : Fin 128) (n : Fin 2048) :
    (show EReal from iblk m c 2 t (ix2 r n)) = m ((c : Thread nD τ).loc main_arg0) (ix2 ⟨t.val * 128 + r.val, by omega⟩ ⟨4096 + n.val, by omega⟩) := by
  refine Eq.trans (b := V m c main_arg0 (ix2 ⟨t.val * 128 + r.val, by omega⟩ ⟨4096 + n.val, by omega⟩)) (by blk_ext [iblk, idx t]) ?_
  rw [V_main_arg0]

/-- The states after some points are the sums over their tokens. -/
theorem stateAfter_at (c : Dev nD) (h : Fin 16) (v k : Fin 128)
    (hb : m ((c : Thread nD τ).loc main_arg1) (ix2 0 ⟨h.val * 128 + k.val, by omega⟩) ≠ (⊥ : EReal)) :
    ∀ n : ℕ, n ≤ 64 → stateAfter m c n (ix3 h v k)
      = state (gateSeq (m ((c : Thread nD τ).loc main_arg0)) (m ((c : Thread nD τ).loc main_arg1)) h k)
          (keySeq (m ((c : Thread nD τ).loc main_arg0)) (m ((c : Thread nD τ).loc main_arg1)) h k)
          (valueSeq (m ((c : Thread nD τ).loc main_arg0)) h v) (128 * n)
  | 0, _ => by
    refine Eq.trans (b := (0 : EReal)) ?_ ?_
    · show k0_pay828 (F := Ideal) (ix3 h v k) = 0
      pointwise [k0_pay828]
    · unfold state
      rw [Nat.mul_zero, Finset.sum_range_zero]
  | n + 1, hn => by
    have ih := stateAfter_at c h v k hb n (Nat.le_of_succ_le hn)
    have hN : n < cfg0.N := lt_of_lt_of_eq hn (show (64 : ℕ) = cfg0.N from N_0.symm)
    have h64 : n < 64 := hn
    rw [stateAfter_succ m c ⟨n, hN⟩]
    unfold allHeads
    have hl : (soft fun x => columns (iblk m c 4 ⟨n, hN⟩) h (ix2 x k)) = soft fun x => m ((c : Thread nD τ).loc main_arg1) (ix2 x ⟨h.val * 128 + k.val, by omega⟩) :=
      congrArg soft (funext fun x => bound_at m c ⟨n, hN⟩ x ⟨h.val * 128 + k.val, by omega⟩)
    have hf : ∀ r : Fin 128, columns (iblk m c 1 ⟨n, hN⟩) h (ix2 r k)
        = column (m ((c : Thread nD τ).loc main_arg0)) (2048 + (h.val * 128 + k.val)) (by omega) (128 * n + r.val) := fun r => by
      rw [column_at _ _ _ _ (by omega)]
      refine (forget_at m c ⟨n, hN⟩ h64 r ⟨h.val * 128 + k.val, by omega⟩).trans ?_
      exact congrArg (fun s => m ((c : Thread nD τ).loc main_arg0) (ix2 s _)) (Fin.ext (by show n * 128 + r.val = 128 * n + r.val; omega))
    refine (headState_at (gateSeq (m ((c : Thread nD τ).loc main_arg0)) (m ((c : Thread nD τ).loc main_arg1)) h k)
      (keySeq (m ((c : Thread nD τ).loc main_arg0)) (m ((c : Thread nD τ).loc main_arg1)) h k)
      (valueSeq (m ((c : Thread nD τ).loc main_arg0)) h v) (gateSeq_uniform _ _ h k hb) (128 * n) _ _ _ _ v k (fun r => ?_) (fun r => ?_) (fun r => ?_) ih).trans ?_
    · exact congr (congrArg gate hl) (hf r)
    · exact congr (congrArg key hl) (hf r)
    · unfold valueSeq
      rw [column_at _ _ _ _ (by omega)]
      refine (value_at m c ⟨n, hN⟩ h64 r ⟨h.val * 128 + v.val, by omega⟩).trans ?_
      exact congrArg (fun s => m ((c : Thread nD τ).loc main_arg0) (ix2 s _)) (Fin.ext (by show n * 128 + r.val = 128 * n + r.val; omega))
    · exact congrArg (state _ _ _) (by omega)

/-- After the run the second result array is the reference's. -/
theorem states_eq (c : Dev nD) (hb : ∀ n : Fin 2048, m ((c : Thread nD τ).loc main_arg1) (ix2 0 n) ≠ (⊥ : EReal)) :
    turned (stateAfter m c 64) = REF (m ((c : Thread nD τ).loc main_arg0)) (m ((c : Thread nD τ).loc main_arg1)) := by
  funext y
  idx_vars y
  refine Eq.trans ?_ (REF_at _ _ y0 y1 y2).symm
  exact stateAfter_at m c y0 y2 y1 (hb _) 64 le_rfl

end Cert.KernelHgrnPromptIdeal.Body

end
-- ==== Proof.lean ====
module

public import proofs.«01_k».proof.Defs
public import proofs.«01_k».proof.Proof.Gen.KernelZ.Frame
public import proofs.«01_k».proof.Proof.Gen.KernelZIdeal.Frame
public import proofs.«01_k».proof.Proof.Gen.KernelZIdeal.Value
public import proofs.«01_k».proof.Proof.Gen.ReferenceZIdeal.Run
public import proofs.«01_k».proof.Proof.InProjZ
public import proofs.«01_k».proof.Proof.Gen.KernelGates.Frame
public import proofs.«01_k».proof.Proof.Gen.KernelGatesIdeal.Frame
public import proofs.«01_k».proof.Proof.Gen.KernelGatesIdeal.Value
public import proofs.«01_k».proof.Proof.Gen.ReferenceGatesIdeal.Run
public import proofs.«01_k».proof.Proof.InProjGates
public import proofs.«01_k».proof.Proof.Gen.KernelForget.Frame
public import proofs.«01_k».proof.Proof.Gen.KernelForgetIdeal.Frame
public import proofs.«01_k».proof.Proof.Gen.KernelForgetIdeal.Value
public import proofs.«01_k».proof.Proof.Gen.ReferenceForgetIdeal.Run
public import proofs.«01_k».proof.Proof.InProjForget
public import proofs.«01_k».proof.Proof.Gen.KernelExperts.Frame
public import proofs.«01_k».proof.Proof.Gen.KernelExpertsIdeal.Frame
public import proofs.«01_k».proof.Proof.Gen.KernelExpertsIdeal.Value
public import proofs.«01_k».proof.Proof.Gen.ReferenceExpertsIdeal.Run
public import proofs.«01_k».proof.Proof.Experts
public import proofs.«01_k».proof.Proof.Gen.KernelMerge.Frame
public import proofs.«01_k».proof.Proof.Gen.KernelMergeIdeal.Frame
public import proofs.«01_k».proof.Proof.Gen.KernelMergeIdeal.Value
public import proofs.«01_k».proof.Proof.Gen.ReferenceMergeIdeal.Run
public import proofs.«01_k».proof.Proof.Merge
public import proofs.«01_k».proof.Proof.Gen.KernelMixNorm.Frame
public import proofs.«01_k».proof.Proof.Gen.KernelMixNormIdeal.Frame
public import proofs.«01_k».proof.Proof.Gen.KernelMixNormIdeal.Value
public import proofs.«01_k».proof.Proof.Gen.ReferenceMixNormIdeal.Run
public import proofs.«01_k».proof.Proof.MixNorm
public import proofs.«01_k».proof.Proof.Gen.KernelPle.Frame
public import proofs.«01_k».proof.Proof.Gen.KernelPleIdeal.Frame
public import proofs.«01_k».proof.Proof.Gen.KernelPleIdeal.Value
public import proofs.«01_k».proof.Proof.Gen.ReferencePleIdeal.Run
public import proofs.«01_k».proof.Proof.Ple
public import proofs.«01_k».proof.Proof.Gen.KernelFinal.Frame
public import proofs.«01_k».proof.Proof.Gen.KernelFinalIdeal.Frame
public import proofs.«01_k».proof.Proof.Gen.KernelFinalIdeal.Value
public import proofs.«01_k».proof.Proof.Gen.ReferenceFinalIdeal.Run
public import proofs.«01_k».proof.Proof.Final
public import proofs.«01_k».proof.Proof.Gen.KernelForgetPrompt.Frame
public import proofs.«01_k».proof.Proof.Gen.KernelForgetPromptIdeal.Frame
public import proofs.«01_k».proof.Proof.Gen.KernelForgetPromptIdeal.Value
public import proofs.«01_k».proof.Proof.Gen.ReferenceForgetPromptIdeal.Run
public import proofs.«01_k».proof.Proof.ForgetPrompt
public import proofs.«01_k».proof.Proof.Gen.KernelForgetSample.Frame
public import proofs.«01_k».proof.Proof.Gen.KernelForgetSampleIdeal.Frame
public import proofs.«01_k».proof.Proof.Gen.KernelForgetSampleIdeal.Value
public import proofs.«01_k».proof.Proof.Gen.ReferenceForgetSampleIdeal.Run
public import proofs.«01_k».proof.Proof.ForgetSample
public import proofs.«01_k».proof.Proof.Gen.KernelHgrnSample.Frame
public import proofs.«01_k».proof.Proof.Gen.KernelHgrnSampleIdeal.Frame
public import proofs.«01_k».proof.Proof.Gen.KernelHgrnSampleIdeal.Value
public import proofs.«01_k».proof.Proof.Gen.ReferenceHgrnSampleIdeal.Run
public import proofs.«01_k».proof.Proof.HgrnSample
public import proofs.«01_k».proof.Proof.Gen.KernelRouter.Frame
public import proofs.«01_k».proof.Proof.Gen.KernelRouterIdeal.Frame
public import proofs.«01_k».proof.Proof.Gen.KernelRouterIdeal.Value
public import proofs.«01_k».proof.Proof.Gen.ReferenceRouterIdeal.Run
public import proofs.«01_k».proof.Proof.RouterValue
public import proofs.«01_k».proof.Proof.Gen.KernelHgrnPrompt.Frame
public import proofs.«01_k».proof.Proof.Gen.KernelHgrnPrompt.Loops
public import proofs.«01_k».proof.Proof.Gen.KernelHgrnPrompt.Skeleton
public import proofs.«01_k».proof.Proof.Gen.KernelHgrnPromptIdeal.Frame
public import proofs.«01_k».proof.Proof.Gen.KernelHgrnPromptIdeal.Loops
public import proofs.«01_k».proof.Proof.Gen.KernelHgrnPromptIdeal.Skeleton
public import proofs.«01_k».proof.Proof.Gen.ReferenceHgrnPromptIdeal.Run
public import proofs.«01_k».proof.Proof.HgrnPromptFrame
public import proofs.«01_k».proof.Proof.HgrnPromptValue
public import Idealize.ShloMosaic.Adequacy
public import Idealize.ShloMosaic.Init
public import Idealize.ShloMosaic.Lib.Quiescent
public import Idealize.ShloMosaic.Lib.Claim

@[expose] public section

set_option maxRecDepth 16384

noncomputable section

namespace Cert.Proof

open Idealize.ShloMosaic Idealize.ShloMosaic.TcCoe Idealize.SL.Sem

/-- The reference for the first 14336 projected columns terminates, keeps its arguments and leaves no semaphore raised. -/
theorem frame_ReferenceZIdeal : quiescent_ReferenceZIdeal := fun m ρ _ =>
  (θ_run Cert.ReferenceZIdeal.defs _ _).mono (fun r h => ⟨fun c => (h c).2, sem_eq_zero_of_no_sems (by decide) r.2⟩)
    (Cert.ReferenceZIdeal.Value.run (F := Ideal) m ρ)

/-- The idealized kernel computes the reference's the first 14336 projected columns. -/
theorem value_KernelZIdeal : algebraic_KernelZIdeal_ReferenceZIdeal := by
  intro m ρ m' ρ' _ hagree
  refine ⟨_, Cert.KernelZIdeal.Value.run_blocks (F := Ideal) m ρ, ?_⟩
  refine (θ_run Cert.ReferenceZIdeal.defs _ _).mono (fun _ h c => ⟨?_, (h c).2⟩) (Cert.ReferenceZIdeal.Value.run (F := Ideal) m' ρ')
  refine (h c).1.trans ?_
  show Cert.KernelZIdeal.InProj.REF (m' ((c.tc : Thread Cert.ReferenceZIdeal.nD Cert.ReferenceZIdeal.τ).loc Cert.ReferenceZIdeal.main_arg0)) (m' ((c.tc : Thread Cert.ReferenceZIdeal.nD Cert.ReferenceZIdeal.τ).loc Cert.ReferenceZIdeal.main_arg1)) (m' ((c.tc : Thread Cert.ReferenceZIdeal.nD Cert.ReferenceZIdeal.τ).loc Cert.ReferenceZIdeal.main_arg2)) = _
  rw [(hagree c).1, (hagree c).2.1, (hagree c).2.2]
  exact (Cert.KernelZIdeal.InProj.final m c).symm

/-- The reference for the merge-gate columns terminates, keeps its arguments and leaves no semaphore raised. -/
theorem frame_ReferenceGatesIdeal : quiescent_ReferenceGatesIdeal := fun m ρ _ =>
  (θ_run Cert.ReferenceGatesIdeal.defs _ _).mono (fun r h => ⟨fun c => (h c).2, sem_eq_zero_of_no_sems (by decide) r.2⟩)
    (Cert.ReferenceGatesIdeal.Value.run (F := Ideal) m ρ)

/-- The idealized kernel computes the reference's the merge-gate columns. -/
theorem value_KernelGatesIdeal : algebraic_KernelGatesIdeal_ReferenceGatesIdeal := by
  intro m ρ m' ρ' _ hagree
  refine ⟨_, Cert.KernelGatesIdeal.Value.run_blocks (F := Ideal) m ρ, ?_⟩
  refine (θ_run Cert.ReferenceGatesIdeal.defs _ _).mono (fun _ h c => ⟨?_, (h c).2⟩) (Cert.ReferenceGatesIdeal.Value.run (F := Ideal) m' ρ')
  refine (h c).1.trans ?_
  show Cert.KernelGatesIdeal.InProj.REF (m' ((c.tc : Thread Cert.ReferenceGatesIdeal.nD Cert.ReferenceGatesIdeal.τ).loc Cert.ReferenceGatesIdeal.main_arg0)) (m' ((c.tc : Thread Cert.ReferenceGatesIdeal.nD Cert.ReferenceGatesIdeal.τ).loc Cert.ReferenceGatesIdeal.main_arg1)) (m' ((c.tc : Thread Cert.ReferenceGatesIdeal.nD Cert.ReferenceGatesIdeal.τ).loc Cert.ReferenceGatesIdeal.main_arg2)) = _
  rw [(hagree c).1, (hagree c).2.1, (hagree c).2.2]
  exact (Cert.KernelGatesIdeal.InProj.final m c).symm

/-- The reference for the forget-logit columns terminates, keeps its arguments and leaves no semaphore raised. -/
theorem frame_ReferenceForgetIdeal : quiescent_ReferenceForgetIdeal := fun m ρ _ =>
  (θ_run Cert.ReferenceForgetIdeal.defs _ _).mono (fun r h => ⟨fun c => (h c).2, sem_eq_zero_of_no_sems (by decide) r.2⟩)
    (Cert.ReferenceForgetIdeal.Value.run (F := Ideal) m ρ)

/-- The idealized kernel computes the reference's the forget-logit columns. -/
theorem value_KernelForgetIdeal : algebraic_KernelForgetIdeal_ReferenceForgetIdeal := by
  intro m ρ m' ρ' _ hagree
  refine ⟨_, Cert.KernelForgetIdeal.Value.run_blocks (F := Ideal) m ρ, ?_⟩
  refine (θ_run Cert.ReferenceForgetIdeal.defs _ _).mono (fun _ h c => ⟨?_, (h c).2⟩) (Cert.ReferenceForgetIdeal.Value.run (F := Ideal) m' ρ')
  refine (h c).1.trans ?_
  show Cert.KernelForgetIdeal.InProj.REF (m' ((c.tc : Thread Cert.ReferenceForgetIdeal.nD Cert.ReferenceForgetIdeal.τ).loc Cert.ReferenceForgetIdeal.main_arg0)) (m' ((c.tc : Thread Cert.ReferenceForgetIdeal.nD Cert.ReferenceForgetIdeal.τ).loc Cert.ReferenceForgetIdeal.main_arg1)) (m' ((c.tc : Thread Cert.ReferenceForgetIdeal.nD Cert.ReferenceForgetIdeal.τ).loc Cert.ReferenceForgetIdeal.main_arg2)) = _
  rw [(hagree c).1, (hagree c).2.1, (hagree c).2.2]
  exact (Cert.KernelForgetIdeal.InProj.final m c).symm

/-- The reference for the routed experts terminates, keeps its arguments and leaves no semaphore raised. -/
theorem frame_ReferenceExpertsIdeal : quiescent_ReferenceExpertsIdeal := fun m ρ _ =>
  (θ_run Cert.ReferenceExpertsIdeal.defs _ _).mono (fun r h => ⟨fun c => (h c).2, sem_eq_zero_of_no_sems (by decide) r.2⟩)
    (Cert.ReferenceExpertsIdeal.Value.run (F := Ideal) m ρ)

/-- The idealized kernel computes the reference's the routed experts. -/
theorem value_KernelExpertsIdeal : algebraic_KernelExpertsIdeal_ReferenceExpertsIdeal := by
  intro m ρ m' ρ' _ hagree
  refine ⟨_, Cert.KernelExpertsIdeal.Value.run_blocks (F := Ideal) m ρ, ?_⟩
  refine (θ_run Cert.ReferenceExpertsIdeal.defs _ _).mono (fun _ h c => ⟨?_, (h c).2⟩) (Cert.ReferenceExpertsIdeal.Value.run (F := Ideal) m' ρ')
  refine (h c).1.trans ?_
  show Cert.KernelExpertsIdeal.Body.REF (m' ((c.tc : Thread Cert.ReferenceExpertsIdeal.nD Cert.ReferenceExpertsIdeal.τ).loc Cert.ReferenceExpertsIdeal.main_arg0)) (m' ((c.tc : Thread Cert.ReferenceExpertsIdeal.nD Cert.ReferenceExpertsIdeal.τ).loc Cert.ReferenceExpertsIdeal.main_arg1)) (m' ((c.tc : Thread Cert.ReferenceExpertsIdeal.nD Cert.ReferenceExpertsIdeal.τ).loc Cert.ReferenceExpertsIdeal.main_arg2)) (m' ((c.tc : Thread Cert.ReferenceExpertsIdeal.nD Cert.ReferenceExpertsIdeal.τ).loc Cert.ReferenceExpertsIdeal.main_arg3)) (m' ((c.tc : Thread Cert.ReferenceExpertsIdeal.nD Cert.ReferenceExpertsIdeal.τ).loc Cert.ReferenceExpertsIdeal.main_arg4)) = _
  rw [(hagree c).1, (hagree c).2.1, (hagree c).2.2.1, (hagree c).2.2.2.1, (hagree c).2.2.2.2]
  exact (Cert.KernelExpertsIdeal.Body.final m c).symm

/-- The reference for the merge of the two mixers terminates, keeps its arguments and leaves no semaphore raised. -/
theorem frame_ReferenceMergeIdeal : quiescent_ReferenceMergeIdeal := fun m ρ _ =>
  (θ_run Cert.ReferenceMergeIdeal.defs _ _).mono (fun r h => ⟨fun c => (h c).2, sem_eq_zero_of_no_sems (by decide) r.2⟩)
    (Cert.ReferenceMergeIdeal.Value.run (F := Ideal) m ρ)

/-- The idealized kernel computes the reference's the merge of the two mixers. -/
theorem value_KernelMergeIdeal : algebraic_KernelMergeIdeal_ReferenceMergeIdeal := by
  intro m ρ m' ρ' _ hagree
  refine ⟨_, Cert.KernelMergeIdeal.Value.run_blocks (F := Ideal) m ρ, ?_⟩
  refine (θ_run Cert.ReferenceMergeIdeal.defs _ _).mono (fun _ h c => ⟨?_, (h c).2⟩) (Cert.ReferenceMergeIdeal.Value.run (F := Ideal) m' ρ')
  refine (h c).1.trans ?_
  show Cert.KernelMergeIdeal.Body.REF (m' ((c.tc : Thread Cert.ReferenceMergeIdeal.nD Cert.ReferenceMergeIdeal.τ).loc Cert.ReferenceMergeIdeal.main_arg0)) (m' ((c.tc : Thread Cert.ReferenceMergeIdeal.nD Cert.ReferenceMergeIdeal.τ).loc Cert.ReferenceMergeIdeal.main_arg1)) (m' ((c.tc : Thread Cert.ReferenceMergeIdeal.nD Cert.ReferenceMergeIdeal.τ).loc Cert.ReferenceMergeIdeal.main_arg2)) (m' ((c.tc : Thread Cert.ReferenceMergeIdeal.nD Cert.ReferenceMergeIdeal.τ).loc Cert.ReferenceMergeIdeal.main_arg3)) (m' ((c.tc : Thread Cert.ReferenceMergeIdeal.nD Cert.ReferenceMergeIdeal.τ).loc Cert.ReferenceMergeIdeal.main_arg4)) (m' ((c.tc : Thread Cert.ReferenceMergeIdeal.nD Cert.ReferenceMergeIdeal.τ).loc Cert.ReferenceMergeIdeal.main_arg5)) = _
  rw [(hagree c).1, (hagree c).2.1, (hagree c).2.2.1, (hagree c).2.2.2.1, (hagree c).2.2.2.2.1, (hagree c).2.2.2.2.2]
  exact (Cert.KernelMergeIdeal.Body.final m c).symm

/-- The reference for the output projection and the first residual norm terminates, keeps its arguments and leaves no semaphore raised. -/
theorem frame_ReferenceMixNormIdeal : quiescent_ReferenceMixNormIdeal := fun m ρ _ =>
  (θ_run Cert.ReferenceMixNormIdeal.defs _ _).mono (fun r h => ⟨fun c => (h c).2.2, sem_eq_zero_of_no_sems (by decide) r.2⟩)
    (Cert.ReferenceMixNormIdeal.Value.run (F := Ideal) m ρ)

/-- The idealized kernel computes the reference's the output projection and the first residual norm. -/
theorem value_KernelMixNormIdeal : algebraic_KernelMixNormIdeal_ReferenceMixNormIdeal := by
  intro m ρ m' ρ' _ hagree
  refine ⟨_, _, Cert.KernelMixNormIdeal.Value.run_blocks (F := Ideal) m ρ, ?_⟩
  refine (θ_run Cert.ReferenceMixNormIdeal.defs _ _).mono (fun _ h c => ⟨?_, ?_, (h c).2.2⟩) (Cert.ReferenceMixNormIdeal.Value.run (F := Ideal) m' ρ')
  · refine (h c).1.trans ?_
    show Cert.KernelMixNormIdeal.Body.REF0 (m' ((c.tc : Thread Cert.ReferenceMixNormIdeal.nD Cert.ReferenceMixNormIdeal.τ).loc Cert.ReferenceMixNormIdeal.main_arg0)) (m' ((c.tc : Thread Cert.ReferenceMixNormIdeal.nD Cert.ReferenceMixNormIdeal.τ).loc Cert.ReferenceMixNormIdeal.main_arg1)) (m' ((c.tc : Thread Cert.ReferenceMixNormIdeal.nD Cert.ReferenceMixNormIdeal.τ).loc Cert.ReferenceMixNormIdeal.main_arg2)) (m' ((c.tc : Thread Cert.ReferenceMixNormIdeal.nD Cert.ReferenceMixNormIdeal.τ).loc Cert.ReferenceMixNormIdeal.main_arg3)) (m' ((c.tc : Thread Cert.ReferenceMixNormIdeal.nD Cert.ReferenceMixNormIdeal.τ).loc Cert.ReferenceMixNormIdeal.main_arg4)) (m' ((c.tc : Thread Cert.ReferenceMixNormIdeal.nD Cert.ReferenceMixNormIdeal.τ).loc Cert.ReferenceMixNormIdeal.main_arg5)) = _
    rw [(hagree c).1, (hagree c).2.1, (hagree c).2.2.1, (hagree c).2.2.2.1, (hagree c).2.2.2.2.1, (hagree c).2.2.2.2.2]
    exact (Cert.KernelMixNormIdeal.Body.final0 m c).symm
  · refine (h c).2.1.trans ?_
    show Cert.KernelMixNormIdeal.Body.REF1 (m' ((c.tc : Thread Cert.ReferenceMixNormIdeal.nD Cert.ReferenceMixNormIdeal.τ).loc Cert.ReferenceMixNormIdeal.main_arg0)) (m' ((c.tc : Thread Cert.ReferenceMixNormIdeal.nD Cert.ReferenceMixNormIdeal.τ).loc Cert.ReferenceMixNormIdeal.main_arg1)) (m' ((c.tc : Thread Cert.ReferenceMixNormIdeal.nD Cert.ReferenceMixNormIdeal.τ).loc Cert.ReferenceMixNormIdeal.main_arg2)) (m' ((c.tc : Thread Cert.ReferenceMixNormIdeal.nD Cert.ReferenceMixNormIdeal.τ).loc Cert.ReferenceMixNormIdeal.main_arg3)) (m' ((c.tc : Thread Cert.ReferenceMixNormIdeal.nD Cert.ReferenceMixNormIdeal.τ).loc Cert.ReferenceMixNormIdeal.main_arg4)) (m' ((c.tc : Thread Cert.ReferenceMixNormIdeal.nD Cert.ReferenceMixNormIdeal.τ).loc Cert.ReferenceMixNormIdeal.main_arg5)) = _
    rw [(hagree c).1, (hagree c).2.1, (hagree c).2.2.1, (hagree c).2.2.2.1, (hagree c).2.2.2.2.1, (hagree c).2.2.2.2.2]
    exact (Cert.KernelMixNormIdeal.Body.final1 m c).symm

/-- The reference for the per-layer embedding term terminates, keeps its arguments and leaves no semaphore raised. -/
theorem frame_ReferencePleIdeal : quiescent_ReferencePleIdeal := fun m ρ _ =>
  (θ_run Cert.ReferencePleIdeal.defs _ _).mono (fun r h => ⟨fun c => (h c).2, sem_eq_zero_of_no_sems (by decide) r.2⟩)
    (Cert.ReferencePleIdeal.Value.run (F := Ideal) m ρ)

/-- The idealized kernel computes the reference's the per-layer embedding term. -/
theorem value_KernelPleIdeal : algebraic_KernelPleIdeal_ReferencePleIdeal := by
  intro m ρ m' ρ' _ hagree
  refine ⟨_, Cert.KernelPleIdeal.Value.run_blocks (F := Ideal) m ρ, ?_⟩
  refine (θ_run Cert.ReferencePleIdeal.defs _ _).mono (fun _ h c => ⟨?_, (h c).2⟩) (Cert.ReferencePleIdeal.Value.run (F := Ideal) m' ρ')
  refine (h c).1.trans ?_
  show Cert.KernelPleIdeal.Body.REF (m' ((c.tc : Thread Cert.ReferencePleIdeal.nD Cert.ReferencePleIdeal.τ).loc Cert.ReferencePleIdeal.main_arg0)) (m' ((c.tc : Thread Cert.ReferencePleIdeal.nD Cert.ReferencePleIdeal.τ).loc Cert.ReferencePleIdeal.main_arg1)) (m' ((c.tc : Thread Cert.ReferencePleIdeal.nD Cert.ReferencePleIdeal.τ).loc Cert.ReferencePleIdeal.main_arg2)) (m' ((c.tc : Thread Cert.ReferencePleIdeal.nD Cert.ReferencePleIdeal.τ).loc Cert.ReferencePleIdeal.main_arg3)) (m' ((c.tc : Thread Cert.ReferencePleIdeal.nD Cert.ReferencePleIdeal.τ).loc Cert.ReferencePleIdeal.main_arg4)) = _
  rw [(hagree c).1, (hagree c).2.1, (hagree c).2.2.1, (hagree c).2.2.2.1, (hagree c).2.2.2.2]
  exact (Cert.KernelPleIdeal.Body.final m c).symm

/-- The reference for the shared expert and the second residual norm terminates, keeps its arguments and leaves no semaphore raised. -/
theorem frame_ReferenceFinalIdeal : quiescent_ReferenceFinalIdeal := fun m ρ _ =>
  (θ_run Cert.ReferenceFinalIdeal.defs _ _).mono (fun r h => ⟨fun c => (h c).2, sem_eq_zero_of_no_sems (by decide) r.2⟩)
    (Cert.ReferenceFinalIdeal.Value.run (F := Ideal) m ρ)

/-- The idealized kernel computes the reference's the shared expert and the second residual norm. -/
theorem value_KernelFinalIdeal : algebraic_KernelFinalIdeal_ReferenceFinalIdeal := by
  intro m ρ m' ρ' _ hagree
  refine ⟨_, Cert.KernelFinalIdeal.Value.run_blocks (F := Ideal) m ρ, ?_⟩
  refine (θ_run Cert.ReferenceFinalIdeal.defs _ _).mono (fun _ h c => ⟨?_, (h c).2⟩) (Cert.ReferenceFinalIdeal.Value.run (F := Ideal) m' ρ')
  refine (h c).1.trans ?_
  show Cert.KernelFinalIdeal.Body.REF (m' ((c.tc : Thread Cert.ReferenceFinalIdeal.nD Cert.ReferenceFinalIdeal.τ).loc Cert.ReferenceFinalIdeal.main_arg0)) (m' ((c.tc : Thread Cert.ReferenceFinalIdeal.nD Cert.ReferenceFinalIdeal.τ).loc Cert.ReferenceFinalIdeal.main_arg1)) (m' ((c.tc : Thread Cert.ReferenceFinalIdeal.nD Cert.ReferenceFinalIdeal.τ).loc Cert.ReferenceFinalIdeal.main_arg2)) (m' ((c.tc : Thread Cert.ReferenceFinalIdeal.nD Cert.ReferenceFinalIdeal.τ).loc Cert.ReferenceFinalIdeal.main_arg3)) (m' ((c.tc : Thread Cert.ReferenceFinalIdeal.nD Cert.ReferenceFinalIdeal.τ).loc Cert.ReferenceFinalIdeal.main_arg4)) (m' ((c.tc : Thread Cert.ReferenceFinalIdeal.nD Cert.ReferenceFinalIdeal.τ).loc Cert.ReferenceFinalIdeal.main_arg5)) (m' ((c.tc : Thread Cert.ReferenceFinalIdeal.nD Cert.ReferenceFinalIdeal.τ).loc Cert.ReferenceFinalIdeal.main_arg6)) (m' ((c.tc : Thread Cert.ReferenceFinalIdeal.nD Cert.ReferenceFinalIdeal.τ).loc Cert.ReferenceFinalIdeal.main_arg7)) (m' ((c.tc : Thread Cert.ReferenceFinalIdeal.nD Cert.ReferenceFinalIdeal.τ).loc Cert.ReferenceFinalIdeal.main_arg8)) = _
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (Cert.KernelFinalIdeal.Body.final m c).symm

/-- The reference for the prompt's log forget gates and their running sums terminates, keeps its arguments and leaves no semaphore raised. -/
theorem frame_ReferenceForgetPromptIdeal : quiescent_ReferenceForgetPromptIdeal := fun m ρ _ =>
  (θ_run Cert.ReferenceForgetPromptIdeal.defs _ _).mono (fun r h => ⟨fun c => (h c).2.2, sem_eq_zero_of_no_sems (by decide) r.2⟩)
    (Cert.ReferenceForgetPromptIdeal.Value.run (F := Ideal) m ρ)

/-- The idealized kernel computes the reference's the prompt's log forget gates and their running sums. -/
theorem value_KernelForgetPromptIdeal : algebraic_KernelForgetPromptIdeal_ReferenceForgetPromptIdeal := by
  intro m ρ m' ρ' _ hagree
  refine ⟨_, _, Cert.KernelForgetPromptIdeal.Value.run_blocks (F := Ideal) m ρ, ?_⟩
  refine (θ_run Cert.ReferenceForgetPromptIdeal.defs _ _).mono (fun _ h c => ⟨?_, ?_, (h c).2.2⟩) (Cert.ReferenceForgetPromptIdeal.Value.run (F := Ideal) m' ρ')
  · refine (h c).1.trans ?_
    show Cert.KernelForgetPromptIdeal.Body.REF0 (m' ((c.tc : Thread Cert.ReferenceForgetPromptIdeal.nD Cert.ReferenceForgetPromptIdeal.τ).loc Cert.ReferenceForgetPromptIdeal.main_arg0)) (m' ((c.tc : Thread Cert.ReferenceForgetPromptIdeal.nD Cert.ReferenceForgetPromptIdeal.τ).loc Cert.ReferenceForgetPromptIdeal.main_arg1)) = _
    rw [(hagree c).1, (hagree c).2]
    exact (Cert.KernelForgetPromptIdeal.Body.final0 m c).symm
  · refine (h c).2.1.trans ?_
    show Cert.KernelForgetPromptIdeal.Body.REF1 (m' ((c.tc : Thread Cert.ReferenceForgetPromptIdeal.nD Cert.ReferenceForgetPromptIdeal.τ).loc Cert.ReferenceForgetPromptIdeal.main_arg0)) (m' ((c.tc : Thread Cert.ReferenceForgetPromptIdeal.nD Cert.ReferenceForgetPromptIdeal.τ).loc Cert.ReferenceForgetPromptIdeal.main_arg1)) = _
    rw [(hagree c).1, (hagree c).2]
    exact (Cert.KernelForgetPromptIdeal.Body.final1 m c).symm

/-- The reference for the samples' log forget gates and their running sums terminates, keeps its arguments and leaves no semaphore raised. -/
theorem frame_ReferenceForgetSampleIdeal : quiescent_ReferenceForgetSampleIdeal := fun m ρ _ =>
  (θ_run Cert.ReferenceForgetSampleIdeal.defs _ _).mono (fun r h => ⟨fun c => (h c).2.2, sem_eq_zero_of_no_sems (by decide) r.2⟩)
    (Cert.ReferenceForgetSampleIdeal.Value.run (F := Ideal) m ρ)

/-- The idealized kernel computes the reference's the samples' log forget gates and their running sums. -/
theorem value_KernelForgetSampleIdeal : algebraic_KernelForgetSampleIdeal_ReferenceForgetSampleIdeal := by
  intro m ρ m' ρ' _ hagree
  refine ⟨_, _, Cert.KernelForgetSampleIdeal.Value.run_blocks (F := Ideal) m ρ, ?_⟩
  refine (θ_run Cert.ReferenceForgetSampleIdeal.defs _ _).mono (fun _ h c => ⟨?_, ?_, (h c).2.2⟩) (Cert.ReferenceForgetSampleIdeal.Value.run (F := Ideal) m' ρ')
  · refine (h c).1.trans ?_
    show Cert.KernelForgetSampleIdeal.Body.REF0 (m' ((c.tc : Thread Cert.ReferenceForgetSampleIdeal.nD Cert.ReferenceForgetSampleIdeal.τ).loc Cert.ReferenceForgetSampleIdeal.main_arg0)) (m' ((c.tc : Thread Cert.ReferenceForgetSampleIdeal.nD Cert.ReferenceForgetSampleIdeal.τ).loc Cert.ReferenceForgetSampleIdeal.main_arg1)) = _
    rw [(hagree c).1, (hagree c).2]
    exact (Cert.KernelForgetSampleIdeal.Body.final0 m c).symm
  · refine (h c).2.1.trans ?_
    show Cert.KernelForgetSampleIdeal.Body.REF1 (m' ((c.tc : Thread Cert.ReferenceForgetSampleIdeal.nD Cert.ReferenceForgetSampleIdeal.τ).loc Cert.ReferenceForgetSampleIdeal.main_arg0)) (m' ((c.tc : Thread Cert.ReferenceForgetSampleIdeal.nD Cert.ReferenceForgetSampleIdeal.τ).loc Cert.ReferenceForgetSampleIdeal.main_arg1)) = _
    rw [(hagree c).1, (hagree c).2]
    exact (Cert.KernelForgetSampleIdeal.Body.final1 m c).symm

/-- The reference for the state of the HGRN2 scan of the sampled tokens terminates, keeps its arguments and leaves no semaphore raised. -/
theorem frame_ReferenceHgrnSampleIdeal : quiescent_ReferenceHgrnSampleIdeal := fun m ρ _ =>
  (θ_run Cert.ReferenceHgrnSampleIdeal.defs _ _).mono (fun r h => ⟨fun c => (h c).2, sem_eq_zero_of_no_sems (by decide) r.2⟩)
    (Cert.ReferenceHgrnSampleIdeal.Value.run (F := Ideal) m ρ)

/-- The idealized kernel computes the reference's the state of the HGRN2 scan of the sampled tokens. -/
theorem value_KernelHgrnSampleIdeal : algebraic_KernelHgrnSampleIdeal_ReferenceHgrnSampleIdeal := by
  intro m ρ m' ρ' _ hagree
  refine ⟨_, (θ_run Cert.KernelHgrnSampleIdeal.defs _ _).mono (fun _ h c => (h c).2) (Cert.KernelHgrnSampleIdeal.Value.run_blocks (F := Ideal) m ρ), ?_⟩
  refine (θ_run Cert.ReferenceHgrnSampleIdeal.defs _ _).mono (fun _ h c => ⟨?_, (h c).2⟩) (Cert.ReferenceHgrnSampleIdeal.Value.run (F := Ideal) m' ρ')
  refine (h c).1.trans ?_
  show Cert.KernelHgrnSampleIdeal.Body.REF (m' ((c.tc : Thread Cert.ReferenceHgrnSampleIdeal.nD Cert.ReferenceHgrnSampleIdeal.τ).loc Cert.ReferenceHgrnSampleIdeal.main_arg0)) (m' ((c.tc : Thread Cert.ReferenceHgrnSampleIdeal.nD Cert.ReferenceHgrnSampleIdeal.τ).loc Cert.ReferenceHgrnSampleIdeal.main_arg1)) (m' ((c.tc : Thread Cert.ReferenceHgrnSampleIdeal.nD Cert.ReferenceHgrnSampleIdeal.τ).loc Cert.ReferenceHgrnSampleIdeal.main_arg3)) = _
  rw [(hagree c).1, (hagree c).2.1, (hagree c).2.2.2]
  exact (Cert.KernelHgrnSampleIdeal.Body.final m c).symm

/-- The facts about shapes that the condition on the bound's parameter states. -/
theorem facts_bound : Cert.Pre_bound_above_minus_infinity.Facts := ⟨by decide, by decide⟩

/-- What the condition says entry by entry: no entry of the first row of the bound's parameter is minus infinity. -/
theorem first_row_ne_bot (m : (ℓ : Loc Cert.KernelHgrnPromptIdeal.nD Cert.KernelHgrnPromptIdeal.τ Cert.KernelHgrnPromptIdeal.sig) → Buf (Elt Ideal) ℓ)
    (h : Pre_KernelHgrnPromptIdeal_bound_above_minus_infinity (hPre_bound_above_minus_infinity := facts_bound) m)
    (c : Dev Cert.KernelHgrnPromptIdeal.nD) (n : Fin 2048) :
    m ((c.tc : Thread Cert.KernelHgrnPromptIdeal.nD Cert.KernelHgrnPromptIdeal.τ).loc Cert.KernelHgrnPromptIdeal.main_arg1) (ix2 0 n) ≠ (⊥ : EReal) := by
  intro hbot
  have e := congrFun (h c) (ix2 0 n)
  have hinf : Ideal.ofBits .f32 (0xFF800000#32) = (⊥ : EReal) := by simp [Ideal.ofBits, Ideal.ieee]
  pointwise [Cert.Pre_bound_above_minus_infinity.fn] at e
  rw [hinf, hbot] at e
  simp at e

/-- The kernel for the state of the HGRN2 scan of the prompt terminates, keeps its arguments and leaves no semaphore raised. -/
theorem frame_KernelHgrnPrompt : quiescent_KernelHgrnPrompt (hKernelHgrnPrompt := Cert.KernelHgrnPrompt.Gen.facts) := fun m ρ _ =>
  Cert.KernelHgrnPrompt.Body.arguments_kept m ρ

/-- The same of its idealized program. -/
theorem frame_KernelHgrnPromptIdeal : quiescent_KernelHgrnPromptIdeal (hKernelHgrnPromptIdeal := Cert.KernelHgrnPromptIdeal.Gen.facts) := fun m ρ _ =>
  (θ_run Cert.KernelHgrnPromptIdeal.defs _ _).mono (fun _ h => ⟨fun c => (h.1 c).2, h.2⟩) (Cert.KernelHgrnPromptIdeal.Body.ends m ρ)

/-- The reference for the state of the HGRN2 scan of the prompt terminates, keeps its arguments and leaves no semaphore raised. -/
theorem frame_ReferenceHgrnPromptIdeal : quiescent_ReferenceHgrnPromptIdeal := fun m ρ _ =>
  (θ_run Cert.ReferenceHgrnPromptIdeal.defs _ _).mono (fun r h => ⟨fun c => (h c).2, sem_eq_zero_of_no_sems (by decide) r.2⟩)
    (Cert.ReferenceHgrnPromptIdeal.Value.run (F := Ideal) m ρ)

/-- Where no entry of the first row of the bound's parameter is minus infinity, the idealized kernel, which goes through the prompt in
    64 chunks, computes the reference's state of the HGRN2 scan of the whole prompt. -/
theorem value_KernelHgrnPromptIdeal :
    algebraic_KernelHgrnPromptIdeal_ReferenceHgrnPromptIdeal_pre_bound_above_minus_infinity (hPre_bound_above_minus_infinity := facts_bound) := by
  intro m ρ m' ρ' hpre hagree
  refine ⟨_, (θ_run Cert.KernelHgrnPromptIdeal.defs _ _).mono (fun _ h c => h.1 c) (Cert.KernelHgrnPromptIdeal.Body.ends m ρ), ?_⟩
  refine (θ_run Cert.ReferenceHgrnPromptIdeal.defs _ _).mono (fun _ h c => ⟨?_, (h c).2⟩) (Cert.ReferenceHgrnPromptIdeal.Value.run (F := Ideal) m' ρ')
  refine (h c).1.trans ?_
  show Cert.KernelHgrnPromptIdeal.Body.REF (m' ((c.tc : Thread Cert.ReferenceHgrnPromptIdeal.nD Cert.ReferenceHgrnPromptIdeal.τ).loc Cert.ReferenceHgrnPromptIdeal.main_arg0)) (m' ((c.tc : Thread Cert.ReferenceHgrnPromptIdeal.nD Cert.ReferenceHgrnPromptIdeal.τ).loc Cert.ReferenceHgrnPromptIdeal.main_arg1)) = _
  rw [(hagree c).1, (hagree c).2.1]
  exact (Cert.KernelHgrnPromptIdeal.Body.states_eq m c (first_row_ne_bot m hpre c)).symm

/-- The facts about shapes that the condition on the logits states. -/
theorem facts_logits : Cert.Pre_logits_above_minus_infinity.Facts := ⟨by decide, by decide, by decide⟩

/-- What the condition says entry by entry: no logit of a token is minus infinity. -/
theorem logits_ne_bot (m : (ℓ : Loc Cert.KernelRouterIdeal.nD Cert.KernelRouterIdeal.τ Cert.KernelRouterIdeal.sig) → Buf (Elt Ideal) ℓ)
    (h : Pre_KernelRouterIdeal_logits_above_minus_infinity (hPre_logits_above_minus_infinity := facts_logits) m)
    (c : Dev Cert.KernelRouterIdeal.nD) (t : Fin 8320) (e : Fin 64) :
    (∑ x : Fin 2048, (show EReal from m ((c.tc : Thread Cert.KernelRouterIdeal.nD Cert.KernelRouterIdeal.τ).loc Cert.KernelRouterIdeal.main_arg0) (ix2 t x))
      * (show EReal from m ((c.tc : Thread Cert.KernelRouterIdeal.nD Cert.KernelRouterIdeal.τ).loc Cert.KernelRouterIdeal.main_arg1) (ix3 0 x e))) ≠ (⊥ : EReal) := by
  intro hbot
  have a := congrFun (h c) (ix2 t e)
  have hinf : Ideal.ofBits .f32 (0xFF800000#32) = (⊥ : EReal) := by simp [Ideal.ofBits, Ideal.ieee]
  have _ := facts_logits
  pointwise [Cert.Pre_logits_above_minus_infinity.fn] at a
  rw [hinf] at a
  rw [show (_ : EReal) = ⊥ from hbot] at a
  simp at a

/-- The reference for the routing terminates, keeps its arguments and leaves no semaphore raised. -/
theorem frame_ReferenceRouterIdeal : quiescent_ReferenceRouterIdeal := fun m ρ _ =>
  (θ_run Cert.ReferenceRouterIdeal.defs _ _).mono (fun r h => ⟨fun c => (h c).2, sem_eq_zero_of_no_sems (by decide) r.2⟩)
    (Cert.ReferenceRouterIdeal.Value.run (F := Ideal) m ρ)

/-- Where no logit is minus infinity, the idealized kernel, which counts ranks, computes the combine weights of the reference, which
    sorts. -/
theorem value_KernelRouterIdeal :
    algebraic_KernelRouterIdeal_ReferenceRouterIdeal_pre_logits_above_minus_infinity (hPre_logits_above_minus_infinity := facts_logits) := by
  intro m ρ m' ρ' hpre hagree
  refine ⟨_, Cert.KernelRouterIdeal.Value.run_blocks (F := Ideal) m ρ, ?_⟩
  refine (θ_run Cert.ReferenceRouterIdeal.defs _ _).mono (fun _ h c => ⟨?_, (h c).2⟩) (Cert.ReferenceRouterIdeal.Value.run (F := Ideal) m' ρ')
  refine (h c).1.trans ((Cert.ReferenceRouterIdeal.Rows.result_eq m' c).trans ?_)
  show Cert.KernelRouterIdeal.Body.REF (m' ((c.tc : Thread Cert.ReferenceRouterIdeal.nD Cert.ReferenceRouterIdeal.τ).loc Cert.ReferenceRouterIdeal.main_arg0))
    (m' ((c.tc : Thread Cert.ReferenceRouterIdeal.nD Cert.ReferenceRouterIdeal.τ).loc Cert.ReferenceRouterIdeal.main_arg1))
    (m' ((c.tc : Thread Cert.ReferenceRouterIdeal.nD Cert.ReferenceRouterIdeal.τ).loc Cert.ReferenceRouterIdeal.main_arg2)) = _
  rw [(hagree c).1, (hagree c).2.1, (hagree c).2.2]
  exact (Cert.KernelRouterIdeal.Body.final m c (logits_ne_bot m hpre c)).symm

/-- The claims, call by call. -/
theorem claim : Cert.Claim :=
  ⟨Cert.KernelZ.Gen.facts, Cert.KernelZIdeal.Gen.facts, Cert.ReferenceZIdeal.Gen.facts, Cert.KernelGates.Gen.facts, Cert.KernelGatesIdeal.Gen.facts, Cert.ReferenceGatesIdeal.Gen.facts, Cert.KernelForget.Gen.facts, Cert.KernelForgetIdeal.Gen.facts, Cert.ReferenceForgetIdeal.Gen.facts, Cert.KernelRouter.Gen.facts, Cert.KernelRouterIdeal.Gen.facts, Cert.ReferenceRouterIdeal.Gen.facts, Cert.KernelExperts.Gen.facts, Cert.KernelExpertsIdeal.Gen.facts, Cert.ReferenceExpertsIdeal.Gen.facts, Cert.KernelMerge.Gen.facts, Cert.KernelMergeIdeal.Gen.facts, Cert.ReferenceMergeIdeal.Gen.facts, Cert.KernelMixNorm.Gen.facts, Cert.KernelMixNormIdeal.Gen.facts, Cert.ReferenceMixNormIdeal.Gen.facts, Cert.KernelPle.Gen.facts, Cert.KernelPleIdeal.Gen.facts, Cert.ReferencePleIdeal.Gen.facts, Cert.KernelFinal.Gen.facts, Cert.KernelFinalIdeal.Gen.facts, Cert.ReferenceFinalIdeal.Gen.facts, Cert.KernelForgetPrompt.Gen.facts, Cert.KernelForgetPromptIdeal.Gen.facts, Cert.ReferenceForgetPromptIdeal.Gen.facts, Cert.KernelForgetSample.Gen.facts, Cert.KernelForgetSampleIdeal.Gen.facts, Cert.ReferenceForgetSampleIdeal.Gen.facts, Cert.KernelHgrnPrompt.Gen.facts, Cert.KernelHgrnPromptIdeal.Gen.facts, Cert.ReferenceHgrnPromptIdeal.Gen.facts, Cert.KernelHgrnSample.Gen.facts, Cert.KernelHgrnSampleIdeal.Gen.facts, Cert.ReferenceHgrnSampleIdeal.Gen.facts, facts_logits, facts_bound,
    fun m ρ _ => Cert.KernelZ.Gen.frame m ρ, fun m ρ _ => Cert.KernelZIdeal.Gen.frame m ρ, frame_ReferenceZIdeal,
    fun m ρ _ => Cert.KernelGates.Gen.frame m ρ, fun m ρ _ => Cert.KernelGatesIdeal.Gen.frame m ρ, frame_ReferenceGatesIdeal,
    fun m ρ _ => Cert.KernelForget.Gen.frame m ρ, fun m ρ _ => Cert.KernelForgetIdeal.Gen.frame m ρ, frame_ReferenceForgetIdeal,
    fun m ρ _ => Cert.KernelRouter.Gen.frame m ρ, fun m ρ _ => Cert.KernelRouterIdeal.Gen.frame m ρ, fun m ρ _ => Cert.KernelRouterIdeal.Gen.frame m ρ,
    frame_ReferenceRouterIdeal, fun m ρ _ => frame_ReferenceRouterIdeal m ρ trivial,
    fun m ρ _ => Cert.KernelExperts.Gen.frame m ρ, fun m ρ _ => Cert.KernelExpertsIdeal.Gen.frame m ρ, frame_ReferenceExpertsIdeal,
    fun m ρ _ => Cert.KernelMerge.Gen.frame m ρ, fun m ρ _ => Cert.KernelMergeIdeal.Gen.frame m ρ, frame_ReferenceMergeIdeal,
    fun m ρ _ => Cert.KernelMixNorm.Gen.frame m ρ, fun m ρ _ => Cert.KernelMixNormIdeal.Gen.frame m ρ, frame_ReferenceMixNormIdeal,
    fun m ρ _ => Cert.KernelPle.Gen.frame m ρ, fun m ρ _ => Cert.KernelPleIdeal.Gen.frame m ρ, frame_ReferencePleIdeal,
    fun m ρ _ => Cert.KernelFinal.Gen.frame m ρ, fun m ρ _ => Cert.KernelFinalIdeal.Gen.frame m ρ, frame_ReferenceFinalIdeal,
    fun m ρ _ => Cert.KernelForgetPrompt.Gen.frame m ρ, fun m ρ _ => Cert.KernelForgetPromptIdeal.Gen.frame m ρ, frame_ReferenceForgetPromptIdeal,
    fun m ρ _ => Cert.KernelForgetSample.Gen.frame m ρ, fun m ρ _ => Cert.KernelForgetSampleIdeal.Gen.frame m ρ, frame_ReferenceForgetSampleIdeal,
    frame_KernelHgrnPrompt, frame_KernelHgrnPromptIdeal, fun m ρ _ => frame_KernelHgrnPromptIdeal m ρ trivial,
    frame_ReferenceHgrnPromptIdeal, fun m ρ _ => frame_ReferenceHgrnPromptIdeal m ρ trivial,
    fun m ρ _ => Cert.KernelHgrnSample.Gen.frame m ρ, fun m ρ _ => Cert.KernelHgrnSampleIdeal.Gen.frame m ρ, frame_ReferenceHgrnSampleIdeal,
    (trivial : preserves_KernelZ_KernelZIdeal), value_KernelZIdeal,
    (trivial : preserves_KernelGates_KernelGatesIdeal), value_KernelGatesIdeal,
    (trivial : preserves_KernelForget_KernelForgetIdeal), value_KernelForgetIdeal,
    (trivial : preserves_KernelRouter_KernelRouterIdeal), value_KernelRouterIdeal,
    (trivial : preserves_KernelExperts_KernelExpertsIdeal), value_KernelExpertsIdeal,
    (trivial : preserves_KernelMerge_KernelMergeIdeal), value_KernelMergeIdeal,
    (trivial : preserves_KernelMixNorm_KernelMixNormIdeal), value_KernelMixNormIdeal,
    (trivial : preserves_KernelPle_KernelPleIdeal), value_KernelPleIdeal,
    (trivial : preserves_KernelFinal_KernelFinalIdeal), value_KernelFinalIdeal,
    (trivial : preserves_KernelForgetPrompt_KernelForgetPromptIdeal), value_KernelForgetPromptIdeal,
    (trivial : preserves_KernelForgetSample_KernelForgetSampleIdeal), value_KernelForgetSampleIdeal,
    (trivial : preserves_KernelHgrnPrompt_KernelHgrnPromptIdeal), value_KernelHgrnPromptIdeal,
    (trivial : preserves_KernelHgrnSample_KernelHgrnSampleIdeal), value_KernelHgrnSampleIdeal⟩

end Cert.Proof

end
